-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite7 [hPre_finite7 : Cert.Pre_finite7.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite7.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite7 [hPre_finite7 : Cert.Pre_finite7.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite7.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Kernel9Ideal_pre_finite7 [hKernel9Ideal : Cert.Kernel9Ideal.Facts] [hPre_finite7 : Cert.Pre_finite7.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite7 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Reference9Ideal_pre_finite7 [hReference9Ideal : Cert.Reference9Ideal.Facts] [hPre_finite7 : Cert.Pre_finite7.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite7 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v87_0)) (v1 : (c : Dev Cert.KernelIdeal.nD) → Buf (Elt Ideal) ((c.tc : Thread Cert.KernelIdeal.nD Cert.KernelIdeal.τ).loc Cert.KernelIdeal.main_v87_1)) (v2 : (c : Dev Cert.KernelIdeal.nD) → Buf (Elt Ideal) ((c.tc : Thread Cert.KernelIdeal.nD Cert.KernelIdeal.τ).loc Cert.KernelIdeal.main_v87_2)) (v3 : (c : Dev Cert.KernelIdeal.nD) → Buf (Elt Ideal) ((c.tc : Thread Cert.KernelIdeal.nD Cert.KernelIdeal.τ).loc Cert.KernelIdeal.main_v87_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87_0) = v0 c
          ∧ r.2.mem ((c.tc : Thread Cert.KernelIdeal.nD Cert.KernelIdeal.τ).loc Cert.KernelIdeal.main_v87_1) = v1 c
          ∧ r.2.mem ((c.tc : Thread Cert.KernelIdeal.nD Cert.KernelIdeal.τ).loc Cert.KernelIdeal.main_v87_2) = v2 c
          ∧ r.2.mem ((c.tc : Thread Cert.KernelIdeal.nD Cert.KernelIdeal.τ).loc Cert.KernelIdeal.main_v87_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_v180) = v1 c
          ∧ r.2.mem ((c.tc : Thread Cert.ReferenceIdeal.nD Cert.ReferenceIdeal.τ).loc Cert.ReferenceIdeal.main_v181) = v2 c
          ∧ r.2.mem ((c.tc : Thread Cert.ReferenceIdeal.nD Cert.ReferenceIdeal.τ).loc Cert.ReferenceIdeal.main_v183) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_v17) = v1 c
          ∧ r.2.mem ((c.tc : Thread Cert.Reference5Ideal.nD Cert.Reference5Ideal.τ).loc Cert.Reference5Ideal.main_v22) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v41) = v0 c
          ∧ r.2.mem ((c.tc : Thread Cert.Reference7Ideal.nD Cert.Reference7Ideal.τ).loc Cert.Reference7Ideal.main_v42) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v4_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v16) = v0 c
          ∧ r.2.mem ((c.tc : Thread Cert.Reference8Ideal.nD Cert.Reference8Ideal.τ).loc Cert.Reference8Ideal.main_v17) = v1 c
          ∧ r.2.mem ((c.tc : Thread Cert.Reference8Ideal.nD Cert.Reference8Ideal.τ).loc Cert.Reference8Ideal.main_v22) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal_pre_finite7 [hKernel9Ideal : Cert.Kernel9Ideal.Facts] [hReference9Ideal : Cert.Reference9Ideal.Facts] [hPre_finite7 : Cert.Pre_finite7.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite7 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v41) = v0 c
          ∧ r.2.mem ((c.tc : Thread Cert.Reference9Ideal.nD Cert.Reference9Ideal.τ).loc Cert.Reference9Ideal.main_v42) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v14)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v14) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v19) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v39) = v0 c
          ∧ r.2.mem ((c.tc : Thread Cert.Reference11Ideal.nD Cert.Reference11Ideal.τ).loc Cert.Reference11Ideal.main_v40) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite4 : Cert.Pre_finite4.Facts) (hPre_finite7 : Cert.Pre_finite7.Facts) (hPre_finite11 : Cert.Pre_finite11.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite7 (hKernel9Ideal := hKernel9Ideal) (hPre_finite7 := hPre_finite7)
    ∧ quiescent_Reference9Ideal (hReference9Ideal := hReference9Ideal)
    ∧ quiescent_Reference9Ideal_pre_finite7 (hReference9Ideal := hReference9Ideal) (hPre_finite7 := hPre_finite7)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite7 (hKernel9Ideal := hKernel9Ideal) (hReference9Ideal := hReference9Ideal) (hPre_finite7 := hPre_finite7)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S4096x1280 : Shape := ⟨2, ![4096, 1280]⟩
abbrev S4096x1024 : Shape := ⟨2, ![4096, 1024]⟩
abbrev S16 : Shape := ⟨1, ![16]⟩
abbrev S_ : Shape := ⟨0, ![]⟩

class Facts : Prop where
  bitsLt_bf16_f32 : FTy.bits .bf16 < FTy.bits .f32
  bcast_S_S4096x1280 : S_.BroadcastsInDim S4096x1280 (![] : Fin 0 → Fin S4096x1280.rank)
  reducesTo_S4096x1280_S_d0_1 : S4096x1280.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S4096x1280 .bf16) (main_arg1 : FVec F S4096x1024 .bf16) (main_arg2 : FVec F S16 .f32) : IVec S_ 1 :=
  let main_v0 : FVec F S4096x1280 .f32 := (extf .f32 · bitsLt_bf16_f32) main_arg0
  let main_v1 : FVec F S4096x1280 .f32 := Host.absf main_v0
  let main_cst : FVec F S_ .f32 := constant S_ .f32 0x7F800000#32
  let main_v2 : FVec F S4096x1280 .f32 := broadcastInDim S4096x1280 ![] bcast_S_S4096x1280 main_cst
  let main_v3 : IVec S4096x1280 1 := cmpf .olt main_v1 main_v2
  let main_c : IVec S_ 1 := constantI S_ 1 1#1
  let main_v4 : IVec S_ 1 := (fun x v => Host.reduce IntOp.andi x v reducesTo_S4096x1280_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : IVec S_ 1 := andi main_v4 main_v9
  let main_v11 : FVec F S16 .f32 := Host.absf main_arg2
  let main_cst_2 : FVec F S_ .f32 := constant S_ .f32 0x7F800000#32
  let main_v12 : FVec F S16 .f32 := broadcastInDim S16 ![] bcast_S_S16 main_cst_2
  let main_v13 : IVec S16 1 := cmpf .olt main_v11 main_v12
  let main_c_3 : IVec S_ 1 := constantI S_ 1 1#1
  let main_v14 : IVec S_ 1 := (fun x v => Host.reduce IntOp.andi x v reducesTo_S16_S_d0 h_S_) main_v13 main_c_3
  let main_v15 : IVec S_ 1 := andi main_v10 main_v14
  main_v15
-- ==== Pre_finite11.lean ====
abbrev S4096x1024 : Shape := ⟨2, ![4096, 1024]⟩
abbrev S1024 : Shape := ⟨1, ![1024]⟩
abbrev S1024x3584 : Shape := ⟨2, ![1024, 3584]⟩
abbrev S4096x3584 : Shape := ⟨2, ![4096, 3584]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x3584 : S_.BroadcastsInDim S1024x3584 (![] : Fin 0 → Fin S1024x3584.rank)
  reducesTo_S1024x3584_S_d0_1 : S1024x3584.ReducesTo [0, 1] S_
  bitsLt_bf16_f32 : FTy.bits .bf16 < FTy.bits .f32
  bcast_S_S4096x3584 : S_.BroadcastsInDim S4096x3584 (![] : Fin 0 → Fin S4096x3584.rank)
  reducesTo_S4096x3584_S_d0_1 : S4096x3584.ReducesTo [0, 1] S_

variable [Facts]

def fn_part1 {F : FTy → Type} [FloatOps F] (main_v13 : IVec S_ 1) (main_v15 : FVec F S4096x3584 .f32) (main_v16 : FVec F S4096x3584 .f32) : IVec S_ 1 :=
  let main_v17 : IVec S4096x3584 1 := cmpf .olt main_v15 main_v16
  let main_c_5 : IVec S_ 1 := constantI S_ 1 1#1
  let main_v18 : IVec S_ 1 := (fun x v => Host.reduce IntOp.andi x v reducesTo_S4096x3584_S_d0_1 h_S_) main_v17 main_c_5
  let main_v19 : IVec S_ 1 := andi main_v13 main_v18
  main_v19

def fn {F : FTy → Type} [FloatOps F] (main_arg0 : FVec F S4096x1024 .f32) (main_arg1 : FVec F S1024 .f32) (main_arg2 : FVec F S1024x3584 .f32) (main_arg3 : FVec F S4096x3584 .bf16) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x3584 .f32 := Host.absf main_arg2
  let main_cst_2 : FVec F S_ .f32 := constant S_ .f32 0x7F800000#32
  let main_v10 : FVec F S1024x3584 .f32 := broadcastInDim S1024x3584 ![] bcast_S_S1024x3584 main_cst_2
  let main_v11 : IVec S1024x3584 1 := cmpf .olt main_v9 main_v10
  let main_c_3 : IVec S_ 1 := constantI S_ 1 1#1
  let main_v12 : IVec S_ 1 := (fun x v => Host.reduce IntOp.andi x v reducesTo_S1024x3584_S_d0_1 h_S_) main_v11 main_c_3
  let main_v13 : IVec S_ 1 := andi main_v8 main_v12
  let main_v14 : FVec F S4096x3584 .f32 := (extf .f32 · bitsLt_bf16_f32) main_arg3
  let main_v15 : FVec F S4096x3584 .f32 := Host.absf main_v14
  let main_cst_4 : FVec F S_ .f32 := constant S_ .f32 0x7F800000#32
  let main_v16 : FVec F S4096x3584 .f32 := broadcastInDim S4096x3584 ![] bcast_S_S4096x3584 main_cst_4
  fn_part1 (F := F) main_v13 main_v15 main_v16
-- ==== Pre_finite4.lean ====
abbrev S4096x5632 : Shape := ⟨2, ![4096, 5632]⟩
abbrev S2816x1024 : Shape := ⟨2, ![2816, 1024]⟩
abbrev S4096x1024 : Shape := ⟨2, ![4096, 1024]⟩
abbrev S_ : Shape := ⟨0, ![]⟩

class Facts : Prop where
  bitsLt_bf16_f32 : FTy.bits .bf16 < FTy.bits .f32
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x5632 .bf16) (main_arg1 : FVec F S2816x1024 .f32) (main_arg2 : FVec F S4096x1024 .f32) : IVec S_ 1 :=
  let main_v0 : FVec F S4096x5632 .f32 := (extf .f32 · bitsLt_bf16_f32) main_arg0
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_c : IVec S_ 1 := constantI S_ 1 1#1
  let main_v4 : IVec S_ 1 := (fun x v => Host.reduce IntOp.andi x v reducesTo_S4096x5632_S_d0_1 h_S_) main_v3 main_c
  let main_v5 : FVec F S2816x1024 .f32 := Host.absf main_arg1
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_c_1 : IVec S_ 1 := constantI S_ 1 1#1
  let main_v8 : IVec S_ 1 := (fun x v => Host.reduce IntOp.andi x v reducesTo_S2816x1024_S_d0_1 h_S_) main_v7 main_c_1
  let main_v9 : IVec S_ 1 := andi main_v4 main_v8
  let main_v10 : FVec F S4096x1024 .f32 := Host.absf main_arg2
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v9 main_v13
  main_v14
-- ==== Pre_finite7.lean ====
abbrev S4096x1024 : Shape := ⟨2, ![4096, 1024]⟩
abbrev S1024 : Shape := ⟨1, ![1024]⟩
abbrev S2x1024x5632 : Shape := ⟨3, ![2, 1024, 5632]⟩
abbrev S4096x5632 : Shape := ⟨2, ![4096, 5632]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S2x1024x5632 : S_.BroadcastsInDim S2x1024x5632 (![] : Fin 0 → Fin S2x1024x5632.rank)
  reducesTo_S2x1024x5632_S_d0_1_2 : S2x1024x5632.ReducesTo [0, 1, 2] S_
  bitsLt_bf16_f32 : FTy.bits .bf16 < FTy.bits .f32
  bcast_S_S4096x5632 : S_.BroadcastsInDim S4096x5632 (![] : Fin 0 → Fin S4096x5632.rank)
  reducesTo_S4096x5632_S_d0_1 : S4096x5632.ReducesTo [0, 1] S_

variable [Facts]

def fn_part1 {F : FTy → Type} [FloatOps F] (main_v13 : IVec S_ 1) (main_v15 : FVec F S4096x5632 .f32) (main_v16 : FVec F S4096x5632 .f32) : IVec S_ 1 :=
  let main_v17 : IVec S4096x5632 1 := cmpf .olt main_v15 main_v16
  let main_c_5 : IVec S_ 1 := constantI S_ 1 1#1
  let main_v18 : IVec S_ 1 := (fun x v => Host.reduce IntOp.andi x v reducesTo_S4096x5632_S_d0_1 h_S_) main_v17 main_c_5
  let main_v19 : IVec S_ 1 := andi main_v13 main_v18
  main_v19

def fn {F : FTy → Type} [FloatOps F] (main_arg0 : FVec F S4096x1024 .f32) (main_arg1 : FVec F S1024 .f32) (main_arg2 : FVec F S2x1024x5632 .f32) (main_arg3 : FVec F S4096x5632 .bf16) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S2x1024x5632 .f32 := Host.absf main_arg2
  let main_cst_2 : FVec F S_ .f32 := constant S_ .f32 0x7F800000#32
  let main_v10 : FVec F S2x1024x5632 .f32 := broadcastInDim S2x1024x5632 ![] bcast_S_S2x1024x5632 main_cst_2
  let main_v11 : IVec S2x1024x5632 1 := cmpf .olt main_v9 main_v10
  let main_c_3 : IVec S_ 1 := constantI S_ 1 1#1
  let main_v12 : IVec S_ 1 := (fun x v => Host.reduce IntOp.andi x v reducesTo_S2x1024x5632_S_d0_1_2 h_S_) main_v11 main_c_3
  let main_v13 : IVec S_ 1 := andi main_v8 main_v12
  let main_v14 : FVec F S4096x5632 .f32 := (extf .f32 · bitsLt_bf16_f32) main_arg3
  let main_v15 : FVec F S4096x5632 .f32 := Host.absf main_v14
  let main_cst_4 : FVec F S_ .f32 := constant S_ .f32 0x7F800000#32
  let main_v16 : FVec F S4096x5632 .f32 := broadcastInDim S4096x5632 ![] bcast_S_S4096x5632 main_cst_4
  fn_part1 (F := F) main_v13 main_v15 main_v16
-- ==== Kernel.lean ====
abbrev S4096x1280 : Shape := ⟨2, ![4096, 1280]⟩
abbrev S4096x1024 : Shape := ⟨2, ![4096, 1024]⟩
abbrev S16 : Shape := ⟨1, ![16]⟩
abbrev S4096x128 : Shape := ⟨2, ![4096, 128]⟩
abbrev S4096x16x64 : Shape := ⟨3, ![4096, 16, 64]⟩
abbrev S16x4096x64 : Shape := ⟨3, ![16, 4096, 64]⟩
abbrev S4096x2x64 : Shape := ⟨3, ![4096, 2, 64]⟩
abbrev S2x4096x64 : Shape := ⟨3, ![2, 4096, 64]⟩
abbrev S2x8x32x128x64 : Shape := ⟨5, ![2, 8, 32, 128, 64]⟩
abbrev S2x32x128x64 : Shape := ⟨4, ![2, 32, 128, 64]⟩
abbrev S2x1x128x64 : Shape := ⟨4, ![2, 1, 128, 64]⟩
abbrev S_ : Shape := ⟨0, ![]⟩
abbrev S2x31x128x64 : Shape := ⟨4, ![2, 31, 128, 64]⟩
abbrev S2x32x256x64 : Shape := ⟨4, ![2, 32, 256, 64]⟩
abbrev S2x32x256x8x128 : Shape := ⟨5, ![2, 32, 256, 8, 128]⟩
abbrev S2x8x32x128x256 : Shape := ⟨5, ![2, 8, 32, 128, 256]⟩
abbrev S32 : Shape := ⟨1, ![32]⟩
abbrev S32x1x1 : Shape := ⟨3, ![32, 1, 1]⟩
abbrev S128 : Shape := ⟨1, ![128]⟩
abbrev S1x128x1 : Shape := ⟨3, ![1, 128, 1]⟩
abbrev S32x128x1 : Shape := ⟨3, ![32, 128, 1]⟩
abbrev S256 : Shape := ⟨1, ![256]⟩
abbrev S1x1x256 : Shape := ⟨3, ![1, 1, 256]⟩
abbrev S32x1x256 : Shape := ⟨3, ![32, 1, 256]⟩
abbrev S32x128x256 : Shape := ⟨3, ![32, 128, 256]⟩
abbrev S2x8x32x128 : Shape := ⟨4, ![2, 8, 32, 128]⟩
abbrev S2x8x32x128x1 : Shape := ⟨5, ![2, 8, 32, 128, 1]⟩
abbrev S2x8x1x1x1 : Shape := ⟨5, ![2, 8, 1, 1, 1]⟩
abbrev S2x32x64x8x128 : Shape := ⟨5, ![2, 32, 64, 8, 128]⟩
abbrev S16x4096 : Shape := ⟨2, ![16, 4096]⟩
abbrev S4096x16 : Shape := ⟨2, ![4096, 16]⟩
abbrev S8x128 : Shape := ⟨2, ![8, 128]⟩
abbrev S128x1024 : Shape := ⟨2, ![128, 1024]⟩
abbrev S128x128 : Shape := ⟨2, ![128, 128]⟩
abbrev S128x256 : Shape := ⟨2, ![128, 256]⟩
abbrev S1024x256 : Shape := ⟨2, ![1024, 256]⟩
abbrev S256x128 : Shape := ⟨2, ![256, 128]⟩
abbrev S256x64 : Shape := ⟨2, ![256, 64]⟩
abbrev S128x64 : Shape := ⟨2, ![128, 64]⟩
abbrev S1024x64 : Shape := ⟨2, ![1024, 64]⟩
abbrev S128x1 : Shape := ⟨2, ![128, 1]⟩
abbrev S1024x1 : Shape := ⟨2, ![1024, 1]⟩
abbrev S1024 : Shape := ⟨1, ![1024]⟩
abbrev S64x256 : Shape := ⟨2, ![64, 256]⟩
abbrev S1 : Shape := ⟨1, ![1]⟩
abbrev S1x1 : Shape := ⟨2, ![1, 1]⟩

abbrev nBuf : Space → Nat
  | .hbm => 109
  | .vmem => 25
  | .smem => 1
  | _ => 0

abbrev bufTy : (tb : Table) → Fin (tcTables nBuf tb) → BufTy
  | .hbm, ⟨0, _⟩ => ⟨S4096x1280, .bf16⟩
  | .hbm, ⟨1, _⟩ => ⟨S4096x1024, .bf16⟩
  | .hbm, ⟨2, _⟩ => ⟨S16, .f32⟩
  | .hbm, ⟨3, _⟩ => ⟨S4096x1280, .f32⟩
  | .hbm, ⟨4, _⟩ => ⟨S4096x1024, .f32⟩
  | .hbm, ⟨5, _⟩ => ⟨S4096x128, .f32⟩
  | .hbm, ⟨6, _⟩ => ⟨S4096x128, .f32⟩
  | .hbm, ⟨7, _⟩ => ⟨S4096x16x64, .f32⟩
  | .hbm, ⟨8, _⟩ => ⟨S16x4096x64, .f32⟩
  | .hbm, ⟨9, _⟩ => ⟨S4096x2x64, .f32⟩
  | .hbm, ⟨10, _⟩ => ⟨S2x4096x64, .f32⟩
  | .hbm, ⟨11, _⟩ => ⟨S4096x2x64, .f32⟩
  | .hbm, ⟨12, _⟩ => ⟨S2x4096x64, .f32⟩
  | .hbm, ⟨13, _⟩ => ⟨S2x8x32x128x64, .f32⟩
  | .hbm, ⟨14, _⟩ => ⟨S2x32x128x64, .f32⟩
  | .hbm, ⟨15, _⟩ => ⟨S2x32x128x64, .f32⟩
  | .hbm, ⟨16, _⟩ => ⟨S2x1x128x64, .f32⟩
  | .hbm, ⟨17, _⟩ => ⟨S_, .f32⟩
  | .hbm, ⟨18, _⟩ => ⟨S2x1x128x64, .f32⟩
  | .hbm, ⟨19, _⟩ => ⟨S2x31x128x64, .f32⟩
  | .hbm, ⟨20, _⟩ => ⟨S2x32x128x64, .f32⟩
  | .hbm, ⟨21, _⟩ => ⟨S2x32x256x64, .f32⟩
  | .hbm, ⟨22, _⟩ => ⟨S2x1x128x64, .f32⟩
  | .hbm, ⟨23, _⟩ => ⟨S_, .f32⟩
  | .hbm, ⟨24, _⟩ => ⟨S2x1x128x64, .f32⟩
  | .hbm, ⟨25, _⟩ => ⟨S2x31x128x64, .f32⟩
  | .hbm, ⟨26, _⟩ => ⟨S2x32x128x64, .f32⟩
  | .hbm, ⟨27, _⟩ => ⟨S2x32x256x64, .f32⟩
  | .hbm, ⟨28, _⟩ => ⟨S2x32x256x8x128, .f32⟩
  | .hbm, ⟨29, _⟩ => ⟨S2x8x32x128x256, .f32⟩
  | .hbm, ⟨30, _⟩ => ⟨S_, .f32⟩
  | .hbm, ⟨31, _⟩ => ⟨S2x8x32x128x256, .f32⟩
  | .hbm, ⟨32, _⟩ => ⟨S2x8x32x128x256, .f32⟩
  | .hbm, ⟨33, _⟩ => ⟨S32, .i32⟩
  | .hbm, ⟨34, _⟩ => ⟨S32x1x1, .i32⟩
  | .hbm, ⟨35, _⟩ => ⟨S_, .i32⟩
  | .hbm, ⟨36, _⟩ => ⟨S32x1x1, .i32⟩
  | .hbm, ⟨37, _⟩ => ⟨S32x1x1, .i32⟩
  | .hbm, ⟨38, _⟩ => ⟨S128, .i32⟩
  | .hbm, ⟨39, _⟩ => ⟨S1x128x1, .i32⟩
  | .hbm, ⟨40, _⟩ => ⟨S32x128x1, .i32⟩
  | .hbm, ⟨41, _⟩ => ⟨S32x128x1, .i32⟩
  | .hbm, ⟨42, _⟩ => ⟨S32x128x1, .i32⟩
  | .hbm, ⟨43, _⟩ => ⟨S_, .i32⟩
  | .hbm, ⟨44, _⟩ => ⟨S32x1x1, .i32⟩
  | .hbm, ⟨45, _⟩ => ⟨S32x1x1, .i32⟩
  | .hbm, ⟨46, _⟩ => ⟨S_, .i32⟩
  | .hbm, ⟨47, _⟩ => ⟨S32x1x1, .i32⟩
  | .hbm, ⟨48, _⟩ => ⟨S32x1x1, .i32⟩
  | .hbm, ⟨49, _⟩ => ⟨S256, .i32⟩
  | .hbm, ⟨50, _⟩ => ⟨S1x1x256, .i32⟩
  | .hbm, ⟨51, _⟩ => ⟨S32x1x256, .i32⟩
  | .hbm, ⟨52, _⟩ => ⟨S32x1x256, .i32⟩
  | .hbm, ⟨53, _⟩ => ⟨S32x1x256, .i32⟩
  | .hbm, ⟨54, _⟩ => ⟨S32x128x256, .i32⟩
  | .hbm, ⟨55, _⟩ => ⟨S32x128x256, .i32⟩
  | .hbm, ⟨56, _⟩ => ⟨S32x128x256, .i32⟩
  | .hbm, ⟨57, _⟩ => ⟨S_, .i32⟩
  | .hbm, ⟨58, _⟩ => ⟨S32x128x256, .i32⟩
  | .hbm, ⟨59, _⟩ => ⟨S32x128x256, .i1⟩
  | .hbm, ⟨60, _⟩ => ⟨S_, .i32⟩
  | .hbm, ⟨61, _⟩ => ⟨S32x128x256, .i32⟩
  | .hbm, ⟨62, _⟩ => ⟨S32x128x256, .i1⟩
  | .hbm, ⟨63, _⟩ => ⟨S32x128x256, .i1⟩
  | .hbm, ⟨64, _⟩ => ⟨S_, .i32⟩
  | .hbm, ⟨65, _⟩ => ⟨S32x1x256, .i32⟩
  | .hbm, ⟨66, _⟩ => ⟨S32x1x256, .i1⟩
  | .hbm, ⟨67, _⟩ => ⟨S32x128x256, .i1⟩
  | .hbm, ⟨68, _⟩ => ⟨S32x128x256, .i1⟩
  | .hbm, ⟨69, _⟩ => ⟨S_, .f32⟩
  | .hbm, ⟨70, _⟩ => ⟨S_, .f32⟩
  | .hbm, ⟨71, _⟩ => ⟨S2x8x32x128x256, .i1⟩
  | .hbm, ⟨72, _⟩ => ⟨S2x8x32x128x256, .f32⟩
  | .hbm, ⟨73, _⟩ => ⟨S2x8x32x128x256, .f32⟩
  | .hbm, ⟨74, _⟩ => ⟨S_, .f32⟩
  | .hbm, ⟨75, _⟩ => ⟨S2x8x32x128, .f32⟩
  | .hbm, ⟨76, _⟩ => ⟨S2x8x32x128x1, .f32⟩
  | .hbm, ⟨77, _⟩ => ⟨S2x8x1x1x1, .f32⟩
  | .hbm, ⟨78, _⟩ => ⟨S2x8x32x128x1, .f32⟩
  | .hbm, ⟨79, _⟩ => ⟨S2x8x32x128x1, .f32⟩
  | .hbm, ⟨80, _⟩ => ⟨S2x8x32x128x256, .f32⟩
  | .hbm, ⟨81, _⟩ => ⟨S2x8x32x128x256, .f32⟩
  | .hbm, ⟨82, _⟩ => ⟨S2x8x32x128x256, .f32⟩
  | .hbm, ⟨83, _⟩ => ⟨S_, .f32⟩
  | .hbm, ⟨84, _⟩ => ⟨S2x8x32x128, .f32⟩
  | .hbm, ⟨85, _⟩ => ⟨S2x8x32x128x1, .f32⟩
  | .hbm, ⟨86, _⟩ => ⟨S2x8x32x128x1, .f32⟩
  | .hbm, ⟨87, _⟩ => ⟨S2x8x32x128x1, .f32⟩
  | .hbm, ⟨88, _⟩ => ⟨S2x8x32x128x1, .f32⟩
  | .hbm, ⟨89, _⟩ => ⟨S2x8x32x128x1, .f32⟩
  | .hbm, ⟨90, _⟩ => ⟨S2x8x32x128x256, .f32⟩
  | .hbm, ⟨91, _⟩ => ⟨S2x8x32x128x256, .f32⟩
  | .hbm, ⟨92, _⟩ => ⟨S2x8x32x128x1, .f32⟩
  | .hbm, ⟨93, _⟩ => ⟨S2x8x32x128x1, .f32⟩
  | .hbm, ⟨94, _⟩ => ⟨S2x8x32x128, .f32⟩
  | .hbm, ⟨95, _⟩ => ⟨S2x32x64x8x128, .f32⟩
  | .hbm, ⟨96, _⟩ => ⟨S2x8x32x128x64, .f32⟩
  | .hbm, ⟨97, _⟩ => ⟨S16x4096x64, .f32⟩
  | .hbm, ⟨98, _⟩ => ⟨S16x4096, .f32⟩
  | .hbm, ⟨99, _⟩ => ⟨S4096x16x64, .f32⟩
  | .hbm, ⟨100, _⟩ => ⟨S4096x1024, .f32⟩
  | .hbm, ⟨101, _⟩ => ⟨S4096x1024, .bf16⟩
  | .hbm, ⟨102, _⟩ => ⟨S4096x16, .f32⟩
  | .hbm, ⟨103, _⟩ => ⟨S4096x16x64, .f32⟩
  | .hbm, ⟨104, _⟩ => ⟨S4096x1024, .f32⟩
  | .hbm, ⟨105, _⟩ => ⟨S4096x1024, .bf16⟩
  | .hbm, ⟨106, _⟩ => ⟨S4096x128, .bf16⟩
  | .hbm, ⟨107, _⟩ => ⟨S4096x128, .bf16⟩
  | .hbm, ⟨108, _⟩ => ⟨S8x128, .f32⟩
  | .local _ .vmem, ⟨0, _⟩ => ⟨S128x1024, .bf16⟩
  | .local _ .vmem, ⟨1, _⟩ => ⟨S128x1024, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S128x1024, .f32⟩
  | .local _ .vmem, ⟨15, _⟩ => ⟨S128x1024, .f32⟩
  | .local _ .vmem, ⟨16, _⟩ => ⟨S128x1024, .bf16⟩
  | .local _ .vmem, ⟨17, _⟩ => ⟨S128x1024, .bf16⟩
  | .local _ .vmem, ⟨18, _⟩ => ⟨S128x128, .bf16⟩
  | .local _ .vmem, ⟨19, _⟩ => ⟨S128x128, .bf16⟩
  | .local _ .vmem, ⟨20, _⟩ => ⟨S128x128, .bf16⟩
  | .local _ .vmem, ⟨21, _⟩ => ⟨S128x128, .bf16⟩
  | .local _ .vmem, ⟨22, _⟩ => ⟨S8x128, .f32⟩
  | .local _ .vmem, ⟨23, _⟩ => ⟨S128x128, .f32⟩
  | .local _ .vmem, ⟨24, _⟩ => ⟨S128x128, .f32⟩
  | .local _ .smem, ⟨0, _⟩ => ⟨S16, .f32⟩
  | _, _ => ⟨S4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_c_2 : Ref sig .tc := ⟨.hbm, 43, rfl⟩
abbrev main_v36 : Ref sig .tc := ⟨.hbm, 44, rfl⟩
abbrev main_v37 : Ref sig .tc := ⟨.hbm, 45, rfl⟩
abbrev main_c_3 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_c_4 : Ref sig .tc := ⟨.hbm, 57, rfl⟩
abbrev main_v48 : Ref sig .tc := ⟨.hbm, 58, rfl⟩
abbrev main_v49 : Ref sig .tc := ⟨.hbm, 59, rfl⟩
abbrev main_c_5 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_c_6 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_7 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_v57 : Ref sig .tc := ⟨.hbm, 73, rfl⟩
abbrev main_cst_8 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_9 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87_0 : Ref sig .tc := ⟨.hbm, 105, rfl⟩
abbrev main_v87_1 : Ref sig .tc := ⟨.hbm, 106, rfl⟩
abbrev main_v87_2 : Ref sig .tc := ⟨.hbm, 107, rfl⟩
abbrev main_v87_3 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_scratch0 : Ref sig .tc := ⟨.vmem, 23, rfl⟩
abbrev cc0_scratch1 : Ref sig .tc := ⟨.vmem, 24, rfl⟩
abbrev cc0_stg8_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![1, 33], ![false, false]⟩

def k0_cond4 (i : grid0.Coords) : BitVec 1 :=
  let arg1 : BitVec 32 := BitVec.ofNat 32 (i 1).val
  let c32_i32_5 : BitVec 32 := 32#32
  let v11 : BitVec 1 := Scalar.cmpi .slt arg1 c32_i32_5
  let v12 : BitVec 32 := Scalar.extui v11
  let c0_i32_6 : BitVec 32 := 0#32
  let v13 : BitVec 1 := Scalar.cmpi .ne v12 c0_i32_6
  v13

def k0_cond3 (i : grid0.Coords) : BitVec 1 :=
  let arg1 : BitVec 32 := BitVec.ofNat 32 (i 1).val
  let c32_i32 : BitVec 32 := 32#32
  let v8 : BitVec 1 := Scalar.cmpi .eq arg1 c32_i32
  let v9 : BitVec 32 := Scalar.extui v8
  let c0_i32_4 : BitVec 32 := 0#32
  let v10 : BitVec 1 := Scalar.cmpi .ne v9 c0_i32_4
  v10

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c8_i32 : BitVec 32 := 8#32
  let c0_i32 : BitVec 32 := 0#32
  ![v0.toNat, c8_i32.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v2.toNat, c8_i32.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c9_i32 : BitVec 32 := 9#32
  let c0_i32 : BitVec 32 := 0#32
  ![v0.toNat, c9_i32.toNat]

def cc0_transform_4 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let c0_i32_0 : BitVec 32 := 0#32
  ![v2.toNat, c9_i32.toNat]

def cc0_transform_5 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .smem S16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== KernelIdeal.lean ====
variable {F : FTy → Type} [FloatOps F] [Named F]
def κ : String → Option EReal := fun
  | "mask" => some ⊥
  | _ => none
-- ==== ReferenceIdeal.lean ====
abbrev S4096x1280 : Shape := ⟨2, ![4096, 1280]⟩
abbrev S4096x1024 : Shape := ⟨2, ![4096, 1024]⟩
abbrev S16 : Shape := ⟨1, ![16]⟩
abbrev S4096x128 : Shape := ⟨2, ![4096, 128]⟩
abbrev S4096x16x64 : Shape := ⟨3, ![4096, 16, 64]⟩
abbrev S16x4096x64 : Shape := ⟨3, ![16, 4096, 64]⟩
abbrev S4096x2x64 : Shape := ⟨3, ![4096, 2, 64]⟩
abbrev S2x4096x64 : Shape := ⟨3, ![2, 4096, 64]⟩
abbrev S2x8x32x128x64 : Shape := ⟨5, ![2, 8, 32, 128, 64]⟩
abbrev S2x32x128x64 : Shape := ⟨4, ![2, 32, 128, 64]⟩
abbrev S2x1x128x64 : Shape := ⟨4, ![2, 1, 128, 64]⟩
abbrev S_ : Shape := ⟨0, ![]⟩
abbrev S2x31x128x64 : Shape := ⟨4, ![2, 31, 128, 64]⟩
abbrev S2x32x256x64 : Shape := ⟨4, ![2, 32, 256, 64]⟩
abbrev S2x32x256x8x128 : Shape := ⟨5, ![2, 32, 256, 8, 128]⟩
abbrev S2x8x32x128x256 : Shape := ⟨5, ![2, 8, 32, 128, 256]⟩
abbrev S32 : Shape := ⟨1, ![32]⟩
abbrev S32x1x1 : Shape := ⟨3, ![32, 1, 1]⟩
abbrev S128 : Shape := ⟨1, ![128]⟩
abbrev S1x128x1 : Shape := ⟨3, ![1, 128, 1]⟩
abbrev S32x128x1 : Shape := ⟨3, ![32, 128, 1]⟩
abbrev S256 : Shape := ⟨1, ![256]⟩
abbrev S1x1x256 : Shape := ⟨3, ![1, 1, 256]⟩
abbrev S32x1x256 : Shape := ⟨3, ![32, 1, 256]⟩
abbrev S32x128x256 : Shape := ⟨3, ![32, 128, 256]⟩
abbrev S2x8x32x128 : Shape := ⟨4, ![2, 8, 32, 128]⟩
abbrev S2x8x32x128x1 : Shape := ⟨5, ![2, 8, 32, 128, 1]⟩
abbrev S2x8x1x1x1 : Shape := ⟨5, ![2, 8, 1, 1, 1]⟩
abbrev S2x32x64x8x128 : Shape := ⟨5, ![2, 32, 64, 8, 128]⟩
abbrev S16x4096 : Shape := ⟨2, ![16, 4096]⟩
abbrev S2x32x8x128x256 : Shape := ⟨5, ![2, 32, 8, 128, 256]⟩
abbrev S2x32x64x256 : Shape := ⟨4, ![2, 32, 64, 256]⟩
abbrev S2x8x1 : Shape := ⟨3, ![2, 8, 1]⟩
abbrev S2x32x8x128x64 : Shape := ⟨5, ![2, 32, 8, 128, 64]⟩
abbrev S8x128 : Shape := ⟨2, ![8, 128]⟩

abbrev nBuf : Space → Nat
  | .hbm => 227
  | .vmem => 0
  | .smem => 0
  | _ => 0

abbrev hbmTy0_0 (i : Nat) : BufTy := match i % 128 with
  | 0 => ⟨S4096x1280, .bf16⟩
  | 1 => ⟨S4096x1024, .bf16⟩
  | 2 => ⟨S16, .f32⟩
  | 3 => ⟨S4096x1280, .f32⟩
  | 4 => ⟨S4096x1024, .f32⟩
  | 5 => ⟨S4096x128, .f32⟩
  | 6 => ⟨S4096x128, .f32⟩
  | 7 => ⟨S4096x16x64, .f32⟩
  | 8 => ⟨S16x4096x64, .f32⟩
  | 9 => ⟨S4096x2x64, .f32⟩
  | 10 => ⟨S2x4096x64, .f32⟩
  | 11 => ⟨S4096x2x64, .f32⟩
  | 12 => ⟨S2x4096x64, .f32⟩
  | 13 => ⟨S2x8x32x128x64, .f32⟩
  | 14 => ⟨S2x32x128x64, .f32⟩
  | 15 => ⟨S2x32x128x64, .f32⟩
  | 16 => ⟨S2x1x128x64, .f32⟩
  | 17 => ⟨S_, .f32⟩
  | 18 => ⟨S2x1x128x64, .f32⟩
  | 19 => ⟨S2x31x128x64, .f32⟩
  | 20 => ⟨S2x32x128x64, .f32⟩
  | 21 => ⟨S_, .f32⟩
  | 22 => ⟨S2x1x128x64, .f32⟩
  | 23 => ⟨S2x32x256x64, .f32⟩
  | 24 => ⟨S2x1x128x64, .f32⟩
  | 25 => ⟨S_, .f32⟩
  | 26 => ⟨S2x1x128x64, .f32⟩
  | 27 => ⟨S2x31x128x64, .f32⟩
  | 28 => ⟨S2x32x128x64, .f32⟩
  | 29 => ⟨S_, .f32⟩
  | 30 => ⟨S2x1x128x64, .f32⟩
  | 31 => ⟨S2x32x256x64, .f32⟩
  | 32 => ⟨S2x32x256x8x128, .f32⟩
  | 33 => ⟨S2x8x32x128x256, .f32⟩
  | 34 => ⟨S_, .f32⟩
  | 35 => ⟨S2x8x32x128x256, .f32⟩
  | 36 => ⟨S2x8x32x128x256, .f32⟩
  | 37 => ⟨S32, .i32⟩
  | 38 => ⟨S32x1x1, .i32⟩
  | 39 => ⟨S_, .i32⟩
  | 40 => ⟨S32x1x1, .i32⟩
  | 41 => ⟨S32x1x1, .i32⟩
  | 42 => ⟨S128, .i32⟩
  | 43 => ⟨S1x128x1, .i32⟩
  | 44 => ⟨S32x128x1, .i32⟩
  | 45 => ⟨S32x128x1, .i32⟩
  | 46 => ⟨S32x128x1, .i32⟩
  | 47 => ⟨S_, .i32⟩
  | 48 => ⟨S32x1x1, .i32⟩
  | 49 => ⟨S32x1x1, .i32⟩
  | 50 => ⟨S_, .i32⟩
  | 51 => ⟨S32x1x1, .i32⟩
  | 52 => ⟨S32x1x1, .i32⟩
  | 53 => ⟨S256, .i32⟩
  | 54 => ⟨S1x1x256, .i32⟩
  | 55 => ⟨S32x1x256, .i32⟩
  | 56 => ⟨S32x1x256, .i32⟩
  | 57 => ⟨S32x1x256, .i32⟩
  | 58 => ⟨S32x128x256, .i32⟩
  | 59 => ⟨S32x128x256, .i32⟩
  | 60 => ⟨S32x128x256, .i32⟩
  | 61 => ⟨S_, .i32⟩
  | 62 => ⟨S32x128x256, .i32⟩
  | 63 => ⟨S32x128x256, .i1⟩
  | 64 => ⟨S_, .i32⟩
  | 65 => ⟨S32x128x256, .i32⟩
  | 66 => ⟨S32x128x256, .i1⟩
  | 67 => ⟨S32x128x256, .i1⟩
  | 68 => ⟨S_, .i32⟩
  | 69 => ⟨S32x1x256, .i32⟩
  | 70 => ⟨S32x1x256, .i1⟩
  | 71 => ⟨S32x128x256, .i1⟩
  | 72 => ⟨S32x128x256, .i1⟩
  | 73 => ⟨S_, .f32⟩
  | 74 => ⟨S_, .f32⟩
  | 75 => ⟨S2x8x32x128x256, .i1⟩
  | 76 => ⟨S2x8x32x128x256, .f32⟩
  | 77 => ⟨S2x8x32x128x256, .f32⟩
  | 78 => ⟨S_, .f32⟩
  | 79 => ⟨S2x8x32x128x256, .f32⟩
  | 80 => ⟨S_, .f32⟩
  | 81 => ⟨S2x8x32x128, .f32⟩
  | 82 => ⟨S2x8x32x128x1, .f32⟩
  | 83 => ⟨S2x8x32x128x256, .f32⟩
  | 84 => ⟨S2x8x32x128x256, .i1⟩
  | 85 => ⟨S2x8x32x128x256, .f32⟩
  | 86 => ⟨S_, .f32⟩
  | 87 => ⟨S2x8x32x128, .f32⟩
  | 88 => ⟨S2x8x32x128x1, .f32⟩
  | 89 => ⟨S2x8x1x1x1, .f32⟩
  | 90 => ⟨S2x8x32x128x1, .f32⟩
  | 91 => ⟨S2x8x32x128x1, .f32⟩
  | 92 => ⟨S2x8x32x128x1, .f32⟩
  | 93 => ⟨S2x8x32x128x1, .i1⟩
  | 94 => ⟨S2x8x32x128x1, .f32⟩
  | 95 => ⟨S2x8x32x128x1, .i1⟩
  | 96 => ⟨S_, .f32⟩
  | 97 => ⟨S2x8x32x128x1, .f32⟩
  | 98 => ⟨S_, .f32⟩
  | 99 => ⟨S2x8x32x128x1, .f32⟩
  | 100 => ⟨S_, .f32⟩
  | 101 => ⟨S2x8x32x128x1, .f32⟩
  | 102 => ⟨S2x8x32x128x1, .f32⟩
  | 103 => ⟨S2x8x32x128x1, .f32⟩
  | 104 => ⟨S2x8x32x128x1, .f32⟩
  | 105 => ⟨S2x8x32x128x1, .i1⟩
  | 106 => ⟨S2x8x32x128x1, .f32⟩
  | 107 => ⟨S2x8x32x128x1, .i1⟩
  | 108 => ⟨S_, .f32⟩
  | 109 => ⟨S2x8x32x128x1, .f32⟩
  | 110 => ⟨S_, .f32⟩
  | 111 => ⟨S2x8x32x128x1, .f32⟩
  | 112 => ⟨S_, .f32⟩
  | 113 => ⟨S2x8x32x128x1, .f32⟩
  | 114 => ⟨S2x8x32x128x1, .f32⟩
  | 115 => ⟨S2x8x32x128x1, .f32⟩
  | 116 => ⟨S2x8x32x128x256, .f32⟩
  | 117 => ⟨S2x8x32x128x256, .f32⟩
  | 118 => ⟨S2x8x32x128x256, .f32⟩
  | 119 => ⟨S_, .f32⟩
  | 120 => ⟨S2x8x32x128, .f32⟩
  | 121 => ⟨S2x8x32x128x1, .f32⟩
  | 122 => ⟨S2x8x32x128x1, .f32⟩
  | 123 => ⟨S2x8x32x128x1, .f32⟩
  | 124 => ⟨S2x8x32x128x1, .f32⟩
  | 125 => ⟨S2x8x32x128x1, .f32⟩
  | 126 => ⟨S2x8x32x128x256, .f32⟩
  | 127 => ⟨S2x8x32x128x256, .f32⟩
  | _ => ⟨S4096x1280, .bf16⟩

abbrev hbmTy0_1 (i : Nat) : BufTy := match i % 128 with
  | 0 => ⟨S2x8x32x128x1, .f32⟩
  | 1 => ⟨S_, .f32⟩
  | 2 => ⟨S2x8x32x128x1, .f32⟩
  | 3 => ⟨S2x8x32x128x1, .f32⟩
  | 4 => ⟨S2x8x32x128x1, .f32⟩
  | 5 => ⟨S2x8x32x128x1, .f32⟩
  | 6 => ⟨S2x8x32x128, .f32⟩
  | 7 => ⟨S2x32x64x8x128, .f32⟩
  | 8 => ⟨S2x8x32x128x64, .f32⟩
  | 9 => ⟨S16x4096x64, .f32⟩
  | 10 => ⟨S16x4096, .f32⟩
  | 11 => ⟨S4096x16x64, .f32⟩
  | 12 => ⟨S4096x1024, .f32⟩
  | 13 => ⟨S4096x1024, .f32⟩
  | 14 => ⟨S4096x16x64, .f32⟩
  | 15 => ⟨S16x4096x64, .f32⟩
  | 16 => ⟨S2x8x32x128x64, .f32⟩
  | 17 => ⟨S2x32x64x8x128, .f32⟩
  | 18 => ⟨S2x32x8x128x256, .f32⟩
  | 19 => ⟨S2x8x32x128x256, .f32⟩
  | 20 => ⟨S2x32x64x256, .f32⟩
  | 21 => ⟨S2x32x256x64, .f32⟩
  | 22 => ⟨S2x8x32x128x256, .f32⟩
  | 23 => ⟨S2x8x32x128x256, .f32⟩
  | 24 => ⟨S2x8x32x128x256, .f32⟩
  | 25 => ⟨S_, .f32⟩
  | 26 => ⟨S2x8x32x128, .f32⟩
  | 27 => ⟨S2x8x32x128x1, .f32⟩
  | 28 => ⟨S2x8x32x128x1, .f32⟩
  | 29 => ⟨S2x8x32x128x256, .f32⟩
  | 30 => ⟨S2x8x32x128x256, .f32⟩
  | 31 => ⟨S2x8x32x128x1, .f32⟩
  | 32 => ⟨S_, .f32⟩
  | 33 => ⟨S2x8x1, .f32⟩
  | 34 => ⟨S2x8x1x1x1, .f32⟩
  | 35 => ⟨S2x8x32x128x1, .f32⟩
  | 36 => ⟨S_, .f32⟩
  | 37 => ⟨S2x8x32x128, .f32⟩
  | 38 => ⟨S2x8x32x128x256, .f32⟩
  | 39 => ⟨S2x8x32x128x256, .f32⟩
  | 40 => ⟨S2x8x32x128x256, .f32⟩
  | 41 => ⟨S2x8x32x128x256, .f32⟩
  | 42 => ⟨S_, .f32⟩
  | 43 => ⟨S2x8x32x128, .f32⟩
  | 44 => ⟨S2x8x32x128x1, .f32⟩
  | 45 => ⟨S2x8x32x128x1, .f32⟩
  | 46 => ⟨S2x8x32x128x1, .f32⟩
  | 47 => ⟨S_, .f32⟩
  | 48 => ⟨S2x8x1, .f32⟩
  | 49 => ⟨S2x8x1x1x1, .f32⟩
  | 50 => ⟨S2x8x1x1x1, .f32⟩
  | 51 => ⟨S2x8x32x128x1, .f32⟩
  | 52 => ⟨S16, .f32⟩
  | 53 => ⟨S_, .f32⟩
  | 54 => ⟨S2x8x32x128, .f32⟩
  | 55 => ⟨S2x8x32x128, .f32⟩
  | 56 => ⟨S2x8x32x128x256, .f32⟩
  | 57 => ⟨S2x8x32x128x256, .f32⟩
  | 58 => ⟨S2x8x32x128x256, .f32⟩
  | 59 => ⟨S_, .f32⟩
  | 60 => ⟨S2x8x32x128x256, .f32⟩
  | 61 => ⟨S2x8x32x128x256, .f32⟩
  | 62 => ⟨S_, .f32⟩
  | 63 => ⟨S2x8x32x128x256, .f32⟩
  | 64 => ⟨S2x8x32x128x256, .f32⟩
  | 65 => ⟨S2x32x256x8x128, .f32⟩
  | 66 => ⟨S2x32x8x128x64, .f32⟩
  | 67 => ⟨S2x8x32x128x64, .f32⟩
  | 68 => ⟨S2x32x256x64, .f32⟩
  | 69 => ⟨S2x32x128x64, .f32⟩
  | 70 => ⟨S2x32x128x64, .f32⟩
  | 71 => ⟨S2x1x128x64, .f32⟩
  | 72 => ⟨S2x31x128x64, .f32⟩
  | 73 => ⟨S_, .f32⟩
  | 74 => ⟨S2x32x128x64, .f32⟩
  | 75 => ⟨S2x32x128x64, .f32⟩
  | 76 => ⟨S2x32x128x64, .f32⟩
  | 77 => ⟨S2x32x128x64, .f32⟩
  | 78 => ⟨S2x1x128x64, .f32⟩
  | 79 => ⟨S2x31x128x64, .f32⟩
  | 80 => ⟨S_, .f32⟩
  | 81 => ⟨S2x32x128x64, .f32⟩
  | 82 => ⟨S2x32x128x64, .f32⟩
  | 83 => ⟨S2x4096x64, .f32⟩
  | 84 => ⟨S2x4096x64, .f32⟩
  | 85 => ⟨S16x4096x64, .f32⟩
  | 86 => ⟨S4096x2x64, .f32⟩
  | 87 => ⟨S4096x128, .f32⟩
  | 88 => ⟨S4096x2x64, .f32⟩
  | 89 => ⟨S4096x128, .f32⟩
  | 90 => ⟨S4096x16x64, .f32⟩
  | 91 => ⟨S4096x1024, .f32⟩
  | 92 => ⟨S4096x1024, .bf16⟩
  | 93 => ⟨S4096x128, .bf16⟩
  | 94 => ⟨S4096x128, .bf16⟩
  | 95 => ⟨S_, .i32⟩
  | 96 => ⟨S_, .f32⟩
  | 97 => ⟨S128, .f32⟩
  | 98 => ⟨S8x128, .f32⟩
  | _ => ⟨S4096x1280, .bf16⟩

abbrev hbmTy (i : Nat) : BufTy := match i / 128 with
  | 0 => hbmTy0_0 i
  | 1 => hbmTy0_1 i
  | _ => ⟨S4096x1280, .bf16⟩

abbrev bufTy : (tb : Table) → Fin (tcTables nBuf tb) → BufTy
  | .hbm, ⟨i, _⟩ => hbmTy i
  | _, _ => ⟨S4096x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c_4 : Ref sig .tc := ⟨.hbm, 47, rfl⟩
abbrev main_v38 : Ref sig .tc := ⟨.hbm, 48, rfl⟩
abbrev main_v39 : Ref sig .tc := ⟨.hbm, 49, rfl⟩
abbrev main_c_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_c_6 : Ref sig .tc := ⟨.hbm, 61, rfl⟩
abbrev main_v50 : Ref sig .tc := ⟨.hbm, 62, rfl⟩
abbrev main_v51 : Ref sig .tc := ⟨.hbm, 63, rfl⟩
abbrev main_c_7 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_c_8 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_9 : Ref sig .tc := ⟨.hbm, 73, rfl⟩
abbrev main_call0_v0 : Ref sig .tc := ⟨.hbm, 74, rfl⟩
abbrev main_v59_1 : Ref sig .tc := ⟨.hbm, 75, rfl⟩
abbrev main_call0_v2 : Ref sig .tc := ⟨.hbm, 76, rfl⟩
abbrev main_v59_0 : Ref sig .tc := ⟨.hbm, 77, rfl⟩
abbrev main_call0_cst : Ref sig .tc := ⟨.hbm, 78, rfl⟩
abbrev main_v59_2 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_11 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_12 : Ref sig .tc := ⟨.hbm, 96, rfl⟩
abbrev main_v74 : Ref sig .tc := ⟨.hbm, 97, rfl⟩
abbrev main_cst_13 : Ref sig .tc := ⟨.hbm, 98, rfl⟩
abbrev main_v75 : Ref sig .tc := ⟨.hbm, 99, rfl⟩
abbrev main_cst_14 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_15 : Ref sig .tc := ⟨.hbm, 108, rfl⟩
abbrev main_v83 : Ref sig .tc := ⟨.hbm, 109, rfl⟩
abbrev main_cst_16 : Ref sig .tc := ⟨.hbm, 110, rfl⟩
abbrev main_v84 : Ref sig .tc := ⟨.hbm, 111, rfl⟩
abbrev main_cst_17 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_18 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_19 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_cst_20 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_cst_21 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_cst_22 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_cst_23 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_cst_24 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_cst_25 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_call1_cst : Ref sig .tc := ⟨.hbm, 187, rfl⟩
abbrev main_call1_v0 : Ref sig .tc := ⟨.hbm, 188, rfl⟩
abbrev main_v151 : Ref sig .tc := ⟨.hbm, 189, rfl⟩
abbrev main_cst_26 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_cst_27 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_cst_28 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_c_29 : Ref sig .tc := ⟨.hbm, 223, rfl⟩
abbrev main_call2_v0 : Ref sig .tc := ⟨.hbm, 224, rfl⟩
abbrev main_v182 : Ref sig .tc := ⟨.hbm, 225, rfl⟩
abbrev main_v183 : Ref sig .tc := ⟨.hbm, 226, rfl⟩

abbrev nD : Nat := 1
abbrev τ : Topo := Topo.v7x

variable {F : FTy → Type} [FloatOps F]

def κ : String → Option EReal := fun
  | "mask" => some ⊥
  | _ => none
-- ==== Kernel2.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 22
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x5632, .bf16⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x5632, .bf16⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x5632, .f32⟩
  | .hbm, ⟨21, _⟩ => ⟨S4096x5632, .f32⟩
  | .hbm, ⟨22, _⟩ => ⟨S5632x1024, .f32⟩
  | .hbm, ⟨23, _⟩ => ⟨S1024x5632, .f32⟩
  | .hbm, ⟨24, _⟩ => ⟨S1024x4x1408, .f32⟩
  | .hbm, ⟨25, _⟩ => ⟨S4x1024x1408, .f32⟩
  | .hbm, ⟨26, _⟩ => ⟨S4x1024x1408, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel3.lean ====
abbrev S4096x5632 : Shape := ⟨2, ![4096, 5632]⟩
abbrev S2816x1024 : Shape := ⟨2, ![2816, 1024]⟩
abbrev S4096x1024 : Shape := ⟨2, ![4096, 1024]⟩
abbrev S4096x2816 : Shape := ⟨2, ![4096, 2816]⟩
abbrev S_ : Shape := ⟨0, ![]⟩
abbrev S1x2816x1024 : Shape := ⟨3, ![1, 2816, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 18
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S2816x1024, .f32⟩
  | .hbm, ⟨2, _⟩ => ⟨S4096x1024, .f32⟩
  | .hbm, ⟨3, _⟩ => ⟨S4096x5632, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .bf16⟩
  | .hbm, ⟨17, _⟩ => ⟨S1x2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x5632 : Shape := ⟨2, ![4096, 5632]⟩
abbrev S2816x1024 : Shape := ⟨2, ![2816, 1024]⟩
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S1x2816x1024 : Shape := ⟨3, ![1, 2816, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S2816x1024, .f32⟩
  | .hbm, ⟨2, _⟩ => ⟨S4096x1024, .f32⟩
  | .hbm, ⟨3, _⟩ => ⟨S4096x5632, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x1024, .f32⟩
  | .hbm, ⟨17, _⟩ => ⟨S1024x2816, .f32⟩
  | .hbm, ⟨18, _⟩ => ⟨S2816x1024, .f32⟩
  | .hbm, ⟨19, _⟩ => ⟨S1x2816x1024, .f32⟩
  | .hbm, ⟨20, _⟩ => ⟨S1x2816x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel4.lean ====
abbrev S4096x5632 : Shape := ⟨2, ![4096, 5632]⟩
abbrev S2816x1024 : Shape := ⟨2, ![2816, 1024]⟩
abbrev S4096x1024 : Shape := ⟨2, ![4096, 1024]⟩
abbrev S1x2816x1024 : Shape := ⟨3, ![1, 2816, 1024]⟩
abbrev S512x1024 : Shape := ⟨2, ![512, 1024]⟩
abbrev S512x5632 : Shape := ⟨2, ![512, 5632]⟩
abbrev S1x1408x1024 : Shape := ⟨3, ![1, 1408, 1024]⟩
abbrev S1408x1024 : Shape := ⟨2, ![1408, 1024]⟩
abbrev S512x1408 : Shape := ⟨2, ![512, 1408]⟩

abbrev nBuf : Space → Nat
  | .hbm => 6
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S2816x1024, .f32⟩
  | .hbm, ⟨2, _⟩ => ⟨S4096x1024, .f32⟩
  | .hbm, ⟨3, _⟩ => ⟨S2816x1024, .bf16⟩
  | .hbm, ⟨4, _⟩ => ⟨S1x2816x1024, .bf16⟩
  | .hbm, ⟨5, _⟩ => ⟨S4096x5632, .bf16⟩
  | .local _ .vmem, ⟨0, _⟩ => ⟨S512x1024, .f32⟩
  | .local _ .vmem, ⟨1, _⟩ => ⟨S512x1024, .f32⟩
  | .local _ .vmem, ⟨2, _⟩ => ⟨S1x2816x1024, .bf16⟩
  | .local _ .vmem, ⟨3, _⟩ => ⟨S512x5632, .bf16⟩
  | .local _ .vmem, ⟨4, _⟩ => ⟨S512x5632, .bf16⟩
  | .local _ .vmem, ⟨5, _⟩ => ⟨S512x5632, .bf16⟩
  | .local _ .vmem, ⟨6, _⟩ => ⟨S512x5632, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S4096x5632 : Shape := ⟨2, ![4096, 5632]⟩
abbrev S2816x1024 : Shape := ⟨2, ![2816, 1024]⟩
abbrev S4096x1024 : Shape := ⟨2, ![4096, 1024]⟩
abbrev S4096x2816 : Shape := ⟨2, ![4096, 2816]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S2816x1024, .f32⟩
  | .hbm, ⟨2, _⟩ => ⟨S4096x1024, .f32⟩
  | .hbm, ⟨3, _⟩ => ⟨S4096x5632, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x1024, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x5632, .f32⟩
  | .hbm, ⟨29, _⟩ => ⟨S4096x5632, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩

abbrev nD : Nat := 1
abbrev τ : Topo := Topo.v7x

variable {F : FTy → Type} [FloatOps F]
-- ==== Kernel5.lean ====
abbrev S4096x1024 : Shape := ⟨2, ![4096, 1024]⟩
abbrev S1024 : Shape := ⟨1, ![1024]⟩
abbrev S2x1024x5632 : Shape := ⟨3, ![2, 1024, 5632]⟩
abbrev S2x1024x4x1408 : Shape := ⟨4, ![2, 1024, 4, 1408]⟩
abbrev S4x2x1024x1408 : Shape := ⟨4, ![4, 2, 1024, 1408]⟩
abbrev S1x1024 : Shape := ⟨2, ![1, 1024]⟩
abbrev S4096x5632 : Shape := ⟨2, ![4096, 5632]⟩
abbrev S4096x2816 : Shape := ⟨2, ![4096, 2816]⟩
abbrev S512x1024 : Shape := ⟨2, ![512, 1024]⟩
abbrev S4x1x1024x1408 : Shape := ⟨4, ![4, 1, 1024, 1408]⟩
abbrev S512x5632 : Shape := ⟨2, ![512, 5632]⟩
abbrev S512x2816 : Shape := ⟨2, ![512, 2816]⟩
abbrev S512 : Shape := ⟨1, ![512]⟩
abbrev S512x1 : Shape := ⟨2, ![512, 1]⟩
abbrev S1x1x1024x1408 : Shape := ⟨4, ![1, 1, 1024, 1408]⟩
abbrev S1024x1408 : Shape := ⟨2, ![1024, 1408]⟩
abbrev S512x1408 : Shape := ⟨2, ![512, 1408]⟩

abbrev nBuf : Space → Nat
  | .hbm => 10
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S2x1024x5632, .f32⟩
  | .hbm, ⟨3, _⟩ => ⟨S2x1024x5632, .bf16⟩
  | .hbm, ⟨4, _⟩ => ⟨S2x1024x4x1408, .bf16⟩
  | .hbm, ⟨5, _⟩ => ⟨S4x2x1024x1408, .bf16⟩
  | .hbm, ⟨6, _⟩ => ⟨S1x1024, .f32⟩
  | .hbm, ⟨7, _⟩ => ⟨S4096x5632, .bf16⟩
  | .hbm, ⟨8, _⟩ => ⟨S4096x1024, .bf16⟩
  | .hbm, ⟨9, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1x1024x1408, .bf16⟩
  | .local _ .vmem, ⟨4, _⟩ => ⟨S512x5632, .bf16⟩
  | .local _ .vmem, ⟨5, _⟩ => ⟨S512x5632, .bf16⟩
  | .local _ .vmem, ⟨6, _⟩ => ⟨S512x1024, .bf16⟩
  | .local _ .vmem, ⟨7, _⟩ => ⟨S512x1024, .bf16⟩
  | .local _ .vmem, ⟨8, _⟩ => ⟨S512x2816, .bf16⟩
  | .local _ .vmem, ⟨9, _⟩ => ⟨S512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S4096x1024 : Shape := ⟨2, ![4096, 1024]⟩
abbrev S1024 : Shape := ⟨1, ![1024]⟩
abbrev S2x1024x5632 : Shape := ⟨3, ![2, 1024, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1024x5632 : Shape := ⟨3, ![1, 1024, 5632]⟩
abbrev S1024x5632 : Shape := ⟨2, ![1024, 5632]⟩
abbrev S4096x5632 : Shape := ⟨2, ![4096, 5632]⟩
abbrev S4096x2816 : Shape := ⟨2, ![4096, 2816]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S2x1024x5632, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S1x1024x5632, .f32⟩
  | .hbm, ⟨20, _⟩ => ⟨S1024x5632, .f32⟩
  | .hbm, ⟨21, _⟩ => ⟨S4096x5632, .f32⟩
  | .hbm, ⟨22, _⟩ => ⟨S4096x5632, .bf16⟩
  | .hbm, ⟨23, _⟩ => ⟨S4096x1024, .bf16⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== Kernel6.lean ====
abbrev S4096x1024 : Shape := ⟨2, ![4096, 1024]⟩
abbrev S4096x5632 : Shape := ⟨2, ![4096, 5632]⟩
abbrev S2816x1024 : Shape := ⟨2, ![2816, 1024]⟩
abbrev S4096x2816 : Shape := ⟨2, ![4096, 2816]⟩
abbrev S_ : Shape := ⟨0, ![]⟩
abbrev S1x2816x1024 : Shape := ⟨3, ![1, 2816, 1024]⟩
abbrev S512x2816 : Shape := ⟨2, ![512, 2816]⟩
abbrev S512x1024 : Shape := ⟨2, ![512, 1024]⟩

abbrev nBuf : Space → Nat
  | .hbm => 20
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x5632, .bf16⟩
  | .hbm, ⟨2, _⟩ => ⟨S2816x1024, .f32⟩
  | .hbm, ⟨3, _⟩ => ⟨S4096x5632, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .bf16⟩
  | .hbm, ⟨17, _⟩ => ⟨S2816x1024, .bf16⟩
  | .hbm, ⟨18, _⟩ => ⟨S1x2816x1024, .bf16⟩
  | .hbm, ⟨19, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S4096x1024 : Shape := ⟨2, ![4096, 1024]⟩
abbrev S4096x5632 : Shape := ⟨2, ![4096, 5632]⟩
abbrev S2816x1024 : Shape := ⟨2, ![2816, 1024]⟩
abbrev S4096x2816 : Shape := ⟨2, ![4096, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .bf16⟩
  | .hbm, ⟨2, _⟩ => ⟨S2816x1024, .f32⟩
  | .hbm, ⟨3, _⟩ => ⟨S4096x5632, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x1024, .f32⟩
  | .hbm, ⟨17, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel7.lean ====
abbrev S4096x1024 : Shape := ⟨2, ![4096, 1024]⟩
abbrev S1024 : Shape := ⟨1, ![1024]⟩
abbrev S2x1024x5632 : Shape := ⟨3, ![2, 1024, 5632]⟩
abbrev S4096x5632 : Shape := ⟨2, ![4096, 5632]⟩
abbrev S2x1024x4x1408 : Shape := ⟨4, ![2, 1024, 4, 1408]⟩
abbrev S4x2x1024x1408 : Shape := ⟨4, ![4, 2, 1024, 1408]⟩
abbrev S1x1024 : Shape := ⟨2, ![1, 1024]⟩
abbrev S512x5632 : Shape := ⟨2, ![512, 5632]⟩
abbrev S4x1x1024x1408 : Shape := ⟨4, ![4, 1, 1024, 1408]⟩
abbrev S512x1024 : Shape := ⟨2, ![512, 1024]⟩
abbrev S512x1408 : Shape := ⟨2, ![512, 1408]⟩
abbrev S1x1x1024x1408 : Shape := ⟨4, ![1, 1, 1024, 1408]⟩
abbrev S1024x1408 : Shape := ⟨2, ![1024, 1408]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S2x1024x5632, .f32⟩
  | .hbm, ⟨3, _⟩ => ⟨S4096x5632, .bf16⟩
  | .hbm, ⟨4, _⟩ => ⟨S4096x1024, .f32⟩
  | .hbm, ⟨5, _⟩ => ⟨S2x1024x5632, .bf16⟩
  | .hbm, ⟨6, _⟩ => ⟨S2x1024x4x1408, .bf16⟩
  | .hbm, ⟨7, _⟩ => ⟨S4x2x1024x1408, .bf16⟩
  | .hbm, ⟨8, _⟩ => ⟨S1x1024, .f32⟩
  | .hbm, ⟨9, _⟩ => ⟨S4096x1024, .f32⟩
  | .hbm, ⟨10, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S4x1x1024x1408, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference7Ideal.lean ====
abbrev S4096x1024 : Shape := ⟨2, ![4096, 1024]⟩
abbrev S1024 : Shape := ⟨1, ![1024]⟩
abbrev S2x1024x5632 : Shape := ⟨3, ![2, 1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1024x5632 : Shape := ⟨3, ![1, 1024, 5632]⟩
abbrev S1024x5632 : Shape := ⟨2, ![1024, 5632]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S2x1024x5632, .f32⟩
  | .hbm, ⟨3, _⟩ => ⟨S4096x5632, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S1x1024x5632, .f32⟩
  | .hbm, ⟨26, _⟩ => ⟨S1024x5632, .f32⟩
  | .hbm, ⟨27, _⟩ => ⟨S4096x5632, .f32⟩
  | .hbm, ⟨28, _⟩ => ⟨S4096x5632, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel8.lean ====
abbrev S4096x1024 : Shape := ⟨2, ![4096, 1024]⟩
abbrev S1024 : Shape := ⟨1, ![1024]⟩
abbrev S2x1024x5632 : Shape := ⟨3, ![2, 1024, 5632]⟩
abbrev S2x1024x4x1408 : Shape := ⟨4, ![2, 1024, 4, 1408]⟩
abbrev S4x2x1024x1408 : Shape := ⟨4, ![4, 2, 1024, 1408]⟩
abbrev S1x1024 : Shape := ⟨2, ![1, 1024]⟩
abbrev S4096x5632 : Shape := ⟨2, ![4096, 5632]⟩
abbrev S4096x2816 : Shape := ⟨2, ![4096, 2816]⟩
abbrev S512x1024 : Shape := ⟨2, ![512, 1024]⟩
abbrev S4x1x1024x1408 : Shape := ⟨4, ![4, 1, 1024, 1408]⟩
abbrev S512x5632 : Shape := ⟨2, ![512, 5632]⟩
abbrev S512x2816 : Shape := ⟨2, ![512, 2816]⟩
abbrev S512 : Shape := ⟨1, ![512]⟩
abbrev S512x1 : Shape := ⟨2, ![512, 1]⟩
abbrev S1x1x1024x1408 : Shape := ⟨4, ![1, 1, 1024, 1408]⟩
abbrev S1024x1408 : Shape := ⟨2, ![1024, 1408]⟩
abbrev S512x1408 : Shape := ⟨2, ![512, 1408]⟩

abbrev nBuf : Space → Nat
  | .hbm => 10
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S2x1024x5632, .f32⟩
  | .hbm, ⟨3, _⟩ => ⟨S2x1024x5632, .bf16⟩
  | .hbm, ⟨4, _⟩ => ⟨S2x1024x4x1408, .bf16⟩
  | .hbm, ⟨5, _⟩ => ⟨S4x2x1024x1408, .bf16⟩
  | .hbm, ⟨6, _⟩ => ⟨S1x1024, .f32⟩
  | .hbm, ⟨7, _⟩ => ⟨S4096x5632, .bf16⟩
  | .hbm, ⟨8, _⟩ => ⟨S4096x1024, .bf16⟩
  | .hbm, ⟨9, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1x1024x1408, .bf16⟩
  | .local _ .vmem, ⟨4, _⟩ => ⟨S512x5632, .bf16⟩
  | .local _ .vmem, ⟨5, _⟩ => ⟨S512x5632, .bf16⟩
  | .local _ .vmem, ⟨6, _⟩ => ⟨S512x1024, .bf16⟩
  | .local _ .vmem, ⟨7, _⟩ => ⟨S512x1024, .bf16⟩
  | .local _ .vmem, ⟨8, _⟩ => ⟨S512x2816, .bf16⟩
  | .local _ .vmem, ⟨9, _⟩ => ⟨S512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S4096x1024 : Shape := ⟨2, ![4096, 1024]⟩
abbrev S1024 : Shape := ⟨1, ![1024]⟩
abbrev S2x1024x5632 : Shape := ⟨3, ![2, 1024, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1024x5632 : Shape := ⟨3, ![1, 1024, 5632]⟩
abbrev S1024x5632 : Shape := ⟨2, ![1024, 5632]⟩
abbrev S4096x5632 : Shape := ⟨2, ![4096, 5632]⟩
abbrev S4096x2816 : Shape := ⟨2, ![4096, 2816]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S2x1024x5632, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S1x1024x5632, .f32⟩
  | .hbm, ⟨20, _⟩ => ⟨S1024x5632, .f32⟩
  | .hbm, ⟨21, _⟩ => ⟨S4096x5632, .f32⟩
  | .hbm, ⟨22, _⟩ => ⟨S4096x5632, .bf16⟩
  | .hbm, ⟨23, _⟩ => ⟨S4096x1024, .bf16⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== Kernel9.lean ====
abbrev S4096x1024 : Shape := ⟨2, ![4096, 1024]⟩
abbrev S1024 : Shape := ⟨1, ![1024]⟩
abbrev S2x1024x5632 : Shape := ⟨3, ![2, 1024, 5632]⟩
abbrev S4096x5632 : Shape := ⟨2, ![4096, 5632]⟩
abbrev S2x1024x4x1408 : Shape := ⟨4, ![2, 1024, 4, 1408]⟩
abbrev S4x2x1024x1408 : Shape := ⟨4, ![4, 2, 1024, 1408]⟩
abbrev S1x1024 : Shape := ⟨2, ![1, 1024]⟩
abbrev S512x5632 : Shape := ⟨2, ![512, 5632]⟩
abbrev S4x1x1024x1408 : Shape := ⟨4, ![4, 1, 1024, 1408]⟩
abbrev S512x1024 : Shape := ⟨2, ![512, 1024]⟩
abbrev S512x1408 : Shape := ⟨2, ![512, 1408]⟩
abbrev S1x1x1024x1408 : Shape := ⟨4, ![1, 1, 1024, 1408]⟩
abbrev S1024x1408 : Shape := ⟨2, ![1024, 1408]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S2x1024x5632, .f32⟩
  | .hbm, ⟨3, _⟩ => ⟨S4096x5632, .bf16⟩
  | .hbm, ⟨4, _⟩ => ⟨S4096x1024, .f32⟩
  | .hbm, ⟨5, _⟩ => ⟨S2x1024x5632, .bf16⟩
  | .hbm, ⟨6, _⟩ => ⟨S2x1024x4x1408, .bf16⟩
  | .hbm, ⟨7, _⟩ => ⟨S4x2x1024x1408, .bf16⟩
  | .hbm, ⟨8, _⟩ => ⟨S1x1024, .f32⟩
  | .hbm, ⟨9, _⟩ => ⟨S4096x1024, .f32⟩
  | .hbm, ⟨10, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S4x1x1024x1408, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference9Ideal.lean ====
abbrev S4096x1024 : Shape := ⟨2, ![4096, 1024]⟩
abbrev S1024 : Shape := ⟨1, ![1024]⟩
abbrev S2x1024x5632 : Shape := ⟨3, ![2, 1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1024x5632 : Shape := ⟨3, ![1, 1024, 5632]⟩
abbrev S1024x5632 : Shape := ⟨2, ![1024, 5632]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S2x1024x5632, .f32⟩
  | .hbm, ⟨3, _⟩ => ⟨S4096x5632, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S1x1024x5632, .f32⟩
  | .hbm, ⟨26, _⟩ => ⟨S1024x5632, .f32⟩
  | .hbm, ⟨27, _⟩ => ⟨S4096x5632, .f32⟩
  | .hbm, ⟨28, _⟩ => ⟨S4096x5632, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel10.lean ====
abbrev S4096x1024 : Shape := ⟨2, ![4096, 1024]⟩
abbrev S1024 : Shape := ⟨1, ![1024]⟩
abbrev S1024x3584 : Shape := ⟨2, ![1024, 3584]⟩
abbrev S4096x3584 : Shape := ⟨2, ![4096, 3584]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4x1024x896 : Shape := ⟨3, ![4, 1024, 896]⟩
abbrev S2048x1024 : Shape := ⟨2, ![2048, 1024]⟩
abbrev S2048x896 : Shape := ⟨2, ![2048, 896]⟩
abbrev S1x1024x896 : Shape := ⟨3, ![1, 1024, 896]⟩
abbrev S1024x896 : Shape := ⟨2, ![1024, 896]⟩

abbrev nBuf : Space → Nat
  | .hbm => 22
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3584, .f32⟩
  | .hbm, ⟨3, _⟩ => ⟨S4096x3584, .bf16⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4x1024x896, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1x1024x896, .bf16⟩
  | .local _ .vmem, ⟨5, _⟩ => ⟨S1x1024x896, .bf16⟩
  | .local _ .vmem, ⟨6, _⟩ => ⟨S1024x896, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S1024 : Shape := ⟨1, ![1024]⟩
abbrev S1024x3584 : Shape := ⟨2, ![1024, 3584]⟩
abbrev S4096x3584 : Shape := ⟨2, ![4096, 3584]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S3584x1024 : Shape := ⟨2, ![3584, 1024]⟩
abbrev S1024x4x896 : Shape := ⟨3, ![1024, 4, 896]⟩
abbrev S4x1024x896 : Shape := ⟨3, ![4, 1024, 896]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3584, .f32⟩
  | .hbm, ⟨3, _⟩ => ⟨S4096x3584, .bf16⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x3584, .f32⟩
  | .hbm, ⟨21, _⟩ => ⟨S4096x3584, .f32⟩
  | .hbm, ⟨22, _⟩ => ⟨S3584x1024, .f32⟩
  | .hbm, ⟨23, _⟩ => ⟨S1024x3584, .f32⟩
  | .hbm, ⟨24, _⟩ => ⟨S1024x4x896, .f32⟩
  | .hbm, ⟨25, _⟩ => ⟨S4x1024x896, .f32⟩
  | .hbm, ⟨26, _⟩ => ⟨S4x1024x896, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel11.lean ====
abbrev S4096x1024 : Shape := ⟨2, ![4096, 1024]⟩
abbrev S1024 : Shape := ⟨1, ![1024]⟩
abbrev S1024x3584 : Shape := ⟨2, ![1024, 3584]⟩
abbrev S4096x3584 : Shape := ⟨2, ![4096, 3584]⟩
abbrev S1024x4x896 : Shape := ⟨3, ![1024, 4, 896]⟩
abbrev S4x1024x896 : Shape := ⟨3, ![4, 1024, 896]⟩
abbrev S1x1024 : Shape := ⟨2, ![1, 1024]⟩
abbrev S512x3584 : Shape := ⟨2, ![512, 3584]⟩
abbrev S512x1024 : Shape := ⟨2, ![512, 1024]⟩
abbrev S512x896 : Shape := ⟨2, ![512, 896]⟩
abbrev S1x1024x896 : Shape := ⟨3, ![1, 1024, 896]⟩
abbrev S1024x896 : Shape := ⟨2, ![1024, 896]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3584, .f32⟩
  | .hbm, ⟨3, _⟩ => ⟨S4096x3584, .bf16⟩
  | .hbm, ⟨4, _⟩ => ⟨S4096x1024, .f32⟩
  | .hbm, ⟨5, _⟩ => ⟨S1024x3584, .bf16⟩
  | .hbm, ⟨6, _⟩ => ⟨S1024x4x896, .bf16⟩
  | .hbm, ⟨7, _⟩ => ⟨S4x1024x896, .bf16⟩
  | .hbm, ⟨8, _⟩ => ⟨S1x1024, .f32⟩
  | .hbm, ⟨9, _⟩ => ⟨S4096x1024, .f32⟩
  | .hbm, ⟨10, _⟩ => ⟨S1x1024, .f32⟩
  | .local _ .vmem, ⟨0, _⟩ => ⟨S512x3584, .bf16⟩
  | .local _ .vmem, ⟨1, _⟩ => ⟨S512x3584, .bf16⟩
  | .local _ .vmem, ⟨2, _⟩ => ⟨S4x1024x896, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference11Ideal.lean ====
abbrev S4096x1024 : Shape := ⟨2, ![4096, 1024]⟩
abbrev S1024 : Shape := ⟨1, ![1024]⟩
abbrev S1024x3584 : Shape := ⟨2, ![1024, 3584]⟩
abbrev S4096x3584 : Shape := ⟨2, ![4096, 3584]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3584, .f32⟩
  | .hbm, ⟨3, _⟩ => ⟨S4096x3584, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x3584, .f32⟩
  | .hbm, ⟨26, _⟩ => ⟨S4096x3584, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel12.lean ====
abbrev S4096x1536 : Shape := ⟨2, ![4096, 1536]⟩
abbrev S1536x1024 : Shape := ⟨2, ![1536, 1024]⟩
abbrev S4096x1024 : Shape := ⟨2, ![4096, 1024]⟩
abbrev S1x1536x1024 : Shape := ⟨3, ![1, 1536, 1024]⟩
abbrev S2048x768 : Shape := ⟨2, ![2048, 768]⟩
abbrev S2048x1024 : Shape := ⟨2, ![2048, 1024]⟩
abbrev S1x768x1024 : Shape := ⟨3, ![1, 768, 1024]⟩
abbrev S768x1024 : Shape := ⟨2, ![768, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1536, .bf16⟩
  | .hbm, ⟨1, _⟩ => ⟨S1536x1024, .f32⟩
  | .hbm, ⟨2, _⟩ => ⟨S4096x1024, .f32⟩
  | .hbm, ⟨3, _⟩ => ⟨S1x1536x1024, .bf16⟩
  | .local _ .vmem, ⟨0, _⟩ => ⟨S2048x768, .bf16⟩
  | .local _ .vmem, ⟨1, _⟩ => ⟨S2048x768, .bf16⟩
  | .local _ .vmem, ⟨2, _⟩ => ⟨S2048x1024, .f32⟩
  | .local _ .vmem, ⟨3, _⟩ => ⟨S2048x1024, .f32⟩
  | .local _ .vmem, ⟨4, _⟩ => ⟨S1x768x1024, .bf16⟩
  | .local _ .vmem, ⟨5, _⟩ => ⟨S1x768x1024, .bf16⟩
  | .local _ .vmem, ⟨6, _⟩ => ⟨S768x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1536 : Shape := ⟨2, ![4096, 1536]⟩
abbrev S1536x1024 : Shape := ⟨2, ![1536, 1024]⟩
abbrev S4096x1024 : Shape := ⟨2, ![4096, 1024]⟩
abbrev S1024x1536 : Shape := ⟨2, ![1024, 1536]⟩
abbrev S1x1536x1024 : Shape := ⟨3, ![1, 1536, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1536x1024, .f32⟩
  | .hbm, ⟨2, _⟩ => ⟨S4096x1024, .f32⟩
  | .hbm, ⟨3, _⟩ => ⟨S4096x1536, .f32⟩
  | .hbm, ⟨4, _⟩ => ⟨S4096x1024, .f32⟩
  | .hbm, ⟨5, _⟩ => ⟨S1024x1536, .f32⟩
  | .hbm, ⟨6, _⟩ => ⟨S1536x1024, .f32⟩
  | .hbm, ⟨7, _⟩ => ⟨S1x1536x1024, .f32⟩
  | .hbm, ⟨8, _⟩ => ⟨S1x1536x1024, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S4096x1024 : Shape := ⟨2, ![4096, 1024]⟩
abbrev S4096x1536 : Shape := ⟨2, ![4096, 1536]⟩
abbrev S1536x1024 : Shape := ⟨2, ![1536, 1024]⟩
abbrev S1x1536x1024 : Shape := ⟨3, ![1, 1536, 1024]⟩
abbrev S512x1536 : Shape := ⟨2, ![512, 1536]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1536, .bf16⟩
  | .hbm, ⟨2, _⟩ => ⟨S1536x1024, .f32⟩
  | .hbm, ⟨3, _⟩ => ⟨S1536x1024, .bf16⟩
  | .hbm, ⟨4, _⟩ => ⟨S1x1536x1024, .bf16⟩
  | .hbm, ⟨5, _⟩ => ⟨S4096x1024, .f32⟩
  | .local _ .vmem, ⟨0, _⟩ => ⟨S512x1536, .bf16⟩
  | .local _ .vmem, ⟨1, _⟩ => ⟨S512x1536, .bf16⟩
  | .local _ .vmem, ⟨2, _⟩ => ⟨S1x1536x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference13Ideal.lean ====
abbrev S4096x1024 : Shape := ⟨2, ![4096, 1024]⟩
abbrev S4096x1536 : Shape := ⟨2, ![4096, 1536]⟩
abbrev S1536x1024 : Shape := ⟨2, ![1536, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1536, .bf16⟩
  | .hbm, ⟨2, _⟩ => ⟨S1536x1024, .f32⟩
  | .hbm, ⟨3, _⟩ => ⟨S4096x1536, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Ffn.Imports.lean ====
module
public import proofs.«01_k».proof.Proof.Gen.Kernel2
public import proofs.«01_k».proof.Proof.Gen.Kernel2Ideal
public import proofs.«01_k».proof.Proof.Gen.Kernel2.Frame
public import proofs.«01_k».proof.Proof.Gen.Kernel2Ideal.Frame
public import proofs.«01_k».proof.Proof.Gen.Kernel2.Launch
public import proofs.«01_k».proof.Proof.Gen.Kernel2Ideal.Launch
public import proofs.«01_k».proof.Proof.Gen.Kernel2.Points
public import proofs.«01_k».proof.Proof.Gen.Kernel2Ideal.Points
public import proofs.«01_k».proof.Proof.Gen.Kernel2.Skeleton
public import proofs.«01_k».proof.Proof.Gen.Kernel2Ideal.Skeleton
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3.Frame
public import proofs.«01_k».proof.Proof.Gen.Kernel3Ideal.Frame
public import proofs.«01_k».proof.Proof.Gen.Kernel3.Launch
public import proofs.«01_k».proof.Proof.Gen.Kernel3Ideal.Launch
public import proofs.«01_k».proof.Proof.Gen.Kernel3.Points
public import proofs.«01_k».proof.Proof.Gen.Kernel3Ideal.Points
public import proofs.«01_k».proof.Proof.Gen.Kernel3.Skeleton
public import proofs.«01_k».proof.Proof.Gen.Kernel3Ideal.Skeleton
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4.Frame
public import proofs.«01_k».proof.Proof.Gen.Kernel4Ideal.Frame
public import proofs.«01_k».proof.Proof.Gen.Kernel4.Launch
public import proofs.«01_k».proof.Proof.Gen.Kernel4Ideal.Launch
public import proofs.«01_k».proof.Proof.Gen.Kernel4.Points
public import proofs.«01_k».proof.Proof.Gen.Kernel4Ideal.Points
public import proofs.«01_k».proof.Proof.Gen.Kernel4.Skeleton
public import proofs.«01_k».proof.Proof.Gen.Kernel4Ideal.Skeleton
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5.Frame
public import proofs.«01_k».proof.Proof.Gen.Kernel5Ideal.Frame
public import proofs.«01_k».proof.Proof.Gen.Kernel5.Launch
public import proofs.«01_k».proof.Proof.Gen.Kernel5Ideal.Launch
public import proofs.«01_k».proof.Proof.Gen.Kernel5.Points
public import proofs.«01_k».proof.Proof.Gen.Kernel5Ideal.Points
public import proofs.«01_k».proof.Proof.Gen.Kernel5.Skeleton
public import proofs.«01_k».proof.Proof.Gen.Kernel5Ideal.Skeleton
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6.Frame
public import proofs.«01_k».proof.Proof.Gen.Kernel6Ideal.Frame
public import proofs.«01_k».proof.Proof.Gen.Kernel6.Launch
public import proofs.«01_k».proof.Proof.Gen.Kernel6Ideal.Launch
public import proofs.«01_k».proof.Proof.Gen.Kernel6.Points
public import proofs.«01_k».proof.Proof.Gen.Kernel6Ideal.Points
public import proofs.«01_k».proof.Proof.Gen.Kernel6.Skeleton
public import proofs.«01_k».proof.Proof.Gen.Kernel6Ideal.Skeleton
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Kernel7.Frame
public import proofs.«01_k».proof.Proof.Gen.Kernel7Ideal.Frame
public import proofs.«01_k».proof.Proof.Gen.Kernel7.Launch
public import proofs.«01_k».proof.Proof.Gen.Kernel7Ideal.Launch
public import proofs.«01_k».proof.Proof.Gen.Kernel7.Points
public import proofs.«01_k».proof.Proof.Gen.Kernel7Ideal.Points
public import proofs.«01_k».proof.Proof.Gen.Kernel7.Skeleton
public import proofs.«01_k».proof.Proof.Gen.Kernel7Ideal.Skeleton
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel7Ideal.Value
public import proofs.«01_k».proof.Proof.Gen.Kernel8
public import proofs.«01_k».proof.Proof.Gen.Kernel8Ideal
public import proofs.«01_k».proof.Proof.Gen.Kernel8.Frame
public import proofs.«01_k».proof.Proof.Gen.Kernel8Ideal.Frame
public import proofs.«01_k».proof.Proof.Gen.Kernel8.Launch
public import proofs.«01_k».proof.Proof.Gen.Kernel8Ideal.Launch
public import proofs.«01_k».proof.Proof.Gen.Kernel8.Points
public import proofs.«01_k».proof.Proof.Gen.Kernel8Ideal.Points
public import proofs.«01_k».proof.Proof.Gen.Kernel8.Skeleton
public import proofs.«01_k».proof.Proof.Gen.Kernel8Ideal.Skeleton
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Kernel9.Frame
public import proofs.«01_k».proof.Proof.Gen.Kernel9Ideal.Frame
public import proofs.«01_k».proof.Proof.Gen.Kernel9.Launch
public import proofs.«01_k».proof.Proof.Gen.Kernel9Ideal.Launch
public import proofs.«01_k».proof.Proof.Gen.Kernel9.Points
public import proofs.«01_k».proof.Proof.Gen.Kernel9Ideal.Points
public import proofs.«01_k».proof.Proof.Gen.Kernel9.Skeleton
public import proofs.«01_k».proof.Proof.Gen.Kernel9Ideal.Skeleton
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel9Ideal.Value
public import proofs.«01_k».proof.Proof.Gen.Kernel10
public import proofs.«01_k».proof.Proof.Gen.Kernel10Ideal
public import proofs.«01_k».proof.Proof.Gen.Kernel10.Frame
public import proofs.«01_k».proof.Proof.Gen.Kernel10Ideal.Frame
public import proofs.«01_k».proof.Proof.Gen.Kernel10.Launch
public import proofs.«01_k».proof.Proof.Gen.Kernel10Ideal.Launch
public import proofs.«01_k».proof.Proof.Gen.Kernel10.Points
public import proofs.«01_k».proof.Proof.Gen.Kernel10Ideal.Points
public import proofs.«01_k».proof.Proof.Gen.Kernel10.Skeleton
public import proofs.«01_k».proof.Proof.Gen.Kernel10Ideal.Skeleton
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11Ideal
public import proofs.«01_k».proof.Proof.Gen.Kernel11.Frame
public import proofs.«01_k».proof.Proof.Gen.Kernel11Ideal.Frame
public import proofs.«01_k».proof.Proof.Gen.Kernel11.Launch
public import proofs.«01_k».proof.Proof.Gen.Kernel11Ideal.Launch
public import proofs.«01_k».proof.Proof.Gen.Kernel11.Points
public import proofs.«01_k».proof.Proof.Gen.Kernel11Ideal.Points
public import proofs.«01_k».proof.Proof.Gen.Kernel11.Skeleton
public import proofs.«01_k».proof.Proof.Gen.Kernel11Ideal.Skeleton
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel11Ideal.Value
public import proofs.«01_k».proof.Proof.Gen.Kernel12
public import proofs.«01_k».proof.Proof.Gen.Kernel12Ideal
public import proofs.«01_k».proof.Proof.Gen.Kernel12.Frame
public import proofs.«01_k».proof.Proof.Gen.Kernel12Ideal.Frame
public import proofs.«01_k».proof.Proof.Gen.Kernel12.Launch
public import proofs.«01_k».proof.Proof.Gen.Kernel12Ideal.Launch
public import proofs.«01_k».proof.Proof.Gen.Kernel12.Points
public import proofs.«01_k».proof.Proof.Gen.Kernel12Ideal.Points
public import proofs.«01_k».proof.Proof.Gen.Kernel12.Skeleton
public import proofs.«01_k».proof.Proof.Gen.Kernel12Ideal.Skeleton
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13Ideal
public import proofs.«01_k».proof.Proof.Gen.Kernel13.Frame
public import proofs.«01_k».proof.Proof.Gen.Kernel13Ideal.Frame
public import proofs.«01_k».proof.Proof.Gen.Kernel13.Launch
public import proofs.«01_k».proof.Proof.Gen.Kernel13Ideal.Launch
public import proofs.«01_k».proof.Proof.Gen.Kernel13.Points
public import proofs.«01_k».proof.Proof.Gen.Kernel13Ideal.Points
public import proofs.«01_k».proof.Proof.Gen.Kernel13.Skeleton
public import proofs.«01_k».proof.Proof.Gen.Kernel13Ideal.Skeleton
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
-- ==== Proof.Ffn.GuDw.lean ====
/- The gradient of the gate's and the up-projection's weights: the product of the normalised input with the gradient of the
   product's result, four column blocks of two half sums each. -/
module

public import proofs.«01_k».proof.Proof.Gen.Kernel2Ideal.Value
public import proofs.«01_k».proof.Proof.Gen.Reference2Ideal.Read
public import proofs.«01_k».proof.Proof.Gen.Reference2Ideal.Run
public import Idealize.ShloMosaic.Lib.Pointwise
public import Idealize.ShloMosaic.Lib.Tactic

@[expose] public section

set_option maxRecDepth 16384

noncomputable section

namespace Cert.Kernel2Ideal.Ffn

open Idealize.ShloMosaic Idealize.ShloMosaic.TcCoe Idealize.ShloMosaic.StableHlo Cert.Kernel2Ideal Cert.Kernel2Ideal.Gen Finset Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

section cases
variable {F : FTy → Type} [FloatOps F]

/-- The first half sum of a block. -/
theorem first (c : Dev nD) (i : grid0.Coords) (a3 : Memref sig .tc .vmem S2048x1024 .bf16) (h3 : a3.IsWhole) (a4 : Memref sig .tc .vmem S2048x1408 .bf16)
    (h4 : a4.IsWhole) (a5 : Memref sig .tc .vmem S1x1024x1408 .bf16) (h5 : a5.IsWhole) (a6 : Memref sig .tc .vmem S1024x1408 .f32) (h6 : a6.IsWhole)
    (hc0 : cond0_0 i) (hc1 : ¬cond0_1 i) (x0 : Vec F S2048x1024 .bf16) (x1 : Vec F S2048x1408 .bf16) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1408) hz2, View.readCov_unit_zero (S := S1024x1408) _ hz2]
  simp only [View.readAt_eq_ld, h3.read_unread, h4.read_unread, View.ld_unit_zero (S := S2048x1024) hz2, View.ld_unit_zero (S := S2048x1408) hz2]

/-- What a block is written with: the second half sum on the first. -/
theorem second (c : Dev nD) (i : grid0.Coords) (a3 : Memref sig .tc .vmem S2048x1024 .bf16) (h3 : a3.IsWhole) (a4 : Memref sig .tc .vmem S2048x1408 .bf16)
    (h4 : a4.IsWhole) (a5 : Memref sig .tc .vmem S1x1024x1408 .bf16) (h5 : a5.IsWhole) (a6 : Memref sig .tc .vmem S1024x1408 .f32) (h6 : a6.IsWhole)
    (hc0 : ¬cond0_0 i) (hc1 : cond0_1 i) (x0 : Vec F S2048x1024 .bf16) (x1 : Vec F S2048x1408 .bf16) (xs : Vec F S1024x1408 .f32) :
    out0_B_2 c i a3 h3 a4 h4 a5 h5 a6 h6 hc0 hc1 x0 x1 xs = k0_pay3 (k0_pay2 xs x0 x1) := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero hz3, View.readCov_unit_zero (S := S1024x1408) _ hz2]
  simp only [View.readAt_eq_ld, h3.read_unread, h4.read_unread, h6.read_unread, View.ld_unit_zero (S := S2048x1024) hz2,
    View.ld_unit_zero (S := S2048x1408) hz2, View.ld_unit_zero (S := S1024x1408) hz2]
end cases

/-- The two half sums of a block, entry by entry. -/
theorem halves (a a' : Vec Ideal S2048x1024 .bf16) (b b' : Vec Ideal S2048x1408 .bf16) (k : Fin 1024) (n : Fin 1408) :
    k0_pay3 (F := Ideal) (k0_pay2 (k0_pay2 k0_pay1 a b) a' b') (ix3 0 k n)
      = (∑ l : Fin 2048, a (ix2 l k) * b (ix2 l n)) + ∑ l : Fin 2048, a' (ix2 l k) * b' (ix2 l n) := by
  pointwise [k0_pay3, k0_pay2, k0_pay1]

/-! ## The blocks -/

theorem index0_0 : ∀ t : Fin cfg0.N, (cfg0.win 0).index t 0 = t.val % 2 := by decide +kernel
theorem index0_1 : ∀ t : Fin cfg0.N, (cfg0.win 0).index t 1 = 0 := by decide +kernel
theorem index1_0 : ∀ t : Fin cfg0.N, (cfg0.win 1).index t 0 = t.val % 2 := by decide +kernel
theorem index1_1 : ∀ t : Fin cfg0.N, (cfg0.win 1).index t 1 = t.val / 2 := by decide +kernel

/-- Row `l` of half `e`. -/
abbrev half (e : Fin 2) (l : Fin 2048) : Fin 4096 := ⟨2048 * e.val + l.val, by omega⟩
/-- Column `n` of shard `s`. -/
abbrev col (s : Fin 4) (n : Fin 1408) : Fin 5632 := ⟨s.val * 1408 + n.val, by omega⟩

theorem read0 (t : Fin cfg0.N) (e : Fin 2) (he : t.val % 2 = e.val) (A : S4096x1024.Idx → Elt Ideal .bf16) (l : Fin 2048) (k : Fin 1024) :
    ((cfg0.win 0).blk t).view.read (Elt Ideal) A (ix2 l k) = A (ix2 (half e l) k) := by
  rw [View.read_apply]
  refine congrArg A (funext fun i => Fin.ext ?_)
  match i with
  | ⟨0, _⟩ => show (cfg0.win 0).index t 0 * 2048 + 1 * l.val = 2048 * e.val + l.val; rw [index0_0]; omega
  | ⟨1, _⟩ => show (cfg0.win 0).index t 1 * 1024 + 1 * k.val = k.val; rw [index0_1]; omega

theorem read1 (t : Fin cfg0.N) (e : Fin 2) (he : t.val % 2 = e.val) (s : Fin 4) (hs : t.val / 2 = s.val) (A : S4096x5632.Idx → Elt Ideal .bf16)
    (l : Fin 2048) (n : Fin 1408) :
    ((cfg0.win 1).blk t).view.read (Elt Ideal) A (ix2 l n) = A (ix2 (half e l) (col s n)) := by
  rw [View.read_apply]
  refine congrArg A (funext fun i => Fin.ext ?_)
  match i with
  | ⟨0, _⟩ => show (cfg0.win 1).index t 0 * 2048 + 1 * l.val = 2048 * e.val + l.val; rw [index1_0]; omega
  | ⟨1, _⟩ => show (cfg0.win 1).index t 1 * 1408 + 1 * n.val = s.val * 1408 + n.val; rw [index1_1]; omega

variable (m : (ℓ : Loc nD τ sig) → Buf (Elt Ideal) ℓ) (ρ : Dev nD → PrngReg) (c : Dev nD)

theorem blk0 (t : Fin cfg0.N) (e : Fin 2) (he : t.val % 2 = e.val) (l : Fin 2048) (k : Fin 1024) :
    iblk m c 0 t (ix2 l k) = V m c main_v13 (ix2 (half e l) k) := by
  unfold iblk
  exact read0 t e he (V m c main_v13) l k

theorem blk1 (t : Fin cfg0.N) (e : Fin 2) (he : t.val % 2 = e.val) (s : Fin 4) (hs : t.val / 2 = s.val) (l : Fin 2048) (n : Fin 1408) :
    iblk m c 1 t (ix2 l n) = V m c main_arg3 (ix2 (half e l) (col s n)) := by
  unfold iblk
  exact read1 t e he s hs (V m c main_arg3) l n

/-- The normalised input, as the host prepares it for the call. -/
theorem host_v13 {F : FTy → Type} [FloatOps F] (V0 : Valuation τ sig (Elt F)) : after hostOps0 V0 (Proc.devRef .tc main_v13)
    = truncf .bf16 (Cert.Reference2Ideal.Read.val_main_v12 (F := F) (V0 (Proc.devRef .tc main_arg0)) (V0 (Proc.devRef .tc main_arg1))) bitsLt_bf16_f32 := by
  after_results_simp
  all_goals rfl

theorem V_v13 : @Eq (FVec Ideal S4096x1024 .bf16) (V m c main_v13) <|
    truncf .bf16 (Cert.Reference2Ideal.Read.val_main_v12 (F := Ideal) (m ((c : Thread nD τ).loc main_arg0)) (m ((c : Thread nD τ).loc main_arg1))) bitsLt_bf16_f32 := by
  unfold V
  exact host_v13 _

/-! ## The array -/

/-- What shard `s` is written with. -/
theorem shard (s : Fin 4) (h : 2 * s.val + 1 < cfg0.N) (h' : 2 * s.val < cfg0.N) :
    (outsAt0 m c (2 * s.val + 1) h).1 = k0_pay3 (k0_pay2 (k0_pay2 k0_pay1 (iblk m c 0 ⟨2 * s.val, h'⟩) (iblk m c 1 ⟨2 * s.val, h'⟩))
      (iblk m c 0 ⟨2 * s.val + 1, h⟩) (iblk m c 1 ⟨2 * s.val + 1, h⟩)) := by
  rw [outsAt0_B m c ⟨2 * s.val + 1, h⟩ (by dsimp only; omega) (by dsimp only; omega)]
  dsimp only
  rw [second]
  show k0_pay3 (k0_pay2 (outsAt0 m c (2 * s.val) _).2 _ _) = _
  rw [outsAt0_A m c ⟨2 * s.val, h'⟩ (by dsimp only; omega) (by dsimp only; omega)]
  dsimp only
  rw [first]

theorem sum_halves (f : Fin 4096 → EReal) : ∑ l, f l = (∑ l : Fin 2048, f (half 0 l)) + ∑ l : Fin 2048, f (half 1 l) := by
  rw [show (∑ l, f l) = ∑ l : Fin (2048 + 2048), f l from rfl, Fin.sum_univ_add]
  refine congrArg₂ (· + ·) (sum_congr rfl fun l _ => congrArg f (Fin.ext ?_)) (sum_congr rfl fun l _ => congrArg f (Fin.ext ?_))
  · show l.val = 2048 * 0 + l.val; omega
  · show 2048 + l.val = 2048 * 1 + l.val; omega

/-- Entry `(k, n)` of shard `s` of `aᵀ b`. -/
abbrev tn (a : S4096x1024.Idx → EReal) (b : S4096x5632.Idx → EReal) (s : Fin 4) (k : Fin 1024) (n : Fin 1408) : EReal :=
  ∑ l : Fin 4096, a (ix2 l k) * b (ix2 l (col s n))

theorem G2_at (s : Fin 4) (k : Fin 1024) (n : Fin 1408) :
    Value.G2 m c (ix3 s k n) = tn (V m c main_v13) (V m c main_arg3) s k n := by
  have hN : cfg0.N = 8 := N_0
  have hp : Value.pt2Of (ix3 s k n) = 2 * s.val + 1 := by
    show 2 * (1 * (s.val / 1 - 0) + 1 * (k.val / 1024 - 0) + 1 * (n.val / 1408 - 0)) + 1 = _; omega
  have hl : Value.loc2Of (ix3 s k n) = ix3 0 k n := by
    funext a; apply Fin.ext
    match a with
    | ⟨0, _⟩ => show s.val % 1 = 0; omega
    | ⟨1, _⟩ => show k.val % 1024 = k.val; omega
    | ⟨2, _⟩ => show n.val % 1408 = n.val; omega
  have h1 : 2 * s.val + 1 < cfg0.N := by omega
  have h0 : 2 * s.val < cfg0.N := by omega
  unfold Value.G2
  rw [dif_pos (by rw [hp]; exact h1), hl, Value.fold0_congr m c _ _ (2 * s.val + 1) (by omega) hp, ← Value.outsAt0_sweep m c (2 * s.val + 1) h1,
    shard m c s h1 h0, halves]
  unfold tn
  rw [sum_halves]
  simp only [blk0 m c ⟨2 * s.val, h0⟩ 0 (by show 2 * s.val % 2 = 0; omega), blk0 m c ⟨2 * s.val + 1, h1⟩ 1 (by show (2 * s.val + 1) % 2 = 1; omega),
    blk1 m c ⟨2 * s.val, h0⟩ 0 (by show 2 * s.val % 2 = 0; omega) s (by show 2 * s.val / 2 = s.val; omega),
    blk1 m c ⟨2 * s.val + 1, h1⟩ 1 (by show (2 * s.val + 1) % 2 = 1; omega) s (by show (2 * s.val + 1) / 2 = s.val; omega)]

/-- The reference's gradient of the weights, entry by entry. -/
theorem ref_at (x0 : FVec Ideal Cert.Reference2Ideal.S4096x1024 .f32) (x1 : FVec Ideal Cert.Reference2Ideal.S1024 .f32)
    (x3 : FVec Ideal Cert.Reference2Ideal.S4096x5632 .bf16) (s : Fin 4) (k : Fin 1024) (n : Fin 1408) :
    Cert.Reference2Ideal.Read.val_main_v19 (F := Ideal) x0 x1 x3 (ix3 s k n)
      = tn (Cert.Reference2Ideal.Read.val_main_v12 (F := Ideal) x0 x1) x3 s k n := by
  unfold Cert.Reference2Ideal.Read.val_main_v19 Cert.Reference2Ideal.Read.val_main_v18 Cert.Reference2Ideal.Read.val_main_v17 Cert.Reference2Ideal.Read.val_main_v16 Cert.Reference2Ideal.Read.val_main_v15 Cert.Reference2Ideal.Read.val_main_v14
  generalize Cert.Reference2Ideal.Read.val_main_v12 (F := Ideal) x0 x1 = w
  pointwise []
  exact sum_congr rfl fun l _ => mul_comm _ _

/-- The call computes the reference's gradient. -/
theorem result : Value.G2 m c = Cert.Reference2Ideal.Read.val_main_v19 (F := Ideal) (m ((c : Thread nD τ).loc main_arg0)) (m ((c : Thread nD τ).loc main_arg1))
    (m ((c : Thread nD τ).loc main_arg3)) := by
  funext i
  rw [show i = ix3 (n0 := 4) (n1 := 1024) (n2 := 1408) (i 0) (i 1) (i 2) from (ix3_eta (n0 := 4) (n1 := 1024) (n2 := 1408) i).symm]
  refine (G2_at m c (i 0) (i 1) (i 2)).trans (Eq.trans ?_ (ref_at _ _ _ (i 0) (i 1) (i 2)).symm)
  rw [V_main_arg3]
  exact congrArg (fun a => tn a (m ((c : Thread nD τ).loc main_arg3)) (i 0) (i 1) (i 2)) (V_v13 m c)

theorem run : θ_run defs (onTc (τ := τ) (main (F := Ideal))) ⟨m, fun _ => 0, ρ⟩ fun r => ∀ c : Dev nD,
      r.2.mem ((c : Thread nD τ).loc main_v14) = Cert.Reference2Ideal.Read.val_main_v19 (F := Ideal) (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (result m c), (h c).2⟩) (Value.run m ρ)

end Cert.Kernel2Ideal.Ffn

end
-- ==== Proof.Ffn.DownDw.lean ====
/- The gradient of the down-projection's weights: the product of the activation with the gradient of the layer's result, two
   row blocks of two half sums each. -/
module

public import proofs.«01_k».proof.Proof.Gen.Kernel3Ideal.Value
public import proofs.«01_k».proof.Proof.Gen.Reference3Ideal.Read
public import proofs.«01_k».proof.Proof.Gen.Reference3Ideal.Run
public import Idealize.ShloMosaic.Lib.Pointwise
public import Idealize.ShloMosaic.Lib.Tactic

@[expose] public section

set_option maxRecDepth 16384

noncomputable section

namespace Cert.Kernel3Ideal.Ffn

open Idealize.ShloMosaic Idealize.ShloMosaic.TcCoe Idealize.ShloMosaic.StableHlo Cert.Kernel3Ideal Cert.Kernel3Ideal.Gen Finset Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

section cases
variable {F : FTy → Type} [FloatOps F]

/-- The first half sum of a block. -/
theorem first (c : Dev nD) (i : grid0.Coords) (a3 : Memref sig .tc .vmem S2048x1408 .bf16) (h3 : a3.IsWhole) (a4 : Memref sig .tc .vmem S2048x1024 .f32)
    (h4 : a4.IsWhole) (a5 : Memref sig .tc .vmem S1x1408x1024 .bf16) (h5 : a5.IsWhole) (a6 : Memref sig .tc .vmem S1408x1024 .f32) (h6 : a6.IsWhole)
    (hc0 : cond0_0 i) (hc1 : ¬cond0_1 i) (x0 : Vec F S2048x1408 .bf16) (x1 : Vec F S2048x1024 .f32) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1408x1024) hz2, View.readCov_unit_zero (S := S1408x1024) _ hz2]
  simp only [View.readAt_eq_ld, h3.read_unread, h4.read_unread, View.ld_unit_zero (S := S2048x1408) hz2, View.ld_unit_zero (S := S2048x1024) hz2]

/-- What a block is written with: the second half sum on the first. -/
theorem second (c : Dev nD) (i : grid0.Coords) (a3 : Memref sig .tc .vmem S2048x1408 .bf16) (h3 : a3.IsWhole) (a4 : Memref sig .tc .vmem S2048x1024 .f32)
    (h4 : a4.IsWhole) (a5 : Memref sig .tc .vmem S1x1408x1024 .bf16) (h5 : a5.IsWhole) (a6 : Memref sig .tc .vmem S1408x1024 .f32) (h6 : a6.IsWhole)
    (hc0 : ¬cond0_0 i) (hc1 : cond0_1 i) (x0 : Vec F S2048x1408 .bf16) (x1 : Vec F S2048x1024 .f32) (xs : Vec F S1408x1024 .f32) :
    out0_B_2 c i a3 h3 a4 h4 a5 h5 a6 h6 hc0 hc1 x0 x1 xs = k0_pay3 (k0_pay2 xs x0 x1) := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero hz3, View.readCov_unit_zero (S := S1408x1024) _ hz2]
  simp only [View.readAt_eq_ld, h3.read_unread, h4.read_unread, h6.read_unread, View.ld_unit_zero (S := S2048x1024) hz2,
    View.ld_unit_zero (S := S2048x1408) hz2, View.ld_unit_zero (S := S1408x1024) hz2]
end cases

/-- The two half sums of a block, entry by entry. -/
theorem halves (a a' : Vec Ideal S2048x1408 .bf16) (b b' : Vec Ideal S2048x1024 .f32) (k : Fin 1408) (n : Fin 1024) :
    k0_pay3 (F := Ideal) (k0_pay2 (k0_pay2 k0_pay1 a b) a' b') (ix3 0 k n)
      = (∑ l : Fin 2048, a (ix2 l k) * b (ix2 l n)) + ∑ l : Fin 2048, a' (ix2 l k) * b' (ix2 l n) := by
  pointwise [k0_pay3, k0_pay2, k0_pay1]

/-! ## The blocks -/

theorem index0_0 : ∀ t : Fin cfg0.N, (cfg0.win 0).index t 0 = t.val % 2 := by decide +kernel
theorem index0_1 : ∀ t : Fin cfg0.N, (cfg0.win 0).index t 1 = t.val / 2 := by decide +kernel
theorem index1_0 : ∀ t : Fin cfg0.N, (cfg0.win 1).index t 0 = t.val % 2 := by decide +kernel
theorem index1_1 : ∀ t : Fin cfg0.N, (cfg0.win 1).index t 1 = 0 := by decide +kernel

/-- Row `l` of half `e`. -/
abbrev half (e : Fin 2) (l : Fin 2048) : Fin 4096 := ⟨2048 * e.val + l.val, by omega⟩

theorem read0 (t : Fin cfg0.N) (e : Fin 2) (he : t.val % 2 = e.val) (A : S4096x2816.Idx → Elt Ideal .bf16) (l : Fin 2048) (k : Fin 1408) (q : Fin 2816)
    (hq : q.val = t.val / 2 * 1408 + k.val) :
    ((cfg0.win 0).blk t).view.read (Elt Ideal) A (ix2 l k) = A (ix2 (half e l) q) := by
  rw [View.read_apply]
  refine congrArg A (funext fun i => Fin.ext ?_)
  match i with
  | ⟨0, _⟩ => show (cfg0.win 0).index t 0 * 2048 + 1 * l.val = 2048 * e.val + l.val; rw [index0_0]; omega
  | ⟨1, _⟩ => show (cfg0.win 0).index t 1 * 1408 + 1 * k.val = q.val; rw [index0_1]; omega

theorem read1 (t : Fin cfg0.N) (e : Fin 2) (he : t.val % 2 = e.val) (A : S4096x1024.Idx → Elt Ideal .f32)
    (l : Fin 2048) (n : Fin 1024) :
    ((cfg0.win 1).blk t).view.read (Elt Ideal) A (ix2 l n) = A (ix2 (half e l) n) := by
  rw [View.read_apply]
  refine congrArg A (funext fun i => Fin.ext ?_)
  match i with
  | ⟨0, _⟩ => show (cfg0.win 1).index t 0 * 2048 + 1 * l.val = 2048 * e.val + l.val; rw [index1_0]; omega
  | ⟨1, _⟩ => show (cfg0.win 1).index t 1 * 1024 + 1 * n.val = n.val; rw [index1_1]; omega

variable (m : (ℓ : Loc nD τ sig) → Buf (Elt Ideal) ℓ) (ρ : Dev nD → PrngReg) (c : Dev nD)

theorem blk0 (t : Fin cfg0.N) (e : Fin 2) (he : t.val % 2 = e.val) (l : Fin 2048) (k : Fin 1408) (q : Fin 2816)
    (hq : q.val = t.val / 2 * 1408 + k.val) : iblk m c 0 t (ix2 l k) = V m c main_v5 (ix2 (half e l) q) := by
  unfold iblk
  exact read0 t e he (V m c main_v5) l k q hq

theorem blk1 (t : Fin cfg0.N) (e : Fin 2) (he : t.val % 2 = e.val) (l : Fin 2048) (n : Fin 1024) :
    iblk m c 1 t (ix2 l n) = V m c main_arg2 (ix2 (half e l) n) := by
  unfold iblk
  exact read1 t e he (V m c main_arg2) l n

/-- The activation, as the host prepares it for the call. -/
theorem host_v5 {F : FTy → Type} [FloatOps F] (V0 : Valuation τ sig (Elt F)) : after (List.flatten [hostOps0, hostOps0_1, hostOps0_2]) V0 (Proc.devRef .tc main_v5)
    = truncf .bf16 (Cert.Reference3Ideal.Read.val_main_v4 (F := F) (V0 (Proc.devRef .tc main_arg0))) bitsLt_bf16_f32 := by
  simp only [List.flatten_cons, List.flatten_nil, List.append_nil, List.cons_append, List.nil_append]
  after_results_simp
  all_goals rfl

theorem V_v5 : @Eq (FVec Ideal S4096x2816 .bf16) (V m c main_v5) <|
    truncf .bf16 (Cert.Reference3Ideal.Read.val_main_v4 (F := Ideal) (m ((c : Thread nD τ).loc main_arg0))) bitsLt_bf16_f32 := by
  unfold V
  exact host_v5 _

/-! ## The array -/

/-- What row block `s` is written with. -/
theorem shard (s : Fin 2) (h : 2 * s.val + 1 < cfg0.N) (h' : 2 * s.val < cfg0.N) :
    (outsAt0 m c (2 * s.val + 1) h).1 = k0_pay3 (k0_pay2 (k0_pay2 k0_pay1 (iblk m c 0 ⟨2 * s.val, h'⟩) (iblk m c 1 ⟨2 * s.val, h'⟩))
      (iblk m c 0 ⟨2 * s.val + 1, h⟩) (iblk m c 1 ⟨2 * s.val + 1, h⟩)) := by
  rw [outsAt0_B m c ⟨2 * s.val + 1, h⟩ (by dsimp only; omega) (by dsimp only; omega)]
  dsimp only
  rw [second]
  show k0_pay3 (k0_pay2 (outsAt0 m c (2 * s.val) _).2 _ _) = _
  rw [outsAt0_A m c ⟨2 * s.val, h'⟩ (by dsimp only; omega) (by dsimp only; omega)]
  dsimp only
  rw [first]

theorem sum_halves (f : Fin 4096 → EReal) : ∑ l, f l = (∑ l : Fin 2048, f (half 0 l)) + ∑ l : Fin 2048, f (half 1 l) := by
  rw [show (∑ l, f l) = ∑ l : Fin (2048 + 2048), f l from rfl, Fin.sum_univ_add]
  refine congrArg₂ (· + ·) (sum_congr rfl fun l _ => congrArg f (Fin.ext ?_)) (sum_congr rfl fun l _ => congrArg f (Fin.ext ?_))
  · show l.val = 2048 * 0 + l.val; omega
  · show 2048 + l.val = 2048 * 1 + l.val; omega

/-- Entry `(k, n)` of `aᵀ b`. -/
abbrev tn (a : S4096x2816.Idx → EReal) (b : S4096x1024.Idx → EReal) (k : Fin 2816) (n : Fin 1024) : EReal :=
  ∑ l : Fin 4096, a (ix2 l k) * b (ix2 l n)

theorem G2_at (z : Fin 1) (k : Fin 2816) (n : Fin 1024) :
    Value.G2 m c (ix3 z k n) = tn (V m c main_v5) (V m c main_arg2) k n := by
  have hN : cfg0.N = 4 := N_0
  obtain ⟨s, hs⟩ : ∃ s : Fin 2, s.val = k.val / 1408 := ⟨⟨k.val / 1408, by omega⟩, rfl⟩
  obtain ⟨k', hk⟩ : ∃ k' : Fin 1408, k'.val = k.val % 1408 := ⟨⟨k.val % 1408, by omega⟩, rfl⟩
  have hp : Value.pt2Of (ix3 z k n) = 2 * s.val + 1 := by
    show 2 * (2 * (z.val / 1 - 0) + 1 * (k.val / 1408 - 0) + 1 * (n.val / 1024 - 0)) + 1 = _; omega
  have hl : Value.loc2Of (ix3 z k n) = ix3 0 k' n := by
    funext a; apply Fin.ext
    match a with
    | ⟨0, _⟩ => show z.val % 1 = 0; omega
    | ⟨1, _⟩ => show k.val % 1408 = k'.val; omega
    | ⟨2, _⟩ => show n.val % 1024 = n.val; omega
  have h1 : 2 * s.val + 1 < cfg0.N := by omega
  have h0 : 2 * s.val < cfg0.N := by omega
  unfold Value.G2
  rw [dif_pos (by rw [hp]; exact h1), hl, Value.fold0_congr m c _ _ (2 * s.val + 1) (by omega) hp, ← Value.outsAt0_sweep m c (2 * s.val + 1) h1,
    shard m c s h1 h0, halves]
  unfold tn
  rw [sum_halves]
  simp only [blk0 m c ⟨2 * s.val, h0⟩ 0 (by show 2 * s.val % 2 = 0; omega) _ k' k (by show _ = 2 * s.val / 2 * 1408 + _; omega),
    blk0 m c ⟨2 * s.val + 1, h1⟩ 1 (by show (2 * s.val + 1) % 2 = 1; omega) _ k' k (by show _ = (2 * s.val + 1) / 2 * 1408 + _; omega),
    blk1 m c ⟨2 * s.val, h0⟩ 0 (by show 2 * s.val % 2 = 0; omega),
    blk1 m c ⟨2 * s.val + 1, h1⟩ 1 (by show (2 * s.val + 1) % 2 = 1; omega)]

/-- The reference's gradient of the weights, entry by entry. -/
theorem ref_at (x0 : FVec Ideal Cert.Reference3Ideal.S4096x5632 .bf16) (x2 : FVec Ideal Cert.Reference3Ideal.S4096x1024 .f32)
    (z : Fin 1) (k : Fin 2816) (n : Fin 1024) :
    Cert.Reference3Ideal.Read.val_main_v9 (F := Ideal) x0 x2 (ix3 z k n)
      = tn (Cert.Reference3Ideal.Read.val_main_v4 (F := Ideal) x0) x2 k n := by
  unfold Cert.Reference3Ideal.Read.val_main_v9 Cert.Reference3Ideal.Read.val_main_v8 Cert.Reference3Ideal.Read.val_main_v7 Cert.Reference3Ideal.Read.val_main_v6
  generalize Cert.Reference3Ideal.Read.val_main_v4 (F := Ideal) x0 = w
  pointwise []
  exact sum_congr rfl fun l _ => mul_comm _ _

/-- The call computes the reference's gradient. -/
theorem result : Value.G2 m c = Cert.Reference3Ideal.Read.val_main_v9 (F := Ideal) (m ((c : Thread nD τ).loc main_arg0)) (m ((c : Thread nD τ).loc main_arg2)) := by
  funext i
  rw [show i = ix3 (n0 := 1) (n1 := 2816) (n2 := 1024) (i 0) (i 1) (i 2) from (ix3_eta (n0 := 1) (n1 := 2816) (n2 := 1024) i).symm]
  refine (G2_at m c (i 0) (i 1) (i 2)).trans (Eq.trans ?_ (ref_at _ _ (i 0) (i 1) (i 2)).symm)
  rw [V_main_arg2]
  exact congrArg (fun a => tn a (m ((c : Thread nD τ).loc main_arg2)) (i 1) (i 2)) (V_v5 m c)

theorem run : θ_run defs (onTc (τ := τ) (main (F := Ideal))) ⟨m, fun _ => 0, ρ⟩ fun r => ∀ c : Dev nD,
      r.2.mem ((c : Thread nD τ).loc main_v6) = Cert.Reference3Ideal.Read.val_main_v9 (F := Ideal) (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (result m c), (h c).2⟩) (Value.run m ρ)

end Cert.Kernel3Ideal.Ffn

end
-- ==== Proof.Ffn.Math.lean ====
/- The logistic function as the kernels compute it, of the hyperbolic tangent, is the reference's, on all the extended reals. -/
module

public import Idealize.ShloMosaic.PureOps.Ideal
public import Idealize.ShloMosaic.Lib.IdealHost
public import Mathlib.Analysis.SpecialFunctions.Trigonometric.Basic
public import Mathlib.Tactic.FieldSimp
public import Mathlib.Tactic.Ring

@[expose] public section

noncomputable section

namespace Cert.Ffn

open Idealize.ShloMosaic

theorem half_f32 : Ideal.ofBits .f32 0x3F000000#32 = ((1 / 2 : ℝ) : EReal) := by
  simp [Ideal.ofBits, Ideal.ieee, -EReal.coe_mul]; norm_num

/-- The logistic function, by the hyperbolic tangent. -/
def sig (x : EReal) : EReal := Ideal.ofBits .f32 0x3F000000#32 * Ideal.tanh (Ideal.ofBits .f32 0x3F000000#32 * x) + Ideal.ofBits .f32 0x3F000000#32

theorem real_sig (x : ℝ) : 1 / 2 * Real.tanh (1 / 2 * x) + 1 / 2 = (1 + Real.exp (-x))⁻¹ := by
  have h1 : Real.exp (-x) = Real.exp (-(1 / 2 * x)) * Real.exp (-(1 / 2 * x)) := by rw [← Real.exp_add]; congr 1; ring
  have h2 : Real.exp (1 / 2 * x) * Real.exp (-(1 / 2 * x)) = 1 := by rw [← Real.exp_add]; simp
  have p1 := Real.exp_pos (1 / 2 * x)
  have p2 := Real.exp_pos (-(1 / 2 * x))
  rw [Real.tanh_eq_sinh_div_cosh, Real.sinh_eq, Real.cosh_eq, h1]
  generalize Real.exp (1 / 2 * x) = a at *
  generalize Real.exp (-(1 / 2 * x)) = b at *
  have : 1 + b * b ≠ 0 := by positivity
  have : a + b ≠ 0 := by positivity
  field_simp
  nlinarith

theorem sig_coe (x : ℝ) : sig (x : EReal) = (((1 + Real.exp (-x))⁻¹ : ℝ) : EReal) := by
  rw [sig, half_f32, ← EReal.coe_mul, Ideal.tanh_coe, ← EReal.coe_mul, ← EReal.coe_add, real_sig]

theorem sig_eq (x : EReal) : sig x = Ideal.div 1 (1 + Ideal.exp (-x)) := by
  change _ = Ideal.logistic x
  induction x with
  | bot =>
    rw [Ideal.logistic_bot, sig, half_f32, EReal.coe_mul_bot_of_pos (by norm_num), Ideal.tanh_bot]
    rw [show (-1 : EReal) = ((-1 : ℝ) : EReal) from by norm_num, ← EReal.coe_mul, ← EReal.coe_add]
    norm_num
  | top =>
    rw [Ideal.logistic_top, sig, half_f32, EReal.coe_mul_top_of_pos (by norm_num), Ideal.tanh_top, mul_one, ← EReal.coe_add]
    norm_num
  | coe x => rw [sig_coe, Ideal.logistic_coe]

end Cert.Ffn

end
-- ==== Proof.Ffn.In.lean ====
/- The first product of the feed-forward layer, with the normalisation before it and the gate after it: eight row blocks, each
   against the four column blocks of the weights. -/
module

public import proofs.«01_k».proof.Proof.Gen.Kernel5Ideal.Value
public import proofs.«01_k».proof.Proof.Gen.Reference5Ideal.Read
public import proofs.«01_k».proof.Proof.Gen.Reference5Ideal.Run
public import proofs.«01_k».proof.Proof.Ffn.Math
public import Idealize.ShloMosaic.Lib.Pointwise
public import Idealize.ShloMosaic.Lib.Tactic

@[expose] public section

set_option maxRecDepth 16384

noncomputable section

namespace Cert.Kernel5Ideal.Ffn

open Idealize.ShloMosaic Idealize.ShloMosaic.TcCoe Idealize.ShloMosaic.StableHlo Cert.Kernel5Ideal Cert.Kernel5Ideal.Gen Finset Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

theorem hz4 : (![0, 0, 0, 0] : Fin 4 → Nat) = fun _ => 0 := funext fun a => by fin_cases a <;> rfl

/-! ## What a point writes -/

/-- Entry `(l, k)` of a normalised block. -/
abbrev nrm (x : S512x1024.Idx → EReal) (g : S1x1024.Idx → EReal) (l : Fin 512) (k : Fin 1024) : EReal :=
  x (ix2 l k) * Ideal.rsqrt (Ideal.div (∑ j : Fin 1024, x (ix2 l j) * x (ix2 l j)) (Ideal.ofBits FTy.f32 1149239296#32) + Ideal.ofBits FTy.f32 897988541#32)
    * g (ix2 0 k)

theorem nrm_at (x : Vec Ideal S512x1024 .f32) (g : Vec Ideal S1x1024 .f32) (l : Fin 512) (k : Fin 1024) :
    k0_pay7 (F := Ideal) x g (ix2 l k) = nrm x g l k := by
  pointwise [k0_pay7]

/-- Entry `(l, q)` of the product of a block with the four column blocks of the weights. -/
abbrev prod (a : S512x1024.Idx → EReal) (w : S4x1x1024x1408.Idx → EReal) (l : Fin 512) (q : Fin 5632) : EReal :=
  ∑ k : Fin 1024, a (ix2 l k) * w (ix4 ⟨q.val / 1408, by omega⟩ 0 k ⟨q.val % 1408, by omega⟩)

/-- The gate's half of the columns. -/
abbrev lo (q : Fin 2816) : Fin 5632 := ⟨q.val, by omega⟩
/-- The up-projection's half of the columns. -/
abbrev hi (q : Fin 2816) : Fin 5632 := ⟨2816 + q.val, by omega⟩

theorem dot_at (a : Vec Ideal S512x1024 .bf16) (w : Vec Ideal S1x1x1024x1408 .bf16) (l : Fin 512) (n : Fin 1408) :
    k0_pay2 (F := Ideal) a w (ix2 l n) = ∑ k : Fin 1024, a (ix2 l k) * w (ix4 0 0 k n) := by
  pointwise [k0_pay2]

/-- A column block's product, at its place among the columns. -/
theorem shard_at (a : Vec Ideal S512x1024 .bf16) (w : Vec Ideal S4x1x1024x1408 .bf16) (s : Fin 4) (inb) (l : Fin 512) (n : Fin 1408) (q : Fin 5632)
    (hq : q.val = 1408 * s.val + n.val) :
    k0_pay2 (F := Ideal) a (View.ld w (Rect.unit (s := S4x1x1024x1408) ![s.val, 0, 0, 0] S1x1x1024x1408.size inb)) (ix2 l n) = prod a w l q := by
  rw [dot_at]
  refine sum_congr rfl fun k _ => congrArg (a (ix2 l k) * ·) (congrArg w (funext fun i => Fin.ext ?_))
  match i with
  | ⟨0, _⟩ => show s.val + 1 * 0 = q.val / 1408; omega
  | ⟨1, _⟩ => show 0 + 1 * 0 = 0; omega
  | ⟨2, _⟩ => show 0 + 1 * k.val = k.val; omega
  | ⟨3, _⟩ => show 0 + 1 * n.val = q.val % 1408; omega

/-- The gated activation of two columns. -/
abbrev gate (g u : EReal) : EReal := g * Cert.Ffn.sig g * u

variable (x : Vec Ideal S512x1024 .f32) (g : Vec Ideal S1x1024 .f32) (w : Vec Ideal S4x1x1024x1408 .bf16)

theorem out4_eq : out0_4 x g w = k0_pay7 (F := Ideal) x g := by
  unfold out0_4
  rw [View.canon_unit_zero hz2, View.ld_unit_zero (S := S512x1024) hz2, View.ld_unit_zero (S := S1x1024) hz2]

theorem ld_x : View.ld x r0_0 = x := View.ld_unit_zero (S := S512x1024) hz2 _ x
theorem ld_g : View.ld g r0_1 = g := View.ld_unit_zero (S := S1x1024) hz2 _ g

theorem out3_eq : out0_3 x g w = fun y : S512x5632.Idx => prod (k0_pay7 (F := Ideal) x g) w (y 0) (y 1) := by
  funext y
  unfold out0_3
  refine View.canon_apply_of_pieces (Val := Elt Ideal) (fun y : S512x5632.Idx => prod (k0_pay7 (F := Ideal) x g) w (y 0) (y 1)) _ ?_ y (cover0_3 _ _ _ _ y)
  unfold k0_pay14
  rw [ld_x, ld_g]
  have key : ∀ (s : Fin 4) (inb) (off : Nat) (ho : off = 1408 * s.val) (inb') (z : S512x1408.Idx),
      k0_pay2 (F := Ideal) (k0_pay7 x g) (View.ld w (Rect.unit (s := S4x1x1024x1408) ![s.val, 0, 0, 0] S1x1x1024x1408.size inb)) z
        = (fun y : S512x5632.Idx => prod (k0_pay7 (F := Ideal) x g) w (y 0) (y 1)) ((Rect.unit (s := S512x5632) ![0, off] S512x1408.size inb').emb z) := by
    intro s inb off ho inb' z
    rw [show z = ix2 (n0 := 512) (n1 := 1408) (z 0) (z 1) from (ix2_eta (n0 := 512) (n1 := 1408) z).symm]
    have h0 : (Rect.unit (s := S512x5632) ![0, off] S512x1408.size inb').emb (ix2 (n0 := 512) (n1 := 1408) (z 0) (z 1)) 0 = (z 0 : Fin 512) :=
      Fin.ext (by show 0 + 1 * (z 0).val = (z 0).val; omega)
    dsimp only
    rw [h0]
    refine shard_at _ w s inb (z 0) (z 1) _ ?_
    show off + 1 * (z 1).val = _
    omega
  intro pc hpc
  rcases List.mem_cons.mp hpc with rfl | hpc
  · exact key 3 inb_S4x1x1024x1408_S1x1x1024x1408_3_0_0_0 4224 rfl inb_S512x5632_S512x1408_0_4224
  rcases List.mem_cons.mp hpc with rfl | hpc
  · exact key 1 inb_S4x1x1024x1408_S1x1x1024x1408_1_0_0_0 1408 rfl inb_S512x5632_S512x1408_0_1408
  rcases List.mem_cons.mp hpc with rfl | hpc
  · exact key 2 inb_S4x1x1024x1408_S1x1x1024x1408_2_0_0_0 2816 rfl inb_S512x5632_S512x1408_0_2816
  rcases List.mem_cons.mp hpc with rfl | hpc
  · exact key 0 inb_S4x1x1024x1408_S1x1x1024x1408_0_0_0_0 0 rfl inb_S512x5632_S512x1408_0_0
  nomatch hpc

theorem act_pay (a : Vec Ideal S512x1024 .bf16) (w w' : Vec Ideal S1x1x1024x1408 .bf16) (l : Fin 512) (n : Fin 1408) :
    k0_pay6 (F := Ideal) a w w' (ix2 l n) = gate (k0_pay2 (F := Ideal) a w (ix2 l n)) (k0_pay2 (F := Ideal) a w' (ix2 l n)) := rfl

theorem out5_eq : out0_5 x g w = fun y : S512x2816.Idx => gate (prod (k0_pay7 (F := Ideal) x g) w (y 0) (lo (y 1))) (prod (k0_pay7 (F := Ideal) x g) w (y 0) (hi (y 1))) := by
  funext y
  unfold out0_5
  refine View.canon_apply_of_pieces (Val := Elt Ideal) (fun y : S512x2816.Idx => gate (prod (k0_pay7 (F := Ideal) x g) w (y 0) (lo (y 1))) (prod (k0_pay7 (F := Ideal) x g) w (y 0) (hi (y 1))))
    _ ?_ y (cover0_5 _ _ y)
  unfold k0_pay14
  rw [ld_x, ld_g]
  have key : ∀ (s s' : Fin 4) (inb inb2) (off : Nat) (ho : off = 1408 * s.val) (hs : s'.val = s.val + 2) (inb') (z : S512x1408.Idx),
      k0_pay6 (F := Ideal) (k0_pay7 x g) (View.ld w (Rect.unit (s := S4x1x1024x1408) ![s.val, 0, 0, 0] S1x1x1024x1408.size inb))
          (View.ld w (Rect.unit (s := S4x1x1024x1408) ![s'.val, 0, 0, 0] S1x1x1024x1408.size inb2)) z
        = (fun y : S512x2816.Idx => gate (prod (k0_pay7 (F := Ideal) x g) w (y 0) (lo (y 1))) (prod (k0_pay7 (F := Ideal) x g) w (y 0) (hi (y 1))))
          ((Rect.unit (s := S512x2816) ![0, off] S512x1408.size inb').emb z) := by
    intro s s' inb inb2 off ho hs inb' z
    rw [show z = ix2 (n0 := 512) (n1 := 1408) (z 0) (z 1) from (ix2_eta (n0 := 512) (n1 := 1408) z).symm]
    have h0 : (Rect.unit (s := S512x2816) ![0, off] S512x1408.size inb').emb (ix2 (n0 := 512) (n1 := 1408) (z 0) (z 1)) 0 = (z 0 : Fin 512) :=
      Fin.ext (by show 0 + 1 * (z 0).val = (z 0).val; omega)
    dsimp only
    rw [h0]
    refine (act_pay _ _ _ (z 0) (z 1)).trans ?_
    refine congrArg₂ gate (shard_at _ w s inb (z 0) (z 1) _ ?_) (shard_at _ w s' inb2 (z 0) (z 1) _ ?_)
    · show off + 1 * (z 1).val = _
      omega
    · show 2816 + (off + 1 * (z 1).val) = _
      omega
  intro pc hpc
  rcases List.mem_cons.mp hpc with rfl | hpc
  · exact key 1 3 inb_S4x1x1024x1408_S1x1x1024x1408_1_0_0_0 inb_S4x1x1024x1408_S1x1x1024x1408_3_0_0_0 1408 rfl rfl inb_S512x2816_S512x1408_0_1408
  rcases List.mem_cons.mp hpc with rfl | hpc
  · exact key 0 2 inb_S4x1x1024x1408_S1x1x1024x1408_0_0_0_0 inb_S4x1x1024x1408_S1x1x1024x1408_2_0_0_0 0 rfl rfl inb_S512x2816_S512x1408_0_0
  nomatch hpc

/-! ## The blocks -/

theorem index0_0 : ∀ t : Fin cfg0.N, (cfg0.win 0).index t 0 = t.val := by decide +kernel
theorem index0_1 : ∀ t : Fin cfg0.N, (cfg0.win 0).index t 1 = 0 := by decide +kernel
theorem index1_0 : ∀ t : Fin cfg0.N, (cfg0.win 1).index t 0 = 0 := by decide +kernel
theorem index1_1 : ∀ t : Fin cfg0.N, (cfg0.win 1).index t 1 = 0 := by decide +kernel
theorem index2_0 : ∀ t : Fin cfg0.N, (cfg0.win 2).index t 0 = 0 := by decide +kernel
theorem index2_1 : ∀ t : Fin cfg0.N, (cfg0.win 2).index t 1 = 1 := by decide +kernel
theorem index2_2 : ∀ t : Fin cfg0.N, (cfg0.win 2).index t 2 = 0 := by decide +kernel
theorem index2_3 : ∀ t : Fin cfg0.N, (cfg0.win 2).index t 3 = 0 := by decide +kernel
theorem index3_0 : ∀ t : Fin cfg0.N, (cfg0.win 3).index t 0 = t.val := by decide +kernel
theorem index3_1 : ∀ t : Fin cfg0.N, (cfg0.win 3).index t 1 = 0 := by decide +kernel
theorem index4_0 : ∀ t : Fin cfg0.N, (cfg0.win 4).index t 0 = t.val := by decide +kernel
theorem index4_1 : ∀ t : Fin cfg0.N, (cfg0.win 4).index t 1 = 0 := by decide +kernel
theorem index5_0 : ∀ t : Fin cfg0.N, (cfg0.win 5).index t 0 = t.val := by decide +kernel
theorem index5_1 : ∀ t : Fin cfg0.N, (cfg0.win 5).index t 1 = 0 := by decide +kernel

theorem read0 (t : Fin cfg0.N) (A : S4096x1024.Idx → Elt Ideal .f32) (l : Fin 512) (n : Fin 1024) (r : Fin 4096) (hr : r.val = t.val * 512 + l.val) :
    ((cfg0.win 0).blk t).view.read (Elt Ideal) A (ix2 l n) = A (ix2 r n) := by
  rw [View.read_apply]
  refine congrArg A (funext fun i => Fin.ext ?_)
  match i with
  | ⟨0, _⟩ => show (cfg0.win 0).index t 0 * 512 + 1 * l.val = r.val; rw [index0_0]; omega
  | ⟨1, _⟩ => show (cfg0.win 0).index t 1 * 1024 + 1 * n.val = n.val; rw [index0_1]; omega

theorem read1 (t : Fin cfg0.N) (A : S1x1024.Idx → Elt Ideal .f32) (k : Fin 1024) :
    ((cfg0.win 1).blk t).view.read (Elt Ideal) A (ix2 0 k) = A (ix2 0 k) := by
  rw [View.read_apply]
  refine congrArg A (funext fun i => Fin.ext ?_)
  match i with
  | ⟨0, _⟩ => show (cfg0.win 1).index t 0 * 1 + 1 * 0 = 0; rw [index1_0]
  | ⟨1, _⟩ => show (cfg0.win 1).index t 1 * 1024 + 1 * k.val = k.val; rw [index1_1]; omega

theorem read2 (t : Fin cfg0.N) (A : S4x2x1024x1408.Idx → Elt Ideal .bf16) (s : Fin 4) (k : Fin 1024) (n : Fin 1408) :
    ((cfg0.win 2).blk t).view.read (Elt Ideal) A (ix4 s 0 k n) = A (ix4 s 1 k n) := by
  rw [View.read_apply]
  refine congrArg A (funext fun i => Fin.ext ?_)
  match i with
  | ⟨0, _⟩ => show (cfg0.win 2).index t 0 * 4 + 1 * s.val = s.val; rw [index2_0]; omega
  | ⟨1, _⟩ => show (cfg0.win 2).index t 1 * 1 + 1 * 0 = 1; rw [index2_1]
  | ⟨2, _⟩ => show (cfg0.win 2).index t 2 * 1024 + 1 * k.val = k.val; rw [index2_2]; omega
  | ⟨3, _⟩ => show (cfg0.win 2).index t 3 * 1408 + 1 * n.val = n.val; rw [index2_3]; omega

theorem read3 (t : Fin cfg0.N) (A : S4096x5632.Idx → Elt Ideal .bf16) (l : Fin 512) (n : Fin 5632) (r : Fin 4096) (hr : r.val = t.val * 512 + l.val) :
    ((cfg0.win 3).blk t).view.read (Elt Ideal) A (ix2 l n) = A (ix2 r n) := by
  rw [View.read_apply]
  refine congrArg A (funext fun i => Fin.ext ?_)
  match i with
  | ⟨0, _⟩ => show (cfg0.win 3).index t 0 * 512 + 1 * l.val = r.val; rw [index3_0]; omega
  | ⟨1, _⟩ => show (cfg0.win 3).index t 1 * 5632 + 1 * n.val = n.val; rw [index3_1]; omega

theorem read4 (t : Fin cfg0.N) (A : S4096x1024.Idx → Elt Ideal .bf16) (l : Fin 512) (n : Fin 1024) (r : Fin 4096) (hr : r.val = t.val * 512 + l.val) :
    ((cfg0.win 4).blk t).view.read (Elt Ideal) A (ix2 l n) = A (ix2 r n) := by
  rw [View.read_apply]
  refine congrArg A (funext fun i => Fin.ext ?_)
  match i with
  | ⟨0, _⟩ => show (cfg0.win 4).index t 0 * 512 + 1 * l.val = r.val; rw [index4_0]; omega
  | ⟨1, _⟩ => show (cfg0.win 4).index t 1 * 1024 + 1 * n.val = n.val; rw [index4_1]; omega

theorem read5 (t : Fin cfg0.N) (A : S4096x2816.Idx → Elt Ideal .bf16) (l : Fin 512) (n : Fin 2816) (r : Fin 4096) (hr : r.val = t.val * 512 + l.val) :
    ((cfg0.win 5).blk t).view.read (Elt Ideal) A (ix2 l n) = A (ix2 r n) := by
  rw [View.read_apply]
  refine congrArg A (funext fun i => Fin.ext ?_)
  match i with
  | ⟨0, _⟩ => show (cfg0.win 5).index t 0 * 512 + 1 * l.val = r.val; rw [index5_0]; omega
  | ⟨1, _⟩ => show (cfg0.win 5).index t 1 * 2816 + 1 * n.val = n.val; rw [index5_1]; omega

variable (m : (ℓ : Loc nD τ sig) → Buf (Elt Ideal) ℓ) (ρ : Dev nD → PrngReg) (c : Dev nD)

theorem blk0 (t : Fin cfg0.N) (l : Fin 512) (k : Fin 1024) (r : Fin 4096) (hr : r.val = t.val * 512 + l.val) :
    iblk m c 0 t (ix2 l k) = V m c main_arg0 (ix2 r k) := by
  unfold iblk
  exact read0 t (V m c main_arg0) l k r hr

theorem blk1 (t : Fin cfg0.N) (k : Fin 1024) : iblk m c 1 t (ix2 0 k) = V m c main_v3 (ix2 0 k) := by
  unfold iblk
  exact read1 t (V m c main_v3) k

theorem blk2 (t : Fin cfg0.N) (s : Fin 4) (k : Fin 1024) (n : Fin 1408) : iblk m c 2 t (ix4 s 0 k n) = V m c main_v2 (ix4 s 1 k n) := by
  unfold iblk
  exact read2 t (V m c main_v2) s k n

/-- The gain, as the host lays it out for the call. -/
theorem host_v3 {F : FTy → Type} [FloatOps F] (V0 : Valuation τ sig (Elt F)) : after hostOps0 V0 (Proc.devRef .tc main_v3)
    = shapeCast S1x1024 (V0 (Proc.devRef .tc main_arg1) : FVec F S1024 .f32) shapeCasts_S1024_S1x1024 := by
  after_results_simp
  all_goals rfl

/-- The weights, as the host lays them out for the call. -/
theorem host_v2 {F : FTy → Type} [FloatOps F] (V0 : Valuation τ sig (Elt F)) : after hostOps0 V0 (Proc.devRef .tc main_v2)
    = transpose S4x2x1024x1408 [2, 0, 1, 3] (shapeCast S2x1024x4x1408 (truncf .bf16 (V0 (Proc.devRef .tc main_arg2) : FVec F S2x1024x5632 .f32) bitsLt_bf16_f32)
      shapeCasts_S2x1024x5632_S2x1024x4x1408) transposes_S2x1024x4x1408_S4x2x1024x1408_2_0_1_3 := by
  after_results_simp
  all_goals rfl

theorem V_v3 : @Eq (FVec Ideal S1x1024 .f32) (V m c main_v3) <| shapeCast S1x1024 (m ((c : Thread nD τ).loc main_arg1) : FVec Ideal S1024 .f32) shapeCasts_S1024_S1x1024 := by
  unfold V
  exact host_v3 _

theorem V_v2 : @Eq (FVec Ideal S4x2x1024x1408 .bf16) (V m c main_v2) <| transpose S4x2x1024x1408 [2, 0, 1, 3]
    (shapeCast S2x1024x4x1408 (truncf .bf16 (m ((c : Thread nD τ).loc main_arg2) : FVec Ideal S2x1024x5632 .f32) bitsLt_bf16_f32)
      shapeCasts_S2x1024x5632_S2x1024x4x1408) transposes_S2x1024x4x1408_S4x2x1024x1408_2_0_1_3 := by
  unfold V
  exact host_v2 _

theorem gain_at (x : FVec Ideal S1024 .f32) (k : Fin 1024) : (shapeCast S1x1024 x shapeCasts_S1024_S1x1024 (ix2 0 k) : EReal) = x (ix1 k) := by
  pointwise []

theorem weight_at (w : FVec Ideal S2x1024x5632 .f32) (j : Fin 4) (y : Fin 2) (k : Fin 1024) (n : Fin 1408) (q : Fin 5632) (hq : q.val = j.val * 1408 + n.val) :
    (transpose S4x2x1024x1408 [2, 0, 1, 3] (shapeCast S2x1024x4x1408 (truncf .bf16 w bitsLt_bf16_f32) shapeCasts_S2x1024x5632_S2x1024x4x1408)
      transposes_S2x1024x4x1408_S4x2x1024x1408_2_0_1_3 (ix4 j y k n) : EReal) = w (ix3 y k q) := by
  obtain ⟨q, hq'⟩ := q
  dsimp only at hq
  subst hq
  pointwise []

/-! ## The arrays -/

open Cert.Reference5Ideal.Read

/-- The reference's normalised input, entry by entry. -/
theorem ref_n (x0 : FVec Ideal Cert.Reference5Ideal.S4096x1024 .f32) (x1 : FVec Ideal Cert.Reference5Ideal.S1024 .f32)
    (r : Fin 4096) (k : Fin 1024) :
    val_main_v12 (F := Ideal) x0 x1 (ix2 r k) = x0 (ix2 r k) * Ideal.rsqrt (Ideal.div (∑ j : Fin 1024, x0 (ix2 r j) * x0 (ix2 r j)) (Ideal.ofBits FTy.f32 1149239296#32)
      + Ideal.ofBits FTy.f32 897988541#32) * x1 (ix1 k) := by
  unfold val_main_v12 val_main_v11 val_main_v10 val_main_v9 val_main_v8 val_main_v7 val_main_v6 val_main_v5 val_main_v4 val_main_v3 val_main_v2 val_main_v1 val_main_v0
    val_main_cst val_main_cst_0 val_main_cst_1
  pointwise []

/-- The reference's product, entry by entry. -/
theorem ref_gu (x0 : FVec Ideal Cert.Reference5Ideal.S4096x1024 .f32) (x1 : FVec Ideal Cert.Reference5Ideal.S1024 .f32) (x2 : FVec Ideal Cert.Reference5Ideal.S2x1024x5632 .f32)
    (r : Fin 4096) (q : Fin 5632) :
    val_main_v15 (F := Ideal) x0 x1 x2 (ix2 r q) = ∑ k : Fin 1024, (val_main_v12 (F := Ideal) x0 x1 (ix2 r k) : EReal) * x2 (ix3 1 k q) := by
  unfold val_main_v15 val_main_v14 val_main_v13
  generalize val_main_v12 (F := Ideal) x0 x1 = n
  pointwise []

/-- The reference's activation, entry by entry. -/
theorem ref_act (x0 : FVec Ideal Cert.Reference5Ideal.S4096x1024 .f32) (x1 : FVec Ideal Cert.Reference5Ideal.S1024 .f32) (x2 : FVec Ideal Cert.Reference5Ideal.S2x1024x5632 .f32)
    (r : Fin 4096) (q : Fin 2816) :
    val_main_v22 (F := Ideal) x0 x1 x2 (ix2 r q) = gate (val_main_v15 (F := Ideal) x0 x1 x2 (ix2 r (lo q))) (val_main_v15 (F := Ideal) x0 x1 x2 (ix2 r (hi q))) := by
  unfold val_main_v22 val_main_v21 val_main_v20 val_main_call0_v5 val_main_call0_v4 val_main_call0_v3 val_main_call0_v2 val_main_call0_v1 val_main_call0_v0 val_main_call0_cst val_main_call0_cst_0
    val_main_v19 val_main_v18
  generalize val_main_v15 (F := Ideal) x0 x1 x2 = n
  unfold gate
  rw [Cert.Ffn.sig_eq]
  pointwise []

theorem norm_block (t : Fin cfg0.N) (l : Fin 512) (k : Fin 1024) (r : Fin 4096) (hr : r.val = t.val * 512 + l.val) :
    k0_pay7 (F := Ideal) (iblk m c 0 t) (iblk m c 1 t) (ix2 l k) = val_main_v12 (F := Ideal) (m ((c : Thread nD τ).loc main_arg0)) (m ((c : Thread nD τ).loc main_arg1)) (ix2 r k) := by
  rw [nrm_at, ref_n]
  unfold nrm
  simp only [blk0 m c t l _ r hr, blk1, V_main_arg0]
  exact congrArg (_ * ·) ((congrFun (V_v3 m c) _).trans (gain_at _ k))

theorem prod_block (t : Fin cfg0.N) (l : Fin 512) (q : Fin 5632) (r : Fin 4096) (hr : r.val = t.val * 512 + l.val) :
    prod (k0_pay7 (F := Ideal) (iblk m c 0 t) (iblk m c 1 t)) (iblk m c 2 t) l q = val_main_v15 (F := Ideal) (m ((c : Thread nD τ).loc main_arg0)) (m ((c : Thread nD τ).loc main_arg1)) (m ((c : Thread nD τ).loc main_arg2)) (ix2 r q) := by
  rw [ref_gu]
  refine sum_congr rfl fun k _ => congrArg₂ (· * ·) (norm_block m c t l k r hr) ?_
  refine (blk2 m c t _ k _).trans ((congrFun (V_v2 m c) _).trans (weight_at _ _ _ _ _ q ?_))
  dsimp only
  omega

theorem mem_blk3 (t : Fin cfg0.N) (i : S4096x5632.Idx) :
    i ∈ ((cfg0.win 3).blk t).view.set ↔ ∀ a : Fin 2, win0_3.index t a * S512x5632.size a ≤ (i a).val ∧ (i a).val < win0_3.index t a * S512x5632.size a + S512x5632.size a := by
  show i ∈ ((View.whole main_v4_0).slice (win0_3.rect t)).set ↔ _
  rw [View.set_slice_whole, Rect.mem_set_unit]
  exact Iff.rfl

theorem mem_blk4 (t : Fin cfg0.N) (i : S4096x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v4_1).slice (win0_4.rect t)).set ↔ _
  rw [View.set_slice_whole, Rect.mem_set_unit]
  exact Iff.rfl

theorem mem_blk5 (t : Fin cfg0.N) (i : S4096x2816.Idx) :
    i ∈ ((cfg0.win 5).blk t).view.set ↔ ∀ a : Fin 2, win0_5.index t a * S512x2816.size a ≤ (i a).val ∧ (i a).val < win0_5.index t a * S512x2816.size a + S512x2816.size a := by
  show i ∈ ((View.whole main_v4_2).slice (win0_5.rect t)).set ↔ _
  rw [View.set_slice_whole, Rect.mem_set_unit]
  exact Iff.rfl

theorem result3 : (dats m 0 c).arrAt 3 cfg0.N = val_main_v16 (F := Ideal) (m ((c : Thread nD τ).loc main_arg0)) (m ((c : Thread nD τ).loc main_arg1)) (m ((c : Thread nD τ).loc main_arg2)) := by
  have hN : cfg0.N = 8 := N_0
  refine (dats m 0 c).arrAt_eq_of_cover 3 _ (fun t _ => ?_) (fun i => ?_)
  · rw [Value.flushed3, out3_eq]
    funext j
    rw [show j = ix2 (n0 := 512) (n1 := 5632) (j 0) (j 1) from (ix2_eta (n0 := 512) (n1 := 5632) j).symm]
    have hr : t.val * 512 + (j 0).val < 4096 := by have ht : t.val < 8 := lt_of_lt_of_eq t.isLt hN; have h : (j 0).val < 512 := (j 0).isLt; omega
    refine Eq.trans ?_ (read3 t _ (j 0) (j 1) ⟨_, hr⟩ rfl).symm
    exact prod_block m c t (j 0) (j 1) ⟨_, hr⟩ rfl
  · have hi0 : (i 0).val < 4096 := (i 0).isLt
    have hi1 : (i 1).val < 5632 := (i 1).isLt
    refine ⟨⟨(i 0).val / 512, by omega⟩, flush0_3 _, ?_⟩
    rw [mem_blk3]
    intro a
    match a with
    | ⟨0, _⟩ => show (cfg0.win 3).index _ 0 * 512 ≤ (i 0).val ∧ (i 0).val < (cfg0.win 3).index _ 0 * 512 + 512; rw [index3_0]; dsimp only; omega
    | ⟨1, _⟩ => show (cfg0.win 3).index _ 1 * 5632 ≤ (i 1).val ∧ (i 1).val < (cfg0.win 3).index _ 1 * 5632 + 5632; rw [index3_1]; omega

theorem result4 : (dats m 0 c).arrAt 4 cfg0.N = val_main_v17 (F := Ideal) (m ((c : Thread nD τ).loc main_arg0)) (m ((c : Thread nD τ).loc main_arg1)) := by
  have hN : cfg0.N = 8 := N_0
  refine (dats m 0 c).arrAt_eq_of_cover 4 _ (fun t _ => ?_) (fun i => ?_)
  · rw [Value.flushed4, out4_eq]
    funext j
    rw [show j = ix2 (n0 := 512) (n1 := 1024) (j 0) (j 1) from (ix2_eta (n0 := 512) (n1 := 1024) j).symm]
    have hr : t.val * 512 + (j 0).val < 4096 := by have ht : t.val < 8 := lt_of_lt_of_eq t.isLt hN; have h : (j 0).val < 512 := (j 0).isLt; omega
    refine Eq.trans ?_ (read4 t _ (j 0) (j 1) ⟨_, hr⟩ rfl).symm
    exact norm_block m c t (j 0) (j 1) ⟨_, hr⟩ rfl
  · have hi0 : (i 0).val < 4096 := (i 0).isLt
    have hi1 : (i 1).val < 1024 := (i 1).isLt
    refine ⟨⟨(i 0).val / 512, by omega⟩, flush0_4 _, ?_⟩
    rw [mem_blk4]
    intro a
    match a with
    | ⟨0, _⟩ => show (cfg0.win 4).index _ 0 * 512 ≤ (i 0).val ∧ (i 0).val < (cfg0.win 4).index _ 0 * 512 + 512; rw [index4_0]; dsimp only; omega
    | ⟨1, _⟩ => show (cfg0.win 4).index _ 1 * 1024 ≤ (i 1).val ∧ (i 1).val < (cfg0.win 4).index _ 1 * 1024 + 1024; rw [index4_1]; omega

theorem result5 : (dats m 0 c).arrAt 5 cfg0.N = val_main_v22 (F := Ideal) (m ((c : Thread nD τ).loc main_arg0)) (m ((c : Thread nD τ).loc main_arg1)) (m ((c : Thread nD τ).loc main_arg2)) := by
  have hN : cfg0.N = 8 := N_0
  refine (dats m 0 c).arrAt_eq_of_cover 5 _ (fun t _ => ?_) (fun i => ?_)
  · rw [Value.flushed5, out5_eq]
    funext j
    rw [show j = ix2 (n0 := 512) (n1 := 2816) (j 0) (j 1) from (ix2_eta (n0 := 512) (n1 := 2816) j).symm]
    have hr : t.val * 512 + (j 0).val < 4096 := by have ht : t.val < 8 := lt_of_lt_of_eq t.isLt hN; have h : (j 0).val < 512 := (j 0).isLt; omega
    refine Eq.trans ?_ (read5 t _ (j 0) (j 1) ⟨_, hr⟩ rfl).symm
    exact (congrArg₂ gate (prod_block m c t (j 0) (lo (j 1)) ⟨_, hr⟩ rfl) (prod_block m c t (j 0) (hi (j 1)) ⟨_, hr⟩ rfl)).trans (ref_act _ _ _ _ _).symm
  · have hi0 : (i 0).val < 4096 := (i 0).isLt
    have hi1 : (i 1).val < 2816 := (i 1).isLt
    refine ⟨⟨(i 0).val / 512, by omega⟩, flush0_5 _, ?_⟩
    rw [mem_blk5]
    intro a
    match a with
    | ⟨0, _⟩ => show (cfg0.win 5).index _ 0 * 512 ≤ (i 0).val ∧ (i 0).val < (cfg0.win 5).index _ 0 * 512 + 512; rw [index5_0]; dsimp only; omega
    | ⟨1, _⟩ => show (cfg0.win 5).index _ 1 * 2816 ≤ (i 1).val ∧ (i 1).val < (cfg0.win 5).index _ 1 * 2816 + 2816; rw [index5_1]; omega

theorem run : θ_run defs (onTc (τ := τ) (main (F := Ideal))) ⟨m, fun _ => 0, ρ⟩ fun r => ∀ c : Dev nD,
      r.2.mem ((c : Thread nD τ).loc main_v4_0) = val_main_v16 (F := Ideal) (m ((c : Thread nD τ).loc main_arg0)) (m ((c : Thread nD τ).loc main_arg1)) (m ((c : Thread nD τ).loc main_arg2))
      ∧ r.2.mem ((c : Thread nD τ).loc main_v4_1) = val_main_v17 (F := Ideal) (m ((c : Thread nD τ).loc main_arg0)) (m ((c : Thread nD τ).loc main_arg1))
      ∧ r.2.mem ((c : Thread nD τ).loc main_v4_2) = val_main_v22 (F := Ideal) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (result3 m c), (h c).2.1.trans (result4 m c), (h c).2.2.1.trans (result5 m c), (h c).2.2.2⟩) (Value.run_blocks m ρ)

end Cert.Kernel5Ideal.Ffn

end
-- ==== Proof.Ffn.Out.lean ====
/- The down-projection with the residual: the product of the activation with the weights, on the layer's input, eight row
   blocks. -/
module

public import proofs.«01_k».proof.Proof.Gen.Kernel6Ideal.Value
public import proofs.«01_k».proof.Proof.Gen.Reference6Ideal.Read
public import proofs.«01_k».proof.Proof.Gen.Reference6Ideal.Run
public import Idealize.ShloMosaic.Lib.Pointwise
public import Idealize.ShloMosaic.Lib.Tactic

@[expose] public section

set_option maxRecDepth 16384

noncomputable section

namespace Cert.Kernel6Ideal.Ffn

open Idealize.ShloMosaic Idealize.ShloMosaic.TcCoe Idealize.ShloMosaic.StableHlo Cert.Kernel6Ideal Cert.Kernel6Ideal.Gen Finset Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-- What a point writes, of its blocks. -/
theorem out_eq {F : FTy → Type} [FloatOps F] (x0 : Vec F S512x2816 .bf16) (x1 : Vec F S1x2816x1024 .bf16) (x2 : Vec F S512x1024 .f32) :
    out0_3 x0 x1 x2 = k0_pay1 x0 x1 x2 := by
  unfold out0_3
  rw [View.canon_unit_zero hz2, View.ld_unit_zero (S := S512x2816) hz2, View.ld_unit_zero (S := S1x2816x1024) hz3, View.ld_unit_zero (S := S512x1024) hz2]

theorem pay_at (a : Vec Ideal S512x2816 .bf16) (b : Vec Ideal S1x2816x1024 .bf16) (h : Vec Ideal S512x1024 .f32) (l : Fin 512) (n : Fin 1024) :
    k0_pay1 (F := Ideal) a b h (ix2 l n) = (∑ k : Fin 2816, a (ix2 l k) * b (ix3 0 k n)) + h (ix2 l n) := by
  pointwise [k0_pay1]

/-! ## The blocks -/

theorem index0_0 : ∀ t : Fin cfg0.N, (cfg0.win 0).index t 0 = t.val := by decide +kernel
theorem index0_1 : ∀ t : Fin cfg0.N, (cfg0.win 0).index t 1 = 0 := by decide +kernel
theorem index1_0 : ∀ t : Fin cfg0.N, (cfg0.win 1).index t 0 = 0 := by decide +kernel
theorem index1_1 : ∀ t : Fin cfg0.N, (cfg0.win 1).index t 1 = 0 := by decide +kernel
theorem index1_2 : ∀ t : Fin cfg0.N, (cfg0.win 1).index t 2 = 0 := by decide +kernel
theorem index2_0 : ∀ t : Fin cfg0.N, (cfg0.win 2).index t 0 = t.val := by decide +kernel
theorem index2_1 : ∀ t : Fin cfg0.N, (cfg0.win 2).index t 1 = 0 := by decide +kernel
theorem index3_0 : ∀ t : Fin cfg0.N, (cfg0.win 3).index t 0 = t.val := by decide +kernel
theorem index3_1 : ∀ t : Fin cfg0.N, (cfg0.win 3).index t 1 = 0 := by decide +kernel

theorem read0 (t : Fin cfg0.N) (A : S4096x2816.Idx → Elt Ideal .bf16) (l : Fin 512) (k : Fin 2816) (r : Fin 4096) (hr : r.val = t.val * 512 + l.val) :
    ((cfg0.win 0).blk t).view.read (Elt Ideal) A (ix2 l k) = A (ix2 r k) := by
  rw [View.read_apply]
  refine congrArg A (funext fun i => Fin.ext ?_)
  match i with
  | ⟨0, _⟩ => show (cfg0.win 0).index t 0 * 512 + 1 * l.val = r.val; rw [index0_0]; omega
  | ⟨1, _⟩ => show (cfg0.win 0).index t 1 * 2816 + 1 * k.val = k.val; rw [index0_1]; omega

theorem read1 (t : Fin cfg0.N) (A : S1x2816x1024.Idx → Elt Ideal .bf16) (k : Fin 2816) (n : Fin 1024) :
    ((cfg0.win 1).blk t).view.read (Elt Ideal) A (ix3 0 k n) = A (ix3 0 k n) := by
  rw [View.read_apply]
  refine congrArg A (funext fun i => Fin.ext ?_)
  match i with
  | ⟨0, _⟩ => show (cfg0.win 1).index t 0 * 1 + 1 * 0 = 0; rw [index1_0]
  | ⟨1, _⟩ => show (cfg0.win 1).index t 1 * 2816 + 1 * k.val = k.val; rw [index1_1]; omega
  | ⟨2, _⟩ => show (cfg0.win 1).index t 2 * 1024 + 1 * n.val = n.val; rw [index1_2]; omega

theorem read2 (t : Fin cfg0.N) (A : S4096x1024.Idx → Elt Ideal .f32) (l : Fin 512) (n : Fin 1024) (r : Fin 4096) (hr : r.val = t.val * 512 + l.val) :
    ((cfg0.win 2).blk t).view.read (Elt Ideal) A (ix2 l n) = A (ix2 r n) := by
  rw [View.read_apply]
  refine congrArg A (funext fun i => Fin.ext ?_)
  match i with
  | ⟨0, _⟩ => show (cfg0.win 2).index t 0 * 512 + 1 * l.val = r.val; rw [index2_0]; omega
  | ⟨1, _⟩ => show (cfg0.win 2).index t 1 * 1024 + 1 * n.val = n.val; rw [index2_1]; omega

theorem read3 (t : Fin cfg0.N) (A : S4096x1024.Idx → Elt Ideal .f32) (l : Fin 512) (n : Fin 1024) (r : Fin 4096) (hr : r.val = t.val * 512 + l.val) :
    ((cfg0.win 3).blk t).view.read (Elt Ideal) A (ix2 l n) = A (ix2 r n) := by
  rw [View.read_apply]
  refine congrArg A (funext fun i => Fin.ext ?_)
  match i with
  | ⟨0, _⟩ => show (cfg0.win 3).index t 0 * 512 + 1 * l.val = r.val; rw [index3_0]; omega
  | ⟨1, _⟩ => show (cfg0.win 3).index t 1 * 1024 + 1 * n.val = n.val; rw [index3_1]; omega

variable (m : (ℓ : Loc nD τ sig) → Buf (Elt Ideal) ℓ) (ρ : Dev nD → PrngReg) (c : Dev nD)

theorem blk0 (t : Fin cfg0.N) (l : Fin 512) (k : Fin 2816) (r : Fin 4096) (hr : r.val = t.val * 512 + l.val) :
    iblk m c 0 t (ix2 l k) = V m c main_v5 (ix2 r k) := by
  unfold iblk
  exact read0 t (V m c main_v5) l k r hr

theorem blk1 (t : Fin cfg0.N) (k : Fin 2816) (n : Fin 1024) : iblk m c 1 t (ix3 0 k n) = V m c main_v7 (ix3 0 k n) := by
  unfold iblk
  exact read1 t (V m c main_v7) k n

theorem blk2 (t : Fin cfg0.N) (l : Fin 512) (n : Fin 1024) (r : Fin 4096) (hr : r.val = t.val * 512 + l.val) :
    iblk m c 2 t (ix2 l n) = V m c main_arg0 (ix2 r n) := by
  unfold iblk
  exact read2 t (V m c main_arg0) l n r hr

/-- The activation, as the host prepares it for the call. -/
theorem host_v5 {F : FTy → Type} [FloatOps F] (V0 : Valuation τ sig (Elt F)) : after (List.flatten [hostOps0, hostOps0_1, hostOps0_2]) V0 (Proc.devRef .tc main_v5)
    = truncf .bf16 (Cert.Reference6Ideal.Read.val_main_v4 (F := F) (V0 (Proc.devRef .tc main_arg1))) bitsLt_bf16_f32 := by
  simp only [List.flatten_cons, List.flatten_nil, List.append_nil, List.cons_append, List.nil_append]
  after_results_simp
  all_goals rfl

/-- The weights, as the host prepares them for the call. -/
theorem host_v7 {F : FTy → Type} [FloatOps F] (V0 : Valuation τ sig (Elt F)) : after (List.flatten [hostOps0, hostOps0_1, hostOps0_2]) V0 (Proc.devRef .tc main_v7)
    = broadcastInDim S1x2816x1024 ![1, 2] bcast_S2816x1024_S1x2816x1024_1_2
        (truncf .bf16 (V0 (Proc.devRef .tc main_arg2) : FVec F S2816x1024 .f32) bitsLt_bf16_f32) := by
  simp only [List.flatten_cons, List.flatten_nil, List.append_nil, List.cons_append, List.nil_append]
  after_results_simp
  all_goals rfl

theorem V_v5 : @Eq (FVec Ideal S4096x2816 .bf16) (V m c main_v5) <|
    truncf .bf16 (Cert.Reference6Ideal.Read.val_main_v4 (F := Ideal) (m ((c : Thread nD τ).loc main_arg1))) bitsLt_bf16_f32 := by
  unfold V
  exact host_v5 _

theorem V_v7 : @Eq (FVec Ideal S1x2816x1024 .bf16) (V m c main_v7) <| broadcastInDim S1x2816x1024 ![1, 2] bcast_S2816x1024_S1x2816x1024_1_2
    (truncf .bf16 (m ((c : Thread nD τ).loc main_arg2) : FVec Ideal S2816x1024 .f32) bitsLt_bf16_f32) := by
  unfold V
  exact host_v7 _

theorem lift_at (w : FVec Ideal S2816x1024 .f32) (k : Fin 2816) (n : Fin 1024) :
    (broadcastInDim S1x2816x1024 ![1, 2] bcast_S2816x1024_S1x2816x1024_1_2 (truncf .bf16 w bitsLt_bf16_f32) (ix3 0 k n) : EReal) = w (ix2 k n) := by
  pointwise []

/-! ## The array -/

/-- Entry `(r, n)` of `a b + h`. -/
abbrev res (a : S4096x2816.Idx → EReal) (b : S2816x1024.Idx → EReal) (h : S4096x1024.Idx → EReal) (r : Fin 4096) (n : Fin 1024) : EReal :=
  (∑ k : Fin 2816, a (ix2 r k) * b (ix2 k n)) + h (ix2 r n)

theorem block_at (t : Fin cfg0.N) (l : Fin 512) (n : Fin 1024) (r : Fin 4096) (hr : r.val = t.val * 512 + l.val) :
    k0_pay1 (F := Ideal) (iblk m c 0 t) (iblk m c 1 t) (iblk m c 2 t) (ix2 l n)
      = res (Cert.Reference6Ideal.Read.val_main_v4 (F := Ideal) (m ((c : Thread nD τ).loc main_arg1))) (m ((c : Thread nD τ).loc main_arg2))
        (m ((c : Thread nD τ).loc main_arg0)) r n := by
  rw [pay_at]
  simp only [blk0 m c t l _ r hr, blk1, blk2 m c t l n r hr, V_main_arg0]
  refine congrArg (· + _) (sum_congr rfl fun k _ => ?_)
  exact congrArg₂ (· * ·) (congrFun (V_v5 m c) _) ((congrFun (V_v7 m c) _).trans (lift_at _ k n))

/-- The reference's result, entry by entry. -/
theorem ref_at (x0 : FVec Ideal Cert.Reference6Ideal.S4096x1024 .f32) (x1 : FVec Ideal Cert.Reference6Ideal.S4096x5632 .bf16) (x2 : FVec Ideal Cert.Reference6Ideal.S2816x1024 .f32)
    (r : Fin 4096) (n : Fin 1024) :
    Cert.Reference6Ideal.Read.val_main_v6 (F := Ideal) x0 x1 x2 (ix2 r n)
      = res (Cert.Reference6Ideal.Read.val_main_v4 (F := Ideal) x1) x2 x0 r n := by
  unfold Cert.Reference6Ideal.Read.val_main_v6 Cert.Reference6Ideal.Read.val_main_v5
  generalize Cert.Reference6Ideal.Read.val_main_v4 (F := Ideal) x1 = w
  pointwise []
  exact add_comm _ _

theorem mem_blk3 (t : Fin cfg0.N) (i : S4096x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v8).slice (win0_3.rect t)).set ↔ _
  rw [View.set_slice_whole, Rect.mem_set_unit]
  exact Iff.rfl

/-- The call computes the reference's result. -/
theorem result : (dats m 0 c).arrAt 3 cfg0.N = Cert.Reference6Ideal.Read.val_main_v6 (F := Ideal) (m ((c : Thread nD τ).loc main_arg0)) (m ((c : Thread nD τ).loc main_arg1))
    (m ((c : Thread nD τ).loc main_arg2)) := by
  have hN : cfg0.N = 8 := N_0
  refine (dats m 0 c).arrAt_eq_of_cover 3 _ (fun t _ => ?_) (fun i => ?_)
  · rw [Value.flushed3, out_eq]
    funext j
    rw [show j = ix2 (n0 := 512) (n1 := 1024) (j 0) (j 1) from (ix2_eta (n0 := 512) (n1 := 1024) j).symm]
    have hr : t.val * 512 + (j 0).val < 4096 := by have ht : t.val < 8 := lt_of_lt_of_eq t.isLt hN; have h : (j 0).val < 512 := (j 0).isLt; omega
    refine Eq.trans ?_ (read3 t _ (j 0) (j 1) ⟨_, hr⟩ rfl).symm
    exact (block_at m c t (j 0) (j 1) ⟨_, hr⟩ rfl).trans (ref_at _ _ _ _ _).symm
  · have hi0 : (i 0).val < 4096 := (i 0).isLt
    have hi1 : (i 1).val < 1024 := (i 1).isLt
    refine ⟨⟨(i 0).val / 512, by omega⟩, flush0_3 _, ?_⟩
    rw [mem_blk3]
    intro a
    match a with
    | ⟨0, _⟩ => show (cfg0.win 3).index _ 0 * 512 ≤ (i 0).val ∧ (i 0).val < (cfg0.win 3).index _ 0 * 512 + 512; rw [index3_0]; dsimp only; omega
    | ⟨1, _⟩ => show (cfg0.win 3).index _ 1 * 1024 ≤ (i 1).val ∧ (i 1).val < (cfg0.win 3).index _ 1 * 1024 + 1024; rw [index3_1]; omega

theorem run : θ_run defs (onTc (τ := τ) (main (F := Ideal))) ⟨m, fun _ => 0, ρ⟩ fun r => ∀ c : Dev nD,
      r.2.mem ((c : Thread nD τ).loc main_v8) = Cert.Reference6Ideal.Read.val_main_v6 (F := Ideal) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (result m c), (h c).2⟩) (Value.run_blocks m ρ)

end Cert.Kernel6Ideal.Ffn

end
-- ==== Proof.Ffn.In0.lean ====
/- The first product at the first layer: as `In`, with block 0 of the stacked weights where `In` has block 1. Eight row blocks, each
   against the four column blocks of the weights. -/
module

public import proofs.«01_k».proof.Proof.Gen.Kernel8Ideal.Value
public import proofs.«01_k».proof.Proof.Gen.Reference8Ideal.Read
public import proofs.«01_k».proof.Proof.Gen.Reference8Ideal.Run
public import proofs.«01_k».proof.Proof.Ffn.Math
public import Idealize.ShloMosaic.Lib.Pointwise
public import Idealize.ShloMosaic.Lib.Tactic

@[expose] public section

set_option maxRecDepth 16384

noncomputable section

namespace Cert.Kernel8Ideal.Ffn

open Idealize.ShloMosaic Idealize.ShloMosaic.TcCoe Idealize.ShloMosaic.StableHlo Cert.Kernel8Ideal Cert.Kernel8Ideal.Gen Finset Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

theorem hz4 : (![0, 0, 0, 0] : Fin 4 → Nat) = fun _ => 0 := funext fun a => by fin_cases a <;> rfl

/-! ## What a point writes -/

/-- Entry `(l, k)` of a normalised block. -/
abbrev nrm (x : S512x1024.Idx → EReal) (g : S1x1024.Idx → EReal) (l : Fin 512) (k : Fin 1024) : EReal :=
  x (ix2 l k) * Ideal.rsqrt (Ideal.div (∑ j : Fin 1024, x (ix2 l j) * x (ix2 l j)) (Ideal.ofBits FTy.f32 1149239296#32) + Ideal.ofBits FTy.f32 897988541#32)
    * g (ix2 0 k)

theorem nrm_at (x : Vec Ideal S512x1024 .f32) (g : Vec Ideal S1x1024 .f32) (l : Fin 512) (k : Fin 1024) :
    k0_pay7 (F := Ideal) x g (ix2 l k) = nrm x g l k := by
  pointwise [k0_pay7]

/-- Entry `(l, q)` of the product of a block with the four column blocks of the weights. -/
abbrev prod (a : S512x1024.Idx → EReal) (w : S4x1x1024x1408.Idx → EReal) (l : Fin 512) (q : Fin 5632) : EReal :=
  ∑ k : Fin 1024, a (ix2 l k) * w (ix4 ⟨q.val / 1408, by omega⟩ 0 k ⟨q.val % 1408, by omega⟩)

/-- The gate's half of the columns. -/
abbrev lo (q : Fin 2816) : Fin 5632 := ⟨q.val, by omega⟩
/-- The up-projection's half of the columns. -/
abbrev hi (q : Fin 2816) : Fin 5632 := ⟨2816 + q.val, by omega⟩

theorem dot_at (a : Vec Ideal S512x1024 .bf16) (w : Vec Ideal S1x1x1024x1408 .bf16) (l : Fin 512) (n : Fin 1408) :
    k0_pay2 (F := Ideal) a w (ix2 l n) = ∑ k : Fin 1024, a (ix2 l k) * w (ix4 0 0 k n) := by
  pointwise [k0_pay2]

/-- A column block's product, at its place among the columns. -/
theorem shard_at (a : Vec Ideal S512x1024 .bf16) (w : Vec Ideal S4x1x1024x1408 .bf16) (s : Fin 4) (inb) (l : Fin 512) (n : Fin 1408) (q : Fin 5632)
    (hq : q.val = 1408 * s.val + n.val) :
    k0_pay2 (F := Ideal) a (View.ld w (Rect.unit (s := S4x1x1024x1408) ![s.val, 0, 0, 0] S1x1x1024x1408.size inb)) (ix2 l n) = prod a w l q := by
  rw [dot_at]
  refine sum_congr rfl fun k _ => congrArg (a (ix2 l k) * ·) (congrArg w (funext fun i => Fin.ext ?_))
  match i with
  | ⟨0, _⟩ => show s.val + 1 * 0 = q.val / 1408; omega
  | ⟨1, _⟩ => show 0 + 1 * 0 = 0; omega
  | ⟨2, _⟩ => show 0 + 1 * k.val = k.val; omega
  | ⟨3, _⟩ => show 0 + 1 * n.val = q.val % 1408; omega

/-- The gated activation of two columns. -/
abbrev gate (g u : EReal) : EReal := g * Cert.Ffn.sig g * u

variable (x : Vec Ideal S512x1024 .f32) (g : Vec Ideal S1x1024 .f32) (w : Vec Ideal S4x1x1024x1408 .bf16)

theorem out4_eq : out0_4 x g w = k0_pay7 (F := Ideal) x g := by
  unfold out0_4
  rw [View.canon_unit_zero hz2, View.ld_unit_zero (S := S512x1024) hz2, View.ld_unit_zero (S := S1x1024) hz2]

theorem ld_x : View.ld x r0_0 = x := View.ld_unit_zero (S := S512x1024) hz2 _ x
theorem ld_g : View.ld g r0_1 = g := View.ld_unit_zero (S := S1x1024) hz2 _ g

theorem out3_eq : out0_3 x g w = fun y : S512x5632.Idx => prod (k0_pay7 (F := Ideal) x g) w (y 0) (y 1) := by
  funext y
  unfold out0_3
  refine View.canon_apply_of_pieces (Val := Elt Ideal) (fun y : S512x5632.Idx => prod (k0_pay7 (F := Ideal) x g) w (y 0) (y 1)) _ ?_ y (cover0_3 _ _ _ _ y)
  unfold k0_pay14
  rw [ld_x, ld_g]
  have key : ∀ (s : Fin 4) (inb) (off : Nat) (ho : off = 1408 * s.val) (inb') (z : S512x1408.Idx),
      k0_pay2 (F := Ideal) (k0_pay7 x g) (View.ld w (Rect.unit (s := S4x1x1024x1408) ![s.val, 0, 0, 0] S1x1x1024x1408.size inb)) z
        = (fun y : S512x5632.Idx => prod (k0_pay7 (F := Ideal) x g) w (y 0) (y 1)) ((Rect.unit (s := S512x5632) ![0, off] S512x1408.size inb').emb z) := by
    intro s inb off ho inb' z
    rw [show z = ix2 (n0 := 512) (n1 := 1408) (z 0) (z 1) from (ix2_eta (n0 := 512) (n1 := 1408) z).symm]
    have h0 : (Rect.unit (s := S512x5632) ![0, off] S512x1408.size inb').emb (ix2 (n0 := 512) (n1 := 1408) (z 0) (z 1)) 0 = (z 0 : Fin 512) :=
      Fin.ext (by show 0 + 1 * (z 0).val = (z 0).val; omega)
    dsimp only
    rw [h0]
    refine shard_at _ w s inb (z 0) (z 1) _ ?_
    show off + 1 * (z 1).val = _
    omega
  intro pc hpc
  rcases List.mem_cons.mp hpc with rfl | hpc
  · exact key 3 inb_S4x1x1024x1408_S1x1x1024x1408_3_0_0_0 4224 rfl inb_S512x5632_S512x1408_0_4224
  rcases List.mem_cons.mp hpc with rfl | hpc
  · exact key 1 inb_S4x1x1024x1408_S1x1x1024x1408_1_0_0_0 1408 rfl inb_S512x5632_S512x1408_0_1408
  rcases List.mem_cons.mp hpc with rfl | hpc
  · exact key 2 inb_S4x1x1024x1408_S1x1x1024x1408_2_0_0_0 2816 rfl inb_S512x5632_S512x1408_0_2816
  rcases List.mem_cons.mp hpc with rfl | hpc
  · exact key 0 inb_S4x1x1024x1408_S1x1x1024x1408_0_0_0_0 0 rfl inb_S512x5632_S512x1408_0_0
  nomatch hpc

theorem act_pay (a : Vec Ideal S512x1024 .bf16) (w w' : Vec Ideal S1x1x1024x1408 .bf16) (l : Fin 512) (n : Fin 1408) :
    k0_pay6 (F := Ideal) a w w' (ix2 l n) = gate (k0_pay2 (F := Ideal) a w (ix2 l n)) (k0_pay2 (F := Ideal) a w' (ix2 l n)) := rfl

theorem out5_eq : out0_5 x g w = fun y : S512x2816.Idx => gate (prod (k0_pay7 (F := Ideal) x g) w (y 0) (lo (y 1))) (prod (k0_pay7 (F := Ideal) x g) w (y 0) (hi (y 1))) := by
  funext y
  unfold out0_5
  refine View.canon_apply_of_pieces (Val := Elt Ideal) (fun y : S512x2816.Idx => gate (prod (k0_pay7 (F := Ideal) x g) w (y 0) (lo (y 1))) (prod (k0_pay7 (F := Ideal) x g) w (y 0) (hi (y 1))))
    _ ?_ y (cover0_5 _ _ y)
  unfold k0_pay14
  rw [ld_x, ld_g]
  have key : ∀ (s s' : Fin 4) (inb inb2) (off : Nat) (ho : off = 1408 * s.val) (hs : s'.val = s.val + 2) (inb') (z : S512x1408.Idx),
      k0_pay6 (F := Ideal) (k0_pay7 x g) (View.ld w (Rect.unit (s := S4x1x1024x1408) ![s.val, 0, 0, 0] S1x1x1024x1408.size inb))
          (View.ld w (Rect.unit (s := S4x1x1024x1408) ![s'.val, 0, 0, 0] S1x1x1024x1408.size inb2)) z
        = (fun y : S512x2816.Idx => gate (prod (k0_pay7 (F := Ideal) x g) w (y 0) (lo (y 1))) (prod (k0_pay7 (F := Ideal) x g) w (y 0) (hi (y 1))))
          ((Rect.unit (s := S512x2816) ![0, off] S512x1408.size inb').emb z) := by
    intro s s' inb inb2 off ho hs inb' z
    rw [show z = ix2 (n0 := 512) (n1 := 1408) (z 0) (z 1) from (ix2_eta (n0 := 512) (n1 := 1408) z).symm]
    have h0 : (Rect.unit (s := S512x2816) ![0, off] S512x1408.size inb').emb (ix2 (n0 := 512) (n1 := 1408) (z 0) (z 1)) 0 = (z 0 : Fin 512) :=
      Fin.ext (by show 0 + 1 * (z 0).val = (z 0).val; omega)
    dsimp only
    rw [h0]
    refine (act_pay _ _ _ (z 0) (z 1)).trans ?_
    refine congrArg₂ gate (shard_at _ w s inb (z 0) (z 1) _ ?_) (shard_at _ w s' inb2 (z 0) (z 1) _ ?_)
    · show off + 1 * (z 1).val = _
      omega
    · show 2816 + (off + 1 * (z 1).val) = _
      omega
  intro pc hpc
  rcases List.mem_cons.mp hpc with rfl | hpc
  · exact key 1 3 inb_S4x1x1024x1408_S1x1x1024x1408_1_0_0_0 inb_S4x1x1024x1408_S1x1x1024x1408_3_0_0_0 1408 rfl rfl inb_S512x2816_S512x1408_0_1408
  rcases List.mem_cons.mp hpc with rfl | hpc
  · exact key 0 2 inb_S4x1x1024x1408_S1x1x1024x1408_0_0_0_0 inb_S4x1x1024x1408_S1x1x1024x1408_2_0_0_0 0 rfl rfl inb_S512x2816_S512x1408_0_0
  nomatch hpc

/-! ## The blocks -/

theorem index0_0 : ∀ t : Fin cfg0.N, (cfg0.win 0).index t 0 = t.val := by decide +kernel
theorem index0_1 : ∀ t : Fin cfg0.N, (cfg0.win 0).index t 1 = 0 := by decide +kernel
theorem index1_0 : ∀ t : Fin cfg0.N, (cfg0.win 1).index t 0 = 0 := by decide +kernel
theorem index1_1 : ∀ t : Fin cfg0.N, (cfg0.win 1).index t 1 = 0 := by decide +kernel
theorem index2_0 : ∀ t : Fin cfg0.N, (cfg0.win 2).index t 0 = 0 := by decide +kernel
theorem index2_1 : ∀ t : Fin cfg0.N, (cfg0.win 2).index t 1 = 0 := by decide +kernel
theorem index2_2 : ∀ t : Fin cfg0.N, (cfg0.win 2).index t 2 = 0 := by decide +kernel
theorem index2_3 : ∀ t : Fin cfg0.N, (cfg0.win 2).index t 3 = 0 := by decide +kernel
theorem index3_0 : ∀ t : Fin cfg0.N, (cfg0.win 3).index t 0 = t.val := by decide +kernel
theorem index3_1 : ∀ t : Fin cfg0.N, (cfg0.win 3).index t 1 = 0 := by decide +kernel
theorem index4_0 : ∀ t : Fin cfg0.N, (cfg0.win 4).index t 0 = t.val := by decide +kernel
theorem index4_1 : ∀ t : Fin cfg0.N, (cfg0.win 4).index t 1 = 0 := by decide +kernel
theorem index5_0 : ∀ t : Fin cfg0.N, (cfg0.win 5).index t 0 = t.val := by decide +kernel
theorem index5_1 : ∀ t : Fin cfg0.N, (cfg0.win 5).index t 1 = 0 := by decide +kernel

theorem read0 (t : Fin cfg0.N) (A : S4096x1024.Idx → Elt Ideal .f32) (l : Fin 512) (n : Fin 1024) (r : Fin 4096) (hr : r.val = t.val * 512 + l.val) :
    ((cfg0.win 0).blk t).view.read (Elt Ideal) A (ix2 l n) = A (ix2 r n) := by
  rw [View.read_apply]
  refine congrArg A (funext fun i => Fin.ext ?_)
  match i with
  | ⟨0, _⟩ => show (cfg0.win 0).index t 0 * 512 + 1 * l.val = r.val; rw [index0_0]; omega
  | ⟨1, _⟩ => show (cfg0.win 0).index t 1 * 1024 + 1 * n.val = n.val; rw [index0_1]; omega

theorem read1 (t : Fin cfg0.N) (A : S1x1024.Idx → Elt Ideal .f32) (k : Fin 1024) :
    ((cfg0.win 1).blk t).view.read (Elt Ideal) A (ix2 0 k) = A (ix2 0 k) := by
  rw [View.read_apply]
  refine congrArg A (funext fun i => Fin.ext ?_)
  match i with
  | ⟨0, _⟩ => show (cfg0.win 1).index t 0 * 1 + 1 * 0 = 0; rw [index1_0]
  | ⟨1, _⟩ => show (cfg0.win 1).index t 1 * 1024 + 1 * k.val = k.val; rw [index1_1]; omega

theorem read2 (t : Fin cfg0.N) (A : S4x2x1024x1408.Idx → Elt Ideal .bf16) (s : Fin 4) (k : Fin 1024) (n : Fin 1408) :
    ((cfg0.win 2).blk t).view.read (Elt Ideal) A (ix4 s 0 k n) = A (ix4 s 0 k n) := by
  rw [View.read_apply]
  refine congrArg A (funext fun i => Fin.ext ?_)
  match i with
  | ⟨0, _⟩ => show (cfg0.win 2).index t 0 * 4 + 1 * s.val = s.val; rw [index2_0]; omega
  | ⟨1, _⟩ => show (cfg0.win 2).index t 1 * 1 + 1 * 0 = 0; rw [index2_1]
  | ⟨2, _⟩ => show (cfg0.win 2).index t 2 * 1024 + 1 * k.val = k.val; rw [index2_2]; omega
  | ⟨3, _⟩ => show (cfg0.win 2).index t 3 * 1408 + 1 * n.val = n.val; rw [index2_3]; omega

theorem read3 (t : Fin cfg0.N) (A : S4096x5632.Idx → Elt Ideal .bf16) (l : Fin 512) (n : Fin 5632) (r : Fin 4096) (hr : r.val = t.val * 512 + l.val) :
    ((cfg0.win 3).blk t).view.read (Elt Ideal) A (ix2 l n) = A (ix2 r n) := by
  rw [View.read_apply]
  refine congrArg A (funext fun i => Fin.ext ?_)
  match i with
  | ⟨0, _⟩ => show (cfg0.win 3).index t 0 * 512 + 1 * l.val = r.val; rw [index3_0]; omega
  | ⟨1, _⟩ => show (cfg0.win 3).index t 1 * 5632 + 1 * n.val = n.val; rw [index3_1]; omega

theorem read4 (t : Fin cfg0.N) (A : S4096x1024.Idx → Elt Ideal .bf16) (l : Fin 512) (n : Fin 1024) (r : Fin 4096) (hr : r.val = t.val * 512 + l.val) :
    ((cfg0.win 4).blk t).view.read (Elt Ideal) A (ix2 l n) = A (ix2 r n) := by
  rw [View.read_apply]
  refine congrArg A (funext fun i => Fin.ext ?_)
  match i with
  | ⟨0, _⟩ => show (cfg0.win 4).index t 0 * 512 + 1 * l.val = r.val; rw [index4_0]; omega
  | ⟨1, _⟩ => show (cfg0.win 4).index t 1 * 1024 + 1 * n.val = n.val; rw [index4_1]; omega

theorem read5 (t : Fin cfg0.N) (A : S4096x2816.Idx → Elt Ideal .bf16) (l : Fin 512) (n : Fin 2816) (r : Fin 4096) (hr : r.val = t.val * 512 + l.val) :
    ((cfg0.win 5).blk t).view.read (Elt Ideal) A (ix2 l n) = A (ix2 r n) := by
  rw [View.read_apply]
  refine congrArg A (funext fun i => Fin.ext ?_)
  match i with
  | ⟨0, _⟩ => show (cfg0.win 5).index t 0 * 512 + 1 * l.val = r.val; rw [index5_0]; omega
  | ⟨1, _⟩ => show (cfg0.win 5).index t 1 * 2816 + 1 * n.val = n.val; rw [index5_1]; omega

variable (m : (ℓ : Loc nD τ sig) → Buf (Elt Ideal) ℓ) (ρ : Dev nD → PrngReg) (c : Dev nD)

theorem blk0 (t : Fin cfg0.N) (l : Fin 512) (k : Fin 1024) (r : Fin 4096) (hr : r.val = t.val * 512 + l.val) :
    iblk m c 0 t (ix2 l k) = V m c main_arg0 (ix2 r k) := by
  unfold iblk
  exact read0 t (V m c main_arg0) l k r hr

theorem blk1 (t : Fin cfg0.N) (k : Fin 1024) : iblk m c 1 t (ix2 0 k) = V m c main_v3 (ix2 0 k) := by
  unfold iblk
  exact read1 t (V m c main_v3) k

theorem blk2 (t : Fin cfg0.N) (s : Fin 4) (k : Fin 1024) (n : Fin 1408) : iblk m c 2 t (ix4 s 0 k n) = V m c main_v2 (ix4 s 0 k n) := by
  unfold iblk
  exact read2 t (V m c main_v2) s k n

/-- The gain, as the host lays it out for the call. -/
theorem host_v3 {F : FTy → Type} [FloatOps F] (V0 : Valuation τ sig (Elt F)) : after hostOps0 V0 (Proc.devRef .tc main_v3)
    = shapeCast S1x1024 (V0 (Proc.devRef .tc main_arg1) : FVec F S1024 .f32) shapeCasts_S1024_S1x1024 := by
  after_results_simp
  all_goals rfl

/-- The weights, as the host lays them out for the call. -/
theorem host_v2 {F : FTy → Type} [FloatOps F] (V0 : Valuation τ sig (Elt F)) : after hostOps0 V0 (Proc.devRef .tc main_v2)
    = transpose S4x2x1024x1408 [2, 0, 1, 3] (shapeCast S2x1024x4x1408 (truncf .bf16 (V0 (Proc.devRef .tc main_arg2) : FVec F S2x1024x5632 .f32) bitsLt_bf16_f32)
      shapeCasts_S2x1024x5632_S2x1024x4x1408) transposes_S2x1024x4x1408_S4x2x1024x1408_2_0_1_3 := by
  after_results_simp
  all_goals rfl

theorem V_v3 : @Eq (FVec Ideal S1x1024 .f32) (V m c main_v3) <| shapeCast S1x1024 (m ((c : Thread nD τ).loc main_arg1) : FVec Ideal S1024 .f32) shapeCasts_S1024_S1x1024 := by
  unfold V
  exact host_v3 _

theorem V_v2 : @Eq (FVec Ideal S4x2x1024x1408 .bf16) (V m c main_v2) <| transpose S4x2x1024x1408 [2, 0, 1, 3]
    (shapeCast S2x1024x4x1408 (truncf .bf16 (m ((c : Thread nD τ).loc main_arg2) : FVec Ideal S2x1024x5632 .f32) bitsLt_bf16_f32)
      shapeCasts_S2x1024x5632_S2x1024x4x1408) transposes_S2x1024x4x1408_S4x2x1024x1408_2_0_1_3 := by
  unfold V
  exact host_v2 _

theorem gain_at (x : FVec Ideal S1024 .f32) (k : Fin 1024) : (shapeCast S1x1024 x shapeCasts_S1024_S1x1024 (ix2 0 k) : EReal) = x (ix1 k) := by
  pointwise []

theorem weight_at (w : FVec Ideal S2x1024x5632 .f32) (j : Fin 4) (y : Fin 2) (k : Fin 1024) (n : Fin 1408) (q : Fin 5632) (hq : q.val = j.val * 1408 + n.val) :
    (transpose S4x2x1024x1408 [2, 0, 1, 3] (shapeCast S2x1024x4x1408 (truncf .bf16 w bitsLt_bf16_f32) shapeCasts_S2x1024x5632_S2x1024x4x1408)
      transposes_S2x1024x4x1408_S4x2x1024x1408_2_0_1_3 (ix4 j y k n) : EReal) = w (ix3 y k q) := by
  obtain ⟨q, hq'⟩ := q
  dsimp only at hq
  subst hq
  pointwise []

/-! ## The arrays -/

open Cert.Reference8Ideal.Read

/-- The reference's normalised input, entry by entry. -/
theorem ref_n (x0 : FVec Ideal Cert.Reference8Ideal.S4096x1024 .f32) (x1 : FVec Ideal Cert.Reference8Ideal.S1024 .f32)
    (r : Fin 4096) (k : Fin 1024) :
    val_main_v12 (F := Ideal) x0 x1 (ix2 r k) = x0 (ix2 r k) * Ideal.rsqrt (Ideal.div (∑ j : Fin 1024, x0 (ix2 r j) * x0 (ix2 r j)) (Ideal.ofBits FTy.f32 1149239296#32)
      + Ideal.ofBits FTy.f32 897988541#32) * x1 (ix1 k) := by
  unfold val_main_v12 val_main_v11 val_main_v10 val_main_v9 val_main_v8 val_main_v7 val_main_v6 val_main_v5 val_main_v4 val_main_v3 val_main_v2 val_main_v1 val_main_v0
    val_main_cst val_main_cst_0 val_main_cst_1
  pointwise []

/-- The reference's product, entry by entry. -/
theorem ref_gu (x0 : FVec Ideal Cert.Reference8Ideal.S4096x1024 .f32) (x1 : FVec Ideal Cert.Reference8Ideal.S1024 .f32) (x2 : FVec Ideal Cert.Reference8Ideal.S2x1024x5632 .f32)
    (r : Fin 4096) (q : Fin 5632) :
    val_main_v15 (F := Ideal) x0 x1 x2 (ix2 r q) = ∑ k : Fin 1024, (val_main_v12 (F := Ideal) x0 x1 (ix2 r k) : EReal) * x2 (ix3 0 k q) := by
  unfold val_main_v15 val_main_v14 val_main_v13
  generalize val_main_v12 (F := Ideal) x0 x1 = n
  pointwise []

/-- The reference's activation, entry by entry. -/
theorem ref_act (x0 : FVec Ideal Cert.Reference8Ideal.S4096x1024 .f32) (x1 : FVec Ideal Cert.Reference8Ideal.S1024 .f32) (x2 : FVec Ideal Cert.Reference8Ideal.S2x1024x5632 .f32)
    (r : Fin 4096) (q : Fin 2816) :
    val_main_v22 (F := Ideal) x0 x1 x2 (ix2 r q) = gate (val_main_v15 (F := Ideal) x0 x1 x2 (ix2 r (lo q))) (val_main_v15 (F := Ideal) x0 x1 x2 (ix2 r (hi q))) := by
  unfold val_main_v22 val_main_v21 val_main_v20 val_main_call0_v5 val_main_call0_v4 val_main_call0_v3 val_main_call0_v2 val_main_call0_v1 val_main_call0_v0 val_main_call0_cst val_main_call0_cst_0
    val_main_v19 val_main_v18
  generalize val_main_v15 (F := Ideal) x0 x1 x2 = n
  unfold gate
  rw [Cert.Ffn.sig_eq]
  pointwise []

theorem norm_block (t : Fin cfg0.N) (l : Fin 512) (k : Fin 1024) (r : Fin 4096) (hr : r.val = t.val * 512 + l.val) :
    k0_pay7 (F := Ideal) (iblk m c 0 t) (iblk m c 1 t) (ix2 l k) = val_main_v12 (F := Ideal) (m ((c : Thread nD τ).loc main_arg0)) (m ((c : Thread nD τ).loc main_arg1)) (ix2 r k) := by
  rw [nrm_at, ref_n]
  unfold nrm
  simp only [blk0 m c t l _ r hr, blk1, V_main_arg0]
  exact congrArg (_ * ·) ((congrFun (V_v3 m c) _).trans (gain_at _ k))

theorem prod_block (t : Fin cfg0.N) (l : Fin 512) (q : Fin 5632) (r : Fin 4096) (hr : r.val = t.val * 512 + l.val) :
    prod (k0_pay7 (F := Ideal) (iblk m c 0 t) (iblk m c 1 t)) (iblk m c 2 t) l q = val_main_v15 (F := Ideal) (m ((c : Thread nD τ).loc main_arg0)) (m ((c : Thread nD τ).loc main_arg1)) (m ((c : Thread nD τ).loc main_arg2)) (ix2 r q) := by
  rw [ref_gu]
  refine sum_congr rfl fun k _ => congrArg₂ (· * ·) (norm_block m c t l k r hr) ?_
  refine (blk2 m c t _ k _).trans ((congrFun (V_v2 m c) _).trans (weight_at _ _ _ _ _ q ?_))
  dsimp only
  omega

theorem mem_blk3 (t : Fin cfg0.N) (i : S4096x5632.Idx) :
    i ∈ ((cfg0.win 3).blk t).view.set ↔ ∀ a : Fin 2, win0_3.index t a * S512x5632.size a ≤ (i a).val ∧ (i a).val < win0_3.index t a * S512x5632.size a + S512x5632.size a := by
  show i ∈ ((View.whole main_v4_0).slice (win0_3.rect t)).set ↔ _
  rw [View.set_slice_whole, Rect.mem_set_unit]
  exact Iff.rfl

theorem mem_blk4 (t : Fin cfg0.N) (i : S4096x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v4_1).slice (win0_4.rect t)).set ↔ _
  rw [View.set_slice_whole, Rect.mem_set_unit]
  exact Iff.rfl

theorem mem_blk5 (t : Fin cfg0.N) (i : S4096x2816.Idx) :
    i ∈ ((cfg0.win 5).blk t).view.set ↔ ∀ a : Fin 2, win0_5.index t a * S512x2816.size a ≤ (i a).val ∧ (i a).val < win0_5.index t a * S512x2816.size a + S512x2816.size a := by
  show i ∈ ((View.whole main_v4_2).slice (win0_5.rect t)).set ↔ _
  rw [View.set_slice_whole, Rect.mem_set_unit]
  exact Iff.rfl

theorem result3 : (dats m 0 c).arrAt 3 cfg0.N = val_main_v16 (F := Ideal) (m ((c : Thread nD τ).loc main_arg0)) (m ((c : Thread nD τ).loc main_arg1)) (m ((c : Thread nD τ).loc main_arg2)) := by
  have hN : cfg0.N = 8 := N_0
  refine (dats m 0 c).arrAt_eq_of_cover 3 _ (fun t _ => ?_) (fun i => ?_)
  · rw [Value.flushed3, out3_eq]
    funext j
    rw [show j = ix2 (n0 := 512) (n1 := 5632) (j 0) (j 1) from (ix2_eta (n0 := 512) (n1 := 5632) j).symm]
    have hr : t.val * 512 + (j 0).val < 4096 := by have ht : t.val < 8 := lt_of_lt_of_eq t.isLt hN; have h : (j 0).val < 512 := (j 0).isLt; omega
    refine Eq.trans ?_ (read3 t _ (j 0) (j 1) ⟨_, hr⟩ rfl).symm
    exact prod_block m c t (j 0) (j 1) ⟨_, hr⟩ rfl
  · have hi0 : (i 0).val < 4096 := (i 0).isLt
    have hi1 : (i 1).val < 5632 := (i 1).isLt
    refine ⟨⟨(i 0).val / 512, by omega⟩, flush0_3 _, ?_⟩
    rw [mem_blk3]
    intro a
    match a with
    | ⟨0, _⟩ => show (cfg0.win 3).index _ 0 * 512 ≤ (i 0).val ∧ (i 0).val < (cfg0.win 3).index _ 0 * 512 + 512; rw [index3_0]; dsimp only; omega
    | ⟨1, _⟩ => show (cfg0.win 3).index _ 1 * 5632 ≤ (i 1).val ∧ (i 1).val < (cfg0.win 3).index _ 1 * 5632 + 5632; rw [index3_1]; omega

theorem result4 : (dats m 0 c).arrAt 4 cfg0.N = val_main_v17 (F := Ideal) (m ((c : Thread nD τ).loc main_arg0)) (m ((c : Thread nD τ).loc main_arg1)) := by
  have hN : cfg0.N = 8 := N_0
  refine (dats m 0 c).arrAt_eq_of_cover 4 _ (fun t _ => ?_) (fun i => ?_)
  · rw [Value.flushed4, out4_eq]
    funext j
    rw [show j = ix2 (n0 := 512) (n1 := 1024) (j 0) (j 1) from (ix2_eta (n0 := 512) (n1 := 1024) j).symm]
    have hr : t.val * 512 + (j 0).val < 4096 := by have ht : t.val < 8 := lt_of_lt_of_eq t.isLt hN; have h : (j 0).val < 512 := (j 0).isLt; omega
    refine Eq.trans ?_ (read4 t _ (j 0) (j 1) ⟨_, hr⟩ rfl).symm
    exact norm_block m c t (j 0) (j 1) ⟨_, hr⟩ rfl
  · have hi0 : (i 0).val < 4096 := (i 0).isLt
    have hi1 : (i 1).val < 1024 := (i 1).isLt
    refine ⟨⟨(i 0).val / 512, by omega⟩, flush0_4 _, ?_⟩
    rw [mem_blk4]
    intro a
    match a with
    | ⟨0, _⟩ => show (cfg0.win 4).index _ 0 * 512 ≤ (i 0).val ∧ (i 0).val < (cfg0.win 4).index _ 0 * 512 + 512; rw [index4_0]; dsimp only; omega
    | ⟨1, _⟩ => show (cfg0.win 4).index _ 1 * 1024 ≤ (i 1).val ∧ (i 1).val < (cfg0.win 4).index _ 1 * 1024 + 1024; rw [index4_1]; omega

theorem result5 : (dats m 0 c).arrAt 5 cfg0.N = val_main_v22 (F := Ideal) (m ((c : Thread nD τ).loc main_arg0)) (m ((c : Thread nD τ).loc main_arg1)) (m ((c : Thread nD τ).loc main_arg2)) := by
  have hN : cfg0.N = 8 := N_0
  refine (dats m 0 c).arrAt_eq_of_cover 5 _ (fun t _ => ?_) (fun i => ?_)
  · rw [Value.flushed5, out5_eq]
    funext j
    rw [show j = ix2 (n0 := 512) (n1 := 2816) (j 0) (j 1) from (ix2_eta (n0 := 512) (n1 := 2816) j).symm]
    have hr : t.val * 512 + (j 0).val < 4096 := by have ht : t.val < 8 := lt_of_lt_of_eq t.isLt hN; have h : (j 0).val < 512 := (j 0).isLt; omega
    refine Eq.trans ?_ (read5 t _ (j 0) (j 1) ⟨_, hr⟩ rfl).symm
    exact (congrArg₂ gate (prod_block m c t (j 0) (lo (j 1)) ⟨_, hr⟩ rfl) (prod_block m c t (j 0) (hi (j 1)) ⟨_, hr⟩ rfl)).trans (ref_act _ _ _ _ _).symm
  · have hi0 : (i 0).val < 4096 := (i 0).isLt
    have hi1 : (i 1).val < 2816 := (i 1).isLt
    refine ⟨⟨(i 0).val / 512, by omega⟩, flush0_5 _, ?_⟩
    rw [mem_blk5]
    intro a
    match a with
    | ⟨0, _⟩ => show (cfg0.win 5).index _ 0 * 512 ≤ (i 0).val ∧ (i 0).val < (cfg0.win 5).index _ 0 * 512 + 512; rw [index5_0]; dsimp only; omega
    | ⟨1, _⟩ => show (cfg0.win 5).index _ 1 * 2816 ≤ (i 1).val ∧ (i 1).val < (cfg0.win 5).index _ 1 * 2816 + 2816; rw [index5_1]; omega

theorem run : θ_run defs (onTc (τ := τ) (main (F := Ideal))) ⟨m, fun _ => 0, ρ⟩ fun r => ∀ c : Dev nD,
      r.2.mem ((c : Thread nD τ).loc main_v4_0) = val_main_v16 (F := Ideal) (m ((c : Thread nD τ).loc main_arg0)) (m ((c : Thread nD τ).loc main_arg1)) (m ((c : Thread nD τ).loc main_arg2))
      ∧ r.2.mem ((c : Thread nD τ).loc main_v4_1) = val_main_v17 (F := Ideal) (m ((c : Thread nD τ).loc main_arg0)) (m ((c : Thread nD τ).loc main_arg1))
      ∧ r.2.mem ((c : Thread nD τ).loc main_v4_2) = val_main_v22 (F := Ideal) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (result3 m c), (h c).2.1.trans (result4 m c), (h c).2.2.1.trans (result5 m c), (h c).2.2.2⟩) (Value.run_blocks m ρ)

end Cert.Kernel8Ideal.Ffn

end
-- ==== Proof.Ffn.MixInDw.lean ====
/- The gradient of the first layer's mixer's input projection: the product of the normalised input with the projection's gradient,
   four column blocks of two half sums each. -/
module

public import proofs.«01_k».proof.Proof.Gen.Kernel10Ideal.Value
public import proofs.«01_k».proof.Proof.Gen.Reference10Ideal.Read
public import proofs.«01_k».proof.Proof.Gen.Reference10Ideal.Run
public import Idealize.ShloMosaic.Lib.Pointwise
public import Idealize.ShloMosaic.Lib.Tactic

@[expose] public section

set_option maxRecDepth 16384

noncomputable section

namespace Cert.Kernel10Ideal.Ffn

open Idealize.ShloMosaic Idealize.ShloMosaic.TcCoe Idealize.ShloMosaic.StableHlo Cert.Kernel10Ideal Cert.Kernel10Ideal.Gen Finset Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

section cases
variable {F : FTy → Type} [FloatOps F]

/-- The first half sum of a block. -/
theorem first (c : Dev nD) (i : grid0.Coords) (a3 : Memref sig .tc .vmem S2048x1024 .bf16) (h3 : a3.IsWhole) (a4 : Memref sig .tc .vmem S2048x896 .bf16)
    (h4 : a4.IsWhole) (a5 : Memref sig .tc .vmem S1x1024x896 .bf16) (h5 : a5.IsWhole) (a6 : Memref sig .tc .vmem S1024x896 .f32) (h6 : a6.IsWhole)
    (hc0 : cond0_0 i) (hc1 : ¬cond0_1 i) (x0 : Vec F S2048x1024 .bf16) (x1 : Vec F S2048x896 .bf16) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x896) hz2, View.readCov_unit_zero (S := S1024x896) _ hz2]
  simp only [View.readAt_eq_ld, h3.read_unread, h4.read_unread, View.ld_unit_zero (S := S2048x1024) hz2, View.ld_unit_zero (S := S2048x896) hz2]

/-- What a block is written with: the second half sum on the first. -/
theorem second (c : Dev nD) (i : grid0.Coords) (a3 : Memref sig .tc .vmem S2048x1024 .bf16) (h3 : a3.IsWhole) (a4 : Memref sig .tc .vmem S2048x896 .bf16)
    (h4 : a4.IsWhole) (a5 : Memref sig .tc .vmem S1x1024x896 .bf16) (h5 : a5.IsWhole) (a6 : Memref sig .tc .vmem S1024x896 .f32) (h6 : a6.IsWhole)
    (hc0 : ¬cond0_0 i) (hc1 : cond0_1 i) (x0 : Vec F S2048x1024 .bf16) (x1 : Vec F S2048x896 .bf16) (xs : Vec F S1024x896 .f32) :
    out0_B_2 c i a3 h3 a4 h4 a5 h5 a6 h6 hc0 hc1 x0 x1 xs = k0_pay3 (k0_pay2 xs x0 x1) := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero hz3, View.readCov_unit_zero (S := S1024x896) _ hz2]
  simp only [View.readAt_eq_ld, h3.read_unread, h4.read_unread, h6.read_unread, View.ld_unit_zero (S := S2048x1024) hz2,
    View.ld_unit_zero (S := S2048x896) hz2, View.ld_unit_zero (S := S1024x896) hz2]
end cases

/-- The two half sums of a block, entry by entry. -/
theorem halves (a a' : Vec Ideal S2048x1024 .bf16) (b b' : Vec Ideal S2048x896 .bf16) (k : Fin 1024) (n : Fin 896) :
    k0_pay3 (F := Ideal) (k0_pay2 (k0_pay2 k0_pay1 a b) a' b') (ix3 0 k n)
      = (∑ l : Fin 2048, a (ix2 l k) * b (ix2 l n)) + ∑ l : Fin 2048, a' (ix2 l k) * b' (ix2 l n) := by
  pointwise [k0_pay3, k0_pay2, k0_pay1]

/-! ## The blocks -/

theorem index0_0 : ∀ t : Fin cfg0.N, (cfg0.win 0).index t 0 = t.val % 2 := by decide +kernel
theorem index0_1 : ∀ t : Fin cfg0.N, (cfg0.win 0).index t 1 = 0 := by decide +kernel
theorem index1_0 : ∀ t : Fin cfg0.N, (cfg0.win 1).index t 0 = t.val % 2 := by decide +kernel
theorem index1_1 : ∀ t : Fin cfg0.N, (cfg0.win 1).index t 1 = t.val / 2 := by decide +kernel

/-- Row `l` of half `e`. -/
abbrev half (e : Fin 2) (l : Fin 2048) : Fin 4096 := ⟨2048 * e.val + l.val, by omega⟩
/-- Column `n` of shard `s`. -/
abbrev col (s : Fin 4) (n : Fin 896) : Fin 3584 := ⟨s.val * 896 + n.val, by omega⟩

theorem read0 (t : Fin cfg0.N) (e : Fin 2) (he : t.val % 2 = e.val) (A : S4096x1024.Idx → Elt Ideal .bf16) (l : Fin 2048) (k : Fin 1024) :
    ((cfg0.win 0).blk t).view.read (Elt Ideal) A (ix2 l k) = A (ix2 (half e l) k) := by
  rw [View.read_apply]
  refine congrArg A (funext fun i => Fin.ext ?_)
  match i with
  | ⟨0, _⟩ => show (cfg0.win 0).index t 0 * 2048 + 1 * l.val = 2048 * e.val + l.val; rw [index0_0]; omega
  | ⟨1, _⟩ => show (cfg0.win 0).index t 1 * 1024 + 1 * k.val = k.val; rw [index0_1]; omega

theorem read1 (t : Fin cfg0.N) (e : Fin 2) (he : t.val % 2 = e.val) (s : Fin 4) (hs : t.val / 2 = s.val) (A : S4096x3584.Idx → Elt Ideal .bf16)
    (l : Fin 2048) (n : Fin 896) :
    ((cfg0.win 1).blk t).view.read (Elt Ideal) A (ix2 l n) = A (ix2 (half e l) (col s n)) := by
  rw [View.read_apply]
  refine congrArg A (funext fun i => Fin.ext ?_)
  match i with
  | ⟨0, _⟩ => show (cfg0.win 1).index t 0 * 2048 + 1 * l.val = 2048 * e.val + l.val; rw [index1_0]; omega
  | ⟨1, _⟩ => show (cfg0.win 1).index t 1 * 896 + 1 * n.val = s.val * 896 + n.val; rw [index1_1]; omega

variable (m : (ℓ : Loc nD τ sig) → Buf (Elt Ideal) ℓ) (ρ : Dev nD → PrngReg) (c : Dev nD)

theorem blk0 (t : Fin cfg0.N) (e : Fin 2) (he : t.val % 2 = e.val) (l : Fin 2048) (k : Fin 1024) :
    iblk m c 0 t (ix2 l k) = V m c main_v13 (ix2 (half e l) k) := by
  unfold iblk
  exact read0 t e he (V m c main_v13) l k

theorem blk1 (t : Fin cfg0.N) (e : Fin 2) (he : t.val % 2 = e.val) (s : Fin 4) (hs : t.val / 2 = s.val) (l : Fin 2048) (n : Fin 896) :
    iblk m c 1 t (ix2 l n) = V m c main_arg3 (ix2 (half e l) (col s n)) := by
  unfold iblk
  exact read1 t e he s hs (V m c main_arg3) l n

/-- The normalised input, as the host prepares it for the call. -/
theorem host_v13 {F : FTy → Type} [FloatOps F] (V0 : Valuation τ sig (Elt F)) : after hostOps0 V0 (Proc.devRef .tc main_v13)
    = truncf .bf16 (Cert.Reference10Ideal.Read.val_main_v12 (F := F) (V0 (Proc.devRef .tc main_arg0)) (V0 (Proc.devRef .tc main_arg1))) bitsLt_bf16_f32 := by
  after_results_simp
  all_goals rfl

theorem V_v13 : @Eq (FVec Ideal S4096x1024 .bf16) (V m c main_v13) <|
    truncf .bf16 (Cert.Reference10Ideal.Read.val_main_v12 (F := Ideal) (m ((c : Thread nD τ).loc main_arg0)) (m ((c : Thread nD τ).loc main_arg1))) bitsLt_bf16_f32 := by
  unfold V
  exact host_v13 _

/-! ## The array -/

/-- What shard `s` is written with. -/
theorem shard (s : Fin 4) (h : 2 * s.val + 1 < cfg0.N) (h' : 2 * s.val < cfg0.N) :
    (outsAt0 m c (2 * s.val + 1) h).1 = k0_pay3 (k0_pay2 (k0_pay2 k0_pay1 (iblk m c 0 ⟨2 * s.val, h'⟩) (iblk m c 1 ⟨2 * s.val, h'⟩))
      (iblk m c 0 ⟨2 * s.val + 1, h⟩) (iblk m c 1 ⟨2 * s.val + 1, h⟩)) := by
  rw [outsAt0_B m c ⟨2 * s.val + 1, h⟩ (by dsimp only; omega) (by dsimp only; omega)]
  dsimp only
  rw [second]
  show k0_pay3 (k0_pay2 (outsAt0 m c (2 * s.val) _).2 _ _) = _
  rw [outsAt0_A m c ⟨2 * s.val, h'⟩ (by dsimp only; omega) (by dsimp only; omega)]
  dsimp only
  rw [first]

theorem sum_halves (f : Fin 4096 → EReal) : ∑ l, f l = (∑ l : Fin 2048, f (half 0 l)) + ∑ l : Fin 2048, f (half 1 l) := by
  rw [show (∑ l, f l) = ∑ l : Fin (2048 + 2048), f l from rfl, Fin.sum_univ_add]
  refine congrArg₂ (· + ·) (sum_congr rfl fun l _ => congrArg f (Fin.ext ?_)) (sum_congr rfl fun l _ => congrArg f (Fin.ext ?_))
  · show l.val = 2048 * 0 + l.val; omega
  · show 2048 + l.val = 2048 * 1 + l.val; omega

/-- Entry `(k, n)` of shard `s` of `aᵀ b`. -/
abbrev tn (a : S4096x1024.Idx → EReal) (b : S4096x3584.Idx → EReal) (s : Fin 4) (k : Fin 1024) (n : Fin 896) : EReal :=
  ∑ l : Fin 4096, a (ix2 l k) * b (ix2 l (col s n))

theorem G2_at (s : Fin 4) (k : Fin 1024) (n : Fin 896) :
    Value.G2 m c (ix3 s k n) = tn (V m c main_v13) (V m c main_arg3) s k n := by
  have hN : cfg0.N = 8 := N_0
  have hp : Value.pt2Of (ix3 s k n) = 2 * s.val + 1 := by
    show 2 * (1 * (s.val / 1 - 0) + 1 * (k.val / 1024 - 0) + 1 * (n.val / 896 - 0)) + 1 = _; omega
  have hl : Value.loc2Of (ix3 s k n) = ix3 0 k n := by
    funext a; apply Fin.ext
    match a with
    | ⟨0, _⟩ => show s.val % 1 = 0; omega
    | ⟨1, _⟩ => show k.val % 1024 = k.val; omega
    | ⟨2, _⟩ => show n.val % 896 = n.val; omega
  have h1 : 2 * s.val + 1 < cfg0.N := by omega
  have h0 : 2 * s.val < cfg0.N := by omega
  unfold Value.G2
  rw [dif_pos (by rw [hp]; exact h1), hl, Value.fold0_congr m c _ _ (2 * s.val + 1) (by omega) hp, ← Value.outsAt0_sweep m c (2 * s.val + 1) h1,
    shard m c s h1 h0, halves]
  unfold tn
  rw [sum_halves]
  simp only [blk0 m c ⟨2 * s.val, h0⟩ 0 (by show 2 * s.val % 2 = 0; omega), blk0 m c ⟨2 * s.val + 1, h1⟩ 1 (by show (2 * s.val + 1) % 2 = 1; omega),
    blk1 m c ⟨2 * s.val, h0⟩ 0 (by show 2 * s.val % 2 = 0; omega) s (by show 2 * s.val / 2 = s.val; omega),
    blk1 m c ⟨2 * s.val + 1, h1⟩ 1 (by show (2 * s.val + 1) % 2 = 1; omega) s (by show (2 * s.val + 1) / 2 = s.val; omega)]

/-- The reference's gradient of the weights, entry by entry. -/
theorem ref_at (x0 : FVec Ideal Cert.Reference10Ideal.S4096x1024 .f32) (x1 : FVec Ideal Cert.Reference10Ideal.S1024 .f32)
    (x3 : FVec Ideal Cert.Reference10Ideal.S4096x3584 .bf16) (s : Fin 4) (k : Fin 1024) (n : Fin 896) :
    Cert.Reference10Ideal.Read.val_main_v19 (F := Ideal) x0 x1 x3 (ix3 s k n)
      = tn (Cert.Reference10Ideal.Read.val_main_v12 (F := Ideal) x0 x1) x3 s k n := by
  unfold Cert.Reference10Ideal.Read.val_main_v19 Cert.Reference10Ideal.Read.val_main_v18 Cert.Reference10Ideal.Read.val_main_v17 Cert.Reference10Ideal.Read.val_main_v16 Cert.Reference10Ideal.Read.val_main_v15 Cert.Reference10Ideal.Read.val_main_v14
  generalize Cert.Reference10Ideal.Read.val_main_v12 (F := Ideal) x0 x1 = w
  pointwise []
  exact sum_congr rfl fun l _ => mul_comm _ _

/-- The call computes the reference's gradient. -/
theorem result : Value.G2 m c = Cert.Reference10Ideal.Read.val_main_v19 (F := Ideal) (m ((c : Thread nD τ).loc main_arg0)) (m ((c : Thread nD τ).loc main_arg1))
    (m ((c : Thread nD τ).loc main_arg3)) := by
  funext i
  rw [show i = ix3 (n0 := 4) (n1 := 1024) (n2 := 896) (i 0) (i 1) (i 2) from (ix3_eta (n0 := 4) (n1 := 1024) (n2 := 896) i).symm]
  refine (G2_at m c (i 0) (i 1) (i 2)).trans (Eq.trans ?_ (ref_at _ _ _ (i 0) (i 1) (i 2)).symm)
  rw [V_main_arg3]
  exact congrArg (fun a => tn a (m ((c : Thread nD τ).loc main_arg3)) (i 0) (i 1) (i 2)) (V_v13 m c)

theorem run : θ_run defs (onTc (τ := τ) (main (F := Ideal))) ⟨m, fun _ => 0, ρ⟩ fun r => ∀ c : Dev nD,
      r.2.mem ((c : Thread nD τ).loc main_v14) = Cert.Reference10Ideal.Read.val_main_v19 (F := Ideal) (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (result m c), (h c).2⟩) (Value.run m ρ)

end Cert.Kernel10Ideal.Ffn

end
-- ==== Proof.Ffn.MixOutDw.lean ====
/- The gradient of the first layer's mixer's output projection: the product of the mixers' outputs with the gradient of the
   layer's, two row blocks of two half sums each. -/
module

public import proofs.«01_k».proof.Proof.Gen.Kernel12Ideal.Value
public import proofs.«01_k».proof.Proof.Gen.Reference12Ideal.Read
public import proofs.«01_k».proof.Proof.Gen.Reference12Ideal.Run
public import Idealize.ShloMosaic.Lib.Pointwise
public import Idealize.ShloMosaic.Lib.Tactic

@[expose] public section

set_option maxRecDepth 16384

noncomputable section

namespace Cert.Kernel12Ideal.Ffn

open Idealize.ShloMosaic Idealize.ShloMosaic.TcCoe Idealize.ShloMosaic.StableHlo Cert.Kernel12Ideal Cert.Kernel12Ideal.Gen Finset Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

section cases
variable {F : FTy → Type} [FloatOps F]

/-- The first half sum of a block. -/
theorem first (c : Dev nD) (i : grid0.Coords) (a3 : Memref sig .tc .vmem S2048x768 .bf16) (h3 : a3.IsWhole) (a4 : Memref sig .tc .vmem S2048x1024 .f32)
    (h4 : a4.IsWhole) (a5 : Memref sig .tc .vmem S1x768x1024 .bf16) (h5 : a5.IsWhole) (a6 : Memref sig .tc .vmem S768x1024 .f32) (h6 : a6.IsWhole)
    (hc0 : cond0_0 i) (hc1 : ¬cond0_1 i) (x0 : Vec F S2048x768 .bf16) (x1 : Vec F S2048x1024 .f32) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S768x1024) hz2, View.readCov_unit_zero (S := S768x1024) _ hz2]
  simp only [View.readAt_eq_ld, h3.read_unread, h4.read_unread, View.ld_unit_zero (S := S2048x768) hz2, View.ld_unit_zero (S := S2048x1024) hz2]

/-- What a block is written with: the second half sum on the first. -/
theorem second (c : Dev nD) (i : grid0.Coords) (a3 : Memref sig .tc .vmem S2048x768 .bf16) (h3 : a3.IsWhole) (a4 : Memref sig .tc .vmem S2048x1024 .f32)
    (h4 : a4.IsWhole) (a5 : Memref sig .tc .vmem S1x768x1024 .bf16) (h5 : a5.IsWhole) (a6 : Memref sig .tc .vmem S768x1024 .f32) (h6 : a6.IsWhole)
    (hc0 : ¬cond0_0 i) (hc1 : cond0_1 i) (x0 : Vec F S2048x768 .bf16) (x1 : Vec F S2048x1024 .f32) (xs : Vec F S768x1024 .f32) :
    out0_B_2 c i a3 h3 a4 h4 a5 h5 a6 h6 hc0 hc1 x0 x1 xs = k0_pay3 (k0_pay2 xs x0 x1) := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero hz3, View.readCov_unit_zero (S := S768x1024) _ hz2]
  simp only [View.readAt_eq_ld, h3.read_unread, h4.read_unread, h6.read_unread, View.ld_unit_zero (S := S2048x1024) hz2,
    View.ld_unit_zero (S := S2048x768) hz2, View.ld_unit_zero (S := S768x1024) hz2]
end cases

/-- The two half sums of a block, entry by entry. -/
theorem halves (a a' : Vec Ideal S2048x768 .bf16) (b b' : Vec Ideal S2048x1024 .f32) (k : Fin 768) (n : Fin 1024) :
    k0_pay3 (F := Ideal) (k0_pay2 (k0_pay2 k0_pay1 a b) a' b') (ix3 0 k n)
      = (∑ l : Fin 2048, a (ix2 l k) * b (ix2 l n)) + ∑ l : Fin 2048, a' (ix2 l k) * b' (ix2 l n) := by
  pointwise [k0_pay3, k0_pay2, k0_pay1]

/-! ## The blocks -/

theorem index0_0 : ∀ t : Fin cfg0.N, (cfg0.win 0).index t 0 = t.val % 2 := by decide +kernel
theorem index0_1 : ∀ t : Fin cfg0.N, (cfg0.win 0).index t 1 = t.val / 2 := by decide +kernel
theorem index1_0 : ∀ t : Fin cfg0.N, (cfg0.win 1).index t 0 = t.val % 2 := by decide +kernel
theorem index1_1 : ∀ t : Fin cfg0.N, (cfg0.win 1).index t 1 = 0 := by decide +kernel

/-- Row `l` of half `e`. -/
abbrev half (e : Fin 2) (l : Fin 2048) : Fin 4096 := ⟨2048 * e.val + l.val, by omega⟩

theorem read0 (t : Fin cfg0.N) (e : Fin 2) (he : t.val % 2 = e.val) (A : S4096x1536.Idx → Elt Ideal .bf16) (l : Fin 2048) (k : Fin 768) (q : Fin 1536)
    (hq : q.val = t.val / 2 * 768 + k.val) :
    ((cfg0.win 0).blk t).view.read (Elt Ideal) A (ix2 l k) = A (ix2 (half e l) q) := by
  rw [View.read_apply]
  refine congrArg A (funext fun i => Fin.ext ?_)
  match i with
  | ⟨0, _⟩ => show (cfg0.win 0).index t 0 * 2048 + 1 * l.val = 2048 * e.val + l.val; rw [index0_0]; omega
  | ⟨1, _⟩ => show (cfg0.win 0).index t 1 * 768 + 1 * k.val = q.val; rw [index0_1]; omega

theorem read1 (t : Fin cfg0.N) (e : Fin 2) (he : t.val % 2 = e.val) (A : S4096x1024.Idx → Elt Ideal .f32)
    (l : Fin 2048) (n : Fin 1024) :
    ((cfg0.win 1).blk t).view.read (Elt Ideal) A (ix2 l n) = A (ix2 (half e l) n) := by
  rw [View.read_apply]
  refine congrArg A (funext fun i => Fin.ext ?_)
  match i with
  | ⟨0, _⟩ => show (cfg0.win 1).index t 0 * 2048 + 1 * l.val = 2048 * e.val + l.val; rw [index1_0]; omega
  | ⟨1, _⟩ => show (cfg0.win 1).index t 1 * 1024 + 1 * n.val = n.val; rw [index1_1]; omega

variable (m : (ℓ : Loc nD τ sig) → Buf (Elt Ideal) ℓ) (ρ : Dev nD → PrngReg) (c : Dev nD)

theorem blk0 (t : Fin cfg0.N) (e : Fin 2) (he : t.val % 2 = e.val) (l : Fin 2048) (k : Fin 768) (q : Fin 1536)
    (hq : q.val = t.val / 2 * 768 + k.val) : iblk m c 0 t (ix2 l k) = V m c main_arg0 (ix2 (half e l) q) := by
  unfold iblk
  exact read0 t e he (V m c main_arg0) l k q hq

theorem blk1 (t : Fin cfg0.N) (e : Fin 2) (he : t.val % 2 = e.val) (l : Fin 2048) (n : Fin 1024) :
    iblk m c 1 t (ix2 l n) = V m c main_arg2 (ix2 (half e l) n) := by
  unfold iblk
  exact read1 t e he (V m c main_arg2) l n

/-! ## The array -/

/-- What row block `s` is written with. -/
theorem shard (s : Fin 2) (h : 2 * s.val + 1 < cfg0.N) (h' : 2 * s.val < cfg0.N) :
    (outsAt0 m c (2 * s.val + 1) h).1 = k0_pay3 (k0_pay2 (k0_pay2 k0_pay1 (iblk m c 0 ⟨2 * s.val, h'⟩) (iblk m c 1 ⟨2 * s.val, h'⟩))
      (iblk m c 0 ⟨2 * s.val + 1, h⟩) (iblk m c 1 ⟨2 * s.val + 1, h⟩)) := by
  rw [outsAt0_B m c ⟨2 * s.val + 1, h⟩ (by dsimp only; omega) (by dsimp only; omega)]
  dsimp only
  rw [second]
  show k0_pay3 (k0_pay2 (outsAt0 m c (2 * s.val) _).2 _ _) = _
  rw [outsAt0_A m c ⟨2 * s.val, h'⟩ (by dsimp only; omega) (by dsimp only; omega)]
  dsimp only
  rw [first]

theorem sum_halves (f : Fin 4096 → EReal) : ∑ l, f l = (∑ l : Fin 2048, f (half 0 l)) + ∑ l : Fin 2048, f (half 1 l) := by
  rw [show (∑ l, f l) = ∑ l : Fin (2048 + 2048), f l from rfl, Fin.sum_univ_add]
  refine congrArg₂ (· + ·) (sum_congr rfl fun l _ => congrArg f (Fin.ext ?_)) (sum_congr rfl fun l _ => congrArg f (Fin.ext ?_))
  · show l.val = 2048 * 0 + l.val; omega
  · show 2048 + l.val = 2048 * 1 + l.val; omega

/-- Entry `(k, n)` of `aᵀ b`. -/
abbrev tn (a : S4096x1536.Idx → EReal) (b : S4096x1024.Idx → EReal) (k : Fin 1536) (n : Fin 1024) : EReal :=
  ∑ l : Fin 4096, a (ix2 l k) * b (ix2 l n)

theorem G2_at (z : Fin 1) (k : Fin 1536) (n : Fin 1024) :
    Value.G2 m c (ix3 z k n) = tn (V m c main_arg0) (V m c main_arg2) k n := by
  have hN : cfg0.N = 4 := N_0
  obtain ⟨s, hs⟩ : ∃ s : Fin 2, s.val = k.val / 768 := ⟨⟨k.val / 768, by omega⟩, rfl⟩
  obtain ⟨k', hk⟩ : ∃ k' : Fin 768, k'.val = k.val % 768 := ⟨⟨k.val % 768, by omega⟩, rfl⟩
  have hp : Value.pt2Of (ix3 z k n) = 2 * s.val + 1 := by
    show 2 * (2 * (z.val / 1 - 0) + 1 * (k.val / 768 - 0) + 1 * (n.val / 1024 - 0)) + 1 = _; omega
  have hl : Value.loc2Of (ix3 z k n) = ix3 0 k' n := by
    funext a; apply Fin.ext
    match a with
    | ⟨0, _⟩ => show z.val % 1 = 0; omega
    | ⟨1, _⟩ => show k.val % 768 = k'.val; omega
    | ⟨2, _⟩ => show n.val % 1024 = n.val; omega
  have h1 : 2 * s.val + 1 < cfg0.N := by omega
  have h0 : 2 * s.val < cfg0.N := by omega
  unfold Value.G2
  rw [dif_pos (by rw [hp]; exact h1), hl, Value.fold0_congr m c _ _ (2 * s.val + 1) (by omega) hp, ← Value.outsAt0_sweep m c (2 * s.val + 1) h1,
    shard m c s h1 h0, halves]
  unfold tn
  rw [sum_halves]
  simp only [blk0 m c ⟨2 * s.val, h0⟩ 0 (by show 2 * s.val % 2 = 0; omega) _ k' k (by show _ = 2 * s.val / 2 * 768 + _; omega),
    blk0 m c ⟨2 * s.val + 1, h1⟩ 1 (by show (2 * s.val + 1) % 2 = 1; omega) _ k' k (by show _ = (2 * s.val + 1) / 2 * 768 + _; omega),
    blk1 m c ⟨2 * s.val, h0⟩ 0 (by show 2 * s.val % 2 = 0; omega),
    blk1 m c ⟨2 * s.val + 1, h1⟩ 1 (by show (2 * s.val + 1) % 2 = 1; omega)]

/-- The reference's gradient of the weights, entry by entry. -/
theorem ref_at (x0 : FVec Ideal Cert.Reference12Ideal.S4096x1536 .bf16) (x2 : FVec Ideal Cert.Reference12Ideal.S4096x1024 .f32)
    (z : Fin 1) (k : Fin 1536) (n : Fin 1024) :
    Cert.Reference12Ideal.Read.val_main_v5 (F := Ideal) x0 x2 (ix3 z k n) = tn x0 x2 k n := by
  unfold Cert.Reference12Ideal.Read.val_main_v5 Cert.Reference12Ideal.Read.val_main_v4 Cert.Reference12Ideal.Read.val_main_v3
    Cert.Reference12Ideal.Read.val_main_v2 Cert.Reference12Ideal.Read.val_main_v0
  pointwise []
  exact sum_congr rfl fun l _ => mul_comm (G := EReal) _ _

/-- The call computes the reference's gradient. -/
theorem result : Value.G2 m c = Cert.Reference12Ideal.Read.val_main_v5 (F := Ideal) (m ((c : Thread nD τ).loc main_arg0)) (m ((c : Thread nD τ).loc main_arg2)) := by
  funext i
  rw [show i = ix3 (n0 := 1) (n1 := 1536) (n2 := 1024) (i 0) (i 1) (i 2) from (ix3_eta (n0 := 1) (n1 := 1536) (n2 := 1024) i).symm]
  refine (G2_at m c (i 0) (i 1) (i 2)).trans (Eq.trans ?_ (ref_at _ _ (i 0) (i 1) (i 2)).symm)
  rw [V_main_arg2, V_main_arg0]

theorem run : θ_run defs (onTc (τ := τ) (main (F := Ideal))) ⟨m, fun _ => 0, ρ⟩ fun r => ∀ c : Dev nD,
      r.2.mem ((c : Thread nD τ).loc main_v0) = Cert.Reference12Ideal.Read.val_main_v5 (F := Ideal) (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (result m c), (h c).2⟩) (Value.run m ρ)

end Cert.Kernel12Ideal.Ffn

end
-- ==== Proof.Ffn.MixOut.lean ====
/- The first layer's mixer's output projection with the residual: the product of the mixers' outputs with the weights, on the
   layer's input, eight row blocks. -/
module

public import proofs.«01_k».proof.Proof.Gen.Kernel13Ideal.Value
public import proofs.«01_k».proof.Proof.Gen.Reference13Ideal.Read
public import proofs.«01_k».proof.Proof.Gen.Reference13Ideal.Run
public import Idealize.ShloMosaic.Lib.Pointwise
public import Idealize.ShloMosaic.Lib.Tactic

@[expose] public section

set_option maxRecDepth 16384

noncomputable section

namespace Cert.Kernel13Ideal.Ffn

open Idealize.ShloMosaic Idealize.ShloMosaic.TcCoe Idealize.ShloMosaic.StableHlo Cert.Kernel13Ideal Cert.Kernel13Ideal.Gen Finset Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-- What a point writes, of its blocks. -/
theorem out_eq {F : FTy → Type} [FloatOps F] (x0 : Vec F S512x1536 .bf16) (x1 : Vec F S1x1536x1024 .bf16) (x2 : Vec F S512x1024 .f32) :
    out0_3 x0 x1 x2 = k0_pay1 x0 x1 x2 := by
  unfold out0_3
  rw [View.canon_unit_zero hz2, View.ld_unit_zero (S := S512x1536) hz2, View.ld_unit_zero (S := S1x1536x1024) hz3, View.ld_unit_zero (S := S512x1024) hz2]

theorem pay_at (a : Vec Ideal S512x1536 .bf16) (b : Vec Ideal S1x1536x1024 .bf16) (h : Vec Ideal S512x1024 .f32) (l : Fin 512) (n : Fin 1024) :
    k0_pay1 (F := Ideal) a b h (ix2 l n) = (∑ k : Fin 1536, a (ix2 l k) * b (ix3 0 k n)) + h (ix2 l n) := by
  pointwise [k0_pay1]

/-! ## The blocks -/

theorem index0_0 : ∀ t : Fin cfg0.N, (cfg0.win 0).index t 0 = t.val := by decide +kernel
theorem index0_1 : ∀ t : Fin cfg0.N, (cfg0.win 0).index t 1 = 0 := by decide +kernel
theorem index1_0 : ∀ t : Fin cfg0.N, (cfg0.win 1).index t 0 = 0 := by decide +kernel
theorem index1_1 : ∀ t : Fin cfg0.N, (cfg0.win 1).index t 1 = 0 := by decide +kernel
theorem index1_2 : ∀ t : Fin cfg0.N, (cfg0.win 1).index t 2 = 0 := by decide +kernel
theorem index2_0 : ∀ t : Fin cfg0.N, (cfg0.win 2).index t 0 = t.val := by decide +kernel
theorem index2_1 : ∀ t : Fin cfg0.N, (cfg0.win 2).index t 1 = 0 := by decide +kernel
theorem index3_0 : ∀ t : Fin cfg0.N, (cfg0.win 3).index t 0 = t.val := by decide +kernel
theorem index3_1 : ∀ t : Fin cfg0.N, (cfg0.win 3).index t 1 = 0 := by decide +kernel

theorem read0 (t : Fin cfg0.N) (A : S4096x1536.Idx → Elt Ideal .bf16) (l : Fin 512) (k : Fin 1536) (r : Fin 4096) (hr : r.val = t.val * 512 + l.val) :
    ((cfg0.win 0).blk t).view.read (Elt Ideal) A (ix2 l k) = A (ix2 r k) := by
  rw [View.read_apply]
  refine congrArg A (funext fun i => Fin.ext ?_)
  match i with
  | ⟨0, _⟩ => show (cfg0.win 0).index t 0 * 512 + 1 * l.val = r.val; rw [index0_0]; omega
  | ⟨1, _⟩ => show (cfg0.win 0).index t 1 * 1536 + 1 * k.val = k.val; rw [index0_1]; omega

theorem read1 (t : Fin cfg0.N) (A : S1x1536x1024.Idx → Elt Ideal .bf16) (k : Fin 1536) (n : Fin 1024) :
    ((cfg0.win 1).blk t).view.read (Elt Ideal) A (ix3 0 k n) = A (ix3 0 k n) := by
  rw [View.read_apply]
  refine congrArg A (funext fun i => Fin.ext ?_)
  match i with
  | ⟨0, _⟩ => show (cfg0.win 1).index t 0 * 1 + 1 * 0 = 0; rw [index1_0]
  | ⟨1, _⟩ => show (cfg0.win 1).index t 1 * 1536 + 1 * k.val = k.val; rw [index1_1]; omega
  | ⟨2, _⟩ => show (cfg0.win 1).index t 2 * 1024 + 1 * n.val = n.val; rw [index1_2]; omega

theorem read2 (t : Fin cfg0.N) (A : S4096x1024.Idx → Elt Ideal .f32) (l : Fin 512) (n : Fin 1024) (r : Fin 4096) (hr : r.val = t.val * 512 + l.val) :
    ((cfg0.win 2).blk t).view.read (Elt Ideal) A (ix2 l n) = A (ix2 r n) := by
  rw [View.read_apply]
  refine congrArg A (funext fun i => Fin.ext ?_)
  match i with
  | ⟨0, _⟩ => show (cfg0.win 2).index t 0 * 512 + 1 * l.val = r.val; rw [index2_0]; omega
  | ⟨1, _⟩ => show (cfg0.win 2).index t 1 * 1024 + 1 * n.val = n.val; rw [index2_1]; omega

theorem read3 (t : Fin cfg0.N) (A : S4096x1024.Idx → Elt Ideal .f32) (l : Fin 512) (n : Fin 1024) (r : Fin 4096) (hr : r.val = t.val * 512 + l.val) :
    ((cfg0.win 3).blk t).view.read (Elt Ideal) A (ix2 l n) = A (ix2 r n) := by
  rw [View.read_apply]
  refine congrArg A (funext fun i => Fin.ext ?_)
  match i with
  | ⟨0, _⟩ => show (cfg0.win 3).index t 0 * 512 + 1 * l.val = r.val; rw [index3_0]; omega
  | ⟨1, _⟩ => show (cfg0.win 3).index t 1 * 1024 + 1 * n.val = n.val; rw [index3_1]; omega

variable (m : (ℓ : Loc nD τ sig) → Buf (Elt Ideal) ℓ) (ρ : Dev nD → PrngReg) (c : Dev nD)

theorem blk0 (t : Fin cfg0.N) (l : Fin 512) (k : Fin 1536) (r : Fin 4096) (hr : r.val = t.val * 512 + l.val) :
    iblk m c 0 t (ix2 l k) = V m c main_arg1 (ix2 r k) := by
  unfold iblk
  exact read0 t (V m c main_arg1) l k r hr

theorem blk1 (t : Fin cfg0.N) (k : Fin 1536) (n : Fin 1024) : iblk m c 1 t (ix3 0 k n) = V m c main_v1 (ix3 0 k n) := by
  unfold iblk
  exact read1 t (V m c main_v1) k n

theorem blk2 (t : Fin cfg0.N) (l : Fin 512) (n : Fin 1024) (r : Fin 4096) (hr : r.val = t.val * 512 + l.val) :
    iblk m c 2 t (ix2 l n) = V m c main_arg0 (ix2 r n) := by
  unfold iblk
  exact read2 t (V m c main_arg0) l n r hr

/-- The weights, as the host prepares them for the call. -/
theorem host_v1 {F : FTy → Type} [FloatOps F] (V0 : Valuation τ sig (Elt F)) : after hostOps0 V0 (Proc.devRef .tc main_v1)
    = broadcastInDim S1x1536x1024 ![1, 2] bcast_S1536x1024_S1x1536x1024_1_2
        (truncf .bf16 (V0 (Proc.devRef .tc main_arg2) : FVec F S1536x1024 .f32) bitsLt_bf16_f32) := by
  after_results_simp
  all_goals rfl

theorem V_v1 : @Eq (FVec Ideal S1x1536x1024 .bf16) (V m c main_v1) <| broadcastInDim S1x1536x1024 ![1, 2] bcast_S1536x1024_S1x1536x1024_1_2
    (truncf .bf16 (m ((c : Thread nD τ).loc main_arg2) : FVec Ideal S1536x1024 .f32) bitsLt_bf16_f32) := by
  unfold V
  exact host_v1 _

theorem lift_at (w : FVec Ideal S1536x1024 .f32) (k : Fin 1536) (n : Fin 1024) :
    (broadcastInDim S1x1536x1024 ![1, 2] bcast_S1536x1024_S1x1536x1024_1_2 (truncf .bf16 w bitsLt_bf16_f32) (ix3 0 k n) : EReal) = w (ix2 k n) := by
  pointwise []

/-! ## The array -/

/-- Entry `(r, n)` of `a b + h`. -/
abbrev res (a : S4096x1536.Idx → EReal) (b : S1536x1024.Idx → EReal) (h : S4096x1024.Idx → EReal) (r : Fin 4096) (n : Fin 1024) : EReal :=
  (∑ k : Fin 1536, a (ix2 r k) * b (ix2 k n)) + h (ix2 r n)

theorem block_at (t : Fin cfg0.N) (l : Fin 512) (n : Fin 1024) (r : Fin 4096) (hr : r.val = t.val * 512 + l.val) :
    k0_pay1 (F := Ideal) (iblk m c 0 t) (iblk m c 1 t) (iblk m c 2 t) (ix2 l n)
      = res (m ((c : Thread nD τ).loc main_arg1)) (m ((c : Thread nD τ).loc main_arg2))
        (m ((c : Thread nD τ).loc main_arg0)) r n := by
  rw [pay_at]
  simp only [blk0 m c t l _ r hr, blk1, blk2 m c t l n r hr, V_main_arg0, V_main_arg1]
  refine congrArg (· + _) (sum_congr rfl fun k _ => ?_)
  exact congrArg₂ (· * ·) rfl ((congrFun (V_v1 m c) _).trans (lift_at _ k n))

/-- The reference's result, entry by entry. -/
theorem ref_at (x0 : FVec Ideal Cert.Reference13Ideal.S4096x1024 .f32) (x1 : FVec Ideal Cert.Reference13Ideal.S4096x1536 .bf16) (x2 : FVec Ideal Cert.Reference13Ideal.S1536x1024 .f32)
    (r : Fin 4096) (n : Fin 1024) :
    Cert.Reference13Ideal.Read.val_main_v2 (F := Ideal) x0 x1 x2 (ix2 r n)
      = res x1 x2 x0 r n := by
  unfold Cert.Reference13Ideal.Read.val_main_v2 Cert.Reference13Ideal.Read.val_main_v1 Cert.Reference13Ideal.Read.val_main_v0
  pointwise []
  exact add_comm _ _

theorem mem_blk3 (t : Fin cfg0.N) (i : S4096x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v2).slice (win0_3.rect t)).set ↔ _
  rw [View.set_slice_whole, Rect.mem_set_unit]
  exact Iff.rfl

/-- The call computes the reference's result. -/
theorem result : (dats m 0 c).arrAt 3 cfg0.N = Cert.Reference13Ideal.Read.val_main_v2 (F := Ideal) (m ((c : Thread nD τ).loc main_arg0)) (m ((c : Thread nD τ).loc main_arg1))
    (m ((c : Thread nD τ).loc main_arg2)) := by
  have hN : cfg0.N = 8 := N_0
  refine (dats m 0 c).arrAt_eq_of_cover 3 _ (fun t _ => ?_) (fun i => ?_)
  · rw [Value.flushed3, out_eq]
    funext j
    rw [show j = ix2 (n0 := 512) (n1 := 1024) (j 0) (j 1) from (ix2_eta (n0 := 512) (n1 := 1024) j).symm]
    have hr : t.val * 512 + (j 0).val < 4096 := by have ht : t.val < 8 := lt_of_lt_of_eq t.isLt hN; have h : (j 0).val < 512 := (j 0).isLt; omega
    refine Eq.trans ?_ (read3 t _ (j 0) (j 1) ⟨_, hr⟩ rfl).symm
    exact (block_at m c t (j 0) (j 1) ⟨_, hr⟩ rfl).trans (ref_at _ _ _ _ _).symm
  · have hi0 : (i 0).val < 4096 := (i 0).isLt
    have hi1 : (i 1).val < 1024 := (i 1).isLt
    refine ⟨⟨(i 0).val / 512, by omega⟩, flush0_3 _, ?_⟩
    rw [mem_blk3]
    intro a
    match a with
    | ⟨0, _⟩ => show (cfg0.win 3).index _ 0 * 512 ≤ (i 0).val ∧ (i 0).val < (cfg0.win 3).index _ 0 * 512 + 512; rw [index3_0]; dsimp only; omega
    | ⟨1, _⟩ => show (cfg0.win 3).index _ 1 * 1024 ≤ (i 1).val ∧ (i 1).val < (cfg0.win 3).index _ 1 * 1024 + 1024; rw [index3_1]; omega

theorem run : θ_run defs (onTc (τ := τ) (main (F := Ideal))) ⟨m, fun _ => 0, ρ⟩ fun r => ∀ c : Dev nD,
      r.2.mem ((c : Thread nD τ).loc main_v2) = Cert.Reference13Ideal.Read.val_main_v2 (F := Ideal) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (result m c), (h c).2⟩) (Value.run_blocks m ρ)

end Cert.Kernel13Ideal.Ffn

end
-- ==== Proof.Ffn.Claims.lean ====
/- The feed-forward programs' claims that need no precondition: the frames, and the equality of each call's results with its
   reference's over the extended reals. -/
module

public import proofs.«01_k».proof.Defs
public import proofs.«01_k».proof.Proof.Ffn.Imports
public import proofs.«01_k».proof.Proof.Ffn.GuDw
public import proofs.«01_k».proof.Proof.Ffn.DownDw
public import proofs.«01_k».proof.Proof.Ffn.In
public import proofs.«01_k».proof.Proof.Ffn.Out
public import proofs.«01_k».proof.Proof.Ffn.In0
public import proofs.«01_k».proof.Proof.Ffn.MixInDw
public import proofs.«01_k».proof.Proof.Ffn.MixOutDw
public import proofs.«01_k».proof.Proof.Ffn.MixOut
public import Idealize.ShloMosaic.Adequacy
public import Idealize.ShloMosaic.Init

@[expose] public section

set_option maxRecDepth 16384

noncomputable section

namespace Cert.Ffn

open Idealize.ShloMosaic Idealize.ShloMosaic.TcCoe Idealize.SL.Sem

/-- Equal arguments, equal values. -/
theorem two {α β γ : Type} (f : α → β → γ) {a a' : α} {b b' : β} (ha : a = a') (hb : b = b') : f a b = f a' b' := by
  rw [ha, hb]

/-- Equal arguments, equal values. -/
theorem three {α β γ δ : Type} (f : α → β → γ → δ) {a a' : α} {b b' : β} {c c' : γ} (ha : a = a') (hb : b = b') (hc : c = c') :
    f a b c = f a' b' c' := by
  rw [ha, hb, hc]

/-! ## GuDw: the first weight's gradient -/

attribute [local instance] Cert.Kernel2.Gen.facts Cert.Kernel2Ideal.Gen.facts Cert.Reference2Ideal.Gen.facts

theorem frame2 : Cert.quiescent_Kernel2 := fun m ρ _ => Cert.Kernel2.Gen.frame m ρ
theorem frame2_ideal : Cert.quiescent_Kernel2Ideal := fun m ρ _ => Cert.Kernel2Ideal.Gen.frame m ρ
theorem frame2_ref : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem algebraic2 : Cert.algebraic_Kernel2Ideal_Reference2Ideal := by
  intro m ρ m' ρ' _ hagree
  refine ⟨fun c => Cert.Reference2Ideal.Read.val_main_v19 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg3)),
    Cert.Kernel2Ideal.Ffn.run m ρ, ?_⟩
  refine (θ_run Cert.Reference2Ideal.defs _ _).mono (fun _ h c => ?_) (Cert.Reference2Ideal.Value.run (F := Ideal) m' ρ')
  obtain ⟨e0, e1, e2, e3⟩ := hagree c
  obtain ⟨h0, hk⟩ := h c
  exact ⟨(h0.trans (Cert.Reference2Ideal.Read.val_main_v19_eq _ _ _)).trans (three (Cert.Reference2Ideal.Read.val_main_v19 (F := Ideal)) e0 e1 e3), hk⟩

/-! ## DownDw: the second weight's gradient -/

attribute [local instance] Cert.Kernel3.Gen.facts Cert.Kernel3Ideal.Gen.facts Cert.Reference3Ideal.Gen.facts

theorem frame3 : Cert.quiescent_Kernel3 := fun m ρ _ => Cert.Kernel3.Gen.frame m ρ
theorem frame3_ideal : Cert.quiescent_Kernel3Ideal := fun m ρ _ => Cert.Kernel3Ideal.Gen.frame m ρ
theorem frame3_ref : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem algebraic3 : Cert.algebraic_Kernel3Ideal_Reference3Ideal := by
  intro m ρ m' ρ' _ hagree
  refine ⟨fun c => Cert.Reference3Ideal.Read.val_main_v9 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg2)),
    Cert.Kernel3Ideal.Ffn.run m ρ, ?_⟩
  refine (θ_run Cert.Reference3Ideal.defs _ _).mono (fun _ h c => ?_) (Cert.Reference3Ideal.Value.run (F := Ideal) m' ρ')
  obtain ⟨e0, e1, e2⟩ := hagree c
  obtain ⟨h0, hk⟩ := h c
  exact ⟨(h0.trans (Cert.Reference3Ideal.Read.val_main_v9_eq _ _)).trans (two (Cert.Reference3Ideal.Read.val_main_v9 (F := Ideal)) e0 e2), hk⟩

/-! ## In: the first product -/

attribute [local instance] Cert.Kernel5.Gen.facts Cert.Kernel5Ideal.Gen.facts Cert.Reference5Ideal.Gen.facts

theorem frame5 : Cert.quiescent_Kernel5 := fun m ρ _ => Cert.Kernel5.Gen.frame m ρ
theorem frame5_ideal : Cert.quiescent_Kernel5Ideal := fun m ρ _ => Cert.Kernel5Ideal.Gen.frame m ρ
theorem frame5_ref : Cert.quiescent_Reference5Ideal := fun m ρ _ =>
  (θ_run Cert.Reference5Ideal.defs _ _).mono (fun r h => ⟨fun c => (h c).2.2.2, Idealize.ShloMosaic.sem_eq_zero_of_no_sems (by decide) r.2⟩)
    (Cert.Reference5Ideal.Value.run (F := Ideal) m ρ)

theorem algebraic5 : Cert.algebraic_Kernel5Ideal_Reference5Ideal := by
  intro m ρ m' ρ' _ hagree
  refine ⟨fun c => Cert.Reference5Ideal.Read.val_main_v16 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)), fun c => Cert.Reference5Ideal.Read.val_main_v17 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), fun c => Cert.Reference5Ideal.Read.val_main_v22 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)),
    Cert.Kernel5Ideal.Ffn.run m ρ, ?_⟩
  refine (θ_run Cert.Reference5Ideal.defs _ _).mono (fun _ h c => ?_) (Cert.Reference5Ideal.Value.run (F := Ideal) m' ρ')
  obtain ⟨e0, e1, e2⟩ := hagree c
  obtain ⟨h0, h1, h2, hk⟩ := h c
  exact ⟨(h0.trans (Cert.Reference5Ideal.Read.val_main_v16_eq _ _ _)).trans (three (Cert.Reference5Ideal.Read.val_main_v16 (F := Ideal)) e0 e1 e2), (h1.trans (Cert.Reference5Ideal.Read.val_main_v17_eq _ _)).trans (two (Cert.Reference5Ideal.Read.val_main_v17 (F := Ideal)) e0 e1), (h2.trans (Cert.Reference5Ideal.Read.val_main_v22_eq _ _ _)).trans (three (Cert.Reference5Ideal.Read.val_main_v22 (F := Ideal)) e0 e1 e2), hk⟩

/-! ## Out: the second product -/

attribute [local instance] Cert.Kernel6.Gen.facts Cert.Kernel6Ideal.Gen.facts Cert.Reference6Ideal.Gen.facts

theorem frame6 : Cert.quiescent_Kernel6 := fun m ρ _ => Cert.Kernel6.Gen.frame m ρ
theorem frame6_ideal : Cert.quiescent_Kernel6Ideal := fun m ρ _ => Cert.Kernel6Ideal.Gen.frame m ρ
theorem frame6_ref : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

theorem algebraic6 : Cert.algebraic_Kernel6Ideal_Reference6Ideal := by
  intro m ρ m' ρ' _ hagree
  refine ⟨fun c => Cert.Reference6Ideal.Read.val_main_v6 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)),
    Cert.Kernel6Ideal.Ffn.run m ρ, ?_⟩
  refine (θ_run Cert.Reference6Ideal.defs _ _).mono (fun _ h c => ?_) (Cert.Reference6Ideal.Value.run (F := Ideal) m' ρ')
  obtain ⟨e0, e1, e2⟩ := hagree c
  obtain ⟨h0, hk⟩ := h c
  exact ⟨(h0.trans (Cert.Reference6Ideal.Read.val_main_v6_eq _ _ _)).trans (three (Cert.Reference6Ideal.Read.val_main_v6 (F := Ideal)) e0 e1 e2), hk⟩

/-! ## In0: the first product of the first layer -/

attribute [local instance] Cert.Kernel8.Gen.facts Cert.Kernel8Ideal.Gen.facts Cert.Reference8Ideal.Gen.facts

theorem frame8 : Cert.quiescent_Kernel8 := fun m ρ _ => Cert.Kernel8.Gen.frame m ρ
theorem frame8_ideal : Cert.quiescent_Kernel8Ideal := fun m ρ _ => Cert.Kernel8Ideal.Gen.frame m ρ
theorem frame8_ref : Cert.quiescent_Reference8Ideal := fun m ρ _ =>
  (θ_run Cert.Reference8Ideal.defs _ _).mono (fun r h => ⟨fun c => (h c).2.2.2, Idealize.ShloMosaic.sem_eq_zero_of_no_sems (by decide) r.2⟩)
    (Cert.Reference8Ideal.Value.run (F := Ideal) m ρ)

theorem algebraic8 : Cert.algebraic_Kernel8Ideal_Reference8Ideal := by
  intro m ρ m' ρ' _ hagree
  refine ⟨fun c => Cert.Reference8Ideal.Read.val_main_v16 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)), fun c => Cert.Reference8Ideal.Read.val_main_v17 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)), fun c => Cert.Reference8Ideal.Read.val_main_v22 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)),
    Cert.Kernel8Ideal.Ffn.run m ρ, ?_⟩
  refine (θ_run Cert.Reference8Ideal.defs _ _).mono (fun _ h c => ?_) (Cert.Reference8Ideal.Value.run (F := Ideal) m' ρ')
  obtain ⟨e0, e1, e2⟩ := hagree c
  obtain ⟨h0, h1, h2, hk⟩ := h c
  exact ⟨(h0.trans (Cert.Reference8Ideal.Read.val_main_v16_eq _ _ _)).trans (three (Cert.Reference8Ideal.Read.val_main_v16 (F := Ideal)) e0 e1 e2), (h1.trans (Cert.Reference8Ideal.Read.val_main_v17_eq _ _)).trans (two (Cert.Reference8Ideal.Read.val_main_v17 (F := Ideal)) e0 e1), (h2.trans (Cert.Reference8Ideal.Read.val_main_v22_eq _ _ _)).trans (three (Cert.Reference8Ideal.Read.val_main_v22 (F := Ideal)) e0 e1 e2), hk⟩

/-! ## MixInDw: the gradient of the first layer's input projection -/

attribute [local instance] Cert.Kernel10.Gen.facts Cert.Kernel10Ideal.Gen.facts Cert.Reference10Ideal.Gen.facts

theorem frame10 : Cert.quiescent_Kernel10 := fun m ρ _ => Cert.Kernel10.Gen.frame m ρ
theorem frame10_ideal : Cert.quiescent_Kernel10Ideal := fun m ρ _ => Cert.Kernel10Ideal.Gen.frame m ρ
theorem frame10_ref : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

theorem algebraic10 : Cert.algebraic_Kernel10Ideal_Reference10Ideal := by
  intro m ρ m' ρ' _ hagree
  refine ⟨fun c => Cert.Reference10Ideal.Read.val_main_v19 (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg3)),
    Cert.Kernel10Ideal.Ffn.run m ρ, ?_⟩
  refine (θ_run Cert.Reference10Ideal.defs _ _).mono (fun _ h c => ?_) (Cert.Reference10Ideal.Value.run (F := Ideal) m' ρ')
  obtain ⟨e0, e1, e2, e3⟩ := hagree c
  obtain ⟨h0, hk⟩ := h c
  exact ⟨(h0.trans (Cert.Reference10Ideal.Read.val_main_v19_eq _ _ _)).trans (three (Cert.Reference10Ideal.Read.val_main_v19 (F := Ideal)) e0 e1 e3), hk⟩

/-! ## MixOutDw: the gradient of the first layer's output projection -/

attribute [local instance] Cert.Kernel12.Gen.facts Cert.Kernel12Ideal.Gen.facts Cert.Reference12Ideal.Gen.facts

theorem frame12 : Cert.quiescent_Kernel12 := fun m ρ _ => Cert.Kernel12.Gen.frame m ρ
theorem frame12_ideal : Cert.quiescent_Kernel12Ideal := fun m ρ _ => Cert.Kernel12Ideal.Gen.frame m ρ
theorem frame12_ref : Cert.quiescent_Reference12Ideal := fun m ρ _ =>
  (θ_run Cert.Reference12Ideal.defs _ _).mono (fun r h => ⟨fun c => (h c).2, Idealize.ShloMosaic.sem_eq_zero_of_no_sems (by decide) r.2⟩)
    (Cert.Reference12Ideal.Value.run (F := Ideal) m ρ)

theorem algebraic12 : Cert.algebraic_Kernel12Ideal_Reference12Ideal := by
  intro m ρ m' ρ' _ hagree
  refine ⟨fun c => Cert.Reference12Ideal.Read.val_main_v5 (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg2)),
    Cert.Kernel12Ideal.Ffn.run m ρ, ?_⟩
  refine (θ_run Cert.Reference12Ideal.defs _ _).mono (fun _ h c => ?_) (Cert.Reference12Ideal.Value.run (F := Ideal) m' ρ')
  obtain ⟨e0, e1, e2⟩ := hagree c
  obtain ⟨h0, hk⟩ := h c
  exact ⟨(h0.trans (Cert.Reference12Ideal.Read.val_main_v5_eq _ _)).trans (two (Cert.Reference12Ideal.Read.val_main_v5 (F := Ideal)) e0 e2), hk⟩

/-! ## MixOut: the first layer's output projection -/

attribute [local instance] Cert.Kernel13.Gen.facts Cert.Kernel13Ideal.Gen.facts Cert.Reference13Ideal.Gen.facts

theorem frame13 : Cert.quiescent_Kernel13 := fun m ρ _ => Cert.Kernel13.Gen.frame m ρ
theorem frame13_ideal : Cert.quiescent_Kernel13Ideal := fun m ρ _ => Cert.Kernel13Ideal.Gen.frame m ρ
theorem frame13_ref : Cert.quiescent_Reference13Ideal := fun m ρ _ =>
  (θ_run Cert.Reference13Ideal.defs _ _).mono (fun r h => ⟨fun c => (h c).2, Idealize.ShloMosaic.sem_eq_zero_of_no_sems (by decide) r.2⟩)
    (Cert.Reference13Ideal.Value.run (F := Ideal) m ρ)

theorem algebraic13 : Cert.algebraic_Kernel13Ideal_Reference13Ideal := by
  intro m ρ m' ρ' _ hagree
  refine ⟨fun c => Cert.Reference13Ideal.Read.val_main_v2 (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)),
    Cert.Kernel13Ideal.Ffn.run m ρ, ?_⟩
  refine (θ_run Cert.Reference13Ideal.defs _ _).mono (fun _ h c => ?_) (Cert.Reference13Ideal.Value.run (F := Ideal) m' ρ')
  obtain ⟨e0, e1, e2⟩ := hagree c
  obtain ⟨h0, hk⟩ := h c
  exact ⟨(h0.trans (Cert.Reference13Ideal.Read.val_main_v2_eq _ _ _)).trans (three (Cert.Reference13Ideal.Read.val_main_v2 (F := Ideal)) e0 e1 e2), hk⟩

end Cert.Ffn

end
-- ==== Proof.Swa.Math.lean ====
/- The gradient of one softmax row with a sink, over the reals: what the two programs compute of a row is the same number. -/
module

public import Mathlib.Analysis.SpecialFunctions.Log.Basic
public import Mathlib.Data.EReal.Operations
public import Mathlib.Data.EReal.Inv
public import Mathlib.Algebra.BigOperators.Field
public import Mathlib.Tactic.FieldSimp
public import Mathlib.Tactic.Ring

@[expose] public section

noncomputable section

namespace Cert.Swa

open Finset

/-- The sum of real numbers is the same number among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [sum_insert h, sum_insert h, EReal.coe_add, ih]

variable {ι : Type*} [Fintype ι]

/-- A row's exponentials: of the score less the shift, nothing where the mask forbids. -/
def expo (msk : ι → Prop) [DecidablePred msk] (s : ι → ℝ) (M : ℝ) (j : ι) : ℝ := if msk j then Real.exp (s j - M) else 0

/-- A row's denominator: the exponentials and the sink's. -/
def den (msk : ι → Prop) [DecidablePred msk] (s : ι → ℝ) (M sk : ℝ) : ℝ := ∑ j, expo msk s M j + Real.exp (sk - M)

/-- A row's probabilities. -/
def prob (msk : ι → Prop) [DecidablePred msk] (s : ι → ℝ) (M sk : ℝ) (j : ι) : ℝ := expo msk s M j / den msk s M sk

/-- A row's log-denominator. -/
def lse (msk : ι → Prop) [DecidablePred msk] (s : ι → ℝ) (M sk : ℝ) : ℝ := M + Real.log (den msk s M sk)

/-- The row's inner product of its probabilities with their gradient. -/
def inner (msk : ι → Prop) [DecidablePred msk] (s dp : ι → ℝ) (M sk : ℝ) : ℝ := ∑ j, prob msk s M sk j * dp j

/-- The gradient of a row's scores. -/
def dscore (msk : ι → Prop) [DecidablePred msk] (s dp : ι → ℝ) (M sk : ℝ) (j : ι) : ℝ :=
  prob msk s M sk j * (dp j - inner msk s dp M sk)

/-- The gradient of the sink that a row gives. -/
def dsink (msk : ι → Prop) [DecidablePred msk] (s dp : ι → ℝ) (M sk : ℝ) : ℝ :=
  -(Real.exp (sk - M) / den msk s M sk * inner msk s dp M sk)

variable (msk : ι → Prop) [DecidablePred msk] (s dp : ι → ℝ) (M sk : ℝ)

theorem expo_nonneg (j : ι) : 0 ≤ expo msk s M j := by
  unfold expo; split_ifs
  · exact (Real.exp_pos _).le
  · exact le_rfl

theorem den_pos : 0 < den msk s M sk := add_pos_of_nonneg_of_pos (sum_nonneg fun j _ => expo_nonneg msk s M j) (Real.exp_pos _)

theorem den_ne : den msk s M sk ≠ 0 := (den_pos msk s M sk).ne'

/-- The exponential of a score less the log-denominator is the probability, the mask aside. -/
theorem exp_sub_lse (x : ℝ) : Real.exp (x - lse msk s M sk) = Real.exp (x - M) / den msk s M sk := by
  rw [lse, ← sub_sub, Real.exp_sub, Real.exp_log (den_pos msk s M sk)]

theorem prob_of (j : ι) (h : msk j) : prob msk s M sk j = Real.exp (s j - lse msk s M sk) := by
  rw [exp_sub_lse, prob, expo, if_pos h]

theorem prob_of_not (j : ι) (h : ¬msk j) : prob msk s M sk j = 0 := by
  rw [prob, expo, if_neg h, zero_div]

theorem dscore_of_not (j : ι) (h : ¬msk j) : dscore msk s dp M sk j = 0 := by
  rw [dscore, prob_of_not msk s M sk j h, zero_mul]

theorem dsink_eq : dsink msk s dp M sk = -(Real.exp (sk - lse msk s M sk) * inner msk s dp M sk) := by
  rw [exp_sub_lse, dsink]

/-- The derivative of the quotient by the denominator, as the chain rule writes it. -/
theorem chain_den :
    -(∑ j, dp j * (1 / (den msk s M sk * den msk s M sk)) * expo msk s M j) = -(inner msk s dp M sk / den msk s M sk) := by
  rw [inner, sum_div]; congr 1
  refine sum_congr rfl fun j _ => ?_
  have := den_ne msk s M sk
  rw [prob]; field_simp

theorem chain_score (j : ι) :
    (dp j / den msk s M sk + -(inner msk s dp M sk / den msk s M sk)) * expo msk s M j = dscore msk s dp M sk j := by
  have := den_ne msk s M sk
  rw [dscore, prob]; field_simp; ring

theorem chain_sink : -(inner msk s dp M sk / den msk s M sk) * Real.exp (sk - M) = dsink msk s dp M sk := by
  rw [dsink]; ring

/-- The gradient of the shift is nothing: the quotient does not depend on it. -/
theorem chain_shift : -dsink msk s dp M sk + ∑ j, -dscore msk s dp M sk j = 0 := by
  have h := den_ne msk s M sk
  have h1 : ∑ j, prob msk s M sk j = 1 - Real.exp (sk - M) / den msk s M sk := by
    rw [eq_sub_iff_add_eq]; simp only [prob]; rw [← sum_div, ← add_div]; exact div_self h
  have h2 : ∑ j, -dscore msk s dp M sk j = -inner msk s dp M sk + inner msk s dp M sk * ∑ j, prob msk s M sk j := by
    rw [mul_sum]; conv_rhs => enter [1]; rw [inner]
    rw [← sum_neg_distrib, ← sum_add_distrib]
    exact sum_congr rfl fun j _ => by rw [dscore]; ring
  rw [h2, h1, dsink]; ring

end Cert.Swa

end
-- ==== Proof.Ffn.Dact.lean ====
/- The gradient of the product in the feed-forward layer: eight row blocks of the cotangent, each against the transposed second
   weight in two blocks of columns, and through the gate. -/
module

public import proofs.«01_k».proof.Proof.Gen.Kernel4Ideal.Value
public import proofs.«01_k».proof.Proof.Gen.Reference4Ideal.Read
public import proofs.«01_k».proof.Proof.Gen.Reference4Ideal.Run
public import proofs.«01_k».proof.Proof.Ffn.Math
public import proofs.«01_k».proof.Proof.Swa.Math
public import Idealize.ShloMosaic.Lib.Pointwise
public import Idealize.ShloMosaic.Lib.Tactic

@[expose] public section

set_option maxRecDepth 16384

noncomputable section

namespace Cert.Kernel4Ideal.Ffn

open Idealize.ShloMosaic Idealize.ShloMosaic.TcCoe Idealize.ShloMosaic.StableHlo Cert.Kernel4Ideal Cert.Kernel4Ideal.Gen Finset Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-! ## What a point writes -/

/-- The gate's gradient. -/
abbrev dgate (d g u : EReal) : EReal := d * u * (Cert.Ffn.sig g * (1 + g * (1 - Cert.Ffn.sig g)))
/-- The up-projection's gradient. -/
abbrev dup (d g : EReal) : EReal := d * (g * Cert.Ffn.sig g)

/-- Entry `(l, q)` of the product of a block with the transposed weight. -/
abbrev prod (a : S512x1024.Idx → EReal) (w : S1x2816x1024.Idx → EReal) (l : Fin 512) (q : Fin 2816) : EReal :=
  ∑ k : Fin 1024, a (ix2 l k) * w (ix3 0 q k)

/-- The gate's half of the columns. -/
abbrev lo (q : Fin 2816) : Fin 5632 := ⟨q.val, by omega⟩
/-- The up-projection's half of the columns. -/
abbrev hi (q : Fin 2816) : Fin 5632 := ⟨2816 + q.val, by omega⟩

/-- Both gradients side by side: `d` the product, `gu` the saved columns. -/
abbrev both {n : Nat} (d : Fin n → Fin 2816 → EReal) (gu : Fin n → Fin 5632 → EReal) (l : Fin n) (q : Fin 5632) : EReal :=
  if h : q.val < 2816 then dgate (d l ⟨q.val, h⟩) (gu l (lo ⟨q.val, h⟩)) (gu l (hi ⟨q.val, h⟩))
  else dup (d l ⟨q.val - 2816, by omega⟩) (gu l (lo ⟨q.val - 2816, by omega⟩))

theorem dgate_at (a : FVec Ideal S512x1024 .bf16) (w : Vec Ideal S1x1408x1024 .bf16) (x u : Vec Ideal S512x1408 .bf16) (l : Fin 512) (n : Fin 1408) :
    k0_pay4 (F := Ideal) a w x u (ix2 l n) = dgate (∑ k : Fin 1024, a (ix2 l k) * w (ix3 0 n k)) (x (ix2 l n)) (u (ix2 l n)) := by
  unfold dgate Cert.Ffn.sig
  pointwise [k0_pay4, k0_pay1, k0_pay2, k0_pay3]

theorem dup_at (a : FVec Ideal S512x1024 .bf16) (w : Vec Ideal S1x1408x1024 .bf16) (x : Vec Ideal S512x1408 .bf16) (l : Fin 512) (n : Fin 1408) :
    k0_pay5 (F := Ideal) a w x (ix2 l n) = dup (∑ k : Fin 1024, a (ix2 l k) * w (ix3 0 n k)) (x (ix2 l n)) := by
  unfold dup Cert.Ffn.sig
  pointwise [k0_pay5, k0_pay1, k0_pay2, k0_pay3]

variable (x : Vec Ideal S512x1024 .f32) (w : Vec Ideal S1x2816x1024 .bf16) (gu : Vec Ideal S512x5632 .bf16)

theorem ld_x : View.ld x r0_0 = x := View.ld_unit_zero (S := S512x1024) hz2 _ x

/-- A row block of the weight's product, at its place among the columns. -/
theorem shard_at (off : Nat) (inb) (l : Fin 512) (n : Fin 1408) (q : Fin 2816) (hq : q.val = off + n.val) :
    (∑ k : Fin 1024, (x (ix2 l k) : EReal) * (View.ld w (Rect.unit (s := S1x2816x1024) ![0, off, 0] S1x1408x1024.size inb) (ix3 0 n k) : EReal)) = prod x w l q := by
  refine sum_congr rfl fun k _ => congrArg (x (ix2 l k) * ·) (congrArg w (funext fun i => Fin.ext ?_))
  match i with
  | ⟨0, _⟩ => show 0 + 1 * 0 = 0; omega
  | ⟨1, _⟩ => show off + 1 * n.val = q.val; omega
  | ⟨2, _⟩ => show 0 + 1 * k.val = k.val; omega

/-- A block of the saved columns, at its place. -/
theorem col_at (off : Nat) (inb) (l : Fin 512) (n : Fin 1408) (q : Fin 5632) (hq : q.val = off + n.val) :
    View.ld gu (Rect.unit (s := S512x5632) ![0, off] S512x1408.size inb) (ix2 l n) = gu (ix2 l q) := by
  refine congrArg gu (funext fun i => Fin.ext ?_)
  match i with
  | ⟨0, _⟩ => show 0 + 1 * l.val = l.val; omega
  | ⟨1, _⟩ => show off + 1 * n.val = q.val; omega

/-- What the block's column holds in the whole. -/
abbrev point (y : S512x5632.Idx) : EReal := both (prod x w) (fun l q => gu (ix2 l q)) (y 0) (y 1)

theorem out3_eq : out0_3 x w gu = point x w gu := by
  funext y
  unfold out0_3
  refine View.canon_apply_of_pieces (Val := Elt Ideal) (point x w gu) _ ?_ y (cover0_3 _ _ _ _ y)
  have e12 : k0_pay12 x w gu = (x : FVec Ideal S512x1024 .bf16) := by
    unfold k0_pay12
    rw [ld_x]
    rfl
  rw [e12, ld_x]
  have keyg : ∀ (off : Nat) (inb1 inb2 inb3) (ho : off ≤ 1408) (z : S512x1408.Idx),
      k0_pay4 (F := Ideal) x (View.ld w (Rect.unit (s := S1x2816x1024) ![0, off, 0] S1x1408x1024.size inb1))
          (View.ld gu (Rect.unit (s := S512x5632) ![0, off] S512x1408.size inb2)) (View.ld gu (Rect.unit (s := S512x5632) ![0, off + 2816] S512x1408.size inb3)) z
        = point x w gu ((Rect.unit (s := S512x5632) ![0, off] S512x1408.size inb2).emb z) := by
    intro off inb1 inb2 inb3 ho z
    rw [show z = ix2 (n0 := 512) (n1 := 1408) (z 0) (z 1) from (ix2_eta (n0 := 512) (n1 := 1408) z).symm]
    have hz : (z 1).val < 1408 := (z 1).isLt
    have h0 : (Rect.unit (s := S512x5632) ![0, off] S512x1408.size inb2).emb (ix2 (n0 := 512) (n1 := 1408) (z 0) (z 1)) 0 = (z 0 : Fin 512) :=
      Fin.ext (by show 0 + 1 * (z 0).val = (z 0).val; omega)
    have h1 : (Rect.unit (s := S512x5632) ![0, off] S512x1408.size inb2).emb (ix2 (n0 := 512) (n1 := 1408) (z 0) (z 1)) 1 = (⟨off + (z 1).val, by omega⟩ : Fin 5632) :=
      Fin.ext (by show off + 1 * (z 1).val = off + (z 1).val; omega)
    unfold point
    rw [h0, h1]
    refine (dgate_at x _ _ _ (z 0) (z 1)).trans ?_
    unfold both
    rw [dif_pos (show off + (z 1).val < 2816 by omega)]
    rw [shard_at x w off inb1 (z 0) (z 1) ⟨off + (z 1).val, by omega⟩ rfl, col_at gu off inb2 (z 0) (z 1) (lo ⟨off + (z 1).val, by omega⟩) rfl,
      col_at gu (off + 2816) inb3 (z 0) (z 1) (hi ⟨off + (z 1).val, by omega⟩) (by show 2816 + (off + (z 1).val) = _; omega)]
  have keyu : ∀ (off : Nat) (inb1 inb2 inb3) (ho : off ≤ 1408) (z : S512x1408.Idx),
      k0_pay5 (F := Ideal) x (View.ld w (Rect.unit (s := S1x2816x1024) ![0, off, 0] S1x1408x1024.size inb1))
          (View.ld gu (Rect.unit (s := S512x5632) ![0, off] S512x1408.size inb2)) z
        = point x w gu ((Rect.unit (s := S512x5632) ![0, off + 2816] S512x1408.size inb3).emb z) := by
    intro off inb1 inb2 inb3 ho z
    rw [show z = ix2 (n0 := 512) (n1 := 1408) (z 0) (z 1) from (ix2_eta (n0 := 512) (n1 := 1408) z).symm]
    have hz : (z 1).val < 1408 := (z 1).isLt
    have h0 : (Rect.unit (s := S512x5632) ![0, off + 2816] S512x1408.size inb3).emb (ix2 (n0 := 512) (n1 := 1408) (z 0) (z 1)) 0 = (z 0 : Fin 512) :=
      Fin.ext (by show 0 + 1 * (z 0).val = (z 0).val; omega)
    have h1 : (Rect.unit (s := S512x5632) ![0, off + 2816] S512x1408.size inb3).emb (ix2 (n0 := 512) (n1 := 1408) (z 0) (z 1)) 1 = (⟨off + 2816 + (z 1).val, by omega⟩ : Fin 5632) :=
      Fin.ext (by show off + 2816 + 1 * (z 1).val = off + 2816 + (z 1).val; omega)
    unfold point
    rw [h0, h1]
    refine (dup_at x _ _ (z 0) (z 1)).trans ?_
    unfold both
    rw [dif_neg (show ¬ off + 2816 + (z 1).val < 2816 by omega)]
    rw [shard_at x w off inb1 (z 0) (z 1) ⟨off + 2816 + (z 1).val - 2816, by omega⟩ (by show off + 2816 + (z 1).val - 2816 = _; omega),
      col_at gu off inb2 (z 0) (z 1) (lo ⟨off + 2816 + (z 1).val - 2816, by omega⟩) (by show off + 2816 + (z 1).val - 2816 = _; omega)]
  intro pc hpc
  rcases List.mem_cons.mp hpc with rfl | hpc
  · exact keyu 1408 inb_S1x2816x1024_S1x1408x1024_0_1408_0 inb_S512x5632_S512x1408_0_1408 inb_S512x5632_S512x1408_0_4224 (by decide)
  rcases List.mem_cons.mp hpc with rfl | hpc
  · exact keyg 1408 inb_S1x2816x1024_S1x1408x1024_0_1408_0 inb_S512x5632_S512x1408_0_1408 inb_S512x5632_S512x1408_0_4224 (by decide)
  rcases List.mem_cons.mp hpc with rfl | hpc
  · exact keyu 0 inb_S1x2816x1024_S1x1408x1024_0_0_0 inb_S512x5632_S512x1408_0_0 inb_S512x5632_S512x1408_0_2816 (by decide)
  rcases List.mem_cons.mp hpc with rfl | hpc
  · exact keyg 0 inb_S1x2816x1024_S1x1408x1024_0_0_0 inb_S512x5632_S512x1408_0_0 inb_S512x5632_S512x1408_0_2816 (by decide)
  nomatch hpc

/-! ## The blocks -/

theorem index0_0 : ∀ t : Fin cfg0.N, (cfg0.win 0).index t 0 = t.val := by decide +kernel
theorem index0_1 : ∀ t : Fin cfg0.N, (cfg0.win 0).index t 1 = 0 := by decide +kernel
theorem index1_0 : ∀ t : Fin cfg0.N, (cfg0.win 1).index t 0 = 0 := by decide +kernel
theorem index1_1 : ∀ t : Fin cfg0.N, (cfg0.win 1).index t 1 = 0 := by decide +kernel
theorem index1_2 : ∀ t : Fin cfg0.N, (cfg0.win 1).index t 2 = 0 := by decide +kernel
theorem index2_0 : ∀ t : Fin cfg0.N, (cfg0.win 2).index t 0 = t.val := by decide +kernel
theorem index2_1 : ∀ t : Fin cfg0.N, (cfg0.win 2).index t 1 = 0 := by decide +kernel
theorem index3_0 : ∀ t : Fin cfg0.N, (cfg0.win 3).index t 0 = t.val := by decide +kernel
theorem index3_1 : ∀ t : Fin cfg0.N, (cfg0.win 3).index t 1 = 0 := by decide +kernel

theorem read0 (t : Fin cfg0.N) (A : S4096x1024.Idx → Elt Ideal .f32) (l : Fin 512) (n : Fin 1024) (r : Fin 4096) (hr : r.val = t.val * 512 + l.val) :
    ((cfg0.win 0).blk t).view.read (Elt Ideal) A (ix2 l n) = A (ix2 r n) := by
  rw [View.read_apply]
  refine congrArg A (funext fun i => Fin.ext ?_)
  match i with
  | ⟨0, _⟩ => show (cfg0.win 0).index t 0 * 512 + 1 * l.val = r.val; rw [index0_0]; omega
  | ⟨1, _⟩ => show (cfg0.win 0).index t 1 * 1024 + 1 * n.val = n.val; rw [index0_1]; omega

theorem read1 (t : Fin cfg0.N) (A : S1x2816x1024.Idx → Elt Ideal .bf16) (q : Fin 2816) (k : Fin 1024) :
    ((cfg0.win 1).blk t).view.read (Elt Ideal) A (ix3 0 q k) = A (ix3 0 q k) := by
  rw [View.read_apply]
  refine congrArg A (funext fun i => Fin.ext ?_)
  match i with
  | ⟨0, _⟩ => show (cfg0.win 1).index t 0 * 1 + 1 * 0 = 0; rw [index1_0]
  | ⟨1, _⟩ => show (cfg0.win 1).index t 1 * 2816 + 1 * q.val = q.val; rw [index1_1]; omega
  | ⟨2, _⟩ => show (cfg0.win 1).index t 2 * 1024 + 1 * k.val = k.val; rw [index1_2]; omega

theorem read2 (t : Fin cfg0.N) (A : S4096x5632.Idx → Elt Ideal .bf16) (l : Fin 512) (n : Fin 5632) (r : Fin 4096) (hr : r.val = t.val * 512 + l.val) :
    ((cfg0.win 2).blk t).view.read (Elt Ideal) A (ix2 l n) = A (ix2 r n) := by
  rw [View.read_apply]
  refine congrArg A (funext fun i => Fin.ext ?_)
  match i with
  | ⟨0, _⟩ => show (cfg0.win 2).index t 0 * 512 + 1 * l.val = r.val; rw [index2_0]; omega
  | ⟨1, _⟩ => show (cfg0.win 2).index t 1 * 5632 + 1 * n.val = n.val; rw [index2_1]; omega

theorem read3 (t : Fin cfg0.N) (A : S4096x5632.Idx → Elt Ideal .bf16) (l : Fin 512) (n : Fin 5632) (r : Fin 4096) (hr : r.val = t.val * 512 + l.val) :
    ((cfg0.win 3).blk t).view.read (Elt Ideal) A (ix2 l n) = A (ix2 r n) := by
  rw [View.read_apply]
  refine congrArg A (funext fun i => Fin.ext ?_)
  match i with
  | ⟨0, _⟩ => show (cfg0.win 3).index t 0 * 512 + 1 * l.val = r.val; rw [index3_0]; omega
  | ⟨1, _⟩ => show (cfg0.win 3).index t 1 * 5632 + 1 * n.val = n.val; rw [index3_1]; omega

variable (m : (ℓ : Loc nD τ sig) → Buf (Elt Ideal) ℓ) (ρ : Dev nD → PrngReg) (c : Dev nD)

theorem blk0 (t : Fin cfg0.N) (l : Fin 512) (k : Fin 1024) (r : Fin 4096) (hr : r.val = t.val * 512 + l.val) :
    iblk m c 0 t (ix2 l k) = V m c main_arg2 (ix2 r k) := by
  unfold iblk
  exact read0 t (V m c main_arg2) l k r hr

theorem blk1 (t : Fin cfg0.N) (q : Fin 2816) (k : Fin 1024) : iblk m c 1 t (ix3 0 q k) = V m c main_v1 (ix3 0 q k) := by
  unfold iblk
  exact read1 t (V m c main_v1) q k

theorem blk2 (t : Fin cfg0.N) (l : Fin 512) (k : Fin 5632) (r : Fin 4096) (hr : r.val = t.val * 512 + l.val) :
    iblk m c 2 t (ix2 l k) = V m c main_arg0 (ix2 r k) := by
  unfold iblk
  exact read2 t (V m c main_arg0) l k r hr

/-- The weight, as the host lays it out for the call. -/
theorem host_v1 {F : FTy → Type} [FloatOps F] (V0 : Valuation τ sig (Elt F)) : after hostOps0 V0 (Proc.devRef .tc main_v1)
    = broadcastInDim S1x2816x1024 ![1, 2] bcast_S2816x1024_S1x2816x1024_1_2 (truncf .bf16 (V0 (Proc.devRef .tc main_arg1) : FVec F S2816x1024 .f32) bitsLt_bf16_f32) := by
  after_results_simp
  all_goals rfl

theorem V_v1 : @Eq (FVec Ideal S1x2816x1024 .bf16) (V m c main_v1) <| broadcastInDim S1x2816x1024 ![1, 2] bcast_S2816x1024_S1x2816x1024_1_2
    (truncf .bf16 (m ((c : Thread nD τ).loc main_arg1) : FVec Ideal S2816x1024 .f32) bitsLt_bf16_f32) := by
  unfold V
  exact host_v1 _

theorem weight_at (w : FVec Ideal S2816x1024 .f32) (q : Fin 2816) (k : Fin 1024) :
    (broadcastInDim S1x2816x1024 ![1, 2] bcast_S2816x1024_S1x2816x1024_1_2 (truncf .bf16 w bitsLt_bf16_f32) (ix3 0 q k) : EReal) = w (ix2 q k) := by
  pointwise []

/-! ## The arrays -/

open Cert.Reference4Ideal.Read

/-- The cotangent through the second product, entry by entry. -/
theorem ref_prod (x1 : FVec Ideal Cert.Reference4Ideal.S2816x1024 .f32) (x2 : FVec Ideal Cert.Reference4Ideal.S4096x1024 .f32) (r : Fin 4096) (q : Fin 2816) :
    val_main_v6 (F := Ideal) x1 x2 (ix2 r q) = ∑ k : Fin 1024, (x2 (ix2 r k) : EReal) * x1 (ix2 q k) := by
  unfold val_main_v6
  pointwise []

/-- A tame cotangent's two terms through the gate are one. -/
theorem gate_real (d u g : ℝ) :
    (d : EReal) * u * Cert.Ffn.sig g + g * (d * u) * (Cert.Ffn.sig g * (1 - Cert.Ffn.sig g)) = dgate d g u := by
  unfold dgate
  rw [Cert.Ffn.sig_coe]
  generalize (1 + Real.exp (-g))⁻¹ = s
  rw [show (1 : EReal) = ((1 : ℝ) : EReal) from rfl]
  simp only [← EReal.coe_mul, ← EReal.coe_add, ← EReal.coe_sub]
  congr 1
  ring

/-- The reference's gradient of the gate, entry by entry. -/
theorem ref_gate (x0 : FVec Ideal Cert.Reference4Ideal.S4096x5632 .bf16) (x1 : FVec Ideal Cert.Reference4Ideal.S2816x1024 .f32) (x2 : FVec Ideal Cert.Reference4Ideal.S4096x1024 .f32)
    (r : Fin 4096) (q : Fin 2816) :
    val_main_v9 (F := Ideal) x0 x1 x2 (ix2 r q) = (val_main_v6 (F := Ideal) x1 x2 (ix2 r q) : EReal) * x0 (ix2 r (hi q)) * Cert.Ffn.sig (x0 (ix2 r (lo q)))
      + x0 (ix2 r (lo q)) * ((val_main_v6 (F := Ideal) x1 x2 (ix2 r q) : EReal) * x0 (ix2 r (hi q))) * (Cert.Ffn.sig (x0 (ix2 r (lo q))) * (1 - Cert.Ffn.sig (x0 (ix2 r (lo q))))) := by
  rw [Cert.Ffn.sig_eq]
  unfold val_main_v9 val_main_call1_v2 val_main_call1_v1 val_main_call1_v0 val_main_v8 val_main_v3_1 val_main_call0_v7 val_main_call0_v6 val_main_call0_cst_1 val_main_v3_2
    val_main_call0_v4 val_main_call0_cst_0 val_main_call0_v3 val_main_call0_v2 val_main_call0_cst val_main_call0_v1 val_main_call0_v0 val_main_v2 val_main_v1 val_main_v0
  generalize val_main_v6 (F := Ideal) x1 x2 = d
  pointwise []

/-- The reference's gradient of the up-projection, entry by entry. -/
theorem ref_up (x0 : FVec Ideal Cert.Reference4Ideal.S4096x5632 .bf16) (x1 : FVec Ideal Cert.Reference4Ideal.S2816x1024 .f32) (x2 : FVec Ideal Cert.Reference4Ideal.S4096x1024 .f32)
    (r : Fin 4096) (q : Fin 2816) :
    val_main_v7 (F := Ideal) x0 x1 x2 (ix2 r q) = x0 (ix2 r (lo q)) * Cert.Ffn.sig (x0 (ix2 r (lo q))) * val_main_v6 (F := Ideal) x1 x2 (ix2 r q) := by
  rw [Cert.Ffn.sig_eq]
  unfold val_main_v7 val_main_v3_0 val_main_v3_2
    val_main_call0_v4 val_main_call0_cst_0 val_main_call0_v3 val_main_call0_v2 val_main_call0_cst val_main_call0_v1 val_main_call0_v0 val_main_v1 val_main_v0
  generalize val_main_v6 (F := Ideal) x1 x2 = d
  pointwise []

/-- The two halves side by side. -/
theorem ref_both (x0 : FVec Ideal Cert.Reference4Ideal.S4096x5632 .bf16) (x1 : FVec Ideal Cert.Reference4Ideal.S2816x1024 .f32) (x2 : FVec Ideal Cert.Reference4Ideal.S4096x1024 .f32)
    (r : Fin 4096) (q : Fin 5632) :
    val_main_v11 (F := Ideal) x0 x1 x2 (ix2 r q) = if h : q.val < 2816 then val_main_v9 (F := Ideal) x0 x1 x2 (ix2 r ⟨q.val, h⟩)
      else val_main_v7 (F := Ideal) x0 x1 x2 (ix2 r ⟨q.val - 2816, by omega⟩) := by
  unfold val_main_v11 val_main_v10
  generalize val_main_v9 (F := Ideal) x0 x1 x2 = a
  generalize val_main_v7 (F := Ideal) x0 x1 x2 = b
  pointwise []

/-- The reference's result at tame arguments. -/
theorem ref_at (x0 : FVec Ideal Cert.Reference4Ideal.S4096x5632 .bf16) (x1 : FVec Ideal Cert.Reference4Ideal.S2816x1024 .f32) (x2 : FVec Ideal Cert.Reference4Ideal.S4096x1024 .f32)
    (h0 : ∀ i, (x0 i : EReal) = ((EReal.toReal (x0 i) : ℝ) : EReal)) (h1 : ∀ i, (x1 i : EReal) = ((EReal.toReal (x1 i) : ℝ) : EReal))
    (h2 : ∀ i, (x2 i : EReal) = ((EReal.toReal (x2 i) : ℝ) : EReal)) (r : Fin 4096) (q : Fin 5632) :
    both (fun r q => val_main_v6 (F := Ideal) x1 x2 (ix2 r q)) (fun r q => x0 (ix2 r q)) r q = val_main_v11 (F := Ideal) x0 x1 x2 (ix2 r q) := by
  have hp : ∀ r q, ∃ d : ℝ, (val_main_v6 (F := Ideal) x1 x2 (ix2 r q) : EReal) = d := fun r q => by
    rw [ref_prod]
    refine ⟨∑ k : Fin 1024, EReal.toReal (x2 (ix2 r k)) * EReal.toReal (x1 (ix2 q k)), ?_⟩
    rw [Cert.Swa.coe_sum]
    refine sum_congr rfl fun k _ => ?_
    rw [EReal.coe_mul, ← h2, ← h1]
  rw [ref_both]
  unfold both
  by_cases h : q.val < 2816
  · rw [dif_pos h, dif_pos h, ref_gate]
    obtain ⟨d, hd⟩ := hp r ⟨q.val, h⟩
    dsimp only
    rw [hd, h0 (ix2 r (lo ⟨q.val, h⟩)), h0 (ix2 r (hi ⟨q.val, h⟩))]
    exact (gate_real _ _ _).symm
  · rw [dif_neg h, dif_neg h, ref_up]
    exact mul_comm _ _

theorem block (t : Fin cfg0.N) (l : Fin 512) (q : Fin 5632) (r : Fin 4096) (hr : r.val = t.val * 512 + l.val) :
    both (prod (iblk m c 0 t) (iblk m c 1 t)) (fun l q => iblk m c 2 t (ix2 l q)) l q
      = both (fun r q => val_main_v6 (F := Ideal) (m ((c : Thread nD τ).loc main_arg1)) (m ((c : Thread nD τ).loc main_arg2)) (ix2 r q)) (fun r q => (m ((c : Thread nD τ).loc main_arg0)) (ix2 r q)) r q := by
  have hd : ∀ q, prod (iblk m c 0 t) (iblk m c 1 t) l q = val_main_v6 (F := Ideal) (m ((c : Thread nD τ).loc main_arg1)) (m ((c : Thread nD τ).loc main_arg2)) (ix2 r q) := fun q => by
    rw [ref_prod]
    refine sum_congr rfl fun k _ => congrArg₂ (· * ·) ((blk0 m c t l k r hr).trans ?_) ((blk1 m c t q k).trans ((congrFun (V_v1 m c) _).trans (weight_at _ _ _)))
    rw [V_main_arg2]
  have hg : ∀ q, iblk m c 2 t (ix2 l q) = (m ((c : Thread nD τ).loc main_arg0)) (ix2 r q) := fun q => (blk2 m c t l q r hr).trans (by rw [V_main_arg0])
  unfold both
  dsimp only
  split
  · rw [hd, hg, hg]
  · rw [hd, hg]

theorem mem_blk3 (t : Fin cfg0.N) (i : S4096x5632.Idx) :
    i ∈ ((cfg0.win 3).blk t).view.set ↔ ∀ a : Fin 2, win0_3.index t a * S512x5632.size a ≤ (i a).val ∧ (i a).val < win0_3.index t a * S512x5632.size a + S512x5632.size a := by
  show i ∈ ((View.whole main_v2).slice (win0_3.rect t)).set ↔ _
  rw [View.set_slice_whole, Rect.mem_set_unit]
  exact Iff.rfl

theorem result3
  (h0 : ∀ i, (m ((c : Thread nD τ).loc main_arg0) i : EReal) = ((EReal.toReal (m ((c : Thread nD τ).loc main_arg0) i) : ℝ) : EReal))
  (h1 : ∀ i, (m ((c : Thread nD τ).loc main_arg1) i : EReal) = ((EReal.toReal (m ((c : Thread nD τ).loc main_arg1) i) : ℝ) : EReal))
  (h2 : ∀ i, (m ((c : Thread nD τ).loc main_arg2) i : EReal) = ((EReal.toReal (m ((c : Thread nD τ).loc main_arg2) i) : ℝ) : EReal)) : (dats m 0 c).arrAt 3 cfg0.N = val_main_v11 (F := Ideal) (m ((c : Thread nD τ).loc main_arg0)) (m ((c : Thread nD τ).loc main_arg1)) (m ((c : Thread nD τ).loc main_arg2)) := by
  have hN : cfg0.N = 8 := N_0
  refine (dats m 0 c).arrAt_eq_of_cover 3 _ (fun t _ => ?_) (fun i => ?_)
  · rw [Value.flushed3, out3_eq]
    funext j
    rw [show j = ix2 (n0 := 512) (n1 := 5632) (j 0) (j 1) from (ix2_eta (n0 := 512) (n1 := 5632) j).symm]
    have hr : t.val * 512 + (j 0).val < 4096 := by have ht : t.val < 8 := lt_of_lt_of_eq t.isLt hN; have h : (j 0).val < 512 := (j 0).isLt; omega
    refine Eq.trans ?_ (read3 t _ (j 0) (j 1) ⟨_, hr⟩ rfl).symm
    exact (block m c t (j 0) (j 1) ⟨_, hr⟩ rfl).trans (ref_at _ _ _ h0 h1 h2 _ _)
  · have hi0 : (i 0).val < 4096 := (i 0).isLt
    have hi1 : (i 1).val < 5632 := (i 1).isLt
    refine ⟨⟨(i 0).val / 512, by omega⟩, flush0_3 _, ?_⟩
    rw [mem_blk3]
    intro a
    match a with
    | ⟨0, _⟩ => show (cfg0.win 3).index _ 0 * 512 ≤ (i 0).val ∧ (i 0).val < (cfg0.win 3).index _ 0 * 512 + 512; rw [index3_0]; dsimp only; omega
    | ⟨1, _⟩ => show (cfg0.win 3).index _ 1 * 5632 ≤ (i 1).val ∧ (i 1).val < (cfg0.win 3).index _ 1 * 5632 + 5632; rw [index3_1]; omega

theorem run
  (h0 : ∀ (c : Dev nD) i, (m ((c : Thread nD τ).loc main_arg0) i : EReal) = ((EReal.toReal (m ((c : Thread nD τ).loc main_arg0) i) : ℝ) : EReal))
  (h1 : ∀ (c : Dev nD) i, (m ((c : Thread nD τ).loc main_arg1) i : EReal) = ((EReal.toReal (m ((c : Thread nD τ).loc main_arg1) i) : ℝ) : EReal))
  (h2 : ∀ (c : Dev nD) i, (m ((c : Thread nD τ).loc main_arg2) i : EReal) = ((EReal.toReal (m ((c : Thread nD τ).loc main_arg2) i) : ℝ) : EReal)) :
  θ_run defs (onTc (τ := τ) (main (F := Ideal))) ⟨m, fun _ => 0, ρ⟩ fun r => ∀ c : Dev nD,
      r.2.mem ((c : Thread nD τ).loc main_v2) = val_main_v11 (F := Ideal) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (result3 m c (h0 c) (h1 c) (h2 c)), (h c).2⟩) (Value.run_blocks m ρ)

end Cert.Kernel4Ideal.Ffn

end
-- ==== Proof.Ffn.Dx.lean ====
/- The gradient of the feed-forward layer's input and of its gain: the product of the first product's gradient with the weights,
   eight row blocks against four column blocks, then the normalisation's gradient of each row; the gain's gradient is summed from
   block to block. -/
module

public import proofs.«01_k».proof.Proof.Gen.Kernel7Ideal.Value
public import proofs.«01_k».proof.Proof.Gen.Reference7Ideal.Read
public import proofs.«01_k».proof.Proof.Gen.Reference7Ideal.Run
public import proofs.«01_k».proof.Proof.Ffn.Math
public import proofs.«01_k».proof.Proof.Swa.Math
public import Idealize.ShloMosaic.Lib.Pointwise
public import Idealize.ShloMosaic.Lib.Tactic

@[expose] public section

set_option maxRecDepth 16384

noncomputable section

namespace Cert.Kernel7Ideal.Ffn

open Idealize.ShloMosaic Idealize.ShloMosaic.TcCoe Idealize.ShloMosaic.StableHlo Cert.Kernel7Ideal Cert.Kernel7Ideal.Gen Finset Idealize.SL.Sem

theorem hz2 : (![0, 0] : Fin 2 → Nat) = fun _ => 0 := funext fun a => by fin_cases a <;> rfl

section cases
variable {F : FTy → Type} [FloatOps F]

/-- A block's product with the four column blocks of the weights, transposed. -/
def acc (a : Vec F S512x5632 .bf16) (w : Vec F S4x1x1024x1408 .bf16) : FVec F S512x1024 .f32 :=
  k0_pay6 (View.ld a (Rect.unit (s := S512x5632) ![0, 0] S512x1408.size inb_S512x5632_S512x1408_0_0))
    (View.ld w (Rect.unit (s := S4x1x1024x1408) ![0, 0, 0, 0] S1x1x1024x1408.size inb_S4x1x1024x1408_S1x1x1024x1408_0_0_0_0))
    (View.ld a (Rect.unit (s := S512x5632) ![0, 1408] S512x1408.size inb_S512x5632_S512x1408_0_1408))
    (View.ld w (Rect.unit (s := S4x1x1024x1408) ![1, 0, 0, 0] S1x1x1024x1408.size inb_S4x1x1024x1408_S1x1x1024x1408_1_0_0_0))
    (View.ld a (Rect.unit (s := S512x5632) ![0, 2816] S512x1408.size inb_S512x5632_S512x1408_0_2816))
    (View.ld w (Rect.unit (s := S4x1x1024x1408) ![2, 0, 0, 0] S1x1x1024x1408.size inb_S4x1x1024x1408_S1x1x1024x1408_2_0_0_0))
    (View.ld a (Rect.unit (s := S512x5632) ![0, 4224] S512x1408.size inb_S512x5632_S512x1408_0_4224))
    (View.ld w (Rect.unit (s := S4x1x1024x1408) ![3, 0, 0, 0] S1x1x1024x1408.size inb_S4x1x1024x1408_S1x1x1024x1408_3_0_0_0))

variable (c : Dev nD) (i : grid0.Coords) (a1 : Memref sig .tc .vmem S512x5632 .bf16) (h1 : a1.IsWhole) (a2 : Memref sig .tc .vmem S4x1x1024x1408 .bf16) (h2 : a2.IsWhole)
  (a3 : Memref sig .tc .vmem S512x1024 .f32) (h3 : a3.IsWhole) (a4 : Memref sig .tc .vmem S1x1024 .f32) (h4 : a4.IsWhole) (a5 : Memref sig .tc .vmem S512x1024 .f32) (h5 : a5.IsWhole)
  (a6 : Memref sig .tc .vmem S512x1024 .f32) (h6 : a6.IsWhole) (a7 : Memref sig .tc .vmem S1x1024 .f32) (h7 : a7.IsWhole)
  (x0 : Vec F S512x5632 .bf16) (x1 : Vec F S4x1x1024x1408 .bf16) (x2 : Vec F S512x1024 .f32) (x3 : Vec F S1x1024 .f32) (x4 : Vec F S512x1024 .f32) (xo : Vec F S1x1024 .f32)

/-- The first block's rows. -/
theorem rowsA (hc : cond0_0 i) : out0_A_5 c i a1 h1 a2 h2 a3 h3 a4 h4 a5 h5 a6 h6 a7 h7 hc x0 x1 x2 x3 x4 = k0_pay3 (acc x0 x1) x2 (k0_pay7 x2) k0_pay8 x3 x4 := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_unit_zero hz2]
  simp only [View.readAt_eq_ld, h1.read_unread, h2.read_unread, h3.read_unread, h4.read_unread, h5.read_unread, View.ld_unit_zero (S := S512x1024) hz2, View.ld_unit_zero (S := S1x1024) hz2]
  rfl

/-- The other blocks' rows. -/
theorem rowsB (hc : ¬cond0_0 i) : out0_B_5 c i a1 h1 a2 h2 a3 h3 a4 h4 a5 h5 a6 h6 a7 h7 hc x0 x1 x2 x3 x4 xo = k0_pay3 (acc x0 x1) x2 (k0_pay7 x2) k0_pay8 x3 x4 := by
  unfold out0_B_5
  rw [View.read_writes_eq_canon _ _ _ (cover0_B_5 c i a1 h1 a2 h2 a3 h3 a4 h4 a5 h5 a6 h6 a7 h7 hc x0 x1 x2 x3 x4 xo)]
  unfold kernelRun0_B
  dsimp only
  sl_unfold_words
  rw [View.canon_unit_zero hz2]
  simp only [View.readAt_eq_ld, h1.read_unread, h2.read_unread, h3.read_unread, h4.read_unread, h5.read_unread, View.ld_unit_zero (S := S512x1024) hz2, View.ld_unit_zero (S := S1x1024) hz2]
  rfl

/-- The gain's gradient, started. -/
theorem gainA (hc : cond0_0 i) : out0_A_6 c i a1 h1 a2 h2 a3 h3 a4 h4 a5 h5 a6 h6 a7 h7 hc x0 x1 x2 x3 x4 = k0_pay5 (acc x0 x1) x2 (k0_pay7 x2) k0_pay8 k0_pay4 := by
  unfold out0_A_6
  rw [View.read_writes_eq_canon _ _ _ (cover0_A_6 c i a1 h1 a2 h2 a3 h3 a4 h4 a5 h5 a6 h6 a7 h7 hc x0 x1 x2 x3 x4)]
  unfold kernelRun0_A
  dsimp only
  sl_unfold_words
  rw [View.canon_cons_unit_zero (S := S1x1024) hz2, View.readCov_unit_zero (S := S1x1024) _ hz2]
  simp only [View.readAt_eq_ld, h1.read_unread, h2.read_unread, h3.read_unread, h4.read_unread, h5.read_unread, View.ld_unit_zero (S := S512x1024) hz2, View.ld_unit_zero (S := S1x1024) hz2]
  rfl

/-- The gain's gradient, continued. -/
theorem gainB (hc : ¬cond0_0 i) : out0_B_6 c i a1 h1 a2 h2 a3 h3 a4 h4 a5 h5 a6 h6 a7 h7 hc x0 x1 x2 x3 x4 xo = k0_pay5 (acc x0 x1) x2 (k0_pay7 x2) k0_pay8 xo := by
  unfold out0_B_6
  rw [View.read_writes_eq_canon _ _ _ (cover0_B_6 c i a1 h1 a2 h2 a3 h3 a4 h4 a5 h5 a6 h6 a7 h7 hc x0 x1 x2 x3 x4 xo)]
  unfold kernelRun0_B
  dsimp only
  sl_unfold_words
  rw [View.canon_unit_zero hz2]
  simp only [View.readAt_eq_ld, h1.read_unread, h2.read_unread, h3.read_unread, h4.read_unread, h5.read_unread, h7.read_unread, View.ld_unit_zero (S := S512x1024) hz2, View.ld_unit_zero (S := S1x1024) hz2]
  rfl
end cases

/-! ## Entry by entry -/

/-- The mean of a row's squares, with the constant added. -/
abbrev ms (x : Fin 1024 → EReal) : EReal :=
  Ideal.div (∑ j : Fin 1024, x j * x j) (Ideal.ofBits FTy.f32 1149239296#32) + Ideal.ofBits FTy.f32 897988541#32

/-- Entry `k` of a row of the input's gradient, as the call computes it. -/
abbrev dxrow (p x g : Fin 1024 → EReal) (d : EReal) (k : Fin 1024) : EReal :=
  Ideal.rsqrt (ms x) * (p k * g k - x k * Ideal.rsqrt (ms x) * Ideal.div (∑ j : Fin 1024, p j * g j * (x j * Ideal.rsqrt (ms x))) (Ideal.ofBits FTy.f32 1149239296#32)) + d

theorem rows_at (A : FVec Ideal S512x1024 .f32) (x : Vec Ideal S512x1024 .f32) (g : Vec Ideal S1x1024 .f32) (d : Vec Ideal S512x1024 .f32) (l : Fin 512) (k : Fin 1024) :
    k0_pay3 (F := Ideal) A x (k0_pay7 x) k0_pay8 g d (ix2 l k) = dxrow (fun j => A (ix2 l j)) (fun j => x (ix2 l j)) (fun j => g (ix2 0 j)) (d (ix2 l k)) k := by
  pointwise [k0_pay3, k0_pay2, k0_pay1, k0_pay7, k0_pay8]

theorem gain_step (A : FVec Ideal S512x1024 .f32) (x : Vec Ideal S512x1024 .f32) (s : Vec Ideal S1x1024 .f32) (k : Fin 1024) :
    k0_pay5 (F := Ideal) A x (k0_pay7 x) k0_pay8 s (ix2 0 k) = s (ix2 0 k) + ∑ l : Fin 512, A (ix2 l k) * (x (ix2 l k) * Ideal.rsqrt (ms fun j => x (ix2 l j))) := by
  pointwise [k0_pay5, k0_pay2, k0_pay1, k0_pay7, k0_pay8]

theorem gain_zero (k : Fin 1024) : k0_pay4 (F := Ideal) (ix2 0 k) = 0 := by
  pointwise [k0_pay4]

theorem four_dots (a0 a1 a2 a3 : Vec Ideal S512x1408 .bf16) (w0 w1 w2 w3 : Vec Ideal S1x1x1024x1408 .bf16) (l : Fin 512) (k : Fin 1024) :
    k0_pay6 (F := Ideal) a0 w0 a1 w1 a2 w2 a3 w3 (ix2 l k) = (∑ n : Fin 1408, a0 (ix2 l n) * w0 (ix4 0 0 k n)) + (∑ n : Fin 1408, a1 (ix2 l n) * w1 (ix4 0 0 k n))
      + (∑ n : Fin 1408, a2 (ix2 l n) * w2 (ix4 0 0 k n)) + ∑ n : Fin 1408, a3 (ix2 l n) * w3 (ix4 0 0 k n) := by
  pointwise [k0_pay6]

/-- Column `n` of shard `s`. -/
abbrev col (s : Fin 4) (n : Fin 1408) : Fin 5632 := ⟨s.val * 1408 + n.val, by omega⟩

theorem ld_a (a : Vec Ideal S512x5632 .bf16) (s : Fin 4) (off : Nat) (ho : off = s.val * 1408) (inb) (l : Fin 512) (n : Fin 1408) :
    View.ld a (Rect.unit (s := S512x5632) ![0, off] S512x1408.size inb) (ix2 l n) = a (ix2 l (col s n)) := by
  refine congrArg a (funext fun i => Fin.ext ?_)
  match i with
  | ⟨0, _⟩ => show 0 + 1 * l.val = l.val; omega
  | ⟨1, _⟩ => show off + 1 * n.val = s.val * 1408 + n.val; omega

theorem ld_w (w : Vec Ideal S4x1x1024x1408 .bf16) (s : Fin 4) (inb) (k : Fin 1024) (n : Fin 1408) :
    View.ld w (Rect.unit (s := S4x1x1024x1408) ![s.val, 0, 0, 0] S1x1x1024x1408.size inb) (ix4 0 0 k n) = w (ix4 s 0 k n) := by
  refine congrArg w (funext fun i => Fin.ext ?_)
  match i with
  | ⟨0, _⟩ => show s.val + 1 * 0 = s.val; omega
  | ⟨1, _⟩ => show 0 + 1 * 0 = 0; omega
  | ⟨2, _⟩ => show 0 + 1 * k.val = k.val; omega
  | ⟨3, _⟩ => show 0 + 1 * n.val = n.val; omega

/-- A shard's part of an entry of the product. -/
abbrev part (a : S512x5632.Idx → EReal) (w : S4x1x1024x1408.Idx → EReal) (l : Fin 512) (k : Fin 1024) (s : Fin 4) : EReal :=
  ∑ n : Fin 1408, a (ix2 l (col s n)) * w (ix4 s 0 k n)

theorem acc_at (a : Vec Ideal S512x5632 .bf16) (w : Vec Ideal S4x1x1024x1408 .bf16) (l : Fin 512) (k : Fin 1024) :
    acc a w (ix2 l k) = part a w l k 0 + part a w l k 1 + part a w l k 2 + part a w l k 3 := by
  unfold acc
  rw [four_dots]
  refine congrArg₂ (· + ·) (congrArg₂ (· + ·) (congrArg₂ (· + ·) ?_ ?_) ?_) ?_
  · exact sum_congr rfl fun n _ => congrArg₂ (· * ·) (ld_a a 0 0 rfl _ l n) (ld_w w 0 _ k n)
  · exact sum_congr rfl fun n _ => congrArg₂ (· * ·) (ld_a a 1 1408 rfl _ l n) (ld_w w 1 _ k n)
  · exact sum_congr rfl fun n _ => congrArg₂ (· * ·) (ld_a a 2 2816 rfl _ l n) (ld_w w 2 _ k n)
  · exact sum_congr rfl fun n _ => congrArg₂ (· * ·) (ld_a a 3 4224 rfl _ l n) (ld_w w 3 _ k n)

/-- A sum over the columns, shard by shard. -/
theorem sum_shards (f : Fin 5632 → EReal) : ∑ q, f q = (∑ n, f (col 0 n)) + (∑ n, f (col 1 n)) + (∑ n, f (col 2 n)) + ∑ n, f (col 3 n) := by
  have h : ∑ q, f q = ∑ s : Fin 4, ∑ n : Fin 1408, f (col s n) := by
    rw [← Fintype.sum_prod_type']
    refine (Fintype.sum_equiv (finProdFinEquiv (m := 4) (n := 1408)) _ _ fun x => congrArg f (Fin.ext ?_)).symm
    show x.1.val * 1408 + x.2.val = x.2.val + 1408 * x.1.val
    omega
  rw [h, Fin.sum_univ_four]

/-- Row `l` of block `t`. -/
abbrev row (t : Fin 8) (l : Fin 512) : Fin 4096 := ⟨t.val * 512 + l.val, by omega⟩

/-- A sum over the rows, block by block. -/
theorem sum_rows (f : Fin 4096 → EReal) : ∑ r, f r = ∑ t : Fin 8, ∑ l : Fin 512, f (row t l) := by
  rw [← Fintype.sum_prod_type']
  refine (Fintype.sum_equiv (finProdFinEquiv (m := 8) (n := 512)) _ _ fun x => congrArg f (Fin.ext ?_)).symm
  show x.1.val * 512 + x.2.val = x.2.val + 512 * x.1.val
  omega

/-! ## The blocks -/

theorem index0_0 : ∀ t : Fin cfg0.N, (cfg0.win 0).index t 0 = t.val := by decide +kernel
theorem index0_1 : ∀ t : Fin cfg0.N, (cfg0.win 0).index t 1 = 0 := by decide +kernel
theorem index1_0 : ∀ t : Fin cfg0.N, (cfg0.win 1).index t 0 = 0 := by decide +kernel
theorem index1_1 : ∀ t : Fin cfg0.N, (cfg0.win 1).index t 1 = 1 := by decide +kernel
theorem index1_2 : ∀ t : Fin cfg0.N, (cfg0.win 1).index t 2 = 0 := by decide +kernel
theorem index1_3 : ∀ t : Fin cfg0.N, (cfg0.win 1).index t 3 = 0 := by decide +kernel
theorem index2_0 : ∀ t : Fin cfg0.N, (cfg0.win 2).index t 0 = t.val := by decide +kernel
theorem index2_1 : ∀ t : Fin cfg0.N, (cfg0.win 2).index t 1 = 0 := by decide +kernel
theorem index3_0 : ∀ t : Fin cfg0.N, (cfg0.win 3).index t 0 = 0 := by decide +kernel
theorem index3_1 : ∀ t : Fin cfg0.N, (cfg0.win 3).index t 1 = 0 := by decide +kernel
theorem index4_0 : ∀ t : Fin cfg0.N, (cfg0.win 4).index t 0 = t.val := by decide +kernel
theorem index4_1 : ∀ t : Fin cfg0.N, (cfg0.win 4).index t 1 = 0 := by decide +kernel
theorem index5_0 : ∀ t : Fin cfg0.N, (cfg0.win 5).index t 0 = t.val := by decide +kernel
theorem index5_1 : ∀ t : Fin cfg0.N, (cfg0.win 5).index t 1 = 0 := by decide +kernel
theorem index6_0 : ∀ t : Fin cfg0.N, (cfg0.win 6).index t 0 = 0 := by decide +kernel
theorem index6_1 : ∀ t : Fin cfg0.N, (cfg0.win 6).index t 1 = 0 := by decide +kernel

theorem read0 (t : Fin cfg0.N) (A : S4096x5632.Idx → Elt Ideal .bf16) (l : Fin 512) (n : Fin 5632) (r : Fin 4096) (hr : r.val = t.val * 512 + l.val) :
    ((cfg0.win 0).blk t).view.read (Elt Ideal) A (ix2 l n) = A (ix2 r n) := by
  rw [View.read_apply]
  refine congrArg A (funext fun i => Fin.ext ?_)
  match i with
  | ⟨0, _⟩ => show (cfg0.win 0).index t 0 * 512 + 1 * l.val = r.val; rw [index0_0]; omega
  | ⟨1, _⟩ => show (cfg0.win 0).index t 1 * 5632 + 1 * n.val = n.val; rw [index0_1]; omega

theorem read1 (t : Fin cfg0.N) (A : S4x2x1024x1408.Idx → Elt Ideal .bf16) (s : Fin 4) (k : Fin 1024) (n : Fin 1408) :
    ((cfg0.win 1).blk t).view.read (Elt Ideal) A (ix4 s 0 k n) = A (ix4 s 1 k n) := by
  rw [View.read_apply]
  refine congrArg A (funext fun i => Fin.ext ?_)
  match i with
  | ⟨0, _⟩ => show (cfg0.win 1).index t 0 * 4 + 1 * s.val = s.val; rw [index1_0]; omega
  | ⟨1, _⟩ => show (cfg0.win 1).index t 1 * 1 + 1 * 0 = 1; rw [index1_1]
  | ⟨2, _⟩ => show (cfg0.win 1).index t 2 * 1024 + 1 * k.val = k.val; rw [index1_2]; omega
  | ⟨3, _⟩ => show (cfg0.win 1).index t 3 * 1408 + 1 * n.val = n.val; rw [index1_3]; omega

theorem read2 (t : Fin cfg0.N) (A : S4096x1024.Idx → Elt Ideal .f32) (l : Fin 512) (n : Fin 1024) (r : Fin 4096) (hr : r.val = t.val * 512 + l.val) :
    ((cfg0.win 2).blk t).view.read (Elt Ideal) A (ix2 l n) = A (ix2 r n) := by
  rw [View.read_apply]
  refine congrArg A (funext fun i => Fin.ext ?_)
  match i with
  | ⟨0, _⟩ => show (cfg0.win 2).index t 0 * 512 + 1 * l.val = r.val; rw [index2_0]; omega
  | ⟨1, _⟩ => show (cfg0.win 2).index t 1 * 1024 + 1 * n.val = n.val; rw [index2_1]; omega

theorem read3 (t : Fin cfg0.N) (A : S1x1024.Idx → Elt Ideal .f32) (k : Fin 1024) :
    ((cfg0.win 3).blk t).view.read (Elt Ideal) A (ix2 0 k) = A (ix2 0 k) := by
  rw [View.read_apply]
  refine congrArg A (funext fun i => Fin.ext ?_)
  match i with
  | ⟨0, _⟩ => show (cfg0.win 3).index t 0 * 1 + 1 * 0 = 0; rw [index3_0]
  | ⟨1, _⟩ => show (cfg0.win 3).index t 1 * 1024 + 1 * k.val = k.val; rw [index3_1]; omega

theorem read4 (t : Fin cfg0.N) (A : S4096x1024.Idx → Elt Ideal .f32) (l : Fin 512) (n : Fin 1024) (r : Fin 4096) (hr : r.val = t.val * 512 + l.val) :
    ((cfg0.win 4).blk t).view.read (Elt Ideal) A (ix2 l n) = A (ix2 r n) := by
  rw [View.read_apply]
  refine congrArg A (funext fun i => Fin.ext ?_)
  match i with
  | ⟨0, _⟩ => show (cfg0.win 4).index t 0 * 512 + 1 * l.val = r.val; rw [index4_0]; omega
  | ⟨1, _⟩ => show (cfg0.win 4).index t 1 * 1024 + 1 * n.val = n.val; rw [index4_1]; omega

theorem read5 (t : Fin cfg0.N) (A : S4096x1024.Idx → Elt Ideal .f32) (l : Fin 512) (n : Fin 1024) (r : Fin 4096) (hr : r.val = t.val * 512 + l.val) :
    ((cfg0.win 5).blk t).view.read (Elt Ideal) A (ix2 l n) = A (ix2 r n) := by
  rw [View.read_apply]
  refine congrArg A (funext fun i => Fin.ext ?_)
  match i with
  | ⟨0, _⟩ => show (cfg0.win 5).index t 0 * 512 + 1 * l.val = r.val; rw [index5_0]; omega
  | ⟨1, _⟩ => show (cfg0.win 5).index t 1 * 1024 + 1 * n.val = n.val; rw [index5_1]; omega

theorem read6 (t : Fin cfg0.N) (A : S1x1024.Idx → Elt Ideal .f32) (k : Fin 1024) :
    ((cfg0.win 6).blk t).view.read (Elt Ideal) A (ix2 0 k) = A (ix2 0 k) := by
  rw [View.read_apply]
  refine congrArg A (funext fun i => Fin.ext ?_)
  match i with
  | ⟨0, _⟩ => show (cfg0.win 6).index t 0 * 1 + 1 * 0 = 0; rw [index6_0]
  | ⟨1, _⟩ => show (cfg0.win 6).index t 1 * 1024 + 1 * k.val = k.val; rw [index6_1]; omega

variable (m : (ℓ : Loc nD τ sig) → Buf (Elt Ideal) ℓ) (ρ : Dev nD → PrngReg) (c : Dev nD)

theorem blk0 (t : Fin cfg0.N) (l : Fin 512) (k : Fin 5632) (r : Fin 4096) (hr : r.val = t.val * 512 + l.val) :
    iblk m c 0 t (ix2 l k) = V m c main_arg3 (ix2 r k) := by
  unfold iblk
  exact read0 t (V m c main_arg3) l k r hr

theorem blk1 (t : Fin cfg0.N) (s : Fin 4) (k : Fin 1024) (n : Fin 1408) : iblk m c 1 t (ix4 s 0 k n) = V m c main_v2 (ix4 s 1 k n) := by
  unfold iblk
  exact read1 t (V m c main_v2) s k n

theorem blk2 (t : Fin cfg0.N) (l : Fin 512) (k : Fin 1024) (r : Fin 4096) (hr : r.val = t.val * 512 + l.val) :
    iblk m c 2 t (ix2 l k) = V m c main_arg0 (ix2 r k) := by
  unfold iblk
  exact read2 t (V m c main_arg0) l k r hr

theorem blk3 (t : Fin cfg0.N) (k : Fin 1024) : iblk m c 3 t (ix2 0 k) = V m c main_v3 (ix2 0 k) := by
  unfold iblk
  exact read3 t (V m c main_v3) k

theorem blk4 (t : Fin cfg0.N) (l : Fin 512) (k : Fin 1024) (r : Fin 4096) (hr : r.val = t.val * 512 + l.val) :
    iblk m c 4 t (ix2 l k) = V m c main_arg4 (ix2 r k) := by
  unfold iblk
  exact read4 t (V m c main_arg4) l k r hr

/-- The gain, as the host lays it out for the call. -/
theorem host_v3 {F : FTy → Type} [FloatOps F] (V0 : Valuation τ sig (Elt F)) : after hostOps0 V0 (Proc.devRef .tc main_v3)
    = shapeCast S1x1024 (V0 (Proc.devRef .tc main_arg1) : FVec F S1024 .f32) shapeCasts_S1024_S1x1024 := by
  after_results_simp
  all_goals rfl

/-- The weights, as the host lays them out for the call. -/
theorem host_v2 {F : FTy → Type} [FloatOps F] (V0 : Valuation τ sig (Elt F)) : after hostOps0 V0 (Proc.devRef .tc main_v2)
    = transpose S4x2x1024x1408 [2, 0, 1, 3] (shapeCast S2x1024x4x1408 (truncf .bf16 (V0 (Proc.devRef .tc main_arg2) : FVec F S2x1024x5632 .f32) bitsLt_bf16_f32)
      shapeCasts_S2x1024x5632_S2x1024x4x1408) transposes_S2x1024x4x1408_S4x2x1024x1408_2_0_1_3 := by
  after_results_simp
  all_goals rfl

theorem V_v3 : @Eq (FVec Ideal S1x1024 .f32) (V m c main_v3) <| shapeCast S1x1024 (m ((c : Thread nD τ).loc main_arg1) : FVec Ideal S1024 .f32) shapeCasts_S1024_S1x1024 := by
  unfold V
  exact host_v3 _

theorem V_v2 : @Eq (FVec Ideal S4x2x1024x1408 .bf16) (V m c main_v2) <| transpose S4x2x1024x1408 [2, 0, 1, 3]
    (shapeCast S2x1024x4x1408 (truncf .bf16 (m ((c : Thread nD τ).loc main_arg2) : FVec Ideal S2x1024x5632 .f32) bitsLt_bf16_f32)
      shapeCasts_S2x1024x5632_S2x1024x4x1408) transposes_S2x1024x4x1408_S4x2x1024x1408_2_0_1_3 := by
  unfold V
  exact host_v2 _

theorem gain_at (x : FVec Ideal S1024 .f32) (k : Fin 1024) : (shapeCast S1x1024 x shapeCasts_S1024_S1x1024 (ix2 0 k) : EReal) = x (ix1 k) := by
  pointwise []

theorem weight_at (w : FVec Ideal S2x1024x5632 .f32) (j : Fin 4) (y : Fin 2) (k : Fin 1024) (n : Fin 1408) :
    (transpose S4x2x1024x1408 [2, 0, 1, 3] (shapeCast S2x1024x4x1408 (truncf .bf16 w bitsLt_bf16_f32) shapeCasts_S2x1024x5632_S2x1024x4x1408)
      transposes_S2x1024x4x1408_S4x2x1024x1408_2_0_1_3 (ix4 j y k n) : EReal) = w (ix3 y k (col j n)) := by
  pointwise []

/-! ## The reference -/

open Cert.Reference7Ideal.Read

/-- Entry `k` of a row of the input's gradient, as the reference computes it. -/
abbrev refrow (p x g : Fin 1024 → EReal) (d : EReal) (k : Fin 1024) : EReal :=
  d + p k * g k * Ideal.rsqrt (ms x)
    + x k * Ideal.div ((∑ j : Fin 1024, x j * (p j * g j)) * (Ideal.ofBits FTy.f32 3204448256#32 * Ideal.div (Ideal.rsqrt (ms x)) (ms x))) (Ideal.ofBits FTy.f32 1149239296#32)
    + Ideal.div ((∑ j : Fin 1024, x j * (p j * g j)) * (Ideal.ofBits FTy.f32 3204448256#32 * Ideal.div (Ideal.rsqrt (ms x)) (ms x))) (Ideal.ofBits FTy.f32 1149239296#32) * x k

/-- The reference's product with the weights, entry by entry. -/
theorem ref_p (x2 : FVec Ideal Cert.Reference7Ideal.S2x1024x5632 .f32) (x3 : FVec Ideal Cert.Reference7Ideal.S4096x5632 .bf16) (r : Fin 4096) (k : Fin 1024) :
    val_main_v20 (F := Ideal) x2 x3 (ix2 r k) = ∑ q : Fin 5632, (x3 (ix2 r q) : EReal) * x2 (ix3 1 k q) := by
  unfold val_main_v20 val_main_v19 val_main_v17 val_main_v16
  pointwise []

theorem ref_dx (x0 : FVec Ideal Cert.Reference7Ideal.S4096x1024 .f32) (x1 : FVec Ideal Cert.Reference7Ideal.S1024 .f32) (x2 : FVec Ideal Cert.Reference7Ideal.S2x1024x5632 .f32)
    (x3 : FVec Ideal Cert.Reference7Ideal.S4096x5632 .bf16) (x4 : FVec Ideal Cert.Reference7Ideal.S4096x1024 .f32) (r : Fin 4096) (k : Fin 1024) :
    val_main_v41 (F := Ideal) x0 x1 x2 x3 x4 (ix2 r k)
      = refrow (fun j => val_main_v20 (F := Ideal) x2 x3 (ix2 r j)) (fun j => x0 (ix2 r j)) (fun j => x1 (ix1 j)) (x4 (ix2 r k)) k := by
  unfold val_main_v41 val_main_v40 val_main_v39 val_main_v38 val_main_v37 val_main_v36 val_main_v35 val_main_v34 val_main_v33 val_main_v32 val_main_v31 val_main_v30 val_main_v29
    val_main_v28 val_main_v27 val_main_v25 val_main_v24 val_main_v13 val_main_v10 val_main_v9 val_main_v8 val_main_v7 val_main_v6 val_main_v5 val_main_v4 val_main_v3 val_main_v2
    val_main_v1 val_main_v0 val_main_cst val_main_cst_0 val_main_cst_1 val_main_cst_2 val_main_cst_5 val_main_cst_6 val_main_cst_7
  generalize val_main_v20 (F := Ideal) x2 x3 = p
  pointwise []
  simp only [Fin.sum_univ_one]

theorem ref_dg (x0 : FVec Ideal Cert.Reference7Ideal.S4096x1024 .f32) (x2 : FVec Ideal Cert.Reference7Ideal.S2x1024x5632 .f32)
    (x3 : FVec Ideal Cert.Reference7Ideal.S4096x5632 .bf16) (k : Fin 1024) :
    val_main_v42 (F := Ideal) x0 x2 x3 (ix2 0 k)
      = ∑ r : Fin 4096, x0 (ix2 r k) * Ideal.rsqrt (ms fun j => x0 (ix2 r j)) * val_main_v20 (F := Ideal) x2 x3 (ix2 r k) := by
  unfold val_main_v42 val_main_v26 val_main_v23 val_main_v22 val_main_v21 val_main_v12 val_main_v11 val_main_v7 val_main_v6 val_main_v5 val_main_v4 val_main_v3 val_main_v2
    val_main_v1 val_main_v0 val_main_cst val_main_cst_0 val_main_cst_1 val_main_cst_3 val_main_cst_4
  generalize val_main_v20 (F := Ideal) x2 x3 = p
  pointwise []
  simp only [Fin.sum_univ_one]

/-! ## The two gradients of a row are equal -/

theorem c1024 : Ideal.ofBits FTy.f32 1149239296#32 = ((1024 : ℝ) : EReal) := by
  simp [Ideal.ofBits, Ideal.ieee, -EReal.coe_mul]; norm_num
theorem ceps : Ideal.ofBits FTy.f32 897988541#32 = ((8796093 / 8796093022208 : ℝ) : EReal) := by
  simp [Ideal.ofBits, Ideal.ieee, -EReal.coe_mul]; norm_num
theorem cneg : Ideal.ofBits FTy.f32 3204448256#32 = ((-(1 / 2) : ℝ) : EReal) := by
  simp [Ideal.ofBits, Ideal.ieee, -EReal.coe_mul]; norm_num

/-- At finite rows the reference's entry is the call's. -/
theorem row_eq (p x g : Fin 1024 → ℝ) (d : EReal) (k : Fin 1024) :
    dxrow (fun j => (p j : EReal)) (fun j => (x j : EReal)) (fun j => (g j : EReal)) d k
      = refrow (fun j => (p j : EReal)) (fun j => (x j : EReal)) (fun j => (g j : EReal)) d k := by
  have hS : (∑ j : Fin 1024, (x j : EReal) * (x j : EReal)) = ((∑ j, x j * x j : ℝ) : EReal) := by
    rw [Cert.Swa.coe_sum]; exact sum_congr rfl fun j _ => (EReal.coe_mul _ _).symm
  have h0 : 0 ≤ ∑ j, x j * x j := sum_nonneg fun j _ => mul_self_nonneg _
  obtain ⟨v, hv⟩ : ∃ v : ℝ, v = (∑ j, x j * x j) * (1 / 1024) + 8796093 / 8796093022208 := ⟨_, rfl⟩
  have hp : 0 < v := by rw [hv]; positivity
  have hms : ms (fun j => (x j : EReal)) = (v : EReal) := by
    unfold ms
    dsimp only
    rw [hS, c1024, ceps, Ideal.div_coe (by norm_num), ← EReal.coe_mul, ← EReal.coe_add, hv]
  obtain ⟨q, hq⟩ : ∃ q : ℝ, q = (Real.sqrt v)⁻¹ := ⟨_, rfl⟩
  have hr : Ideal.rsqrt (v : EReal) = (q : EReal) := by
    rw [Ideal.rsqrt_coe, if_neg (not_lt.2 hp.le), if_neg hp.ne', hq]
  have hqv : 1 / v = q * q := by
    rw [hq, ← mul_inv, Real.mul_self_sqrt hp.le, one_div]
  have hT1 : (∑ j : Fin 1024, (p j : EReal) * (g j : EReal) * ((x j : EReal) * (q : EReal))) = ((q * ∑ j, x j * (p j * g j) : ℝ) : EReal) := by
    rw [mul_sum, Cert.Swa.coe_sum]
    refine sum_congr rfl fun j _ => ?_
    rw [← EReal.coe_mul, ← EReal.coe_mul, ← EReal.coe_mul]
    congr 1
    ring
  have hT2 : (∑ j : Fin 1024, (x j : EReal) * ((p j : EReal) * (g j : EReal))) = ((∑ j, x j * (p j * g j) : ℝ) : EReal) := by
    rw [Cert.Swa.coe_sum]
    refine sum_congr rfl fun j _ => ?_
    rw [← EReal.coe_mul, ← EReal.coe_mul]
  unfold dxrow refrow
  rw [hms, hr]
  dsimp only
  rw [hT1, hT2, c1024, cneg]
  generalize (∑ j, x j * (p j * g j)) = T
  rw [Ideal.div_coe (by norm_num), Ideal.div_coe hp.ne', Ideal.div_coe (by norm_num), hqv]
  simp only [← EReal.coe_mul, ← EReal.coe_sub]
  rw [add_assoc, add_assoc, add_comm, ← EReal.coe_add, ← EReal.coe_add]
  congr 2
  ring

/-! ## The arrays -/

variable (h0 : ∀ i, (m ((c : Thread nD τ).loc main_arg0) i : EReal) = ((EReal.toReal (m ((c : Thread nD τ).loc main_arg0) i) : ℝ) : EReal))
  (h1 : ∀ i, (m ((c : Thread nD τ).loc main_arg1) i : EReal) = ((EReal.toReal (m ((c : Thread nD τ).loc main_arg1) i) : ℝ) : EReal))
  (h2 : ∀ i, (m ((c : Thread nD τ).loc main_arg2) i : EReal) = ((EReal.toReal (m ((c : Thread nD τ).loc main_arg2) i) : ℝ) : EReal))
  (h3 : ∀ i, (m ((c : Thread nD τ).loc main_arg3) i : EReal) = ((EReal.toReal (m ((c : Thread nD τ).loc main_arg3) i) : ℝ) : EReal))

/-- The reference's product of the launched arguments. -/
abbrev P : S4096x1024.Idx → EReal :=
  val_main_v20 (F := Ideal) (m ((c : Thread nD τ).loc main_arg2)) (m ((c : Thread nD τ).loc main_arg3))

/-- A shard's part of an entry of the whole product. -/
abbrev wpart (a : S4096x5632.Idx → EReal) (w : S2x1024x5632.Idx → EReal) (r : Fin 4096) (k : Fin 1024) (s : Fin 4) : EReal :=
  ∑ n : Fin 1408, a (ix2 r (col s n)) * w (ix3 1 k (col s n))

theorem prod_block (t : Fin cfg0.N) (l : Fin 512) (k : Fin 1024) (r : Fin 4096) (hr : r.val = t.val * 512 + l.val) :
    acc (F := Ideal) (iblk m c 0 t) (iblk m c 1 t) (ix2 l k) = P m c (ix2 r k) := by
  have hs : ∀ s : Fin 4, part (iblk m c 0 t) (iblk m c 1 t) l k s
      = wpart (m ((c : Thread nD τ).loc main_arg3)) (m ((c : Thread nD τ).loc main_arg2)) r k s := by
    intro s
    refine sum_congr rfl fun n _ => congrArg₂ (· * ·) ?_ ?_
    · exact (blk0 m c t l _ r hr).trans (by rw [V_main_arg3])
    · exact (blk1 m c t s k n).trans ((congrFun (V_v2 m c) _).trans (weight_at _ s 1 k n))
  rw [acc_at, hs, hs, hs, hs]
  unfold P
  rw [ref_p, sum_shards]

include h2 h3 in
theorem P_real (r : Fin 4096) (k : Fin 1024) : P m c (ix2 r k) = ((EReal.toReal (P m c (ix2 r k)) : ℝ) : EReal) := by
  have e : P m c (ix2 r k) = ((∑ q : Fin 5632, EReal.toReal (m ((c : Thread nD τ).loc main_arg3) (ix2 r q)) * EReal.toReal (m ((c : Thread nD τ).loc main_arg2) (ix3 1 k q)) : ℝ) : EReal) := by
    unfold P
    rw [ref_p, Cert.Swa.coe_sum]
    refine sum_congr rfl fun q _ => ?_
    rw [EReal.coe_mul]
    exact congrArg₂ (· * ·) (h3 _) (h2 _)
  rw [e, EReal.toReal_coe]

theorem row_h (t : Fin cfg0.N) (l : Fin 512) (r : Fin 4096) (hr : r.val = t.val * 512 + l.val) :
    (fun j : Fin 1024 => (iblk m c 2 t (ix2 l j) : EReal)) = fun j => m ((c : Thread nD τ).loc main_arg0) (ix2 r j) :=
  funext fun j => (blk2 m c t l j r hr).trans (by rw [V_main_arg0])

/-- A block of the input's gradient, entry by entry. -/
theorem dx_block (t : Fin cfg0.N) (l : Fin 512) (k : Fin 1024) (r : Fin 4096) (hr : r.val = t.val * 512 + l.val) :
    k0_pay3 (F := Ideal) (acc (iblk m c 0 t) (iblk m c 1 t)) (iblk m c 2 t) (k0_pay7 (iblk m c 2 t)) k0_pay8 (iblk m c 3 t) (iblk m c 4 t) (ix2 l k)
      = dxrow (fun j => P m c (ix2 r j)) (fun j => m ((c : Thread nD τ).loc main_arg0) (ix2 r j)) (fun j => m ((c : Thread nD τ).loc main_arg1) (ix1 j))
        (m ((c : Thread nD τ).loc main_arg4) (ix2 r k)) k := by
  have hg : (fun j : Fin 1024 => (iblk m c 3 t (ix2 0 j) : EReal)) = fun j => m ((c : Thread nD τ).loc main_arg1) (ix1 j) :=
    funext fun j => (blk3 m c t j).trans ((congrFun (V_v3 m c) _).trans (gain_at _ j))
  have hp : (fun j : Fin 1024 => (acc (F := Ideal) (iblk m c 0 t) (iblk m c 1 t) (ix2 l j) : EReal)) = fun j => P m c (ix2 r j) :=
    funext fun j => prod_block m c t l j r hr
  have hd : (iblk m c 4 t (ix2 l k) : EReal) = m ((c : Thread nD τ).loc main_arg4) (ix2 r k) := (blk4 m c t l k r hr).trans (by rw [V_main_arg4])
  rw [rows_at, hp, row_h m c t l r hr, hg, hd]

/-- What a point leaves of the input's gradient. -/
theorem rows_out (t : Fin cfg0.N) : (outsAt0 m c t.val t.isLt).1
    = k0_pay3 (F := Ideal) (acc (iblk m c 0 t) (iblk m c 1 t)) (iblk m c 2 t) (k0_pay7 (iblk m c 2 t)) k0_pay8 (iblk m c 3 t) (iblk m c 4 t) := by
  by_cases h : t.val % 8 = 0
  · rw [outsAt0_A m c t h]
    dsimp only
    rw [rowsA]
  · rw [outsAt0_B m c t h]
    dsimp only
    rw [rowsB]

/-- A block's part of the gain's gradient, of the product and the rows. -/
abbrev gsum (p x : S4096x1024.Idx → EReal) (t : Fin 8) (k : Fin 1024) : EReal :=
  ∑ l : Fin 512, p (ix2 (row t l) k) * (x (ix2 (row t l) k) * Ideal.rsqrt (ms fun j => x (ix2 (row t l) j)))

/-- Block `t`'s part of the gain's gradient. -/
abbrev gpart (t : Fin 8) (k : Fin 1024) : EReal := gsum (P m c) (m ((c : Thread nD τ).loc main_arg0)) t k

theorem gain_block (t : Fin cfg0.N) (t' : Fin 8) (ht : t'.val = t.val) (s : Vec Ideal S1x1024 .f32) (k : Fin 1024) :
    k0_pay5 (F := Ideal) (acc (iblk m c 0 t) (iblk m c 1 t)) (iblk m c 2 t) (k0_pay7 (iblk m c 2 t)) k0_pay8 s (ix2 0 k) = s (ix2 0 k) + gpart m c t' k := by
  rw [gain_step]
  refine congrArg (_ + ·) (sum_congr rfl fun l _ => ?_)
  have hr : (row t' l).val = t.val * 512 + l.val := by show t'.val * 512 + l.val = _; rw [ht]
  rw [prod_block m c t l k (row t' l) hr, row_h m c t l (row t' l) hr]
  exact congrArg (fun z : EReal => P m c (ix2 (row t' l) k) * (z * Ideal.rsqrt (ms fun j => m ((c : Thread nD τ).loc main_arg0) (ix2 (row t' l) j)))) (congrFun (row_h m c t l (row t' l) hr) k)

/-- The gain's gradient after point `n`: the sum of the parts so far. -/
theorem gain_out (k : Fin 1024) : ∀ (n : Nat) (hn : n < cfg0.N), (outsAt0 m c n hn).2 (ix2 0 k)
    = ∑ t ∈ range (n + 1), if h : t < 8 then gpart m c ⟨t, h⟩ k else 0 := by
  have hN : cfg0.N = 8 := N_0
  intro n
  induction n with
  | zero =>
    intro hn
    rw [show outsAt0 m c 0 hn = _ from outsAt0_A m c ⟨0, hn⟩ rfl]
    dsimp only
    rw [gainA, gain_block m c ⟨0, hn⟩ 0 rfl, gain_zero]
    simp
  | succ n ih =>
    intro hn
    have h8 : n + 1 < 8 := by omega
    rw [show outsAt0 m c (n + 1) hn = _ from outsAt0_B m c ⟨n + 1, hn⟩ (by dsimp only; omega)]
    dsimp only
    rw [gainB, gain_block m c ⟨n + 1, hn⟩ ⟨n + 1, h8⟩ rfl, sum_range_succ, dif_pos h8]
    exact congrArg (· + _) (ih (by omega))

theorem mem_blk5 (t : Fin cfg0.N) (i : S4096x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v4_0).slice (win0_5.rect t)).set ↔ _
  rw [View.set_slice_whole, Rect.mem_set_unit]
  exact Iff.rfl

theorem mem_blk6 (t : Fin cfg0.N) (i : S1x1024.Idx) :
    i ∈ ((cfg0.win 6).blk t).view.set ↔ ∀ a : Fin 2, win0_6.index t a * S1x1024.size a ≤ (i a).val ∧ (i a).val < win0_6.index t a * S1x1024.size a + S1x1024.size a := by
  show i ∈ ((View.whole main_v4_1).slice (win0_6.rect t)).set ↔ _
  rw [View.set_slice_whole, Rect.mem_set_unit]
  exact Iff.rfl

theorem flush5 : ∀ t : Fin cfg0.N, (cfg0.win 5).flush t = true :=
  (by decide +kernel : ∀ t : Fin grid0.N, (cfg0.win 5).flush t = true)
theorem flush6 : ∀ t : Fin cfg0.N, (cfg0.win 6).flush t = true ↔ t.val = 7 :=
  (by decide +kernel : ∀ t : Fin grid0.N, (cfg0.win 6).flush t = true ↔ t.val = 7)

include h0 h1 h2 h3 in
theorem result5 : (dats m 0 c).arrAt 5 cfg0.N = val_main_v41 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) := by
  have hN : cfg0.N = 8 := N_0
  refine (dats m 0 c).arrAt_eq_of_cover 5 _ (fun t _ => ?_) (fun i => ?_)
  · rw [Value.flushed5, rows_out]
    funext j
    rw [show j = ix2 (n0 := 512) (n1 := 1024) (j 0) (j 1) from (ix2_eta (n0 := 512) (n1 := 1024) j).symm]
    have hr : t.val * 512 + (j 0).val < 4096 := by have ht : t.val < 8 := lt_of_lt_of_eq t.isLt hN; have h : (j 0).val < 512 := (j 0).isLt; omega
    refine Eq.trans ?_ (read5 t _ (j 0) (j 1) ⟨_, hr⟩ rfl).symm
    refine (dx_block m c t (j 0) (j 1) ⟨_, hr⟩ rfl).trans (Eq.trans ?_ (ref_dx _ _ _ _ _ ⟨_, hr⟩ (j 1)).symm)
    rw [show (fun j' : Fin 1024 => P m c (ix2 ⟨_, hr⟩ j')) = fun j' => ((EReal.toReal (P m c (ix2 ⟨_, hr⟩ j')) : ℝ) : EReal) from funext fun j' => P_real m c h2 h3 ⟨_, hr⟩ j',
      show (fun j' : Fin 1024 => (m ((c : Thread nD τ).loc main_arg0) (ix2 ⟨_, hr⟩ j') : EReal)) = fun j' => ((EReal.toReal (m ((c : Thread nD τ).loc main_arg0) (ix2 ⟨_, hr⟩ j')) : ℝ) : EReal) from funext fun j' => h0 _,
      show (fun j' : Fin 1024 => (m ((c : Thread nD τ).loc main_arg1) (ix1 j') : EReal)) = fun j' => ((EReal.toReal (m ((c : Thread nD τ).loc main_arg1) (ix1 j')) : ℝ) : EReal) from funext fun j' => h1 _]
    exact row_eq _ _ _ _ _
  · have hi0 : (i 0).val < 4096 := (i 0).isLt
    have hi1 : (i 1).val < 1024 := (i 1).isLt
    refine ⟨⟨(i 0).val / 512, by omega⟩, flush5 _, ?_⟩
    rw [mem_blk5]
    intro a
    match a with
    | ⟨0, _⟩ => show (cfg0.win 5).index _ 0 * 512 ≤ (i 0).val ∧ (i 0).val < (cfg0.win 5).index _ 0 * 512 + 512; rw [index5_0]; dsimp only; omega
    | ⟨1, _⟩ => show (cfg0.win 5).index _ 1 * 1024 ≤ (i 1).val ∧ (i 1).val < (cfg0.win 5).index _ 1 * 1024 + 1024; rw [index5_1]; omega

theorem result6 : (dats m 0 c).arrAt 6 cfg0.N = val_main_v42 (F := Ideal) (m ((c : Thread nD τ).loc main_arg0)) (m ((c : Thread nD τ).loc main_arg2)) (m ((c : Thread nD τ).loc main_arg3)) := by
  have hN : cfg0.N = 8 := N_0
  refine (dats m 0 c).arrAt_eq_of_cover 6 _ (fun t ht => ?_) (fun i => ?_)
  · have h7 : t.val = 7 := (flush6 t).1 ht
    rw [Value.flushed6]
    funext j
    have hj : (j 0).val < 1 := (j 0).isLt
    rw [show j = ix2 (n0 := 1) (n1 := 1024) 0 (j 1) from (ix2_eta (n0 := 1) (n1 := 1024) j).symm.trans (congrArg (fun z => ix2 (n0 := 1) (n1 := 1024) z (j 1)) (Fin.ext (by show (j 0).val = 0; omega)))]
    refine Eq.trans ?_ (read6 t _ (j 1)).symm
    refine (gain_out m c (j 1) t.val t.isLt).trans (Eq.trans ?_ (ref_dg _ _ _ (j 1)).symm)
    rw [h7, sum_rows, sum_range]
    refine sum_congr rfl fun s _ => ?_
    rw [dif_pos s.isLt]
    exact sum_congr rfl fun l _ => mul_comm (G := EReal) _ _
  · have hi0 : (i 0).val < 1 := (i 0).isLt
    have hi1 : (i 1).val < 1024 := (i 1).isLt
    refine ⟨⟨7, by omega⟩, (flush6 _).2 rfl, ?_⟩
    rw [mem_blk6]
    intro a
    match a with
    | ⟨0, _⟩ => show (cfg0.win 6).index _ 0 * 1 ≤ (i 0).val ∧ (i 0).val < (cfg0.win 6).index _ 0 * 1 + 1; rw [index6_0]; omega
    | ⟨1, _⟩ => show (cfg0.win 6).index _ 1 * 1024 ≤ (i 1).val ∧ (i 1).val < (cfg0.win 6).index _ 1 * 1024 + 1024; rw [index6_1]; omega

theorem run
  (h0 : ∀ (c : Dev nD) i, (m ((c : Thread nD τ).loc main_arg0) i : EReal) = ((EReal.toReal (m ((c : Thread nD τ).loc main_arg0) i) : ℝ) : EReal))
  (h1 : ∀ (c : Dev nD) i, (m ((c : Thread nD τ).loc main_arg1) i : EReal) = ((EReal.toReal (m ((c : Thread nD τ).loc main_arg1) i) : ℝ) : EReal))
  (h2 : ∀ (c : Dev nD) i, (m ((c : Thread nD τ).loc main_arg2) i : EReal) = ((EReal.toReal (m ((c : Thread nD τ).loc main_arg2) i) : ℝ) : EReal))
  (h3 : ∀ (c : Dev nD) i, (m ((c : Thread nD τ).loc main_arg3) i : EReal) = ((EReal.toReal (m ((c : Thread nD τ).loc main_arg3) i) : ℝ) : EReal)) :
  θ_run defs (onTc (τ := τ) (main (F := Ideal))) ⟨m, fun _ => 0, ρ⟩ fun r => ∀ c : Dev nD,
      r.2.mem ((c : Thread nD τ).loc main_v4_0) = val_main_v41 (F := Ideal) (m ((c : Thread nD τ).loc main_arg0)) (m ((c : Thread nD τ).loc main_arg1)) (m ((c : Thread nD τ).loc main_arg2))
        (m ((c : Thread nD τ).loc main_arg3)) (m ((c : Thread nD τ).loc main_arg4))
      ∧ r.2.mem ((c : Thread nD τ).loc main_v4_1) = val_main_v42 (F := Ideal) (m ((c : Thread nD τ).loc main_arg0)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (result5 m c (h0 c) (h1 c) (h2 c) (h3 c)), (h c).2.1.trans (result6 m c), (h c).2.2⟩) (Value.run_blocks m ρ)

end Cert.Kernel7Ideal.Ffn

end
-- ==== Proof.Ffn.Dx0.lean ====
/- The gradient of the layer's input and of its gain at the first layer: as `Dx`, with block 0 of the stacked weights where `Dx` has
   block 1. -/
module

public import proofs.«01_k».proof.Proof.Gen.Kernel9Ideal.Value
public import proofs.«01_k».proof.Proof.Gen.Reference9Ideal.Read
public import proofs.«01_k».proof.Proof.Gen.Reference9Ideal.Run
public import proofs.«01_k».proof.Proof.Ffn.Dx
public import proofs.«01_k».proof.Proof.Swa.Math
public import Idealize.ShloMosaic.Lib.Pointwise
public import Idealize.ShloMosaic.Lib.Tactic

@[expose] public section

set_option maxRecDepth 16384

noncomputable section

namespace Cert.Kernel9Ideal.Ffn

open Idealize.ShloMosaic Idealize.ShloMosaic.TcCoe Idealize.ShloMosaic.StableHlo Cert.Kernel9Ideal Cert.Kernel9Ideal.Gen Finset Idealize.SL.Sem

open Cert.Kernel7Ideal.Ffn (hz2 ms dxrow refrow row sum_rows row_eq col sum_shards)

section cases
variable {F : FTy → Type} [FloatOps F]

/-- A block's product with the four column blocks of the weights, transposed. -/
def acc (a : Vec F S512x5632 .bf16) (w : Vec F S4x1x1024x1408 .bf16) : FVec F S512x1024 .f32 :=
  k0_pay6 (View.ld a (Rect.unit (s := S512x5632) ![0, 0] S512x1408.size inb_S512x5632_S512x1408_0_0))
    (View.ld w (Rect.unit (s := S4x1x1024x1408) ![0, 0, 0, 0] S1x1x1024x1408.size inb_S4x1x1024x1408_S1x1x1024x1408_0_0_0_0))
    (View.ld a (Rect.unit (s := S512x5632) ![0, 1408] S512x1408.size inb_S512x5632_S512x1408_0_1408))
    (View.ld w (Rect.unit (s := S4x1x1024x1408) ![1, 0, 0, 0] S1x1x1024x1408.size inb_S4x1x1024x1408_S1x1x1024x1408_1_0_0_0))
    (View.ld a (Rect.unit (s := S512x5632) ![0, 2816] S512x1408.size inb_S512x5632_S512x1408_0_2816))
    (View.ld w (Rect.unit (s := S4x1x1024x1408) ![2, 0, 0, 0] S1x1x1024x1408.size inb_S4x1x1024x1408_S1x1x1024x1408_2_0_0_0))
    (View.ld a (Rect.unit (s := S512x5632) ![0, 4224] S512x1408.size inb_S512x5632_S512x1408_0_4224))
    (View.ld w (Rect.unit (s := S4x1x1024x1408) ![3, 0, 0, 0] S1x1x1024x1408.size inb_S4x1x1024x1408_S1x1x1024x1408_3_0_0_0))

variable (c : Dev nD) (i : grid0.Coords) (a1 : Memref sig .tc .vmem S512x5632 .bf16) (h1 : a1.IsWhole) (a2 : Memref sig .tc .vmem S4x1x1024x1408 .bf16) (h2 : a2.IsWhole)
  (a3 : Memref sig .tc .vmem S512x1024 .f32) (h3 : a3.IsWhole) (a4 : Memref sig .tc .vmem S1x1024 .f32) (h4 : a4.IsWhole) (a5 : Memref sig .tc .vmem S512x1024 .f32) (h5 : a5.IsWhole)
  (a6 : Memref sig .tc .vmem S512x1024 .f32) (h6 : a6.IsWhole) (a7 : Memref sig .tc .vmem S1x1024 .f32) (h7 : a7.IsWhole)
  (x0 : Vec F S512x5632 .bf16) (x1 : Vec F S4x1x1024x1408 .bf16) (x2 : Vec F S512x1024 .f32) (x3 : Vec F S1x1024 .f32) (x4 : Vec F S512x1024 .f32) (xo : Vec F S1x1024 .f32)

/-- The first block's rows. -/
theorem rowsA (hc : cond0_0 i) : out0_A_5 c i a1 h1 a2 h2 a3 h3 a4 h4 a5 h5 a6 h6 a7 h7 hc x0 x1 x2 x3 x4 = k0_pay3 (acc x0 x1) x2 (k0_pay7 x2) k0_pay8 x3 x4 := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_unit_zero hz2]
  simp only [View.readAt_eq_ld, h1.read_unread, h2.read_unread, h3.read_unread, h4.read_unread, h5.read_unread, View.ld_unit_zero (S := S512x1024) hz2, View.ld_unit_zero (S := S1x1024) hz2]
  rfl

/-- The other blocks' rows. -/
theorem rowsB (hc : ¬cond0_0 i) : out0_B_5 c i a1 h1 a2 h2 a3 h3 a4 h4 a5 h5 a6 h6 a7 h7 hc x0 x1 x2 x3 x4 xo = k0_pay3 (acc x0 x1) x2 (k0_pay7 x2) k0_pay8 x3 x4 := by
  unfold out0_B_5
  rw [View.read_writes_eq_canon _ _ _ (cover0_B_5 c i a1 h1 a2 h2 a3 h3 a4 h4 a5 h5 a6 h6 a7 h7 hc x0 x1 x2 x3 x4 xo)]
  unfold kernelRun0_B
  dsimp only
  sl_unfold_words
  rw [View.canon_unit_zero hz2]
  simp only [View.readAt_eq_ld, h1.read_unread, h2.read_unread, h3.read_unread, h4.read_unread, h5.read_unread, View.ld_unit_zero (S := S512x1024) hz2, View.ld_unit_zero (S := S1x1024) hz2]
  rfl

/-- The gain's gradient, started. -/
theorem gainA (hc : cond0_0 i) : out0_A_6 c i a1 h1 a2 h2 a3 h3 a4 h4 a5 h5 a6 h6 a7 h7 hc x0 x1 x2 x3 x4 = k0_pay5 (acc x0 x1) x2 (k0_pay7 x2) k0_pay8 k0_pay4 := by
  unfold out0_A_6
  rw [View.read_writes_eq_canon _ _ _ (cover0_A_6 c i a1 h1 a2 h2 a3 h3 a4 h4 a5 h5 a6 h6 a7 h7 hc x0 x1 x2 x3 x4)]
  unfold kernelRun0_A
  dsimp only
  sl_unfold_words
  rw [View.canon_cons_unit_zero (S := S1x1024) hz2, View.readCov_unit_zero (S := S1x1024) _ hz2]
  simp only [View.readAt_eq_ld, h1.read_unread, h2.read_unread, h3.read_unread, h4.read_unread, h5.read_unread, View.ld_unit_zero (S := S512x1024) hz2, View.ld_unit_zero (S := S1x1024) hz2]
  rfl

/-- The gain's gradient, continued. -/
theorem gainB (hc : ¬cond0_0 i) : out0_B_6 c i a1 h1 a2 h2 a3 h3 a4 h4 a5 h5 a6 h6 a7 h7 hc x0 x1 x2 x3 x4 xo = k0_pay5 (acc x0 x1) x2 (k0_pay7 x2) k0_pay8 xo := by
  unfold out0_B_6
  rw [View.read_writes_eq_canon _ _ _ (cover0_B_6 c i a1 h1 a2 h2 a3 h3 a4 h4 a5 h5 a6 h6 a7 h7 hc x0 x1 x2 x3 x4 xo)]
  unfold kernelRun0_B
  dsimp only
  sl_unfold_words
  rw [View.canon_unit_zero hz2]
  simp only [View.readAt_eq_ld, h1.read_unread, h2.read_unread, h3.read_unread, h4.read_unread, h5.read_unread, h7.read_unread, View.ld_unit_zero (S := S512x1024) hz2, View.ld_unit_zero (S := S1x1024) hz2]
  rfl
end cases

/-! ## Entry by entry -/

theorem rows_at (A : FVec Ideal S512x1024 .f32) (x : Vec Ideal S512x1024 .f32) (g : Vec Ideal S1x1024 .f32) (d : Vec Ideal S512x1024 .f32) (l : Fin 512) (k : Fin 1024) :
    k0_pay3 (F := Ideal) A x (k0_pay7 x) k0_pay8 g d (ix2 l k) = dxrow (fun j => A (ix2 l j)) (fun j => x (ix2 l j)) (fun j => g (ix2 0 j)) (d (ix2 l k)) k := by
  pointwise [k0_pay3, k0_pay2, k0_pay1, k0_pay7, k0_pay8]

theorem gain_step (A : FVec Ideal S512x1024 .f32) (x : Vec Ideal S512x1024 .f32) (s : Vec Ideal S1x1024 .f32) (k : Fin 1024) :
    k0_pay5 (F := Ideal) A x (k0_pay7 x) k0_pay8 s (ix2 0 k) = s (ix2 0 k) + ∑ l : Fin 512, A (ix2 l k) * (x (ix2 l k) * Ideal.rsqrt (ms fun j => x (ix2 l j))) := by
  pointwise [k0_pay5, k0_pay2, k0_pay1, k0_pay7, k0_pay8]

theorem gain_zero (k : Fin 1024) : k0_pay4 (F := Ideal) (ix2 0 k) = 0 := by
  pointwise [k0_pay4]

theorem four_dots (a0 a1 a2 a3 : Vec Ideal S512x1408 .bf16) (w0 w1 w2 w3 : Vec Ideal S1x1x1024x1408 .bf16) (l : Fin 512) (k : Fin 1024) :
    k0_pay6 (F := Ideal) a0 w0 a1 w1 a2 w2 a3 w3 (ix2 l k) = (∑ n : Fin 1408, a0 (ix2 l n) * w0 (ix4 0 0 k n)) + (∑ n : Fin 1408, a1 (ix2 l n) * w1 (ix4 0 0 k n))
      + (∑ n : Fin 1408, a2 (ix2 l n) * w2 (ix4 0 0 k n)) + ∑ n : Fin 1408, a3 (ix2 l n) * w3 (ix4 0 0 k n) := by
  pointwise [k0_pay6]

theorem ld_a (a : Vec Ideal S512x5632 .bf16) (s : Fin 4) (off : Nat) (ho : off = s.val * 1408) (inb) (l : Fin 512) (n : Fin 1408) :
    View.ld a (Rect.unit (s := S512x5632) ![0, off] S512x1408.size inb) (ix2 l n) = a (ix2 l (col s n)) := by
  refine congrArg a (funext fun i => Fin.ext ?_)
  match i with
  | ⟨0, _⟩ => show 0 + 1 * l.val = l.val; omega
  | ⟨1, _⟩ => show off + 1 * n.val = s.val * 1408 + n.val; omega

theorem ld_w (w : Vec Ideal S4x1x1024x1408 .bf16) (s : Fin 4) (inb) (k : Fin 1024) (n : Fin 1408) :
    View.ld w (Rect.unit (s := S4x1x1024x1408) ![s.val, 0, 0, 0] S1x1x1024x1408.size inb) (ix4 0 0 k n) = w (ix4 s 0 k n) := by
  refine congrArg w (funext fun i => Fin.ext ?_)
  match i with
  | ⟨0, _⟩ => show s.val + 1 * 0 = s.val; omega
  | ⟨1, _⟩ => show 0 + 1 * 0 = 0; omega
  | ⟨2, _⟩ => show 0 + 1 * k.val = k.val; omega
  | ⟨3, _⟩ => show 0 + 1 * n.val = n.val; omega

/-- A shard's part of an entry of the product. -/
abbrev part (a : S512x5632.Idx → EReal) (w : S4x1x1024x1408.Idx → EReal) (l : Fin 512) (k : Fin 1024) (s : Fin 4) : EReal :=
  ∑ n : Fin 1408, a (ix2 l (col s n)) * w (ix4 s 0 k n)

theorem acc_at (a : Vec Ideal S512x5632 .bf16) (w : Vec Ideal S4x1x1024x1408 .bf16) (l : Fin 512) (k : Fin 1024) :
    acc a w (ix2 l k) = part a w l k 0 + part a w l k 1 + part a w l k 2 + part a w l k 3 := by
  unfold acc
  rw [four_dots]
  refine congrArg₂ (· + ·) (congrArg₂ (· + ·) (congrArg₂ (· + ·) ?_ ?_) ?_) ?_
  · exact sum_congr rfl fun n _ => congrArg₂ (· * ·) (ld_a a 0 0 rfl _ l n) (ld_w w 0 _ k n)
  · exact sum_congr rfl fun n _ => congrArg₂ (· * ·) (ld_a a 1 1408 rfl _ l n) (ld_w w 1 _ k n)
  · exact sum_congr rfl fun n _ => congrArg₂ (· * ·) (ld_a a 2 2816 rfl _ l n) (ld_w w 2 _ k n)
  · exact sum_congr rfl fun n _ => congrArg₂ (· * ·) (ld_a a 3 4224 rfl _ l n) (ld_w w 3 _ k n)

/-! ## The blocks -/

theorem index0_0 : ∀ t : Fin cfg0.N, (cfg0.win 0).index t 0 = t.val := by decide +kernel
theorem index0_1 : ∀ t : Fin cfg0.N, (cfg0.win 0).index t 1 = 0 := by decide +kernel
theorem index1_0 : ∀ t : Fin cfg0.N, (cfg0.win 1).index t 0 = 0 := by decide +kernel
theorem index1_1 : ∀ t : Fin cfg0.N, (cfg0.win 1).index t 1 = 0 := by decide +kernel
theorem index1_2 : ∀ t : Fin cfg0.N, (cfg0.win 1).index t 2 = 0 := by decide +kernel
theorem index1_3 : ∀ t : Fin cfg0.N, (cfg0.win 1).index t 3 = 0 := by decide +kernel
theorem index2_0 : ∀ t : Fin cfg0.N, (cfg0.win 2).index t 0 = t.val := by decide +kernel
theorem index2_1 : ∀ t : Fin cfg0.N, (cfg0.win 2).index t 1 = 0 := by decide +kernel
theorem index3_0 : ∀ t : Fin cfg0.N, (cfg0.win 3).index t 0 = 0 := by decide +kernel
theorem index3_1 : ∀ t : Fin cfg0.N, (cfg0.win 3).index t 1 = 0 := by decide +kernel
theorem index4_0 : ∀ t : Fin cfg0.N, (cfg0.win 4).index t 0 = t.val := by decide +kernel
theorem index4_1 : ∀ t : Fin cfg0.N, (cfg0.win 4).index t 1 = 0 := by decide +kernel
theorem index5_0 : ∀ t : Fin cfg0.N, (cfg0.win 5).index t 0 = t.val := by decide +kernel
theorem index5_1 : ∀ t : Fin cfg0.N, (cfg0.win 5).index t 1 = 0 := by decide +kernel
theorem index6_0 : ∀ t : Fin cfg0.N, (cfg0.win 6).index t 0 = 0 := by decide +kernel
theorem index6_1 : ∀ t : Fin cfg0.N, (cfg0.win 6).index t 1 = 0 := by decide +kernel

theorem read0 (t : Fin cfg0.N) (A : S4096x5632.Idx → Elt Ideal .bf16) (l : Fin 512) (n : Fin 5632) (r : Fin 4096) (hr : r.val = t.val * 512 + l.val) :
    ((cfg0.win 0).blk t).view.read (Elt Ideal) A (ix2 l n) = A (ix2 r n) := by
  rw [View.read_apply]
  refine congrArg A (funext fun i => Fin.ext ?_)
  match i with
  | ⟨0, _⟩ => show (cfg0.win 0).index t 0 * 512 + 1 * l.val = r.val; rw [index0_0]; omega
  | ⟨1, _⟩ => show (cfg0.win 0).index t 1 * 5632 + 1 * n.val = n.val; rw [index0_1]; omega

theorem read1 (t : Fin cfg0.N) (A : S4x2x1024x1408.Idx → Elt Ideal .bf16) (s : Fin 4) (k : Fin 1024) (n : Fin 1408) :
    ((cfg0.win 1).blk t).view.read (Elt Ideal) A (ix4 s 0 k n) = A (ix4 s 0 k n) := by
  rw [View.read_apply]
  refine congrArg A (funext fun i => Fin.ext ?_)
  match i with
  | ⟨0, _⟩ => show (cfg0.win 1).index t 0 * 4 + 1 * s.val = s.val; rw [index1_0]; omega
  | ⟨1, _⟩ => show (cfg0.win 1).index t 1 * 1 + 1 * 0 = 0; rw [index1_1]
  | ⟨2, _⟩ => show (cfg0.win 1).index t 2 * 1024 + 1 * k.val = k.val; rw [index1_2]; omega
  | ⟨3, _⟩ => show (cfg0.win 1).index t 3 * 1408 + 1 * n.val = n.val; rw [index1_3]; omega

theorem read2 (t : Fin cfg0.N) (A : S4096x1024.Idx → Elt Ideal .f32) (l : Fin 512) (n : Fin 1024) (r : Fin 4096) (hr : r.val = t.val * 512 + l.val) :
    ((cfg0.win 2).blk t).view.read (Elt Ideal) A (ix2 l n) = A (ix2 r n) := by
  rw [View.read_apply]
  refine congrArg A (funext fun i => Fin.ext ?_)
  match i with
  | ⟨0, _⟩ => show (cfg0.win 2).index t 0 * 512 + 1 * l.val = r.val; rw [index2_0]; omega
  | ⟨1, _⟩ => show (cfg0.win 2).index t 1 * 1024 + 1 * n.val = n.val; rw [index2_1]; omega

theorem read3 (t : Fin cfg0.N) (A : S1x1024.Idx → Elt Ideal .f32) (k : Fin 1024) :
    ((cfg0.win 3).blk t).view.read (Elt Ideal) A (ix2 0 k) = A (ix2 0 k) := by
  rw [View.read_apply]
  refine congrArg A (funext fun i => Fin.ext ?_)
  match i with
  | ⟨0, _⟩ => show (cfg0.win 3).index t 0 * 1 + 1 * 0 = 0; rw [index3_0]
  | ⟨1, _⟩ => show (cfg0.win 3).index t 1 * 1024 + 1 * k.val = k.val; rw [index3_1]; omega

theorem read4 (t : Fin cfg0.N) (A : S4096x1024.Idx → Elt Ideal .f32) (l : Fin 512) (n : Fin 1024) (r : Fin 4096) (hr : r.val = t.val * 512 + l.val) :
    ((cfg0.win 4).blk t).view.read (Elt Ideal) A (ix2 l n) = A (ix2 r n) := by
  rw [View.read_apply]
  refine congrArg A (funext fun i => Fin.ext ?_)
  match i with
  | ⟨0, _⟩ => show (cfg0.win 4).index t 0 * 512 + 1 * l.val = r.val; rw [index4_0]; omega
  | ⟨1, _⟩ => show (cfg0.win 4).index t 1 * 1024 + 1 * n.val = n.val; rw [index4_1]; omega

theorem read5 (t : Fin cfg0.N) (A : S4096x1024.Idx → Elt Ideal .f32) (l : Fin 512) (n : Fin 1024) (r : Fin 4096) (hr : r.val = t.val * 512 + l.val) :
    ((cfg0.win 5).blk t).view.read (Elt Ideal) A (ix2 l n) = A (ix2 r n) := by
  rw [View.read_apply]
  refine congrArg A (funext fun i => Fin.ext ?_)
  match i with
  | ⟨0, _⟩ => show (cfg0.win 5).index t 0 * 512 + 1 * l.val = r.val; rw [index5_0]; omega
  | ⟨1, _⟩ => show (cfg0.win 5).index t 1 * 1024 + 1 * n.val = n.val; rw [index5_1]; omega

theorem read6 (t : Fin cfg0.N) (A : S1x1024.Idx → Elt Ideal .f32) (k : Fin 1024) :
    ((cfg0.win 6).blk t).view.read (Elt Ideal) A (ix2 0 k) = A (ix2 0 k) := by
  rw [View.read_apply]
  refine congrArg A (funext fun i => Fin.ext ?_)
  match i with
  | ⟨0, _⟩ => show (cfg0.win 6).index t 0 * 1 + 1 * 0 = 0; rw [index6_0]
  | ⟨1, _⟩ => show (cfg0.win 6).index t 1 * 1024 + 1 * k.val = k.val; rw [index6_1]; omega

variable (m : (ℓ : Loc nD τ sig) → Buf (Elt Ideal) ℓ) (ρ : Dev nD → PrngReg) (c : Dev nD)

theorem blk0 (t : Fin cfg0.N) (l : Fin 512) (k : Fin 5632) (r : Fin 4096) (hr : r.val = t.val * 512 + l.val) :
    iblk m c 0 t (ix2 l k) = V m c main_arg3 (ix2 r k) := by
  unfold iblk
  exact read0 t (V m c main_arg3) l k r hr

theorem blk1 (t : Fin cfg0.N) (s : Fin 4) (k : Fin 1024) (n : Fin 1408) : iblk m c 1 t (ix4 s 0 k n) = V m c main_v2 (ix4 s 0 k n) := by
  unfold iblk
  exact read1 t (V m c main_v2) s k n

theorem blk2 (t : Fin cfg0.N) (l : Fin 512) (k : Fin 1024) (r : Fin 4096) (hr : r.val = t.val * 512 + l.val) :
    iblk m c 2 t (ix2 l k) = V m c main_arg0 (ix2 r k) := by
  unfold iblk
  exact read2 t (V m c main_arg0) l k r hr

theorem blk3 (t : Fin cfg0.N) (k : Fin 1024) : iblk m c 3 t (ix2 0 k) = V m c main_v3 (ix2 0 k) := by
  unfold iblk
  exact read3 t (V m c main_v3) k

theorem blk4 (t : Fin cfg0.N) (l : Fin 512) (k : Fin 1024) (r : Fin 4096) (hr : r.val = t.val * 512 + l.val) :
    iblk m c 4 t (ix2 l k) = V m c main_arg4 (ix2 r k) := by
  unfold iblk
  exact read4 t (V m c main_arg4) l k r hr

/-- The gain, as the host lays it out for the call. -/
theorem host_v3 {F : FTy → Type} [FloatOps F] (V0 : Valuation τ sig (Elt F)) : after hostOps0 V0 (Proc.devRef .tc main_v3)
    = shapeCast S1x1024 (V0 (Proc.devRef .tc main_arg1) : FVec F S1024 .f32) shapeCasts_S1024_S1x1024 := by
  after_results_simp
  all_goals rfl

/-- The weights, as the host lays them out for the call. -/
theorem host_v2 {F : FTy → Type} [FloatOps F] (V0 : Valuation τ sig (Elt F)) : after hostOps0 V0 (Proc.devRef .tc main_v2)
    = transpose S4x2x1024x1408 [2, 0, 1, 3] (shapeCast S2x1024x4x1408 (truncf .bf16 (V0 (Proc.devRef .tc main_arg2) : FVec F S2x1024x5632 .f32) bitsLt_bf16_f32)
      shapeCasts_S2x1024x5632_S2x1024x4x1408) transposes_S2x1024x4x1408_S4x2x1024x1408_2_0_1_3 := by
  after_results_simp
  all_goals rfl

theorem V_v3 : @Eq (FVec Ideal S1x1024 .f32) (V m c main_v3) <| shapeCast S1x1024 (m ((c : Thread nD τ).loc main_arg1) : FVec Ideal S1024 .f32) shapeCasts_S1024_S1x1024 := by
  unfold V
  exact host_v3 _

theorem V_v2 : @Eq (FVec Ideal S4x2x1024x1408 .bf16) (V m c main_v2) <| transpose S4x2x1024x1408 [2, 0, 1, 3]
    (shapeCast S2x1024x4x1408 (truncf .bf16 (m ((c : Thread nD τ).loc main_arg2) : FVec Ideal S2x1024x5632 .f32) bitsLt_bf16_f32)
      shapeCasts_S2x1024x5632_S2x1024x4x1408) transposes_S2x1024x4x1408_S4x2x1024x1408_2_0_1_3 := by
  unfold V
  exact host_v2 _

theorem gain_at (x : FVec Ideal S1024 .f32) (k : Fin 1024) : (shapeCast S1x1024 x shapeCasts_S1024_S1x1024 (ix2 0 k) : EReal) = x (ix1 k) := by
  pointwise []

theorem weight_at (w : FVec Ideal S2x1024x5632 .f32) (j : Fin 4) (y : Fin 2) (k : Fin 1024) (n : Fin 1408) :
    (transpose S4x2x1024x1408 [2, 0, 1, 3] (shapeCast S2x1024x4x1408 (truncf .bf16 w bitsLt_bf16_f32) shapeCasts_S2x1024x5632_S2x1024x4x1408)
      transposes_S2x1024x4x1408_S4x2x1024x1408_2_0_1_3 (ix4 j y k n) : EReal) = w (ix3 y k (col j n)) := by
  pointwise []

/-! ## The reference -/

open Cert.Reference9Ideal.Read

/-- The reference's product with the weights, entry by entry. -/
theorem ref_p (x2 : FVec Ideal Cert.Reference9Ideal.S2x1024x5632 .f32) (x3 : FVec Ideal Cert.Reference9Ideal.S4096x5632 .bf16) (r : Fin 4096) (k : Fin 1024) :
    val_main_v20 (F := Ideal) x2 x3 (ix2 r k) = ∑ q : Fin 5632, (x3 (ix2 r q) : EReal) * x2 (ix3 0 k q) := by
  unfold val_main_v20 val_main_v19 val_main_v17 val_main_v16
  pointwise []

theorem ref_dx (x0 : FVec Ideal Cert.Reference9Ideal.S4096x1024 .f32) (x1 : FVec Ideal Cert.Reference9Ideal.S1024 .f32) (x2 : FVec Ideal Cert.Reference9Ideal.S2x1024x5632 .f32)
    (x3 : FVec Ideal Cert.Reference9Ideal.S4096x5632 .bf16) (x4 : FVec Ideal Cert.Reference9Ideal.S4096x1024 .f32) (r : Fin 4096) (k : Fin 1024) :
    val_main_v41 (F := Ideal) x0 x1 x2 x3 x4 (ix2 r k)
      = refrow (fun j => val_main_v20 (F := Ideal) x2 x3 (ix2 r j)) (fun j => x0 (ix2 r j)) (fun j => x1 (ix1 j)) (x4 (ix2 r k)) k := by
  unfold val_main_v41 val_main_v40 val_main_v39 val_main_v38 val_main_v37 val_main_v36 val_main_v35 val_main_v34 val_main_v33 val_main_v32 val_main_v31 val_main_v30 val_main_v29
    val_main_v28 val_main_v27 val_main_v25 val_main_v24 val_main_v13 val_main_v10 val_main_v9 val_main_v8 val_main_v7 val_main_v6 val_main_v5 val_main_v4 val_main_v3 val_main_v2
    val_main_v1 val_main_v0 val_main_cst val_main_cst_0 val_main_cst_1 val_main_cst_2 val_main_cst_5 val_main_cst_6 val_main_cst_7
  generalize val_main_v20 (F := Ideal) x2 x3 = p
  pointwise []
  simp only [Fin.sum_univ_one]

theorem ref_dg (x0 : FVec Ideal Cert.Reference9Ideal.S4096x1024 .f32) (x2 : FVec Ideal Cert.Reference9Ideal.S2x1024x5632 .f32)
    (x3 : FVec Ideal Cert.Reference9Ideal.S4096x5632 .bf16) (k : Fin 1024) :
    val_main_v42 (F := Ideal) x0 x2 x3 (ix2 0 k)
      = ∑ r : Fin 4096, x0 (ix2 r k) * Ideal.rsqrt (ms fun j => x0 (ix2 r j)) * val_main_v20 (F := Ideal) x2 x3 (ix2 r k) := by
  unfold val_main_v42 val_main_v26 val_main_v23 val_main_v22 val_main_v21 val_main_v12 val_main_v11 val_main_v7 val_main_v6 val_main_v5 val_main_v4 val_main_v3 val_main_v2
    val_main_v1 val_main_v0 val_main_cst val_main_cst_0 val_main_cst_1 val_main_cst_3 val_main_cst_4
  generalize val_main_v20 (F := Ideal) x2 x3 = p
  pointwise []
  simp only [Fin.sum_univ_one]

/-! ## The arrays -/

variable (h0 : ∀ i, (m ((c : Thread nD τ).loc main_arg0) i : EReal) = ((EReal.toReal (m ((c : Thread nD τ).loc main_arg0) i) : ℝ) : EReal))
  (h1 : ∀ i, (m ((c : Thread nD τ).loc main_arg1) i : EReal) = ((EReal.toReal (m ((c : Thread nD τ).loc main_arg1) i) : ℝ) : EReal))
  (h2 : ∀ i, (m ((c : Thread nD τ).loc main_arg2) i : EReal) = ((EReal.toReal (m ((c : Thread nD τ).loc main_arg2) i) : ℝ) : EReal))
  (h3 : ∀ i, (m ((c : Thread nD τ).loc main_arg3) i : EReal) = ((EReal.toReal (m ((c : Thread nD τ).loc main_arg3) i) : ℝ) : EReal))

/-- The reference's product of the launched arguments. -/
abbrev P : S4096x1024.Idx → EReal :=
  val_main_v20 (F := Ideal) (m ((c : Thread nD τ).loc main_arg2)) (m ((c : Thread nD τ).loc main_arg3))

/-- A shard's part of an entry of the whole product. -/
abbrev wpart (a : S4096x5632.Idx → EReal) (w : S2x1024x5632.Idx → EReal) (r : Fin 4096) (k : Fin 1024) (s : Fin 4) : EReal :=
  ∑ n : Fin 1408, a (ix2 r (col s n)) * w (ix3 0 k (col s n))

theorem prod_block (t : Fin cfg0.N) (l : Fin 512) (k : Fin 1024) (r : Fin 4096) (hr : r.val = t.val * 512 + l.val) :
    acc (F := Ideal) (iblk m c 0 t) (iblk m c 1 t) (ix2 l k) = P m c (ix2 r k) := by
  have hs : ∀ s : Fin 4, part (iblk m c 0 t) (iblk m c 1 t) l k s
      = wpart (m ((c : Thread nD τ).loc main_arg3)) (m ((c : Thread nD τ).loc main_arg2)) r k s := by
    intro s
    refine sum_congr rfl fun n _ => congrArg₂ (· * ·) ?_ ?_
    · exact (blk0 m c t l _ r hr).trans (by rw [V_main_arg3])
    · exact (blk1 m c t s k n).trans ((congrFun (V_v2 m c) _).trans (weight_at _ s 0 k n))
  rw [acc_at, hs, hs, hs, hs]
  unfold P
  rw [ref_p, sum_shards]

include h2 h3 in
theorem P_real (r : Fin 4096) (k : Fin 1024) : P m c (ix2 r k) = ((EReal.toReal (P m c (ix2 r k)) : ℝ) : EReal) := by
  have e : P m c (ix2 r k) = ((∑ q : Fin 5632, EReal.toReal (m ((c : Thread nD τ).loc main_arg3) (ix2 r q)) * EReal.toReal (m ((c : Thread nD τ).loc main_arg2) (ix3 0 k q)) : ℝ) : EReal) := by
    unfold P
    rw [ref_p, Cert.Swa.coe_sum]
    refine sum_congr rfl fun q _ => ?_
    rw [EReal.coe_mul]
    exact congrArg₂ (· * ·) (h3 _) (h2 _)
  rw [e, EReal.toReal_coe]

theorem row_h (t : Fin cfg0.N) (l : Fin 512) (r : Fin 4096) (hr : r.val = t.val * 512 + l.val) :
    (fun j : Fin 1024 => (iblk m c 2 t (ix2 l j) : EReal)) = fun j => m ((c : Thread nD τ).loc main_arg0) (ix2 r j) :=
  funext fun j => (blk2 m c t l j r hr).trans (by rw [V_main_arg0])

/-- A block of the input's gradient, entry by entry. -/
theorem dx_block (t : Fin cfg0.N) (l : Fin 512) (k : Fin 1024) (r : Fin 4096) (hr : r.val = t.val * 512 + l.val) :
    k0_pay3 (F := Ideal) (acc (iblk m c 0 t) (iblk m c 1 t)) (iblk m c 2 t) (k0_pay7 (iblk m c 2 t)) k0_pay8 (iblk m c 3 t) (iblk m c 4 t) (ix2 l k)
      = dxrow (fun j => P m c (ix2 r j)) (fun j => m ((c : Thread nD τ).loc main_arg0) (ix2 r j)) (fun j => m ((c : Thread nD τ).loc main_arg1) (ix1 j))
        (m ((c : Thread nD τ).loc main_arg4) (ix2 r k)) k := by
  have hg : (fun j : Fin 1024 => (iblk m c 3 t (ix2 0 j) : EReal)) = fun j => m ((c : Thread nD τ).loc main_arg1) (ix1 j) :=
    funext fun j => (blk3 m c t j).trans ((congrFun (V_v3 m c) _).trans (gain_at _ j))
  have hp : (fun j : Fin 1024 => (acc (F := Ideal) (iblk m c 0 t) (iblk m c 1 t) (ix2 l j) : EReal)) = fun j => P m c (ix2 r j) :=
    funext fun j => prod_block m c t l j r hr
  have hd : (iblk m c 4 t (ix2 l k) : EReal) = m ((c : Thread nD τ).loc main_arg4) (ix2 r k) := (blk4 m c t l k r hr).trans (by rw [V_main_arg4])
  rw [rows_at, hp, row_h m c t l r hr, hg, hd]

/-- What a point leaves of the input's gradient. -/
theorem rows_out (t : Fin cfg0.N) : (outsAt0 m c t.val t.isLt).1
    = k0_pay3 (F := Ideal) (acc (iblk m c 0 t) (iblk m c 1 t)) (iblk m c 2 t) (k0_pay7 (iblk m c 2 t)) k0_pay8 (iblk m c 3 t) (iblk m c 4 t) := by
  by_cases h : t.val % 8 = 0
  · rw [outsAt0_A m c t h]
    dsimp only
    rw [rowsA]
  · rw [outsAt0_B m c t h]
    dsimp only
    rw [rowsB]

/-- A block's part of the gain's gradient, of the product and the rows. -/
abbrev gsum (p x : S4096x1024.Idx → EReal) (t : Fin 8) (k : Fin 1024) : EReal :=
  ∑ l : Fin 512, p (ix2 (row t l) k) * (x (ix2 (row t l) k) * Ideal.rsqrt (ms fun j => x (ix2 (row t l) j)))

/-- Block `t`'s part of the gain's gradient. -/
abbrev gpart (t : Fin 8) (k : Fin 1024) : EReal := gsum (P m c) (m ((c : Thread nD τ).loc main_arg0)) t k

theorem gain_block (t : Fin cfg0.N) (t' : Fin 8) (ht : t'.val = t.val) (s : Vec Ideal S1x1024 .f32) (k : Fin 1024) :
    k0_pay5 (F := Ideal) (acc (iblk m c 0 t) (iblk m c 1 t)) (iblk m c 2 t) (k0_pay7 (iblk m c 2 t)) k0_pay8 s (ix2 0 k) = s (ix2 0 k) + gpart m c t' k := by
  rw [gain_step]
  refine congrArg (_ + ·) (sum_congr rfl fun l _ => ?_)
  have hr : (row t' l).val = t.val * 512 + l.val := by show t'.val * 512 + l.val = _; rw [ht]
  rw [prod_block m c t l k (row t' l) hr, row_h m c t l (row t' l) hr]
  exact congrArg (fun z : EReal => P m c (ix2 (row t' l) k) * (z * Ideal.rsqrt (ms fun j => m ((c : Thread nD τ).loc main_arg0) (ix2 (row t' l) j)))) (congrFun (row_h m c t l (row t' l) hr) k)

/-- The gain's gradient after point `n`: the sum of the parts so far. -/
theorem gain_out (k : Fin 1024) : ∀ (n : Nat) (hn : n < cfg0.N), (outsAt0 m c n hn).2 (ix2 0 k)
    = ∑ t ∈ range (n + 1), if h : t < 8 then gpart m c ⟨t, h⟩ k else 0 := by
  have hN : cfg0.N = 8 := N_0
  intro n
  induction n with
  | zero =>
    intro hn
    rw [show outsAt0 m c 0 hn = _ from outsAt0_A m c ⟨0, hn⟩ rfl]
    dsimp only
    rw [gainA, gain_block m c ⟨0, hn⟩ 0 rfl, gain_zero]
    simp
  | succ n ih =>
    intro hn
    have h8 : n + 1 < 8 := by omega
    rw [show outsAt0 m c (n + 1) hn = _ from outsAt0_B m c ⟨n + 1, hn⟩ (by dsimp only; omega)]
    dsimp only
    rw [gainB, gain_block m c ⟨n + 1, hn⟩ ⟨n + 1, h8⟩ rfl, sum_range_succ, dif_pos h8]
    exact congrArg (· + _) (ih (by omega))

theorem mem_blk5 (t : Fin cfg0.N) (i : S4096x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v4_0).slice (win0_5.rect t)).set ↔ _
  rw [View.set_slice_whole, Rect.mem_set_unit]
  exact Iff.rfl

theorem mem_blk6 (t : Fin cfg0.N) (i : S1x1024.Idx) :
    i ∈ ((cfg0.win 6).blk t).view.set ↔ ∀ a : Fin 2, win0_6.index t a * S1x1024.size a ≤ (i a).val ∧ (i a).val < win0_6.index t a * S1x1024.size a + S1x1024.size a := by
  show i ∈ ((View.whole main_v4_1).slice (win0_6.rect t)).set ↔ _
  rw [View.set_slice_whole, Rect.mem_set_unit]
  exact Iff.rfl

theorem flush5 : ∀ t : Fin cfg0.N, (cfg0.win 5).flush t = true :=
  (by decide +kernel : ∀ t : Fin grid0.N, (cfg0.win 5).flush t = true)
theorem flush6 : ∀ t : Fin cfg0.N, (cfg0.win 6).flush t = true ↔ t.val = 7 :=
  (by decide +kernel : ∀ t : Fin grid0.N, (cfg0.win 6).flush t = true ↔ t.val = 7)

include h0 h1 h2 h3 in
theorem result5 : (dats m 0 c).arrAt 5 cfg0.N = val_main_v41 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) := by
  have hN : cfg0.N = 8 := N_0
  refine (dats m 0 c).arrAt_eq_of_cover 5 _ (fun t _ => ?_) (fun i => ?_)
  · rw [Value.flushed5, rows_out]
    funext j
    rw [show j = ix2 (n0 := 512) (n1 := 1024) (j 0) (j 1) from (ix2_eta (n0 := 512) (n1 := 1024) j).symm]
    have hr : t.val * 512 + (j 0).val < 4096 := by have ht : t.val < 8 := lt_of_lt_of_eq t.isLt hN; have h : (j 0).val < 512 := (j 0).isLt; omega
    refine Eq.trans ?_ (read5 t _ (j 0) (j 1) ⟨_, hr⟩ rfl).symm
    refine (dx_block m c t (j 0) (j 1) ⟨_, hr⟩ rfl).trans (Eq.trans ?_ (ref_dx _ _ _ _ _ ⟨_, hr⟩ (j 1)).symm)
    rw [show (fun j' : Fin 1024 => P m c (ix2 ⟨_, hr⟩ j')) = fun j' => ((EReal.toReal (P m c (ix2 ⟨_, hr⟩ j')) : ℝ) : EReal) from funext fun j' => P_real m c h2 h3 ⟨_, hr⟩ j',
      show (fun j' : Fin 1024 => (m ((c : Thread nD τ).loc main_arg0) (ix2 ⟨_, hr⟩ j') : EReal)) = fun j' => ((EReal.toReal (m ((c : Thread nD τ).loc main_arg0) (ix2 ⟨_, hr⟩ j')) : ℝ) : EReal) from funext fun j' => h0 _,
      show (fun j' : Fin 1024 => (m ((c : Thread nD τ).loc main_arg1) (ix1 j') : EReal)) = fun j' => ((EReal.toReal (m ((c : Thread nD τ).loc main_arg1) (ix1 j')) : ℝ) : EReal) from funext fun j' => h1 _]
    exact row_eq _ _ _ _ _
  · have hi0 : (i 0).val < 4096 := (i 0).isLt
    have hi1 : (i 1).val < 1024 := (i 1).isLt
    refine ⟨⟨(i 0).val / 512, by omega⟩, flush5 _, ?_⟩
    rw [mem_blk5]
    intro a
    match a with
    | ⟨0, _⟩ => show (cfg0.win 5).index _ 0 * 512 ≤ (i 0).val ∧ (i 0).val < (cfg0.win 5).index _ 0 * 512 + 512; rw [index5_0]; dsimp only; omega
    | ⟨1, _⟩ => show (cfg0.win 5).index _ 1 * 1024 ≤ (i 1).val ∧ (i 1).val < (cfg0.win 5).index _ 1 * 1024 + 1024; rw [index5_1]; omega

theorem result6 : (dats m 0 c).arrAt 6 cfg0.N = val_main_v42 (F := Ideal) (m ((c : Thread nD τ).loc main_arg0)) (m ((c : Thread nD τ).loc main_arg2)) (m ((c : Thread nD τ).loc main_arg3)) := by
  have hN : cfg0.N = 8 := N_0
  refine (dats m 0 c).arrAt_eq_of_cover 6 _ (fun t ht => ?_) (fun i => ?_)
  · have h7 : t.val = 7 := (flush6 t).1 ht
    rw [Value.flushed6]
    funext j
    have hj : (j 0).val < 1 := (j 0).isLt
    rw [show j = ix2 (n0 := 1) (n1 := 1024) 0 (j 1) from (ix2_eta (n0 := 1) (n1 := 1024) j).symm.trans (congrArg (fun z => ix2 (n0 := 1) (n1 := 1024) z (j 1)) (Fin.ext (by show (j 0).val = 0; omega)))]
    refine Eq.trans ?_ (read6 t _ (j 1)).symm
    refine (gain_out m c (j 1) t.val t.isLt).trans (Eq.trans ?_ (ref_dg _ _ _ (j 1)).symm)
    rw [h7, sum_rows, sum_range]
    refine sum_congr rfl fun s _ => ?_
    rw [dif_pos s.isLt]
    exact sum_congr rfl fun l _ => mul_comm (G := EReal) _ _
  · have hi0 : (i 0).val < 1 := (i 0).isLt
    have hi1 : (i 1).val < 1024 := (i 1).isLt
    refine ⟨⟨7, by omega⟩, (flush6 _).2 rfl, ?_⟩
    rw [mem_blk6]
    intro a
    match a with
    | ⟨0, _⟩ => show (cfg0.win 6).index _ 0 * 1 ≤ (i 0).val ∧ (i 0).val < (cfg0.win 6).index _ 0 * 1 + 1; rw [index6_0]; omega
    | ⟨1, _⟩ => show (cfg0.win 6).index _ 1 * 1024 ≤ (i 1).val ∧ (i 1).val < (cfg0.win 6).index _ 1 * 1024 + 1024; rw [index6_1]; omega

theorem run
  (h0 : ∀ (c : Dev nD) i, (m ((c : Thread nD τ).loc main_arg0) i : EReal) = ((EReal.toReal (m ((c : Thread nD τ).loc main_arg0) i) : ℝ) : EReal))
  (h1 : ∀ (c : Dev nD) i, (m ((c : Thread nD τ).loc main_arg1) i : EReal) = ((EReal.toReal (m ((c : Thread nD τ).loc main_arg1) i) : ℝ) : EReal))
  (h2 : ∀ (c : Dev nD) i, (m ((c : Thread nD τ).loc main_arg2) i : EReal) = ((EReal.toReal (m ((c : Thread nD τ).loc main_arg2) i) : ℝ) : EReal))
  (h3 : ∀ (c : Dev nD) i, (m ((c : Thread nD τ).loc main_arg3) i : EReal) = ((EReal.toReal (m ((c : Thread nD τ).loc main_arg3) i) : ℝ) : EReal)) :
  θ_run defs (onTc (τ := τ) (main (F := Ideal))) ⟨m, fun _ => 0, ρ⟩ fun r => ∀ c : Dev nD,
      r.2.mem ((c : Thread nD τ).loc main_v4_0) = val_main_v41 (F := Ideal) (m ((c : Thread nD τ).loc main_arg0)) (m ((c : Thread nD τ).loc main_arg1)) (m ((c : Thread nD τ).loc main_arg2))
        (m ((c : Thread nD τ).loc main_arg3)) (m ((c : Thread nD τ).loc main_arg4))
      ∧ r.2.mem ((c : Thread nD τ).loc main_v4_1) = val_main_v42 (F := Ideal) (m ((c : Thread nD τ).loc main_arg0)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (result5 m c (h0 c) (h1 c) (h2 c) (h3 c)), (h c).2.1.trans (result6 m c), (h c).2.2⟩) (Value.run_blocks m ρ)

end Cert.Kernel9Ideal.Ffn

end
-- ==== Proof.Ffn.MixDx.lean ====
/- The gradient of the first layer's input and of its mixer's gain: as `Dx`, of the mixer's input projection, whose weights are not
   stacked. -/
module

public import proofs.«01_k».proof.Proof.Gen.Kernel11Ideal.Value
public import proofs.«01_k».proof.Proof.Gen.Reference11Ideal.Read
public import proofs.«01_k».proof.Proof.Gen.Reference11Ideal.Run
public import proofs.«01_k».proof.Proof.Ffn.Dx
public import proofs.«01_k».proof.Proof.Swa.Math
public import Idealize.ShloMosaic.Lib.Pointwise
public import Idealize.ShloMosaic.Lib.Tactic

@[expose] public section

set_option maxRecDepth 16384

noncomputable section

namespace Cert.Kernel11Ideal.Ffn

open Idealize.ShloMosaic Idealize.ShloMosaic.TcCoe Idealize.ShloMosaic.StableHlo Cert.Kernel11Ideal Cert.Kernel11Ideal.Gen Finset Idealize.SL.Sem

open Cert.Kernel7Ideal.Ffn (hz2 ms dxrow refrow row sum_rows row_eq)

section cases
variable {F : FTy → Type} [FloatOps F]

/-- A block's product with the four column blocks of the weights, transposed. -/
def acc (a : Vec F S512x3584 .bf16) (w : Vec F S4x1024x896 .bf16) : FVec F S512x1024 .f32 :=
  k0_pay4 (View.ld a (Rect.unit (s := S512x3584) ![0, 0] S512x896.size inb_S512x3584_S512x896_0_0))
    (View.ld w (Rect.unit (s := S4x1024x896) ![0, 0, 0] S1x1024x896.size inb_S4x1024x896_S1x1024x896_0_0_0))
    (View.ld a (Rect.unit (s := S512x3584) ![0, 896] S512x896.size inb_S512x3584_S512x896_0_896))
    (View.ld w (Rect.unit (s := S4x1024x896) ![1, 0, 0] S1x1024x896.size inb_S4x1024x896_S1x1024x896_1_0_0))
    (View.ld a (Rect.unit (s := S512x3584) ![0, 1792] S512x896.size inb_S512x3584_S512x896_0_1792))
    (View.ld w (Rect.unit (s := S4x1024x896) ![2, 0, 0] S1x1024x896.size inb_S4x1024x896_S1x1024x896_2_0_0))
    (View.ld a (Rect.unit (s := S512x3584) ![0, 2688] S512x896.size inb_S512x3584_S512x896_0_2688))
    (View.ld w (Rect.unit (s := S4x1024x896) ![3, 0, 0] S1x1024x896.size inb_S4x1024x896_S1x1024x896_3_0_0))

variable (c : Dev nD) (i : grid0.Coords) (a1 : Memref sig .tc .vmem S512x3584 .bf16) (h1 : a1.IsWhole) (a2 : Memref sig .tc .vmem S4x1024x896 .bf16) (h2 : a2.IsWhole)
  (a3 : Memref sig .tc .vmem S512x1024 .f32) (h3 : a3.IsWhole) (a4 : Memref sig .tc .vmem S1x1024 .f32) (h4 : a4.IsWhole) (a5 : Memref sig .tc .vmem S512x1024 .f32) (h5 : a5.IsWhole)
  (a6 : Memref sig .tc .vmem S512x1024 .f32) (h6 : a6.IsWhole) (a7 : Memref sig .tc .vmem S1x1024 .f32) (h7 : a7.IsWhole)
  (x0 : Vec F S512x3584 .bf16) (x1 : Vec F S4x1024x896 .bf16) (x2 : Vec F S512x1024 .f32) (x3 : Vec F S1x1024 .f32) (x4 : Vec F S512x1024 .f32) (xo : Vec F S1x1024 .f32)

/-- The first block's rows. -/
theorem rowsA (hc : cond0_0 i) : out0_A_5 c i a1 h1 a2 h2 a3 h3 a4 h4 a5 h5 a6 h6 a7 h7 hc x0 x1 x2 x3 x4 = k0_pay1 (acc x0 x1) (k0_pay5 x2) (k0_pay6 x2) x3 x4 := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_unit_zero hz2]
  simp only [View.readAt_eq_ld, h1.read_unread, h2.read_unread, h3.read_unread, h4.read_unread, h5.read_unread, View.ld_unit_zero (S := S512x1024) hz2, View.ld_unit_zero (S := S1x1024) hz2]
  rfl

/-- The other blocks' rows. -/
theorem rowsB (hc : ¬cond0_0 i) : out0_B_5 c i a1 h1 a2 h2 a3 h3 a4 h4 a5 h5 a6 h6 a7 h7 hc x0 x1 x2 x3 x4 xo = k0_pay1 (acc x0 x1) (k0_pay5 x2) (k0_pay6 x2) x3 x4 := by
  unfold out0_B_5
  rw [View.read_writes_eq_canon _ _ _ (cover0_B_5 c i a1 h1 a2 h2 a3 h3 a4 h4 a5 h5 a6 h6 a7 h7 hc x0 x1 x2 x3 x4 xo)]
  unfold kernelRun0_B
  dsimp only
  sl_unfold_words
  rw [View.canon_unit_zero hz2]
  simp only [View.readAt_eq_ld, h1.read_unread, h2.read_unread, h3.read_unread, h4.read_unread, h5.read_unread, View.ld_unit_zero (S := S512x1024) hz2, View.ld_unit_zero (S := S1x1024) hz2]
  rfl

/-- The gain's gradient, started. -/
theorem gainA (hc : cond0_0 i) : out0_A_6 c i a1 h1 a2 h2 a3 h3 a4 h4 a5 h5 a6 h6 a7 h7 hc x0 x1 x2 x3 x4 = k0_pay3 (acc x0 x1) (k0_pay6 x2) k0_pay2 := by
  unfold out0_A_6
  rw [View.read_writes_eq_canon _ _ _ (cover0_A_6 c i a1 h1 a2 h2 a3 h3 a4 h4 a5 h5 a6 h6 a7 h7 hc x0 x1 x2 x3 x4)]
  unfold kernelRun0_A
  dsimp only
  sl_unfold_words
  rw [View.canon_cons_unit_zero (S := S1x1024) hz2, View.readCov_unit_zero (S := S1x1024) _ hz2]
  simp only [View.readAt_eq_ld, h1.read_unread, h2.read_unread, h3.read_unread, h4.read_unread, h5.read_unread, View.ld_unit_zero (S := S512x1024) hz2, View.ld_unit_zero (S := S1x1024) hz2]
  rfl

/-- The gain's gradient, continued. -/
theorem gainB (hc : ¬cond0_0 i) : out0_B_6 c i a1 h1 a2 h2 a3 h3 a4 h4 a5 h5 a6 h6 a7 h7 hc x0 x1 x2 x3 x4 xo = k0_pay3 (acc x0 x1) (k0_pay6 x2) xo := by
  unfold out0_B_6
  rw [View.read_writes_eq_canon _ _ _ (cover0_B_6 c i a1 h1 a2 h2 a3 h3 a4 h4 a5 h5 a6 h6 a7 h7 hc x0 x1 x2 x3 x4 xo)]
  unfold kernelRun0_B
  dsimp only
  sl_unfold_words
  rw [View.canon_unit_zero hz2]
  simp only [View.readAt_eq_ld, h1.read_unread, h2.read_unread, h3.read_unread, h4.read_unread, h5.read_unread, h7.read_unread, View.ld_unit_zero (S := S512x1024) hz2, View.ld_unit_zero (S := S1x1024) hz2]
  rfl
end cases

/-! ## Entry by entry -/

theorem rows_at (A : FVec Ideal S512x1024 .f32) (x : Vec Ideal S512x1024 .f32) (g : Vec Ideal S1x1024 .f32) (d : Vec Ideal S512x1024 .f32) (l : Fin 512) (k : Fin 1024) :
    k0_pay1 (F := Ideal) A (k0_pay5 x) (k0_pay6 x) g d (ix2 l k) = dxrow (fun j => A (ix2 l j)) (fun j => x (ix2 l j)) (fun j => g (ix2 0 j)) (d (ix2 l k)) k := by
  pointwise [k0_pay1, k0_pay6, k0_pay5]

theorem gain_step (A : FVec Ideal S512x1024 .f32) (x : Vec Ideal S512x1024 .f32) (s : Vec Ideal S1x1024 .f32) (k : Fin 1024) :
    k0_pay3 (F := Ideal) A (k0_pay6 x) s (ix2 0 k) = s (ix2 0 k) + ∑ l : Fin 512, A (ix2 l k) * (x (ix2 l k) * Ideal.rsqrt (ms fun j => x (ix2 l j))) := by
  pointwise [k0_pay3, k0_pay6, k0_pay5]

theorem gain_zero (k : Fin 1024) : k0_pay2 (F := Ideal) (ix2 0 k) = 0 := by
  pointwise [k0_pay2]

theorem four_dots (a0 a1 a2 a3 : Vec Ideal S512x896 .bf16) (w0 w1 w2 w3 : Vec Ideal S1x1024x896 .bf16) (l : Fin 512) (k : Fin 1024) :
    k0_pay4 (F := Ideal) a0 w0 a1 w1 a2 w2 a3 w3 (ix2 l k) = (∑ n : Fin 896, a0 (ix2 l n) * w0 (ix3 0 k n)) + (∑ n : Fin 896, a1 (ix2 l n) * w1 (ix3 0 k n))
      + (∑ n : Fin 896, a2 (ix2 l n) * w2 (ix3 0 k n)) + ∑ n : Fin 896, a3 (ix2 l n) * w3 (ix3 0 k n) := by
  pointwise [k0_pay4]

/-- Column `n` of shard `s`. -/
abbrev col (s : Fin 4) (n : Fin 896) : Fin 3584 := ⟨s.val * 896 + n.val, by omega⟩

theorem ld_a (a : Vec Ideal S512x3584 .bf16) (s : Fin 4) (off : Nat) (ho : off = s.val * 896) (inb) (l : Fin 512) (n : Fin 896) :
    View.ld a (Rect.unit (s := S512x3584) ![0, off] S512x896.size inb) (ix2 l n) = a (ix2 l (col s n)) := by
  refine congrArg a (funext fun i => Fin.ext ?_)
  match i with
  | ⟨0, _⟩ => show 0 + 1 * l.val = l.val; omega
  | ⟨1, _⟩ => show off + 1 * n.val = s.val * 896 + n.val; omega

theorem ld_w (w : Vec Ideal S4x1024x896 .bf16) (s : Fin 4) (inb) (k : Fin 1024) (n : Fin 896) :
    View.ld w (Rect.unit (s := S4x1024x896) ![s.val, 0, 0] S1x1024x896.size inb) (ix3 0 k n) = w (ix3 s k n) := by
  refine congrArg w (funext fun i => Fin.ext ?_)
  match i with
  | ⟨0, _⟩ => show s.val + 1 * 0 = s.val; omega
  | ⟨1, _⟩ => show 0 + 1 * k.val = k.val; omega
  | ⟨2, _⟩ => show 0 + 1 * n.val = n.val; omega

/-- A shard's part of an entry of the product. -/
abbrev part (a : S512x3584.Idx → EReal) (w : S4x1024x896.Idx → EReal) (l : Fin 512) (k : Fin 1024) (s : Fin 4) : EReal :=
  ∑ n : Fin 896, a (ix2 l (col s n)) * w (ix3 s k n)

theorem acc_at (a : Vec Ideal S512x3584 .bf16) (w : Vec Ideal S4x1024x896 .bf16) (l : Fin 512) (k : Fin 1024) :
    acc a w (ix2 l k) = part a w l k 0 + part a w l k 1 + part a w l k 2 + part a w l k 3 := by
  unfold acc
  rw [four_dots]
  refine congrArg₂ (· + ·) (congrArg₂ (· + ·) (congrArg₂ (· + ·) ?_ ?_) ?_) ?_
  · exact sum_congr rfl fun n _ => congrArg₂ (· * ·) (ld_a a 0 0 rfl _ l n) (ld_w w 0 _ k n)
  · exact sum_congr rfl fun n _ => congrArg₂ (· * ·) (ld_a a 1 896 rfl _ l n) (ld_w w 1 _ k n)
  · exact sum_congr rfl fun n _ => congrArg₂ (· * ·) (ld_a a 2 1792 rfl _ l n) (ld_w w 2 _ k n)
  · exact sum_congr rfl fun n _ => congrArg₂ (· * ·) (ld_a a 3 2688 rfl _ l n) (ld_w w 3 _ k n)

/-- A sum over the columns, shard by shard. -/
theorem sum_shards (f : Fin 3584 → EReal) : ∑ q, f q = (∑ n, f (col 0 n)) + (∑ n, f (col 1 n)) + (∑ n, f (col 2 n)) + ∑ n, f (col 3 n) := by
  have h : ∑ q, f q = ∑ s : Fin 4, ∑ n : Fin 896, f (col s n) := by
    rw [← Fintype.sum_prod_type']
    refine (Fintype.sum_equiv (finProdFinEquiv (m := 4) (n := 896)) _ _ fun x => congrArg f (Fin.ext ?_)).symm
    show x.1.val * 896 + x.2.val = x.2.val + 896 * x.1.val
    omega
  rw [h, Fin.sum_univ_four]

/-! ## The blocks -/

theorem index0_0 : ∀ t : Fin cfg0.N, (cfg0.win 0).index t 0 = t.val := by decide +kernel
theorem index0_1 : ∀ t : Fin cfg0.N, (cfg0.win 0).index t 1 = 0 := by decide +kernel
theorem index1_0 : ∀ t : Fin cfg0.N, (cfg0.win 1).index t 0 = 0 := by decide +kernel
theorem index1_1 : ∀ t : Fin cfg0.N, (cfg0.win 1).index t 1 = 0 := by decide +kernel
theorem index1_2 : ∀ t : Fin cfg0.N, (cfg0.win 1).index t 2 = 0 := by decide +kernel
theorem index2_0 : ∀ t : Fin cfg0.N, (cfg0.win 2).index t 0 = t.val := by decide +kernel
theorem index2_1 : ∀ t : Fin cfg0.N, (cfg0.win 2).index t 1 = 0 := by decide +kernel
theorem index3_0 : ∀ t : Fin cfg0.N, (cfg0.win 3).index t 0 = 0 := by decide +kernel
theorem index3_1 : ∀ t : Fin cfg0.N, (cfg0.win 3).index t 1 = 0 := by decide +kernel
theorem index4_0 : ∀ t : Fin cfg0.N, (cfg0.win 4).index t 0 = t.val := by decide +kernel
theorem index4_1 : ∀ t : Fin cfg0.N, (cfg0.win 4).index t 1 = 0 := by decide +kernel
theorem index5_0 : ∀ t : Fin cfg0.N, (cfg0.win 5).index t 0 = t.val := by decide +kernel
theorem index5_1 : ∀ t : Fin cfg0.N, (cfg0.win 5).index t 1 = 0 := by decide +kernel
theorem index6_0 : ∀ t : Fin cfg0.N, (cfg0.win 6).index t 0 = 0 := by decide +kernel
theorem index6_1 : ∀ t : Fin cfg0.N, (cfg0.win 6).index t 1 = 0 := by decide +kernel

theorem read0 (t : Fin cfg0.N) (A : S4096x3584.Idx → Elt Ideal .bf16) (l : Fin 512) (n : Fin 3584) (r : Fin 4096) (hr : r.val = t.val * 512 + l.val) :
    ((cfg0.win 0).blk t).view.read (Elt Ideal) A (ix2 l n) = A (ix2 r n) := by
  rw [View.read_apply]
  refine congrArg A (funext fun i => Fin.ext ?_)
  match i with
  | ⟨0, _⟩ => show (cfg0.win 0).index t 0 * 512 + 1 * l.val = r.val; rw [index0_0]; omega
  | ⟨1, _⟩ => show (cfg0.win 0).index t 1 * 3584 + 1 * n.val = n.val; rw [index0_1]; omega

theorem read1 (t : Fin cfg0.N) (A : S4x1024x896.Idx → Elt Ideal .bf16) (s : Fin 4) (k : Fin 1024) (n : Fin 896) :
    ((cfg0.win 1).blk t).view.read (Elt Ideal) A (ix3 s k n) = A (ix3 s k n) := by
  rw [View.read_apply]
  refine congrArg A (funext fun i => Fin.ext ?_)
  match i with
  | ⟨0, _⟩ => show (cfg0.win 1).index t 0 * 4 + 1 * s.val = s.val; rw [index1_0]; omega
  | ⟨1, _⟩ => show (cfg0.win 1).index t 1 * 1024 + 1 * k.val = k.val; rw [index1_1]; omega
  | ⟨2, _⟩ => show (cfg0.win 1).index t 2 * 896 + 1 * n.val = n.val; rw [index1_2]; omega

theorem read2 (t : Fin cfg0.N) (A : S4096x1024.Idx → Elt Ideal .f32) (l : Fin 512) (n : Fin 1024) (r : Fin 4096) (hr : r.val = t.val * 512 + l.val) :
    ((cfg0.win 2).blk t).view.read (Elt Ideal) A (ix2 l n) = A (ix2 r n) := by
  rw [View.read_apply]
  refine congrArg A (funext fun i => Fin.ext ?_)
  match i with
  | ⟨0, _⟩ => show (cfg0.win 2).index t 0 * 512 + 1 * l.val = r.val; rw [index2_0]; omega
  | ⟨1, _⟩ => show (cfg0.win 2).index t 1 * 1024 + 1 * n.val = n.val; rw [index2_1]; omega

theorem read3 (t : Fin cfg0.N) (A : S1x1024.Idx → Elt Ideal .f32) (k : Fin 1024) :
    ((cfg0.win 3).blk t).view.read (Elt Ideal) A (ix2 0 k) = A (ix2 0 k) := by
  rw [View.read_apply]
  refine congrArg A (funext fun i => Fin.ext ?_)
  match i with
  | ⟨0, _⟩ => show (cfg0.win 3).index t 0 * 1 + 1 * 0 = 0; rw [index3_0]
  | ⟨1, _⟩ => show (cfg0.win 3).index t 1 * 1024 + 1 * k.val = k.val; rw [index3_1]; omega

theorem read4 (t : Fin cfg0.N) (A : S4096x1024.Idx → Elt Ideal .f32) (l : Fin 512) (n : Fin 1024) (r : Fin 4096) (hr : r.val = t.val * 512 + l.val) :
    ((cfg0.win 4).blk t).view.read (Elt Ideal) A (ix2 l n) = A (ix2 r n) := by
  rw [View.read_apply]
  refine congrArg A (funext fun i => Fin.ext ?_)
  match i with
  | ⟨0, _⟩ => show (cfg0.win 4).index t 0 * 512 + 1 * l.val = r.val; rw [index4_0]; omega
  | ⟨1, _⟩ => show (cfg0.win 4).index t 1 * 1024 + 1 * n.val = n.val; rw [index4_1]; omega

theorem read5 (t : Fin cfg0.N) (A : S4096x1024.Idx → Elt Ideal .f32) (l : Fin 512) (n : Fin 1024) (r : Fin 4096) (hr : r.val = t.val * 512 + l.val) :
    ((cfg0.win 5).blk t).view.read (Elt Ideal) A (ix2 l n) = A (ix2 r n) := by
  rw [View.read_apply]
  refine congrArg A (funext fun i => Fin.ext ?_)
  match i with
  | ⟨0, _⟩ => show (cfg0.win 5).index t 0 * 512 + 1 * l.val = r.val; rw [index5_0]; omega
  | ⟨1, _⟩ => show (cfg0.win 5).index t 1 * 1024 + 1 * n.val = n.val; rw [index5_1]; omega

theorem read6 (t : Fin cfg0.N) (A : S1x1024.Idx → Elt Ideal .f32) (k : Fin 1024) :
    ((cfg0.win 6).blk t).view.read (Elt Ideal) A (ix2 0 k) = A (ix2 0 k) := by
  rw [View.read_apply]
  refine congrArg A (funext fun i => Fin.ext ?_)
  match i with
  | ⟨0, _⟩ => show (cfg0.win 6).index t 0 * 1 + 1 * 0 = 0; rw [index6_0]
  | ⟨1, _⟩ => show (cfg0.win 6).index t 1 * 1024 + 1 * k.val = k.val; rw [index6_1]; omega

variable (m : (ℓ : Loc nD τ sig) → Buf (Elt Ideal) ℓ) (ρ : Dev nD → PrngReg) (c : Dev nD)

theorem blk0 (t : Fin cfg0.N) (l : Fin 512) (k : Fin 3584) (r : Fin 4096) (hr : r.val = t.val * 512 + l.val) :
    iblk m c 0 t (ix2 l k) = V m c main_arg3 (ix2 r k) := by
  unfold iblk
  exact read0 t (V m c main_arg3) l k r hr

theorem blk1 (t : Fin cfg0.N) (s : Fin 4) (k : Fin 1024) (n : Fin 896) : iblk m c 1 t (ix3 s k n) = V m c main_v2 (ix3 s k n) := by
  unfold iblk
  exact read1 t (V m c main_v2) s k n

theorem blk2 (t : Fin cfg0.N) (l : Fin 512) (k : Fin 1024) (r : Fin 4096) (hr : r.val = t.val * 512 + l.val) :
    iblk m c 2 t (ix2 l k) = V m c main_arg0 (ix2 r k) := by
  unfold iblk
  exact read2 t (V m c main_arg0) l k r hr

theorem blk3 (t : Fin cfg0.N) (k : Fin 1024) : iblk m c 3 t (ix2 0 k) = V m c main_v3 (ix2 0 k) := by
  unfold iblk
  exact read3 t (V m c main_v3) k

theorem blk4 (t : Fin cfg0.N) (l : Fin 512) (k : Fin 1024) (r : Fin 4096) (hr : r.val = t.val * 512 + l.val) :
    iblk m c 4 t (ix2 l k) = V m c main_arg4 (ix2 r k) := by
  unfold iblk
  exact read4 t (V m c main_arg4) l k r hr

/-- The gain, as the host lays it out for the call. -/
theorem host_v3 {F : FTy → Type} [FloatOps F] (V0 : Valuation τ sig (Elt F)) : after hostOps0 V0 (Proc.devRef .tc main_v3)
    = shapeCast S1x1024 (V0 (Proc.devRef .tc main_arg1) : FVec F S1024 .f32) shapeCasts_S1024_S1x1024 := by
  after_results_simp
  all_goals rfl

/-- The weights, as the host lays them out for the call. -/
theorem host_v2 {F : FTy → Type} [FloatOps F] (V0 : Valuation τ sig (Elt F)) : after hostOps0 V0 (Proc.devRef .tc main_v2)
    = transpose S4x1024x896 [1, 0, 2] (shapeCast S1024x4x896 (truncf .bf16 (V0 (Proc.devRef .tc main_arg2) : FVec F S1024x3584 .f32) bitsLt_bf16_f32)
      shapeCasts_S1024x3584_S1024x4x896) transposes_S1024x4x896_S4x1024x896_1_0_2 := by
  after_results_simp
  all_goals rfl

theorem V_v3 : @Eq (FVec Ideal S1x1024 .f32) (V m c main_v3) <| shapeCast S1x1024 (m ((c : Thread nD τ).loc main_arg1) : FVec Ideal S1024 .f32) shapeCasts_S1024_S1x1024 := by
  unfold V
  exact host_v3 _

theorem V_v2 : @Eq (FVec Ideal S4x1024x896 .bf16) (V m c main_v2) <| transpose S4x1024x896 [1, 0, 2]
    (shapeCast S1024x4x896 (truncf .bf16 (m ((c : Thread nD τ).loc main_arg2) : FVec Ideal S1024x3584 .f32) bitsLt_bf16_f32)
      shapeCasts_S1024x3584_S1024x4x896) transposes_S1024x4x896_S4x1024x896_1_0_2 := by
  unfold V
  exact host_v2 _

theorem gain_at (x : FVec Ideal S1024 .f32) (k : Fin 1024) : (shapeCast S1x1024 x shapeCasts_S1024_S1x1024 (ix2 0 k) : EReal) = x (ix1 k) := by
  pointwise []

theorem weight_at (w : FVec Ideal S1024x3584 .f32) (j : Fin 4) (k : Fin 1024) (n : Fin 896) :
    (transpose S4x1024x896 [1, 0, 2] (shapeCast S1024x4x896 (truncf .bf16 w bitsLt_bf16_f32) shapeCasts_S1024x3584_S1024x4x896)
      transposes_S1024x4x896_S4x1024x896_1_0_2 (ix3 j k n) : EReal) = w (ix2 k (col j n)) := by
  pointwise []

/-! ## The reference -/

open Cert.Reference11Ideal.Read

/-- The reference's product with the weights, entry by entry. -/
theorem ref_p (x2 : FVec Ideal Cert.Reference11Ideal.S1024x3584 .f32) (x3 : FVec Ideal Cert.Reference11Ideal.S4096x3584 .bf16) (r : Fin 4096) (k : Fin 1024) :
    val_main_v18 (F := Ideal) x2 x3 (ix2 r k) = ∑ q : Fin 3584, (x3 (ix2 r q) : EReal) * x2 (ix2 k q) := by
  unfold val_main_v18 val_main_v17
  pointwise []

theorem ref_dx (x0 : FVec Ideal Cert.Reference11Ideal.S4096x1024 .f32) (x1 : FVec Ideal Cert.Reference11Ideal.S1024 .f32) (x2 : FVec Ideal Cert.Reference11Ideal.S1024x3584 .f32)
    (x3 : FVec Ideal Cert.Reference11Ideal.S4096x3584 .bf16) (x4 : FVec Ideal Cert.Reference11Ideal.S4096x1024 .f32) (r : Fin 4096) (k : Fin 1024) :
    val_main_v39 (F := Ideal) x0 x1 x2 x3 x4 (ix2 r k)
      = refrow (fun j => val_main_v18 (F := Ideal) x2 x3 (ix2 r j)) (fun j => x0 (ix2 r j)) (fun j => x1 (ix1 j)) (x4 (ix2 r k)) k := by
  unfold val_main_v39 val_main_v38 val_main_v37 val_main_v36 val_main_v35 val_main_v34 val_main_v33 val_main_v32 val_main_v31 val_main_v30 val_main_v29 val_main_v28 val_main_v27
    val_main_v26 val_main_v25 val_main_v23 val_main_v22 val_main_v13 val_main_v10 val_main_v9 val_main_v8 val_main_v7 val_main_v6 val_main_v5 val_main_v4 val_main_v3 val_main_v2
    val_main_v1 val_main_v0 val_main_cst val_main_cst_0 val_main_cst_1 val_main_cst_2 val_main_cst_5 val_main_cst_6 val_main_cst_7
  generalize val_main_v18 (F := Ideal) x2 x3 = p
  pointwise []
  simp only [Fin.sum_univ_one]

theorem ref_dg (x0 : FVec Ideal Cert.Reference11Ideal.S4096x1024 .f32) (x2 : FVec Ideal Cert.Reference11Ideal.S1024x3584 .f32)
    (x3 : FVec Ideal Cert.Reference11Ideal.S4096x3584 .bf16) (k : Fin 1024) :
    val_main_v40 (F := Ideal) x0 x2 x3 (ix2 0 k)
      = ∑ r : Fin 4096, x0 (ix2 r k) * Ideal.rsqrt (ms fun j => x0 (ix2 r j)) * val_main_v18 (F := Ideal) x2 x3 (ix2 r k) := by
  unfold val_main_v40 val_main_v24 val_main_v21 val_main_v20 val_main_v19 val_main_v12 val_main_v11 val_main_v7 val_main_v6 val_main_v5 val_main_v4 val_main_v3 val_main_v2
    val_main_v1 val_main_v0 val_main_cst val_main_cst_0 val_main_cst_1 val_main_cst_3 val_main_cst_4
  generalize val_main_v18 (F := Ideal) x2 x3 = p
  pointwise []
  simp only [Fin.sum_univ_one]

/-! ## The arrays -/

variable (h0 : ∀ i, (m ((c : Thread nD τ).loc main_arg0) i : EReal) = ((EReal.toReal (m ((c : Thread nD τ).loc main_arg0) i) : ℝ) : EReal))
  (h1 : ∀ i, (m ((c : Thread nD τ).loc main_arg1) i : EReal) = ((EReal.toReal (m ((c : Thread nD τ).loc main_arg1) i) : ℝ) : EReal))
  (h2 : ∀ i, (m ((c : Thread nD τ).loc main_arg2) i : EReal) = ((EReal.toReal (m ((c : Thread nD τ).loc main_arg2) i) : ℝ) : EReal))
  (h3 : ∀ i, (m ((c : Thread nD τ).loc main_arg3) i : EReal) = ((EReal.toReal (m ((c : Thread nD τ).loc main_arg3) i) : ℝ) : EReal))

/-- The reference's product of the launched arguments. -/
abbrev P : S4096x1024.Idx → EReal :=
  val_main_v18 (F := Ideal) (m ((c : Thread nD τ).loc main_arg2)) (m ((c : Thread nD τ).loc main_arg3))

/-- A shard's part of an entry of the whole product. -/
abbrev wpart (a : S4096x3584.Idx → EReal) (w : S1024x3584.Idx → EReal) (r : Fin 4096) (k : Fin 1024) (s : Fin 4) : EReal :=
  ∑ n : Fin 896, a (ix2 r (col s n)) * w (ix2 k (col s n))

theorem prod_block (t : Fin cfg0.N) (l : Fin 512) (k : Fin 1024) (r : Fin 4096) (hr : r.val = t.val * 512 + l.val) :
    acc (F := Ideal) (iblk m c 0 t) (iblk m c 1 t) (ix2 l k) = P m c (ix2 r k) := by
  have hs : ∀ s : Fin 4, part (iblk m c 0 t) (iblk m c 1 t) l k s
      = wpart (m ((c : Thread nD τ).loc main_arg3)) (m ((c : Thread nD τ).loc main_arg2)) r k s := by
    intro s
    refine sum_congr rfl fun n _ => congrArg₂ (· * ·) ?_ ?_
    · exact (blk0 m c t l _ r hr).trans (by rw [V_main_arg3])
    · exact (blk1 m c t s k n).trans ((congrFun (V_v2 m c) _).trans (weight_at _ s k n))
  rw [acc_at, hs, hs, hs, hs]
  unfold P
  rw [ref_p, sum_shards]

include h2 h3 in
theorem P_real (r : Fin 4096) (k : Fin 1024) : P m c (ix2 r k) = ((EReal.toReal (P m c (ix2 r k)) : ℝ) : EReal) := by
  have e : P m c (ix2 r k) = ((∑ q : Fin 3584, EReal.toReal (m ((c : Thread nD τ).loc main_arg3) (ix2 r q)) * EReal.toReal (m ((c : Thread nD τ).loc main_arg2) (ix2 k q)) : ℝ) : EReal) := by
    unfold P
    rw [ref_p, Cert.Swa.coe_sum]
    refine sum_congr rfl fun q _ => ?_
    rw [EReal.coe_mul]
    exact congrArg₂ (· * ·) (h3 _) (h2 _)
  rw [e, EReal.toReal_coe]

theorem row_h (t : Fin cfg0.N) (l : Fin 512) (r : Fin 4096) (hr : r.val = t.val * 512 + l.val) :
    (fun j : Fin 1024 => (iblk m c 2 t (ix2 l j) : EReal)) = fun j => m ((c : Thread nD τ).loc main_arg0) (ix2 r j) :=
  funext fun j => (blk2 m c t l j r hr).trans (by rw [V_main_arg0])

/-- A block of the input's gradient, entry by entry. -/
theorem dx_block (t : Fin cfg0.N) (l : Fin 512) (k : Fin 1024) (r : Fin 4096) (hr : r.val = t.val * 512 + l.val) :
    k0_pay1 (F := Ideal) (acc (iblk m c 0 t) (iblk m c 1 t)) (k0_pay5 (iblk m c 2 t)) (k0_pay6 (iblk m c 2 t)) (iblk m c 3 t) (iblk m c 4 t) (ix2 l k)
      = dxrow (fun j => P m c (ix2 r j)) (fun j => m ((c : Thread nD τ).loc main_arg0) (ix2 r j)) (fun j => m ((c : Thread nD τ).loc main_arg1) (ix1 j))
        (m ((c : Thread nD τ).loc main_arg4) (ix2 r k)) k := by
  have hg : (fun j : Fin 1024 => (iblk m c 3 t (ix2 0 j) : EReal)) = fun j => m ((c : Thread nD τ).loc main_arg1) (ix1 j) :=
    funext fun j => (blk3 m c t j).trans ((congrFun (V_v3 m c) _).trans (gain_at _ j))
  have hp : (fun j : Fin 1024 => (acc (F := Ideal) (iblk m c 0 t) (iblk m c 1 t) (ix2 l j) : EReal)) = fun j => P m c (ix2 r j) :=
    funext fun j => prod_block m c t l j r hr
  have hd : (iblk m c 4 t (ix2 l k) : EReal) = m ((c : Thread nD τ).loc main_arg4) (ix2 r k) := (blk4 m c t l k r hr).trans (by rw [V_main_arg4])
  rw [rows_at, hp, row_h m c t l r hr, hg, hd]

/-- What a point leaves of the input's gradient. -/
theorem rows_out (t : Fin cfg0.N) : (outsAt0 m c t.val t.isLt).1
    = k0_pay1 (F := Ideal) (acc (iblk m c 0 t) (iblk m c 1 t)) (k0_pay5 (iblk m c 2 t)) (k0_pay6 (iblk m c 2 t)) (iblk m c 3 t) (iblk m c 4 t) := by
  by_cases h : t.val % 8 = 0
  · rw [outsAt0_A m c t h]
    dsimp only
    rw [rowsA]
  · rw [outsAt0_B m c t h]
    dsimp only
    rw [rowsB]

/-- A block's part of the gain's gradient, of the product and the rows. -/
abbrev gsum (p x : S4096x1024.Idx → EReal) (t : Fin 8) (k : Fin 1024) : EReal :=
  ∑ l : Fin 512, p (ix2 (row t l) k) * (x (ix2 (row t l) k) * Ideal.rsqrt (ms fun j => x (ix2 (row t l) j)))

/-- Block `t`'s part of the gain's gradient. -/
abbrev gpart (t : Fin 8) (k : Fin 1024) : EReal := gsum (P m c) (m ((c : Thread nD τ).loc main_arg0)) t k

theorem gain_block (t : Fin cfg0.N) (t' : Fin 8) (ht : t'.val = t.val) (s : Vec Ideal S1x1024 .f32) (k : Fin 1024) :
    k0_pay3 (F := Ideal) (acc (iblk m c 0 t) (iblk m c 1 t)) (k0_pay6 (iblk m c 2 t)) s (ix2 0 k) = s (ix2 0 k) + gpart m c t' k := by
  rw [gain_step]
  refine congrArg (_ + ·) (sum_congr rfl fun l _ => ?_)
  have hr : (row t' l).val = t.val * 512 + l.val := by show t'.val * 512 + l.val = _; rw [ht]
  rw [prod_block m c t l k (row t' l) hr, row_h m c t l (row t' l) hr]
  exact congrArg (fun z : EReal => P m c (ix2 (row t' l) k) * (z * Ideal.rsqrt (ms fun j => m ((c : Thread nD τ).loc main_arg0) (ix2 (row t' l) j)))) (congrFun (row_h m c t l (row t' l) hr) k)

/-- The gain's gradient after point `n`: the sum of the parts so far. -/
theorem gain_out (k : Fin 1024) : ∀ (n : Nat) (hn : n < cfg0.N), (outsAt0 m c n hn).2 (ix2 0 k)
    = ∑ t ∈ range (n + 1), if h : t < 8 then gpart m c ⟨t, h⟩ k else 0 := by
  have hN : cfg0.N = 8 := N_0
  intro n
  induction n with
  | zero =>
    intro hn
    rw [show outsAt0 m c 0 hn = _ from outsAt0_A m c ⟨0, hn⟩ rfl]
    dsimp only
    rw [gainA, gain_block m c ⟨0, hn⟩ 0 rfl, gain_zero]
    simp
  | succ n ih =>
    intro hn
    have h8 : n + 1 < 8 := by omega
    rw [show outsAt0 m c (n + 1) hn = _ from outsAt0_B m c ⟨n + 1, hn⟩ (by dsimp only; omega)]
    dsimp only
    rw [gainB, gain_block m c ⟨n + 1, hn⟩ ⟨n + 1, h8⟩ rfl, sum_range_succ, dif_pos h8]
    exact congrArg (· + _) (ih (by omega))

theorem mem_blk5 (t : Fin cfg0.N) (i : S4096x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v4_0).slice (win0_5.rect t)).set ↔ _
  rw [View.set_slice_whole, Rect.mem_set_unit]
  exact Iff.rfl

theorem mem_blk6 (t : Fin cfg0.N) (i : S1x1024.Idx) :
    i ∈ ((cfg0.win 6).blk t).view.set ↔ ∀ a : Fin 2, win0_6.index t a * S1x1024.size a ≤ (i a).val ∧ (i a).val < win0_6.index t a * S1x1024.size a + S1x1024.size a := by
  show i ∈ ((View.whole main_v4_1).slice (win0_6.rect t)).set ↔ _
  rw [View.set_slice_whole, Rect.mem_set_unit]
  exact Iff.rfl

theorem flush5 : ∀ t : Fin cfg0.N, (cfg0.win 5).flush t = true :=
  (by decide +kernel : ∀ t : Fin grid0.N, (cfg0.win 5).flush t = true)
theorem flush6 : ∀ t : Fin cfg0.N, (cfg0.win 6).flush t = true ↔ t.val = 7 :=
  (by decide +kernel : ∀ t : Fin grid0.N, (cfg0.win 6).flush t = true ↔ t.val = 7)

include h0 h1 h2 h3 in
theorem result5 : (dats m 0 c).arrAt 5 cfg0.N = val_main_v39 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) := by
  have hN : cfg0.N = 8 := N_0
  refine (dats m 0 c).arrAt_eq_of_cover 5 _ (fun t _ => ?_) (fun i => ?_)
  · rw [Value.flushed5, rows_out]
    funext j
    rw [show j = ix2 (n0 := 512) (n1 := 1024) (j 0) (j 1) from (ix2_eta (n0 := 512) (n1 := 1024) j).symm]
    have hr : t.val * 512 + (j 0).val < 4096 := by have ht : t.val < 8 := lt_of_lt_of_eq t.isLt hN; have h : (j 0).val < 512 := (j 0).isLt; omega
    refine Eq.trans ?_ (read5 t _ (j 0) (j 1) ⟨_, hr⟩ rfl).symm
    refine (dx_block m c t (j 0) (j 1) ⟨_, hr⟩ rfl).trans (Eq.trans ?_ (ref_dx _ _ _ _ _ ⟨_, hr⟩ (j 1)).symm)
    rw [show (fun j' : Fin 1024 => P m c (ix2 ⟨_, hr⟩ j')) = fun j' => ((EReal.toReal (P m c (ix2 ⟨_, hr⟩ j')) : ℝ) : EReal) from funext fun j' => P_real m c h2 h3 ⟨_, hr⟩ j',
      show (fun j' : Fin 1024 => (m ((c : Thread nD τ).loc main_arg0) (ix2 ⟨_, hr⟩ j') : EReal)) = fun j' => ((EReal.toReal (m ((c : Thread nD τ).loc main_arg0) (ix2 ⟨_, hr⟩ j')) : ℝ) : EReal) from funext fun j' => h0 _,
      show (fun j' : Fin 1024 => (m ((c : Thread nD τ).loc main_arg1) (ix1 j') : EReal)) = fun j' => ((EReal.toReal (m ((c : Thread nD τ).loc main_arg1) (ix1 j')) : ℝ) : EReal) from funext fun j' => h1 _]
    exact row_eq _ _ _ _ _
  · have hi0 : (i 0).val < 4096 := (i 0).isLt
    have hi1 : (i 1).val < 1024 := (i 1).isLt
    refine ⟨⟨(i 0).val / 512, by omega⟩, flush5 _, ?_⟩
    rw [mem_blk5]
    intro a
    match a with
    | ⟨0, _⟩ => show (cfg0.win 5).index _ 0 * 512 ≤ (i 0).val ∧ (i 0).val < (cfg0.win 5).index _ 0 * 512 + 512; rw [index5_0]; dsimp only; omega
    | ⟨1, _⟩ => show (cfg0.win 5).index _ 1 * 1024 ≤ (i 1).val ∧ (i 1).val < (cfg0.win 5).index _ 1 * 1024 + 1024; rw [index5_1]; omega

theorem result6 : (dats m 0 c).arrAt 6 cfg0.N = val_main_v40 (F := Ideal) (m ((c : Thread nD τ).loc main_arg0)) (m ((c : Thread nD τ).loc main_arg2)) (m ((c : Thread nD τ).loc main_arg3)) := by
  have hN : cfg0.N = 8 := N_0
  refine (dats m 0 c).arrAt_eq_of_cover 6 _ (fun t ht => ?_) (fun i => ?_)
  · have h7 : t.val = 7 := (flush6 t).1 ht
    rw [Value.flushed6]
    funext j
    have hj : (j 0).val < 1 := (j 0).isLt
    rw [show j = ix2 (n0 := 1) (n1 := 1024) 0 (j 1) from (ix2_eta (n0 := 1) (n1 := 1024) j).symm.trans (congrArg (fun z => ix2 (n0 := 1) (n1 := 1024) z (j 1)) (Fin.ext (by show (j 0).val = 0; omega)))]
    refine Eq.trans ?_ (read6 t _ (j 1)).symm
    refine (gain_out m c (j 1) t.val t.isLt).trans (Eq.trans ?_ (ref_dg _ _ _ (j 1)).symm)
    rw [h7, sum_rows, sum_range]
    refine sum_congr rfl fun s _ => ?_
    rw [dif_pos s.isLt]
    exact sum_congr rfl fun l _ => mul_comm (G := EReal) _ _
  · have hi0 : (i 0).val < 1 := (i 0).isLt
    have hi1 : (i 1).val < 1024 := (i 1).isLt
    refine ⟨⟨7, by omega⟩, (flush6 _).2 rfl, ?_⟩
    rw [mem_blk6]
    intro a
    match a with
    | ⟨0, _⟩ => show (cfg0.win 6).index _ 0 * 1 ≤ (i 0).val ∧ (i 0).val < (cfg0.win 6).index _ 0 * 1 + 1; rw [index6_0]; omega
    | ⟨1, _⟩ => show (cfg0.win 6).index _ 1 * 1024 ≤ (i 1).val ∧ (i 1).val < (cfg0.win 6).index _ 1 * 1024 + 1024; rw [index6_1]; omega

theorem run
  (h0 : ∀ (c : Dev nD) i, (m ((c : Thread nD τ).loc main_arg0) i : EReal) = ((EReal.toReal (m ((c : Thread nD τ).loc main_arg0) i) : ℝ) : EReal))
  (h1 : ∀ (c : Dev nD) i, (m ((c : Thread nD τ).loc main_arg1) i : EReal) = ((EReal.toReal (m ((c : Thread nD τ).loc main_arg1) i) : ℝ) : EReal))
  (h2 : ∀ (c : Dev nD) i, (m ((c : Thread nD τ).loc main_arg2) i : EReal) = ((EReal.toReal (m ((c : Thread nD τ).loc main_arg2) i) : ℝ) : EReal))
  (h3 : ∀ (c : Dev nD) i, (m ((c : Thread nD τ).loc main_arg3) i : EReal) = ((EReal.toReal (m ((c : Thread nD τ).loc main_arg3) i) : ℝ) : EReal)) :
  θ_run defs (onTc (τ := τ) (main (F := Ideal))) ⟨m, fun _ => 0, ρ⟩ fun r => ∀ c : Dev nD,
      r.2.mem ((c : Thread nD τ).loc main_v4_0) = val_main_v39 (F := Ideal) (m ((c : Thread nD τ).loc main_arg0)) (m ((c : Thread nD τ).loc main_arg1)) (m ((c : Thread nD τ).loc main_arg2))
        (m ((c : Thread nD τ).loc main_arg3)) (m ((c : Thread nD τ).loc main_arg4))
      ∧ r.2.mem ((c : Thread nD τ).loc main_v4_1) = val_main_v40 (F := Ideal) (m ((c : Thread nD τ).loc main_arg0)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (result5 m c (h0 c) (h1 c) (h2 c) (h3 c)), (h c).2.1.trans (result6 m c), (h c).2.2⟩) (Value.run_blocks m ρ)

end Cert.Kernel11Ideal.Ffn

end
-- ==== Proof.Swa.Spec.lean ====
/- What the gradient of banded attention with sinks is, over the reals: the rows of the projection, the band, and the
   results element by element. The shift `M` of a row's exponentials is a parameter: nothing depends on it. -/
module

public import proofs.«01_k».proof.Proof.Swa.Math

@[expose] public section

noncomputable section

namespace Cert.Swa

open Finset

/-- The row of the sequence that is number `a` of block `n`. -/
def row (n : Fin 32) (a : Fin 128) : Fin 4096 := ⟨n.val * 128 + a.val, by omega⟩
/-- The block before block `n` (of the first block: itself). -/
def before (n : Fin 32) : Fin 32 := ⟨n.val - 1, by omega⟩
/-- The head of the query that is number `g` of the key head `kv`. -/
def head (kv : Fin 2) (g : Fin 8) : Fin 16 := ⟨kv.val * 8 + g.val, by omega⟩
/-- The lane of element `d` of a query head. -/
def qlane (kv : Fin 2) (g : Fin 8) (d : Fin 64) : Fin 1024 := ⟨(kv.val * 8 + g.val) * 64 + d.val, by omega⟩
/-- The lane of element `d` of a key head. -/
def klane (kv : Fin 2) (d : Fin 64) : Fin 128 := ⟨kv.val * 64 + d.val, by omega⟩
/-- A lane of the projection that holds queries, keys, values. -/
def lq (c : Fin 1024) : Fin 1280 := ⟨c.val, by omega⟩
def lk (c : Fin 128) : Fin 1280 := ⟨1024 + c.val, by omega⟩
def lv (c : Fin 128) : Fin 1280 := ⟨1152 + c.val, by omega⟩

/-- The window: query `a` of block `n` sees number `j` of the two blocks before its end. -/
def seen (n : Fin 32) (a : Fin 128) (j : Fin 256) : Prop := a.val < j.val ∧ j.val ≤ a.val + 128 ∧ (n.val = 0 → 128 ≤ j.val)

instance (n : Fin 32) (a : Fin 128) : DecidablePred (seen n a) := fun j => by unfold seen; infer_instance

variable (X : Fin 4096 → Fin 1280 → ℝ) (G : Fin 4096 → Fin 1024 → ℝ) (K : Fin 16 → ℝ)
variable (M : Fin 2 → Fin 8 → Fin 32 → Fin 128 → ℝ)

/-- Number `j` of the two blocks up to block `n`, in a column of the projection: nothing before the sequence. -/
def band (c : Fin 1280) (n : Fin 32) (j : Fin 256) : ℝ :=
  if h : j.val < 128 then (if n.val = 0 then 0 else X (row (before n) ⟨j.val, h⟩) c)
  else X (row n ⟨j.val - 128, by omega⟩) c

def query (kv : Fin 2) (g : Fin 8) (n : Fin 32) (a : Fin 128) (d : Fin 64) : ℝ := X (row n a) (lq (qlane kv g d))
def keys (kv : Fin 2) (n : Fin 32) (j : Fin 256) (d : Fin 64) : ℝ := band X (lk (klane kv d)) n j
def vals (kv : Fin 2) (n : Fin 32) (j : Fin 256) (d : Fin 64) : ℝ := band X (lv (klane kv d)) n j
/-- The cotangent of the output. -/
def dout (kv : Fin 2) (g : Fin 8) (n : Fin 32) (a : Fin 128) (d : Fin 64) : ℝ := G (row n a) (qlane kv g d)

def score (kv : Fin 2) (g : Fin 8) (n : Fin 32) (a : Fin 128) (j : Fin 256) : ℝ :=
  (∑ d : Fin 64, keys X kv n j d * query X kv g n a d) * (1 / 8)
def dprob (kv : Fin 2) (g : Fin 8) (n : Fin 32) (a : Fin 128) (j : Fin 256) : ℝ :=
  ∑ d : Fin 64, dout G kv g n a d * vals X kv n j d

/-- Probabilities, log-denominator and output of a row. -/
def P (kv : Fin 2) (g : Fin 8) (n : Fin 32) (a : Fin 128) : Fin 256 → ℝ :=
  prob (seen n a) (score X kv g n a) (M kv g n a) (K (head kv g))
def L (kv : Fin 2) (g : Fin 8) (n : Fin 32) (a : Fin 128) : ℝ :=
  lse (seen n a) (score X kv g n a) (M kv g n a) (K (head kv g))
def O (kv : Fin 2) (g : Fin 8) (n : Fin 32) (a : Fin 128) (d : Fin 64) : ℝ := ∑ j : Fin 256, vals X kv n j d * P X K M kv g n a j
/-- The row's inner product and the gradient of its scores. -/
def W (kv : Fin 2) (g : Fin 8) (n : Fin 32) (a : Fin 128) : ℝ :=
  inner (seen n a) (score X kv g n a) (dprob X G kv g n a) (M kv g n a) (K (head kv g))
def DS (kv : Fin 2) (g : Fin 8) (n : Fin 32) (a : Fin 128) : Fin 256 → ℝ :=
  dscore (seen n a) (score X kv g n a) (dprob X G kv g n a) (M kv g n a) (K (head kv g))

/-- The gradient of the queries. -/
def DQ (kv : Fin 2) (g : Fin 8) (n : Fin 32) (a : Fin 128) (d : Fin 64) : ℝ :=
  ∑ j : Fin 256, DS X G K M kv g n a j * (1 / 8) * keys X kv n j d
/-- The gradients of the banded keys and values. -/
def DKb (kv : Fin 2) (n : Fin 32) (j : Fin 256) (d : Fin 64) : ℝ :=
  ∑ g : Fin 8, ∑ a : Fin 128, DS X G K M kv g n a j * (1 / 8) * query X kv g n a d
def DVb (kv : Fin 2) (n : Fin 32) (j : Fin 256) (d : Fin 64) : ℝ :=
  ∑ g : Fin 8, ∑ a : Fin 128, dout G kv g n a d * P X K M kv g n a j
/-- A block's gradient is that of its own band's second half and of the next band's first. -/
def unband (f : Fin 32 → Fin 256 → ℝ) (n : Fin 32) (r : Fin 128) : ℝ :=
  f n ⟨128 + r.val, by omega⟩ + if h : n.val < 31 then f ⟨n.val + 1, by omega⟩ ⟨r.val, by omega⟩ else 0
/-- The gradients of the keys and values. -/
def DK (kv : Fin 2) (n : Fin 32) (r : Fin 128) (d : Fin 64) : ℝ := unband (fun n j => DKb X G K M kv n j d) n r
def DV (kv : Fin 2) (n : Fin 32) (r : Fin 128) (d : Fin 64) : ℝ := unband (fun n j => DVb X G K M kv n j d) n r
/-- The gradient of a head's sink. -/
def DSK (kv : Fin 2) (g : Fin 8) : ℝ :=
  ∑ n : Fin 32, ∑ a : Fin 128,
    dsink (seen n a) (score X kv g n a) (dprob X G kv g n a) (M kv g n a) (K (head kv g))

end Cert.Swa

end
-- ==== Proof.Swa.RefMask.lean ====
/- The reference's mask at an index: whether a query's window holds a key of its band. -/
module

public import proofs.«01_k».proof.Proof.Gen.ReferenceIdeal.Read
public import proofs.«01_k».proof.Proof.Swa.Spec
public import Idealize.ShloMosaic.Lib.Pointwise

@[expose] public section

set_option maxRecDepth 16384

noncomputable section

namespace Cert.ReferenceIdeal.Swa

open Idealize.ShloMosaic Cert.ReferenceIdeal.Read Cert.Swa

/-- The distance of a query from a key of its band, and whether the window holds it. -/
theorem near_dec : ∀ (a : Fin 128) (j : Fin 256),
    IntOp.andi (IntOp.cmpi .sge (BitVec.ofNat 32 a.val + 128#32 - BitVec.ofNat 32 j.val) 0#32)
      (IntOp.cmpi .sle (BitVec.ofNat 32 a.val + 128#32 - BitVec.ofNat 32 j.val) 127#32)
      = if a.val < j.val ∧ j.val ≤ a.val + 128 then 1#1 else 0#1 := by
  decide +kernel

/-- Whether a key's position is one of the sequence. -/
theorem pos_dec : ∀ (n : Fin 32) (j : Fin 256),
    IntOp.cmpi .sge (IntOp.addi (IntOp.muli (IntOp.subi (BitVec.ofNat 32 n.val) 1#32) 128#32) (BitVec.ofNat 32 j.val)) 0#32
      = if n.val = 0 → 128 ≤ j.val then 1#1 else 0#1 := by
  decide +kernel

theorem v58_at (n : Fin 32) (a : Fin 128) (j : Fin 256) : val_main_v58 (F := Ideal) (ix3 n a j) = if seen n a j then 1#1 else 0#1 := by
  pointwise [val_main_v58, val_main_v57, val_main_v56, val_main_v55, val_main_c_8, val_main_v54, val_main_v53, val_main_v52, val_main_c_7, val_main_v51, val_main_v50, val_main_c_6, val_main_v49, val_main_v48, val_main_v47, val_main_v46, val_main_v45, val_main_v44, val_main_v43, val_main_v42, val_main_v41, val_main_v40, val_main_c_5, val_main_v39, val_main_v38, val_main_c_4, val_main_v37, val_main_v36, val_main_v35, val_main_v34, val_main_v33, val_main_v32, val_main_v31, val_main_c, val_main_v30, val_main_v29]
  have hd : IntOp.subi (IntOp.addi (IntOp.muli (BitVec.ofNat 32 n.val) 128#32) (BitVec.ofNat 32 a.val))
      (IntOp.addi (IntOp.muli (IntOp.subi (BitVec.ofNat 32 n.val) 1#32) 128#32) (BitVec.ofNat 32 j.val))
      = BitVec.ofNat 32 a.val + 128#32 - BitVec.ofNat 32 j.val := by
    show BitVec.ofNat 32 n.val * 128#32 + BitVec.ofNat 32 a.val - ((BitVec.ofNat 32 n.val - 1#32) * 128#32 + BitVec.ofNat 32 j.val) = _
    bv_omega
  rw [hd, near_dec, pos_dec]
  by_cases p : a.val < j.val ∧ j.val ≤ a.val + 128 <;> by_cases q : (n.val = 0 → 128 ≤ j.val)
  · rw [if_pos p, if_pos q, if_pos ⟨p.1, p.2, q⟩]; rfl
  · rw [if_pos p, if_neg q, if_neg fun h => q h.2.2]; rfl
  · rw [if_neg p, if_pos q, if_neg fun h => p ⟨h.1, h.2.1⟩]; rfl
  · rw [if_neg p, if_neg q, if_neg fun h => q h.2.2]; rfl

end Cert.ReferenceIdeal.Swa

end
-- ==== Proof.Swa.RefFwd.lean ====
/- The reference's forward stages at an index, on real arguments: the banded scores, the shift, the probabilities, the
   log-denominators and the output. -/
module

public import proofs.«01_k».proof.Proof.Swa.RefMask
public import Idealize.ShloMosaic.Lib.Pointwise

@[expose] public section

set_option maxRecDepth 16384

noncomputable section

namespace Cert.ReferenceIdeal.Swa

open Idealize.ShloMosaic Cert.ReferenceIdeal.Read Cert.Swa Finset

abbrev A0 := (⟨S4096x1280, .bf16⟩ : BufTy).Contents (Elt Ideal)
abbrev A1 := (⟨S4096x1024, .bf16⟩ : BufTy).Contents (Elt Ideal)
abbrev A2 := (⟨S16, .f32⟩ : BufTy).Contents (Elt Ideal)

/-- The arguments are real numbers. -/
def Real0 (x0 : A0) (X : Fin 4096 → Fin 1280 → ℝ) : Prop := ∀ r c, (x0 (ix2 r c) : EReal) = (X r c : EReal)
def Real1 (x1 : A1) (G : Fin 4096 → Fin 1024 → ℝ) : Prop := ∀ r c, (x1 (ix2 r c) : EReal) = (G r c : EReal)
def Real2 (x2 : A2) (K : Fin 16 → ℝ) : Prop := ∀ h, (x2 (ix1 h) : EReal) = (K h : EReal)

/-- The shift of a row's exponentials: the larger of its largest score and its sink. -/
def shift (x0 : A0) (x2 : A2) (kv : Fin 2) (g : Fin 8) (n : Fin 32) (a : Fin 128) : ℝ :=
  EReal.toReal (val_main_v69 (F := Ideal) x0 x2 (ix5 kv g n a 0))

theorem eighth : Ideal.ofBits .f32 0x3E000000#32 = ((1 / 8 : ℝ) : EReal) := by
  simp [Ideal.ofBits, Ideal.ieee, -EReal.coe_mul]; norm_num
theorem neg_inf : Ideal.ofBits .f32 0xFF800000#32 = ⊥ := by simp [Ideal.ofBits, Ideal.ieee]

theorem coe_dot {n : ℕ} (s t : Fin n → ℝ) : (∑ x, (s x : EReal) * (t x : EReal)) = ((∑ x, s x * t x : ℝ) : EReal) := by
  rw [coe_sum]; rfl

theorem div_coe (x y : ℝ) (h : y ≠ 0) : Ideal.div (x : EReal) (y : EReal) = ((x / y : ℝ) : EReal) := by
  have h' : (y : EReal) ≠ 0 := by exact_mod_cast h
  rw [Ideal.div, if_neg h', ← EReal.coe_inv, ← EReal.coe_mul, div_eq_mul_inv]

variable {x0 : A0} {x1 : A1} {x2 : A2} {X : Fin 4096 → Fin 1280 → ℝ} {G : Fin 4096 → Fin 1024 → ℝ} {K : Fin 16 → ℝ}
  (h0 : Real0 x0 X) (h1 : Real1 x1 G) (h2 : Real2 x2 K)
  (kv : Fin 2) (g : Fin 8) (n : Fin 32) (a : Fin 128) (j : Fin 256) (d : Fin 64)

include h0

theorem v10_at : (val_main_v10 (F := Ideal) x0 (ix5 kv g n a d) : EReal) = query X kv g n a d := by
  pointwise [val_main_v10, val_main_v5, val_main_v4, val_main_v1, val_main_v0]
  exact h0 _ _

theorem v11_at (r : Fin 128) : (val_main_v11 (F := Ideal) x0 (ix4 kv n r d) : EReal) = X (row n r) (lk (klane kv d)) := by
  pointwise [val_main_v11, val_main_v7, val_main_v6, val_main_v2, val_main_v0]
  exact h0 _ _

theorem v12_at (r : Fin 128) : (val_main_v12 (F := Ideal) x0 (ix4 kv n r d) : EReal) = X (row n r) (lv (klane kv d)) := by
  pointwise [val_main_v12, val_main_v9, val_main_v8, val_main_v3, val_main_v0]
  exact h0 _ _

theorem v18_at : (val_main_v18 (F := Ideal) x0 (ix4 kv n j d) : EReal) = keys X kv n j d := by
  pointwise [val_main_v18, val_main_v16, val_main_v14, val_main_v15, val_main_cst]
  simp only [v11_at h0]
  unfold keys band
  by_cases p : j.val < 128
  · rw [dif_pos p, dif_pos p]
    by_cases q : n.val = 0
    · rw [if_pos q, dif_pos (by omega)]; rfl
    · rw [if_neg q, dif_neg (by omega)]; rfl
  · rw [dif_neg p, dif_neg p]

theorem v24_at : (val_main_v24 (F := Ideal) x0 (ix4 kv n j d) : EReal) = vals X kv n j d := by
  pointwise [val_main_v24, val_main_v22, val_main_v20, val_main_v21, val_main_cst_1]
  simp only [v12_at h0]
  unfold vals band
  by_cases p : j.val < 128
  · rw [dif_pos p, dif_pos p]
    by_cases q : n.val = 0
    · rw [if_pos q, dif_pos (by omega)]; rfl
    · rw [if_neg q, dif_neg (by omega)]; rfl
  · rw [dif_neg p, dif_neg p]

theorem v28_at : (val_main_v28 (F := Ideal) x0 (ix5 kv g n a j) : EReal) = score X kv g n a j := by
  pointwise [val_main_v28, val_main_v26, val_main_v25, val_main_v27, val_main_cst_3]
  simp only [v18_at h0, v10_at h0]
  rw [coe_dot, eighth, ← EReal.coe_mul]; rfl

theorem v59_at : (val_main_v59_0 (F := Ideal) x0 (ix5 kv g n a j) : EReal) = if seen n a j then (score X kv g n a j : EReal) else ⊥ := by
  pointwise [val_main_v59_0, val_main_v59_1, val_main_call0_v2, val_main_call0_v0, val_main_cst_9]
  have e : (id (constant (F := Ideal) S_ .f32 0xFF800000#32) ix0 : EReal) = ⊥ := neg_inf
  rw [v58_at, v28_at h0]
  split_ifs
  · rfl
  · exact e

/-- Some score is the largest. -/
theorem v60_at : ∃ j, val_main_v60 (F := Ideal) x0 (ix4 kv g n a) = val_main_v59_0 (F := Ideal) x0 (ix5 kv g n a j) := by
  pointwise [val_main_v60, val_main_cst_10]
  obtain ⟨j, -, hj⟩ := Finset.exists_max_image Finset.univ (fun j => (val_main_v59_0 (F := Ideal) x0 (ix5 kv g n a j) : EReal)) ⟨0, Finset.mem_univ _⟩
  refine ⟨j, le_antisymm ?_ ?_⟩
  · exact Finset.fold_max_le _ |>.mpr ⟨by rw [neg_inf]; exact bot_le, hj⟩
  · exact Finset.le_fold_max _ |>.mpr (Or.inr ⟨j, Finset.mem_univ _, le_rfl⟩)

/-- The number of largest scores is not zero. -/
theorem v65_ne : (val_main_v65 (F := Ideal) x0 (ix4 kv g n a) : EReal) ≠ 0 := by
  obtain ⟨j, hj⟩ := v60_at h0 kv g n a
  have hs : ∀ k, (0 : EReal) ≤ val_main_v64 (F := Ideal) x0 (ix5 kv g n a k) := by
    intro k
    pointwise [val_main_v64, val_main_v63, val_main_v62, val_main_v61]
    exact EReal.coe_nonneg.mpr (Nat.cast_nonneg _)
  have h1 : val_main_v64 (F := Ideal) x0 (ix5 kv g n a j) = (1 : EReal) := by
    pointwise [val_main_v64, val_main_v63, val_main_v62, val_main_v61]
    rw [hj]
    simp [Ideal.cmp]
    exact (by simp : (((1#1 : BitVec 1).toNat : ℝ) : EReal) = 1)
  pointwise [val_main_v65, val_main_cst_11]
  have hp : (1 : EReal) ≤ ∑ k, (val_main_v64 (F := Ideal) x0 (ix5 kv g n a k) : EReal) :=
    h1 ▸ Finset.single_le_sum (f := fun k => (val_main_v64 (F := Ideal) x0 (ix5 kv g n a k) : EReal)) (fun k _ => hs k) (Finset.mem_univ j)
  exact ne_of_gt (lt_of_lt_of_le zero_lt_one hp)

omit h0

theorem zero_f32 : Ideal.ofBits .f32 0x00000000#32 = 0 := Ideal.ofBits_zero_f32
theorem one_f32 : Ideal.ofBits .f32 0x3F800000#32 = ((1 : ℝ) : EReal) := by rw [Ideal.ofBits_one_f32]; rfl

theorem max_f32 (x y : EReal) : FloatOps.maximumf (F := Ideal) (φ := .f32) x y = max x y := rfl

theorem v66_at : (val_main_v66 (F := Ideal) x0 (ix5 kv g n a 0) : EReal) = val_main_v60 (F := Ideal) x0 (ix4 kv g n a) := by
  pointwise [val_main_v66]

theorem v68_at : (val_main_v68 (F := Ideal) x2 (ix5 kv g n a 0) : EReal) = x2 (ix1 (head kv g)) := by
  pointwise [val_main_v68, val_main_v67]
  rfl

theorem v69_eq : (val_main_v69 (F := Ideal) x0 x2 (ix5 kv g n a 0) : EReal)
    = max (val_main_v60 (F := Ideal) x0 (ix4 kv g n a) : EReal) (x2 (ix1 (head kv g))) := by
  rw [val_main_v69_apply, v66_at, v68_at, max_f32]

include h0 h2

/-- The shift is a real number. -/
theorem v69_at : (val_main_v69 (F := Ideal) x0 x2 (ix5 kv g n a 0) : EReal) = (shift x0 x2 kv g n a : ℝ) := by
  have e := v69_eq (x0 := x0) (x2 := x2) kv g n a
  obtain ⟨j, hj⟩ := v60_at h0 kv g n a
  have hk : (x2 (ix1 (head kv g)) : EReal) = (K (head kv g) : EReal) := h2 _
  have hl : (val_main_v60 (F := Ideal) x0 (ix4 kv g n a) : EReal) < ⊤ := by
    rw [hj, v59_at h0]
    split_ifs
    · exact EReal.coe_lt_top _
    · exact bot_lt_top
  unfold shift
  rw [EReal.coe_toReal]
  · rw [e, hk]; exact ne_of_lt (max_lt hl (EReal.coe_lt_top _))
  · rw [e, hk]; exact ne_of_gt (lt_of_lt_of_le (EReal.bot_lt_coe _) (le_max_right _ _))

end Cert.ReferenceIdeal.Swa

end
-- ==== Proof.Swa.Finite.lean ====
/- What the precondition says: every entry of the three arguments is a real number. -/
module

public import proofs.«01_k».proof.Pre_finite
public import proofs.«01_k».proof.Proof.Swa.RefFwd
public import Idealize.ShloMosaic.Lib.ReduceAll
public import Idealize.ShloMosaic.Lib.Pointwise

@[expose] public section

set_option maxRecDepth 16384

noncomputable section

namespace Cert.Swa

open Idealize.ShloMosaic

/-- The precondition's shapes fit together. -/
theorem facts_finite : Cert.Pre_finite.Facts := by
  constructor <;> decide +kernel

/-- An absolute value below infinity is a real number's. -/
theorem real_of_lt (x : EReal) (h : Ideal.cmp .olt (max x (-x)) (Ideal.ofBits .f32 0x7F800000#32) = 1#1) : x = ((x.toReal : ℝ) : EReal) := by
  have htop : Ideal.ofBits .f32 0x7F800000#32 = ⊤ := by simp [Ideal.ofBits, Ideal.ieee]
  rw [htop] at h
  by_cases hx : x = ⊤ ∨ x = ⊥
  · have hn : ¬ (max x (-x) < ⊤) := by
      rcases hx with hx | hx <;> subst hx <;> simp
    simp [Ideal.cmp, hn] at h
  · push Not at hx
    exact (EReal.coe_toReal hx.1 hx.2).symm

instance : Subsingleton Cert.Pre_finite.S_.Idx := ⟨fun a b => funext fun i => i.elim0⟩

theorem and1 : ∀ a b : BitVec 1, IntOp.andi a b = 1#1 → a = 1#1 ∧ b = 1#1 := by decide

/-- The precondition, entry by entry. -/
theorem finite_real [Cert.Pre_finite.Facts] (x0 : FVec Ideal Cert.Pre_finite.S4096x1280 .bf16) (x1 : FVec Ideal Cert.Pre_finite.S4096x1024 .bf16)
    (x2 : FVec Ideal Cert.Pre_finite.S16 .f32) (h : Cert.Pre_finite.fn (F := Ideal) x0 x1 x2 = fun _ => 1#1) :
    (∀ i, (x0 i : EReal) = ((EReal.toReal (x0 i) : ℝ) : EReal)) ∧ (∀ i, (x1 i : EReal) = ((EReal.toReal (x1 i) : ℝ) : EReal))
      ∧ ∀ i, (x2 i : EReal) = ((EReal.toReal (x2 i) : ℝ) : EReal) := by
  have e := congrFun h (fun i => i.elim0)
  unfold Cert.Pre_finite.fn at e
  dsimp only at e
  obtain ⟨e01, e2⟩ := and1 _ _ e
  obtain ⟨e0, e1⟩ := and1 _ _ e01
  exact ⟨fun i => real_of_lt _ (Host.reduce_andi_all _ _ _ _ _ e0 i), fun i => real_of_lt _ (Host.reduce_andi_all _ _ _ _ _ e1 i),
    fun i => real_of_lt _ (Host.reduce_andi_all _ _ _ _ _ e2 i)⟩

end Cert.Swa

end
-- ==== Proof.Ffn.Finite.lean ====
/- The feed-forward programs' claims at finite arguments: the frames, what the preconditions say, and the equality of each call's
   results with its reference's. -/
module

public import proofs.«01_k».proof.Defs
public import proofs.«01_k».proof.Proof.Ffn.Imports
public import proofs.«01_k».proof.Proof.Ffn.Dact
public import proofs.«01_k».proof.Proof.Ffn.Dx
public import proofs.«01_k».proof.Proof.Ffn.Dx0
public import proofs.«01_k».proof.Proof.Ffn.MixDx
public import proofs.«01_k».proof.Proof.Swa.Finite
public import Idealize.ShloMosaic.Adequacy
public import Idealize.ShloMosaic.Init

@[expose] public section

set_option maxRecDepth 16384

noncomputable section

namespace Cert.Ffn

open Idealize.ShloMosaic Idealize.ShloMosaic.TcCoe Idealize.SL.Sem Cert.Swa

/-- Equal arguments, equal values. -/
theorem same3 {α β γ δ : Type} (f : α → β → γ → δ) {a a' : α} {b b' : β} {c c' : γ} (ha : a = a') (hb : b = b') (hc : c = c') :
    f a b c = f a' b' c' := by
  rw [ha, hb, hc]

/-- Equal arguments, equal values. -/
theorem same5 {α β γ δ ε ζ : Type} (f : α → β → γ → δ → ε → ζ) {a a' : α} {b b' : β} {c c' : γ} {d d' : δ} {e e' : ε} (ha : a = a') (hb : b = b')
    (hc : c = c') (hd : d = d') (he : e = e') : f a b c d e = f a' b' c' d' e' := by
  rw [ha, hb, hc, hd, he]

/-! ## Dact: the gradient of the first product -/

/-- The precondition's shapes fit together. -/
theorem facts_finite4 : Cert.Pre_finite4.Facts := by
  constructor <;> decide +kernel

instance : Subsingleton Cert.Pre_finite4.S_.Idx := ⟨fun a b => funext fun i => i.elim0⟩

/-- The precondition, entry by entry. -/
theorem finite_real4 [Cert.Pre_finite4.Facts] (x0 : FVec Ideal Cert.Pre_finite4.S4096x5632 .bf16) (x1 : FVec Ideal Cert.Pre_finite4.S2816x1024 .f32) (x2 : FVec Ideal Cert.Pre_finite4.S4096x1024 .f32)
    (h : Cert.Pre_finite4.fn (F := Ideal) x0 x1 x2 = fun _ => 1#1) :
    (∀ i, (x0 i : EReal) = ((EReal.toReal (x0 i) : ℝ) : EReal))
      ∧ (∀ i, (x1 i : EReal) = ((EReal.toReal (x1 i) : ℝ) : EReal))
      ∧ (∀ i, (x2 i : EReal) = ((EReal.toReal (x2 i) : ℝ) : EReal)) := by
  have e := congrFun h (fun i => i.elim0)
  unfold Cert.Pre_finite4.fn at e
  dsimp only at e
  obtain ⟨d2, e2⟩ := and1 _ _ e
  obtain ⟨e0, e1⟩ := and1 _ _ d2
  exact ⟨fun i => real_of_lt _ (Host.reduce_andi_all _ _ _ _ _ e0 i), fun i => real_of_lt _ (Host.reduce_andi_all _ _ _ _ _ e1 i), fun i => real_of_lt _ (Host.reduce_andi_all _ _ _ _ _ e2 i)⟩

attribute [local instance] Cert.Kernel4.Gen.facts Cert.Kernel4Ideal.Gen.facts Cert.Reference4Ideal.Gen.facts facts_finite4

theorem frame4 : Cert.quiescent_Kernel4 := fun m ρ _ => Cert.Kernel4.Gen.frame m ρ
theorem frame4_ideal : Cert.quiescent_Kernel4Ideal := fun m ρ _ => Cert.Kernel4Ideal.Gen.frame m ρ
theorem frame4_ideal_finite : Cert.quiescent_Kernel4Ideal_pre_finite4 := fun m ρ _ => Cert.Kernel4Ideal.Gen.frame m ρ
theorem frame4_ref : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)
theorem frame4_ref_finite : Cert.quiescent_Reference4Ideal_pre_finite4 := fun m ρ _ => frame4_ref m ρ trivial

theorem algebraic4 : Cert.algebraic_Kernel4Ideal_Reference4Ideal_pre_finite4 := by
  intro m ρ m' ρ' hpre hagree
  have hr := fun c => finite_real4 _ _ _ (hpre c)
  refine ⟨fun c => Cert.Reference4Ideal.Read.val_main_v11 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
    Cert.Kernel4Ideal.Ffn.run m ρ (fun c i => (hr c).1 i) (fun c i => (hr c).2.1 i) (fun c i => (hr c).2.2 i), ?_⟩
  refine (θ_run Cert.Reference4Ideal.defs _ _).mono (fun _ h c => ?_) (Cert.Reference4Ideal.Value.run (F := Ideal) m' ρ')
  obtain ⟨e0, e1, e2⟩ := hagree c
  obtain ⟨h0, hk⟩ := h c
  refine ⟨(h0.trans (Cert.Reference4Ideal.Read.val_main_v11_eq _ _ _)).trans ?_, hk⟩
  · exact Cert.Ffn.same3 (Cert.Reference4Ideal.Read.val_main_v11 (F := Ideal)) e0 e1 e2

/-! ## Dx: the gradient of the layer's input and of the gain -/

/-- The precondition's shapes fit together. -/
theorem facts_finite7 : Cert.Pre_finite7.Facts := by
  constructor <;> decide +kernel

instance : Subsingleton Cert.Pre_finite7.S_.Idx := ⟨fun a b => funext fun i => i.elim0⟩

/-- The precondition, entry by entry. -/
theorem finite_real7 [Cert.Pre_finite7.Facts] (x0 : FVec Ideal Cert.Pre_finite7.S4096x1024 .f32) (x1 : FVec Ideal Cert.Pre_finite7.S1024 .f32) (x2 : FVec Ideal Cert.Pre_finite7.S2x1024x5632 .f32) (x3 : FVec Ideal Cert.Pre_finite7.S4096x5632 .bf16) (x4 : FVec Ideal Cert.Pre_finite7.S4096x1024 .f32)
    (h : Cert.Pre_finite7.fn (F := Ideal) x0 x1 x2 x3 x4 = fun _ => 1#1) :
    (∀ i, (x0 i : EReal) = ((EReal.toReal (x0 i) : ℝ) : EReal))
      ∧ (∀ i, (x1 i : EReal) = ((EReal.toReal (x1 i) : ℝ) : EReal))
      ∧ (∀ i, (x2 i : EReal) = ((EReal.toReal (x2 i) : ℝ) : EReal))
      ∧ (∀ i, (x3 i : EReal) = ((EReal.toReal (x3 i) : ℝ) : EReal)) := by
  have e := congrFun h (fun i => i.elim0)
  unfold Cert.Pre_finite7.fn Cert.Pre_finite7.fn_part1 at e
  dsimp only at e
  obtain ⟨d3, e3⟩ := and1 _ _ e
  obtain ⟨d2, e2⟩ := and1 _ _ d3
  obtain ⟨e0, e1⟩ := and1 _ _ d2
  exact ⟨fun i => real_of_lt _ (Host.reduce_andi_all _ _ _ _ _ e0 i), fun i => real_of_lt _ (Host.reduce_andi_all _ _ _ _ _ e1 i), fun i => real_of_lt _ (Host.reduce_andi_all _ _ _ _ _ e2 i), fun i => real_of_lt _ (Host.reduce_andi_all _ _ _ _ _ e3 i)⟩

attribute [local instance] Cert.Kernel7.Gen.facts Cert.Kernel7Ideal.Gen.facts Cert.Reference7Ideal.Gen.facts facts_finite7

theorem frame7 : Cert.quiescent_Kernel7 := fun m ρ _ => Cert.Kernel7.Gen.frame m ρ
theorem frame7_ideal : Cert.quiescent_Kernel7Ideal := fun m ρ _ => Cert.Kernel7Ideal.Gen.frame m ρ
theorem frame7_ideal_finite : Cert.quiescent_Kernel7Ideal_pre_finite7 := fun m ρ _ => Cert.Kernel7Ideal.Gen.frame m ρ
theorem frame7_ref : Cert.quiescent_Reference7Ideal := fun m ρ _ =>
  (θ_run Cert.Reference7Ideal.defs _ _).mono (fun r h => ⟨fun c => (h c).2.2, Idealize.ShloMosaic.sem_eq_zero_of_no_sems (by decide) r.2⟩)
    (Cert.Reference7Ideal.Value.run (F := Ideal) m ρ)
theorem frame7_ref_finite : Cert.quiescent_Reference7Ideal_pre_finite7 := fun m ρ _ => frame7_ref m ρ trivial

theorem algebraic7 : Cert.algebraic_Kernel7Ideal_Reference7Ideal_pre_finite7 := by
  intro m ρ m' ρ' hpre hagree
  have hr := fun c => finite_real7 _ _ _ _ _ (hpre c)
  refine ⟨fun c => Cert.Reference7Ideal.Read.val_main_v41 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)), fun c => Cert.Reference7Ideal.Read.val_main_v42 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)),
    Cert.Kernel7Ideal.Ffn.run m ρ (fun c i => (hr c).1 i) (fun c i => (hr c).2.1 i) (fun c i => (hr c).2.2.1 i) (fun c i => (hr c).2.2.2 i), ?_⟩
  refine (θ_run Cert.Reference7Ideal.defs _ _).mono (fun _ h c => ?_) (Cert.Reference7Ideal.Value.run (F := Ideal) m' ρ')
  obtain ⟨e0, e1, e2, e3, e4⟩ := hagree c
  obtain ⟨h0, h1, hk⟩ := h c
  refine ⟨(h0.trans (Cert.Reference7Ideal.Read.val_main_v41_eq m' c)).trans ?_, (h1.trans (Cert.Reference7Ideal.Read.val_main_v42_eq _ _ _)).trans ?_, hk⟩
  · exact Cert.Ffn.same5 (Cert.Reference7Ideal.Read.val_main_v41 (F := Ideal)) e0 e1 e2 e3 e4
  · exact Cert.Ffn.same3 (Cert.Reference7Ideal.Read.val_main_v42 (F := Ideal)) e0 e2 e3

/-! ## Dx0: the same at the first layer -/

attribute [local instance] Cert.Kernel9.Gen.facts Cert.Kernel9Ideal.Gen.facts Cert.Reference9Ideal.Gen.facts facts_finite7

theorem frame9 : Cert.quiescent_Kernel9 := fun m ρ _ => Cert.Kernel9.Gen.frame m ρ
theorem frame9_ideal : Cert.quiescent_Kernel9Ideal := fun m ρ _ => Cert.Kernel9Ideal.Gen.frame m ρ
theorem frame9_ideal_finite : Cert.quiescent_Kernel9Ideal_pre_finite7 := fun m ρ _ => Cert.Kernel9Ideal.Gen.frame m ρ
theorem frame9_ref : Cert.quiescent_Reference9Ideal := fun m ρ _ =>
  (θ_run Cert.Reference9Ideal.defs _ _).mono (fun r h => ⟨fun c => (h c).2.2, Idealize.ShloMosaic.sem_eq_zero_of_no_sems (by decide) r.2⟩)
    (Cert.Reference9Ideal.Value.run (F := Ideal) m ρ)
theorem frame9_ref_finite : Cert.quiescent_Reference9Ideal_pre_finite7 := fun m ρ _ => frame9_ref m ρ trivial

theorem algebraic9 : Cert.algebraic_Kernel9Ideal_Reference9Ideal_pre_finite7 := by
  intro m ρ m' ρ' hpre hagree
  have hr := fun c => finite_real7 _ _ _ _ _ (hpre c)
  refine ⟨fun c => Cert.Reference9Ideal.Read.val_main_v41 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)), fun c => Cert.Reference9Ideal.Read.val_main_v42 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)),
    Cert.Kernel9Ideal.Ffn.run m ρ (fun c i => (hr c).1 i) (fun c i => (hr c).2.1 i) (fun c i => (hr c).2.2.1 i) (fun c i => (hr c).2.2.2 i), ?_⟩
  refine (θ_run Cert.Reference9Ideal.defs _ _).mono (fun _ h c => ?_) (Cert.Reference9Ideal.Value.run (F := Ideal) m' ρ')
  obtain ⟨e0, e1, e2, e3, e4⟩ := hagree c
  obtain ⟨h0, h1, hk⟩ := h c
  refine ⟨(h0.trans (Cert.Reference9Ideal.Read.val_main_v41_eq m' c)).trans ?_, (h1.trans (Cert.Reference9Ideal.Read.val_main_v42_eq _ _ _)).trans ?_, hk⟩
  · exact Cert.Ffn.same5 (Cert.Reference9Ideal.Read.val_main_v41 (F := Ideal)) e0 e1 e2 e3 e4
  · exact Cert.Ffn.same3 (Cert.Reference9Ideal.Read.val_main_v42 (F := Ideal)) e0 e2 e3

/-! ## MixDx: the gradient of the first layer's projected input and of its gain -/

/-- The precondition's shapes fit together. -/
theorem facts_finite11 : Cert.Pre_finite11.Facts := by
  constructor <;> decide +kernel

instance : Subsingleton Cert.Pre_finite11.S_.Idx := ⟨fun a b => funext fun i => i.elim0⟩

/-- The precondition, entry by entry. -/
theorem finite_real11 [Cert.Pre_finite11.Facts] (x0 : FVec Ideal Cert.Pre_finite11.S4096x1024 .f32) (x1 : FVec Ideal Cert.Pre_finite11.S1024 .f32) (x2 : FVec Ideal Cert.Pre_finite11.S1024x3584 .f32) (x3 : FVec Ideal Cert.Pre_finite11.S4096x3584 .bf16) (x4 : FVec Ideal Cert.Pre_finite11.S4096x1024 .f32)
    (h : Cert.Pre_finite11.fn (F := Ideal) x0 x1 x2 x3 x4 = fun _ => 1#1) :
    (∀ i, (x0 i : EReal) = ((EReal.toReal (x0 i) : ℝ) : EReal))
      ∧ (∀ i, (x1 i : EReal) = ((EReal.toReal (x1 i) : ℝ) : EReal))
      ∧ (∀ i, (x2 i : EReal) = ((EReal.toReal (x2 i) : ℝ) : EReal))
      ∧ (∀ i, (x3 i : EReal) = ((EReal.toReal (x3 i) : ℝ) : EReal)) := by
  have e := congrFun h (fun i => i.elim0)
  unfold Cert.Pre_finite11.fn Cert.Pre_finite11.fn_part1 at e
  dsimp only at e
  obtain ⟨d3, e3⟩ := and1 _ _ e
  obtain ⟨d2, e2⟩ := and1 _ _ d3
  obtain ⟨e0, e1⟩ := and1 _ _ d2
  exact ⟨fun i => real_of_lt _ (Host.reduce_andi_all _ _ _ _ _ e0 i), fun i => real_of_lt _ (Host.reduce_andi_all _ _ _ _ _ e1 i), fun i => real_of_lt _ (Host.reduce_andi_all _ _ _ _ _ e2 i), fun i => real_of_lt _ (Host.reduce_andi_all _ _ _ _ _ e3 i)⟩

attribute [local instance] Cert.Kernel11.Gen.facts Cert.Kernel11Ideal.Gen.facts Cert.Reference11Ideal.Gen.facts facts_finite11

theorem frame11 : Cert.quiescent_Kernel11 := fun m ρ _ => Cert.Kernel11.Gen.frame m ρ
theorem frame11_ideal : Cert.quiescent_Kernel11Ideal := fun m ρ _ => Cert.Kernel11Ideal.Gen.frame m ρ
theorem frame11_ideal_finite : Cert.quiescent_Kernel11Ideal_pre_finite11 := fun m ρ _ => Cert.Kernel11Ideal.Gen.frame m ρ
theorem frame11_ref : Cert.quiescent_Reference11Ideal := fun m ρ _ =>
  (θ_run Cert.Reference11Ideal.defs _ _).mono (fun r h => ⟨fun c => (h c).2.2, Idealize.ShloMosaic.sem_eq_zero_of_no_sems (by decide) r.2⟩)
    (Cert.Reference11Ideal.Value.run (F := Ideal) m ρ)
theorem frame11_ref_finite : Cert.quiescent_Reference11Ideal_pre_finite11 := fun m ρ _ => frame11_ref m ρ trivial

theorem algebraic11 : Cert.algebraic_Kernel11Ideal_Reference11Ideal_pre_finite11 := by
  intro m ρ m' ρ' hpre hagree
  have hr := fun c => finite_real11 _ _ _ _ _ (hpre c)
  refine ⟨fun c => Cert.Reference11Ideal.Read.val_main_v39 (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)), fun c => Cert.Reference11Ideal.Read.val_main_v40 (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)),
    Cert.Kernel11Ideal.Ffn.run m ρ (fun c i => (hr c).1 i) (fun c i => (hr c).2.1 i) (fun c i => (hr c).2.2.1 i) (fun c i => (hr c).2.2.2 i), ?_⟩
  refine (θ_run Cert.Reference11Ideal.defs _ _).mono (fun _ h c => ?_) (Cert.Reference11Ideal.Value.run (F := Ideal) m' ρ')
  obtain ⟨e0, e1, e2, e3, e4⟩ := hagree c
  obtain ⟨h0, h1, hk⟩ := h c
  refine ⟨(h0.trans (Cert.Reference11Ideal.Read.val_main_v39_eq m' c)).trans ?_, (h1.trans (Cert.Reference11Ideal.Read.val_main_v40_eq _ _ _)).trans ?_, hk⟩
  · exact Cert.Ffn.same5 (Cert.Reference11Ideal.Read.val_main_v39 (F := Ideal)) e0 e1 e2 e3 e4
  · exact Cert.Ffn.same3 (Cert.Reference11Ideal.Read.val_main_v40 (F := Ideal)) e0 e2 e3

end Cert.Ffn

end
-- ==== Proof.Swa.Tile.lean ====
/- One key head of one block at an index: what the body computes of it, in real numbers. The eight query heads of the key
   head are stacked, row `a` of head `g` at `g * 128 + a`. -/
module

public import proofs.«01_k».proof.Proof.Gen.KernelIdeal.Skeleton
public import proofs.«01_k».proof.Proof.Swa.Math
public import Idealize.ShloMosaic.Lib.Pointwise

@[expose] public section

set_option maxRecDepth 16384

noncomputable section

namespace Cert.KernelIdeal.Swa

open Idealize.ShloMosaic Cert.KernelIdeal.Gen Finset
open Cert.Swa (coe_sum)

/-- Row `a` of query head `g` in the stack of a key head's eight. -/
def stk (g : Fin 8) (a : Fin 128) : Fin 1024 := ⟨g.val * 128 + a.val, by omega⟩

/-- A sum over the stack is the sum over its heads and their rows. -/
theorem sum_stk {A : Type*} [AddCommMonoid A] (f : Fin 1024 → A) : ∑ x, f x = ∑ g : Fin 8, ∑ a : Fin 128, f (stk g a) := by
  rw [← Fintype.sum_prod_type' (fun g a => f (stk g a))]
  exact (Equiv.sum_comp (finProdFinEquiv : Fin 8 × Fin 128 ≃ Fin (8 * 128)) f).symm.trans
    (sum_congr rfl fun p _ => congrArg f (Fin.ext (by simp [stk, finProdFinEquiv]; omega)))

/-- Eight arrays one after the other, read at row `a` of the one numbered `g`. -/
theorem ladder {A : Type*} (V : Fin 8 → Fin 128 → A) (g : Fin 8) (a : Fin 128) :
    (if h : (stk g a).val < 128 then V 0 ⟨(stk g a).val, h⟩
      else if h : (stk g a).val - 128 < 128 then V 1 ⟨(stk g a).val - 128, h⟩
      else if h : (stk g a).val - 128 - 128 < 128 then V 2 ⟨(stk g a).val - 128 - 128, h⟩
      else if h : (stk g a).val - 128 - 128 - 128 < 128 then V 3 ⟨(stk g a).val - 128 - 128 - 128, h⟩
      else if h : (stk g a).val - 128 - 128 - 128 - 128 < 128 then V 4 ⟨(stk g a).val - 128 - 128 - 128 - 128, h⟩
      else if h : (stk g a).val - 128 - 128 - 128 - 128 - 128 < 128 then V 5 ⟨(stk g a).val - 128 - 128 - 128 - 128 - 128, h⟩
      else if h : (stk g a).val - 128 - 128 - 128 - 128 - 128 - 128 < 128 then
        V 6 ⟨(stk g a).val - 128 - 128 - 128 - 128 - 128 - 128, h⟩
      else V 7 ⟨(stk g a).val - 128 - 128 - 128 - 128 - 128 - 128 - 128, by unfold stk; simp only; omega⟩) = V g a := by
  have ha := a.isLt
  have key : ∀ (g' : Fin 8) (x : Fin 128), g' = g → x = a → V g' x = V g a := by rintro _ _ rfl rfl; rfl
  have hs : (stk g a).val = g.val * 128 + a.val := rfl
  split_ifs with h0 h1 h2 h3 h4 h5 h6
  · exact key 0 _ (Fin.ext (show 0 = g.val by omega)) (Fin.ext (show (stk g a).val = a.val by omega))
  · exact key 1 _ (Fin.ext (show 1 = g.val by omega)) (Fin.ext (show (stk g a).val - 128 = a.val by omega))
  · exact key 2 _ (Fin.ext (show 2 = g.val by omega)) (Fin.ext (show (stk g a).val - 128 - 128 = a.val by omega))
  · exact key 3 _ (Fin.ext (show 3 = g.val by omega)) (Fin.ext (show (stk g a).val - 128 - 128 - 128 = a.val by omega))
  · exact key 4 _ (Fin.ext (show 4 = g.val by omega)) (Fin.ext (show (stk g a).val - 128 - 128 - 128 - 128 = a.val by omega))
  · exact key 5 _ (Fin.ext (show 5 = g.val by omega)) (Fin.ext (show (stk g a).val - 128 - 128 - 128 - 128 - 128 = a.val by omega))
  · exact key 6 _ (Fin.ext (show 6 = g.val by omega)) (Fin.ext (show (stk g a).val - 128 - 128 - 128 - 128 - 128 - 128 = a.val by omega))
  · exact key 7 _ (Fin.ext (show 7 = g.val by omega)) (Fin.ext (show (stk g a).val - 128 - 128 - 128 - 128 - 128 - 128 - 128 = a.val by omega))

/-! What an array of the body holds: a stack of rows, a stack of numbers, a stack over the band, a band, the mask. -/

def Rows {e : FTy} (V : FVec Ideal S1024x64 e) (f : Fin 8 → Fin 128 → Fin 64 → ℝ) : Prop :=
  ∀ g a d, (V (ix2 (stk g a) d) : EReal) = (f g a d : EReal)
def Nums {e : FTy} (V : FVec Ideal S1024x1 e) (f : Fin 8 → Fin 128 → ℝ) : Prop :=
  ∀ g a, (V (ix2 (stk g a) 0) : EReal) = (f g a : EReal)
def Over {e : FTy} (V : FVec Ideal S1024x256 e) (f : Fin 8 → Fin 128 → Fin 256 → ℝ) : Prop :=
  ∀ g a j, (V (ix2 (stk g a) j) : EReal) = (f g a j : EReal)
def Band {e : FTy} (V : FVec Ideal S256x64 e) (f : Fin 256 → Fin 64 → ℝ) : Prop :=
  ∀ j d, (V (ix2 j d) : EReal) = (f j d : EReal)
def Bias (V : FVec Ideal S1024x256 .f32) (msk : Fin 128 → Fin 256 → Prop) [∀ a, DecidablePred (msk a)] : Prop :=
  ∀ g a j, (V (ix2 (stk g a) j) : EReal) = if msk a j then 0 else ⊥

/-- The eighth that scales the scores. -/
theorem eighth : Ideal.ofBits .f32 0x3E000000#32 = ((1 / 8 : ℝ) : EReal) := by
  simp [Ideal.ofBits, Ideal.ieee, -EReal.coe_mul]; norm_num
theorem eighth' : Ideal.ofBits .bf16 0x3E00#16 = ((1 / 8 : ℝ) : EReal) := by
  simp [Ideal.ofBits, Ideal.ieee, -EReal.coe_mul]; norm_num

section Stacks

variable (v : Fin 8 → Vec Ideal S128x64 .bf16) (q : Fin 8 → Fin 128 → Fin 64 → ℝ)

theorem rows16 (h : ∀ g a d, (v g (ix2 a d) : EReal) = q g a d) :
    Rows (k0_pay16 (F := Ideal) (v 0) (v 1) (v 2) (v 3) (v 4) (v 5) (v 6) (v 7)) (fun g a d => q g a d * (1 / 8)) := by
  intro g a d
  rw [EReal.coe_mul, ← h, ← eighth']
  pointwise [k0_pay16]
  exact congrArg (fun x : EReal => x * _) (ladder (fun g x => (v g (ix2 x d) : EReal)) g a)

theorem rows53 (h : ∀ g a d, (v g (ix2 a d) : EReal) = q g a d) :
    Rows (k0_pay53 (F := Ideal) (v 0) (v 1) (v 2) (v 3) (v 4) (v 5) (v 6) (v 7)) (fun g a d => q g a d * (1 / 8)) := by
  intro g a d
  rw [EReal.coe_mul, ← h, ← eighth']
  pointwise [k0_pay53]
  exact congrArg (fun x : EReal => x * _) (ladder (fun g x => (v g (ix2 x d) : EReal)) g a)

theorem rows17 (h : ∀ g a d, (v g (ix2 a d) : EReal) = q g a d) :
    Rows (k0_pay17 (F := Ideal) (v 0) (v 1) (v 2) (v 3) (v 4) (v 5) (v 6) (v 7)) q := by
  intro g a d
  rw [← h]
  pointwise [k0_pay17]
  exact ladder (fun g x => (v g (ix2 x d) : EReal)) g a

theorem rows54 (h : ∀ g a d, (v g (ix2 a d) : EReal) = q g a d) :
    Rows (k0_pay54 (F := Ideal) (v 0) (v 1) (v 2) (v 3) (v 4) (v 5) (v 6) (v 7)) q := by
  intro g a d
  rw [← h]
  pointwise [k0_pay54]
  exact ladder (fun g x => (v g (ix2 x d) : EReal)) g a

theorem rows56 (h : ∀ g a d, (v g (ix2 a d) : EReal) = q g a d) :
    Rows (k0_pay56 (F := Ideal) (v 0) (v 1) (v 2) (v 3) (v 4) (v 5) (v 6) (v 7)) q := by
  intro g a d
  rw [← h]
  pointwise [k0_pay56, k0_pay54]
  exact ladder (fun g x => (v g (ix2 x d) : EReal)) g a

end Stacks

section Numbers

variable (v : Fin 8 → Vec Ideal S128x1 .f32) (l : Fin 8 → Fin 128 → ℝ)

theorem nums23 (h : ∀ g a, (v g (ix2 a 0) : EReal) = l g a) :
    Nums (k0_pay23 (F := Ideal) (k0_pay18 (v 0)) (k0_pay19 (v 1)) (k0_pay20 (v 2)) (k0_pay21 (v 3)) (k0_pay22 (v 4)) (v 5) (v 6) (v 7)) l := by
  intro g a
  rw [← h]
  pointwise [k0_pay23, k0_pay18, k0_pay19, k0_pay20, k0_pay21, k0_pay22]
  exact ladder (fun g x => (v g (ix2 x 0) : EReal)) g a

theorem nums55 (h : ∀ g a, (v g (ix2 a 0) : EReal) = l g a) :
    Nums (k0_pay55 (F := Ideal) (v 0) (v 1) (v 2) (v 3) (v 4) (v 5) (v 6) (v 7)) l := by
  intro g a
  rw [← h]
  pointwise [k0_pay55]
  exact ladder (fun g x => (v g (ix2 x 0) : EReal)) g a

end Numbers

section Products

variable {dof o q : Fin 8 → Fin 128 → Fin 64 → ℝ} {k vv : Fin 256 → Fin 64 → ℝ} {l dl sk' : Fin 8 → Fin 128 → ℝ}
  {P dP DS : Fin 8 → Fin 128 → Fin 256 → ℝ}

/-- The row's inner product of the cotangent with the output. -/
theorem nums24 {v63 : FVec Ideal S1024x64 .bf16} (v : Fin 8 → Vec Ideal S128x64 .bf16) (hd : Rows v63 dof)
    (h : ∀ g a d, (v g (ix2 a d) : EReal) = o g a d) :
    Nums (k0_pay24 (F := Ideal) v63 (v 0) (v 1) (v 2) (v 3) (v 4) (v 5) (v 6) (v 7)) (fun g a => ∑ d, dof g a d * o g a d) := by
  intro g a
  rw [coe_sum]
  simp only [EReal.coe_mul, ← h, ← hd g a]
  pointwise [k0_pay24]
  exact sum_congr rfl fun d _ => congrArg (fun x : EReal => _ * x) (ladder (fun g x => (v g (ix2 x d) : EReal)) g a)

theorem nums63 {v311 : FVec Ideal S1024x64 .f32} (v : Fin 8 → Vec Ideal S128x64 .bf16) (hd : Rows v311 dof)
    (h : ∀ g a d, (v g (ix2 a d) : EReal) = o g a d) :
    Nums (k0_pay63 (F := Ideal) v311 (k0_pay57 (v 0)) (k0_pay58 (v 1)) (k0_pay59 (v 2)) (k0_pay60 (v 3)) (k0_pay61 (v 4)) (k0_pay62 (v 5)) (v 6) (v 7)) (fun g a => ∑ d, dof g a d * o g a d) := by
  intro g a
  rw [coe_sum]
  simp only [EReal.coe_mul, ← h, ← hd g a]
  pointwise [k0_pay63, k0_pay57, k0_pay58, k0_pay59, k0_pay60, k0_pay61, k0_pay62]
  exact sum_congr rfl fun d _ => congrArg (fun x : EReal => _ * x) (ladder (fun g x => (v g (ix2 x d) : EReal)) g a)

/-- The probability of a score: the exponential of it less the log-denominator where the mask allows, nothing else. -/
theorem exp_bias (s : Fin 64 → ℝ) (t : Fin 64 → ℝ) (p : Prop) [Decidable p] (m : ℝ) :
    Ideal.exp ((∑ x, (s x : EReal) * (t x : EReal)) + (if p then 0 else ⊥) - (m : EReal))
      = ((if p then Real.exp (∑ x, s x * t x - m) else 0 : ℝ) : EReal) := by
  have : (∑ x, (s x : EReal) * (t x : EReal)) = ((∑ x, s x * t x : ℝ) : EReal) := by rw [coe_sum]; rfl
  rw [this]
  split_ifs
  · rw [add_zero, ← EReal.coe_sub, Ideal.exp_coe]
  · rw [EReal.add_bot, EReal.bot_sub, Ideal.exp_bot]; rfl

variable {msk : Fin 128 → Fin 256 → Prop} [∀ a, DecidablePred (msk a)]

theorem over25 {v33 : FVec Ideal S1024x256 .f32} {v42 : FVec Ideal S256x64 .bf16} {v54 : FVec Ideal S1024x64 .bf16}
    (v65 v67 v69 v71 v73 : FVec Ideal S128x1 .f32) (v74 v76 v78 : Vec Ideal S128x1 .f32)
    (hb : Bias v33 msk) (hk : Band v42 k) (hq : Rows v54 q) (hl : Nums (k0_pay23 (F := Ideal) v65 v67 v69 v71 v73 v74 v76 v78) l) :
    Over (k0_pay25 (F := Ideal) v33 v42 v54 v65 v67 v69 v71 v73 v74 v76 v78)
      (fun g a j => if msk a j then Real.exp (∑ d, q g a d * k j d - l g a) else 0) := by
  intro g a j
  pointwise [k0_pay25]
  rw [hl, hb]
  simp only [hq _ _ _, hk _ _]
  exact exp_bias _ _ _ _

theorem over64 {v33 : FVec Ideal S1024x256 .f32} {v272 : FVec Ideal S256x64 .bf16} {v284 : FVec Ideal S1024x64 .bf16}
    {v310 : FVec Ideal S1024x1 .f32} (hb : Bias v33 msk) (hk : Band v272 k) (hq : Rows v284 q) (hl : Nums v310 l) :
    Over (k0_pay64 (F := Ideal) v33 v272 v284 v310)
      (fun g a j => if msk a j then Real.exp (∑ d, q g a d * k j d - l g a) else 0) := by
  intro g a j
  pointwise [k0_pay64]
  rw [hl, hb]
  simp only [hq _ _ _, hk _ _]
  exact exp_bias _ _ _ _

theorem coe_dot {n : ℕ} (s t : Fin n → ℝ) : (∑ x, (s x : EReal) * (t x : EReal)) = ((∑ x, s x * t x : ℝ) : EReal) := by
  rw [coe_sum]; rfl

/-- The gradient of the probabilities. -/
theorem over26 {v43 : FVec Ideal S256x64 .bf16} {v63 : FVec Ideal S1024x64 .bf16} (hv : Band v43 vv) (hd : Rows v63 dof) :
    Over (k0_pay26 (F := Ideal) v43 v63) (fun g a j => ∑ d, dof g a d * vv j d) := by
  intro g a j
  pointwise [k0_pay26]
  simp only [hd _ _ _, hv _ _]
  exact coe_dot _ _

/-- The gradient of the scores. -/
theorem over28 {v107 v108 : FVec Ideal S1024x256 .f32} {v63 : FVec Ideal S1024x64 .bf16} (v82 v84 v86 v88 v90 v92 v94 v96 : Vec Ideal S128x64 .bf16)
    (hP : Over v107 P) (hdP : Over v108 dP) (hdl : Nums (k0_pay24 (F := Ideal) v63 v82 v84 v86 v88 v90 v92 v94 v96) dl) :
    Over (k0_pay28 (F := Ideal) v107 v108 (k0_pay27 v63 v82 v84 v86 v88 v90 v92 v94 v96)) (fun g a j => P g a j * (dP g a j - dl g a)) := by
  intro g a j
  pointwise [k0_pay28, k0_pay27]
  rw [hP, hdP, hdl]
  rfl

theorem over65 {v33 : FVec Ideal S1024x256 .f32} {v272 v273 : FVec Ideal S256x64 .bf16} {v284 v293 : FVec Ideal S1024x64 .bf16}
    {v310 : FVec Ideal S1024x1 .f32} {v311 : FVec Ideal S1024x64 .f32} (v313 v315 v317 v319 v321 v323 : FVec Ideal S128x64 .bf16) (v324 v326 : Vec Ideal S128x64 .bf16)
    (hP : Over (k0_pay64 (F := Ideal) v33 v272 v284 v310) P) (hv : Band v273 vv) (hd : Rows v293 dof)
    (hdl : Nums (k0_pay63 (F := Ideal) v311 v313 v315 v317 v319 v321 v323 v324 v326) dl) :
    Over (k0_pay65 (F := Ideal) v33 v272 v273 v284 v293 v310 v311 v313 v315 v317 v319 v321 v323 v324 v326)
      (fun g a j => P g a j * ((∑ d, dof g a d * vv j d) - dl g a)) := by
  intro g a j
  pointwise [k0_pay65]
  rw [hP, hdl]
  simp only [hd _ _ _, hv _ _]
  rw [coe_dot]; rfl

/-- The gradient of the queries. -/
theorem rows29 {v42 : FVec Ideal S256x64 .bf16} {v107 v108 v109 : FVec Ideal S1024x256 .f32} (hk : Band v42 k)
    (hDS : Over (k0_pay28 (F := Ideal) v107 v108 v109) DS) :
    Rows (k0_pay29 (F := Ideal) v42 v107 v108 v109) (fun g a d => (∑ j, DS g a j * k j d) * (1 / 8)) := by
  intro g a d
  rw [EReal.coe_mul, ← eighth]
  pointwise [k0_pay29]
  simp only [hDS _ _ _, hk _ _]
  rw [coe_dot]

theorem rows66 {v33 : FVec Ideal S1024x256 .f32} {v272 v273 : FVec Ideal S256x64 .bf16} {v284 v293 : FVec Ideal S1024x64 .bf16}
    {v310 : FVec Ideal S1024x1 .f32} {v311 : FVec Ideal S1024x64 .f32} (v313 v315 v317 v319 v321 v323 : FVec Ideal S128x64 .bf16) (v324 v326 : Vec Ideal S128x64 .bf16)
    (hk : Band v272 k) (hDS : Over (k0_pay65 (F := Ideal) v33 v272 v273 v284 v293 v310 v311 v313 v315 v317 v319 v321 v323 v324 v326) DS) :
    Rows (k0_pay66 (F := Ideal) v33 v272 v273 v284 v293 v310 v311 v313 v315 v317 v319 v321 v323 v324 v326) (fun g a d => (∑ j, DS g a j * k j d) * (1 / 8)) := by
  intro g a d
  rw [EReal.coe_mul, ← eighth]
  pointwise [k0_pay66]
  simp only [hDS _ _ _, hk _ _]
  rw [coe_dot]

/-- The gradients of the band's keys and values. -/
theorem band38 {v54 : FVec Ideal S1024x64 .bf16} {v107 v108 v109 : FVec Ideal S1024x256 .f32} (hq : Rows v54 q)
    (hDS : Over (k0_pay28 (F := Ideal) v107 v108 v109) DS) :
    Band (k0_pay38 (F := Ideal) v54 v107 v108 v109) (fun j d => ∑ g, ∑ a, q g a d * DS g a j) := by
  intro j d
  pointwise [k0_pay38]
  rw [sum_stk, coe_sum]
  simp only [hDS _ _ _, hq _ _ _]
  exact sum_congr rfl fun g _ => coe_dot _ _

theorem band75 {v284 : FVec Ideal S1024x64 .bf16} {v342 : FVec Ideal S1024x256 .bf16} (hq : Rows v284 q) (hDS : Over v342 DS) :
    Band (k0_pay75 (F := Ideal) v284 v342) (fun j d => ∑ g, ∑ a, q g a d * DS g a j) := by
  intro j d
  pointwise [k0_pay75]
  rw [sum_stk, coe_sum]
  simp only [hDS _ _ _, hq _ _ _]
  exact sum_congr rfl fun g _ => coe_dot _ _

theorem band39 {v63 : FVec Ideal S1024x64 .bf16} {v107 : FVec Ideal S1024x256 .f32} (hd : Rows v63 dof) (hP : Over v107 P) :
    Band (k0_pay39 (F := Ideal) v63 v107) (fun j d => ∑ g, ∑ a, dof g a d * P g a j) := by
  intro j d
  pointwise [k0_pay39]
  rw [sum_stk, coe_sum]
  simp only [hP _ _ _, hd _ _ _]
  exact sum_congr rfl fun g _ => coe_dot _ _

theorem band76 {v293 : FVec Ideal S1024x64 .bf16} {v337 : FVec Ideal S1024x256 .f32} (hd : Rows v293 dof) (hP : Over v337 P) :
    Band (k0_pay76 (F := Ideal) v293 v337) (fun j d => ∑ g, ∑ a, dof g a d * P g a j) := by
  intro j d
  pointwise [k0_pay76]
  rw [sum_stk, coe_sum]
  simp only [hP _ _ _, hd _ _ _]
  exact sum_congr rfl fun g _ => coe_dot _ _

/-- What a row loses to the sink. -/
theorem nums41 {v80 v102 : FVec Ideal S1024x1 .f32} (s : Fin 8 → Elt Ideal .f32) (sk : Fin 8 → ℝ) (hs : ∀ g, (s g : EReal) = sk g)
    (hl : Nums v80 l) (hdl : Nums v102 dl) :
    Nums (k0_pay41 (F := Ideal) v80 v102 (k0_pay40 (s 0)) (s 1) (s 2) (s 3) (s 4) (s 5) (s 6) (s 7))
      (fun g a => Real.exp (sk g - l g a) * dl g a) := by
  intro g a
  pointwise [k0_pay41, k0_pay40]
  rw [hl, hdl, ladder (fun g _ => (s g : EReal)) g a, hs]
  simp only [← EReal.coe_sub, Ideal.exp_coe, EReal.coe_mul]

theorem nums77 {v310 v332 : FVec Ideal S1024x1 .f32} (s : Fin 8 → Elt Ideal .f32) (sk : Fin 8 → ℝ) (hs : ∀ g, (s g : EReal) = sk g)
    (hl : Nums v310 l) (hdl : Nums v332 dl) :
    Nums (k0_pay77 (F := Ideal) v310 v332 (s 0) (s 1) (s 2) (s 3) (s 4) (s 5) (s 6) (s 7))
      (fun g a => Real.exp (sk g - l g a) * dl g a) := by
  intro g a
  pointwise [k0_pay77]
  rw [hl, hdl, ladder (fun g _ => (s g : EReal)) g a, hs]
  simp only [← EReal.coe_sub, Ideal.exp_coe, EReal.coe_mul]

end Products

end Cert.KernelIdeal.Swa

end
-- ==== Proof.Swa.Tile2.lean ====
/- The rest of what the body computes of one block, at an index: the mask, the banded keys and values, the blocks it
   writes and carries, and the sinks' gradients by lane. -/
module

public import proofs.«01_k».proof.Proof.Swa.Tile
public import proofs.«01_k».proof.Proof.Swa.RefMask

@[expose] public section

set_option maxRecDepth 16384

noncomputable section

namespace Cert.KernelIdeal.Swa

open Idealize.ShloMosaic Cert.KernelIdeal.Gen Finset
open Cert.Swa (coe_sum seen)

theorem mask_named : (Named.named (F := Ideal) κ "mask" (φ := .f32) 0xF149F2CA#32 : EReal) = ⊥ :=
  IdealRules.named_const.ideal_named_scalar _ _ _ _ rfl

/-- The distance of a query from a key of its band, and whether the window holds it. -/
theorem near_dec (a : Fin 128) (j : Fin 256) :
    IntOp.andi (IntOp.cmpi .sge (BitVec.ofNat 32 a.val - BitVec.ofNat 32 j.val + 128#32) 0#32)
      (IntOp.cmpi .sle (BitVec.ofNat 32 a.val - BitVec.ofNat 32 j.val + 128#32) 127#32)
      = if a.val < j.val ∧ j.val ≤ a.val + 128 then 1#1 else 0#1 := by
  rw [show BitVec.ofNat 32 a.val - BitVec.ofNat 32 j.val + 128#32 = BitVec.ofNat 32 a.val + 128#32 - BitVec.ofNat 32 j.val by bv_omega]
  exact Cert.ReferenceIdeal.Swa.near_dec a j

/-- Whether a key's position is one of the sequence. -/
theorem pos_dec : ∀ (n : Fin 32) (j : Fin 256),
    IntOp.ori (IntOp.cmpi .sge (BitVec.ofNat 32 j.val) 128#32) (Scalar.cmpi .sgt (BitVec.ofNat 32 n.val) 0#32)
      = if n.val = 0 → 128 ≤ j.val then 1#1 else 0#1 := by
  decide +kernel

/-- The bias of a query and a key. -/
theorem bias_dec (n : Fin 32) (a : Fin 128) (j : Fin 256) (z : EReal) :
    Scalar.select (IntOp.andi
      (IntOp.andi (IntOp.cmpi .sge (BitVec.ofNat 32 a.val - BitVec.ofNat 32 j.val + 128#32) 0#32)
        (IntOp.cmpi .sle (BitVec.ofNat 32 a.val - BitVec.ofNat 32 j.val + 128#32) 127#32))
      (IntOp.ori (IntOp.cmpi .sge (BitVec.ofNat 32 j.val) 128#32) (Scalar.cmpi .sgt (BitVec.ofNat 32 n.val) 0#32))) z (⊥ : EReal)
      = if seen n a j then z else ⊥ := by
  rw [near_dec, pos_dec]
  by_cases p : a.val < j.val ∧ j.val ≤ a.val + 128 <;> by_cases q : (n.val = 0 → 128 ≤ j.val)
  · rw [if_pos p, if_pos q, if_pos ⟨p.1, p.2, q⟩]; rfl
  · rw [if_pos p, if_neg q, if_neg fun h => q h.2.2]; rfl
  · rw [if_neg p, if_pos q, if_neg fun h => p ⟨h.1, h.2.1⟩]; rfl
  · rw [if_neg p, if_neg q, if_neg fun h => q h.2.2]; rfl

/-- The mask of a block, repeated for the eight heads of the stack. -/
theorem bias10 (n : Fin 32) : Bias (k0_pay10 (F := Ideal) (BitVec.ofNat 32 n.val)) (seen n) := by
  intro g a j
  rw [← bias_dec n a j 0]
  pointwise [k0_pay10]
  rw [mask_named]
  exact ladder (fun g (x : Fin 128) => (Scalar.select (IntOp.andi
      (IntOp.andi (IntOp.cmpi .sge (BitVec.ofNat 32 x.val - BitVec.ofNat 32 j.val + 128#32) 0#32)
        (IntOp.cmpi .sle (BitVec.ofNat 32 x.val - BitVec.ofNat 32 j.val + 128#32) 127#32))
      (IntOp.ori (IntOp.cmpi .sge (BitVec.ofNat 32 j.val) 128#32) (Scalar.cmpi .sgt (BitVec.ofNat 32 n.val) 0#32))) (0 : EReal) (⊥ : EReal))) g a

/-- One array after the other, read at number `j`. -/
theorem two_halves (f : Fin 256 → ℝ) (u w : Fin 128 → EReal) (hu : ∀ r : Fin 128, u r = f ⟨r.val, by omega⟩)
    (hw : ∀ r : Fin 128, w r = f ⟨128 + r.val, by omega⟩) (j : Fin 256) :
    (if h : j.val < 128 then u ⟨j.val, h⟩ else w ⟨j.val - 128, by omega⟩) = f j := by
  split_ifs with h
  · rw [hu]
  · rw [hw]; congr 2; ext; show 128 + (j.val - 128) = j.val; omega

section Bands

variable (p c : Vec Ideal S128x128 .bf16) (f : Fin 256 → Fin 128 → ℝ)
  (hp : ∀ (r : Fin 128) l, (p (ix2 r l) : EReal) = f ⟨r.val, by omega⟩ l)
  (hc : ∀ (r : Fin 128) l, (c (ix2 r l) : EReal) = f ⟨128 + r.val, by omega⟩ l)

include hp hc

/-- The band is the block before and the block itself: a key head's lanes of it. -/
theorem band14 : Band (k0_pay14 (F := Ideal) p c) (fun j d => f j ⟨d.val, by omega⟩) := by
  intro j d
  pointwise [k0_pay14, k0_pay11]
  exact two_halves (fun j => f j ⟨d.val, by omega⟩) (fun r => p (ix2 r ⟨d.val, by omega⟩)) (fun r => c (ix2 r ⟨d.val, by omega⟩))
    (fun r => hp r _) (fun r => hc r _) j

/-- The band is the block before and the block itself: a key head's lanes of it. -/
theorem band15 : Band (k0_pay15 (F := Ideal) p c) (fun j d => f j ⟨d.val, by omega⟩) := by
  intro j d
  pointwise [k0_pay15, k0_pay12]
  exact two_halves (fun j => f j ⟨d.val, by omega⟩) (fun r => p (ix2 r ⟨d.val, by omega⟩)) (fun r => c (ix2 r ⟨d.val, by omega⟩))
    (fun r => hp r _) (fun r => hc r _) j

/-- The band is the block before and the block itself: a key head's lanes of it. -/
theorem band51 : Band (k0_pay51 (F := Ideal) (k0_pay11 p c)) (fun j d => f j ⟨64 + d.val, by omega⟩) := by
  intro j d
  pointwise [k0_pay51, k0_pay11]
  exact two_halves (fun j => f j ⟨64 + d.val, by omega⟩) (fun r => p (ix2 r ⟨64 + d.val, by omega⟩)) (fun r => c (ix2 r ⟨64 + d.val, by omega⟩))
    (fun r => hp r _) (fun r => hc r _) j

/-- The band is the block before and the block itself: a key head's lanes of it. -/
theorem band52 : Band (k0_pay52 (F := Ideal) (k0_pay12 p c)) (fun j d => f j ⟨64 + d.val, by omega⟩) := by
  intro j d
  pointwise [k0_pay52, k0_pay12]
  exact two_halves (fun j => f j ⟨64 + d.val, by omega⟩) (fun r => p (ix2 r ⟨64 + d.val, by omega⟩)) (fun r => c (ix2 r ⟨64 + d.val, by omega⟩))
    (fun r => hp r _) (fun r => hc r _) j

end Bands

section Outs

variable {v : FVec Ideal S256x64 .f32} {f : Fin 256 → Fin 64 → ℝ} (hv : Band v f) (old : Vec Ideal S128x64 .f32)
  (r : Fin 128) (d : Fin 64)

include hv

/-- What is written of the block before: what was carried and the first half of the band's gradient. -/
theorem out46 : (k0_pay46 (F := Ideal) v old (ix2 r d) : EReal) = old (ix2 r d) + (f ⟨r.val, by omega⟩ d : ℝ) := by
  pointwise [k0_pay46]
  rw [hv]

/-- What is written of the block before: what was carried and the first half of the band's gradient. -/
theorem out47 : (k0_pay47 (F := Ideal) v old (ix2 r d) : EReal) = old (ix2 r d) + (f ⟨r.val, by omega⟩ d : ℝ) := by
  pointwise [k0_pay47]
  rw [hv]

/-- What is written of the block before: what was carried and the first half of the band's gradient. -/
theorem out6 : (k0_pay6 (F := Ideal) v old (ix2 r d) : EReal) = old (ix2 r d) + (f ⟨r.val, by omega⟩ d : ℝ) := by
  pointwise [k0_pay6]
  rw [hv]

/-- What is written of the block before: what was carried and the first half of the band's gradient. -/
theorem out85 : (k0_pay85 (F := Ideal) v old (ix2 r d) : EReal) = old (ix2 r d) + (f ⟨r.val, by omega⟩ d : ℝ) := by
  pointwise [k0_pay85]
  rw [hv]

/-- What is carried: the second half of the band's gradient. -/
theorem out48 : (k0_pay48 (F := Ideal) v (ix2 r d) : EReal) = (f ⟨128 + r.val, by omega⟩ d : ℝ) := by
  pointwise [k0_pay48]
  exact hv _ _

/-- What is carried: the second half of the band's gradient. -/
theorem out50 : (k0_pay50 (F := Ideal) (k0_pay49 v) (ix2 r d) : EReal) = (f ⟨128 + r.val, by omega⟩ d : ℝ) := by
  pointwise [k0_pay50, k0_pay49]
  exact hv _ _

/-- What is carried: the second half of the band's gradient. -/
theorem out7 : (k0_pay7 (F := Ideal) v (ix2 r d) : EReal) = (f ⟨128 + r.val, by omega⟩ d : ℝ) := by
  pointwise [k0_pay7]
  exact hv _ _

/-- What is carried: the second half of the band's gradient. -/
theorem out8 : (k0_pay8 (F := Ideal) v (ix2 r d) : EReal) = (f ⟨128 + r.val, by omega⟩ d : ℝ) := by
  pointwise [k0_pay8]
  exact hv _ _

end Outs

theorem slice0 {y : FVec Ideal S1024x64 .bf16} {f : Fin 8 → Fin 128 → Fin 64 → ℝ} (h : Rows y f) (a : Fin 128) (d : Fin 64) :
    (extractStridedSlice S128x64 ![0, 0] y slices_S1024x64_o0_0_S128x64 (ix2 a d) : EReal) = f 0 a d := by
  have key : stk 0 a = ⟨a.val, by omega⟩ := Fin.ext (by simp [stk])
  have := h 0 a d
  rw [key] at this
  pointwise []
  exact this

theorem slice1 {y : FVec Ideal S1024x64 .bf16} {f : Fin 8 → Fin 128 → Fin 64 → ℝ} (h : Rows y f) (a : Fin 128) (d : Fin 64) :
    (extractStridedSlice S128x64 ![128, 0] y slices_S1024x64_o128_0_S128x64 (ix2 a d) : EReal) = f 1 a d := by
  pointwise []
  exact h 1 a d

theorem slice2 {y : FVec Ideal S1024x64 .bf16} {f : Fin 8 → Fin 128 → Fin 64 → ℝ} (h : Rows y f) (a : Fin 128) (d : Fin 64) :
    (extractStridedSlice S128x64 ![256, 0] y slices_S1024x64_o256_0_S128x64 (ix2 a d) : EReal) = f 2 a d := by
  pointwise []
  exact h 2 a d

theorem slice3 {y : FVec Ideal S1024x64 .bf16} {f : Fin 8 → Fin 128 → Fin 64 → ℝ} (h : Rows y f) (a : Fin 128) (d : Fin 64) :
    (extractStridedSlice S128x64 ![384, 0] y slices_S1024x64_o384_0_S128x64 (ix2 a d) : EReal) = f 3 a d := by
  pointwise []
  exact h 3 a d

theorem slice4 {y : FVec Ideal S1024x64 .bf16} {f : Fin 8 → Fin 128 → Fin 64 → ℝ} (h : Rows y f) (a : Fin 128) (d : Fin 64) :
    (extractStridedSlice S128x64 ![512, 0] y slices_S1024x64_o512_0_S128x64 (ix2 a d) : EReal) = f 4 a d := by
  pointwise []
  exact h 4 a d

theorem slice5 {y : FVec Ideal S1024x64 .bf16} {f : Fin 8 → Fin 128 → Fin 64 → ℝ} (h : Rows y f) (a : Fin 128) (d : Fin 64) :
    (extractStridedSlice S128x64 ![640, 0] y slices_S1024x64_o640_0_S128x64 (ix2 a d) : EReal) = f 5 a d := by
  pointwise []
  exact h 5 a d

theorem slice6 {y : FVec Ideal S1024x64 .bf16} {f : Fin 8 → Fin 128 → Fin 64 → ℝ} (h : Rows y f) (a : Fin 128) (d : Fin 64) :
    (extractStridedSlice S128x64 ![768, 0] y slices_S1024x64_o768_0_S128x64 (ix2 a d) : EReal) = f 6 a d := by
  pointwise []
  exact h 6 a d

theorem slice7 {y : FVec Ideal S1024x64 .bf16} {f : Fin 8 → Fin 128 → Fin 64 → ℝ} (h : Rows y f) (a : Fin 128) (d : Fin 64) :
    (extractStridedSlice S128x64 ![896, 0] y slices_S1024x64_o896_0_S128x64 (ix2 a d) : EReal) = f 7 a d := by
  pointwise []
  exact h 7 a d

section Queries

variable {v42 : FVec Ideal S256x64 .bf16} {v107 v108 v109 : FVec Ideal S1024x256 .f32} {f : Fin 8 → Fin 128 → Fin 64 → ℝ}
    (h : Rows (k0_pay29 (F := Ideal) v42 v107 v108 v109) f) (a : Fin 128) (d : Fin 64)

include h

theorem out30 : (k0_pay30 (F := Ideal) v42 v107 v108 v109 (ix2 a d) : EReal) = f 0 a d :=
  slice0 h a d

theorem out31 : (k0_pay31 (F := Ideal) v42 v107 v108 v109 (ix2 a d) : EReal) = f 1 a d :=
  slice1 h a d

theorem out32 : (k0_pay32 (F := Ideal) v42 v107 v108 v109 (ix2 a d) : EReal) = f 2 a d :=
  slice2 h a d

theorem out33 : (k0_pay33 (F := Ideal) v42 v107 v108 v109 (ix2 a d) : EReal) = f 3 a d :=
  slice3 h a d

theorem out34 : (k0_pay34 (F := Ideal) v42 v107 v108 v109 (ix2 a d) : EReal) = f 4 a d :=
  slice4 h a d

theorem out35 : (k0_pay35 (F := Ideal) v42 v107 v108 v109 (ix2 a d) : EReal) = f 5 a d :=
  slice5 h a d

theorem out36 : (k0_pay36 (F := Ideal) v42 v107 v108 v109 (ix2 a d) : EReal) = f 6 a d :=
  slice6 h a d

theorem out37 : (k0_pay37 (F := Ideal) v42 v107 v108 v109 (ix2 a d) : EReal) = f 7 a d :=
  slice7 h a d

end Queries

section Queries'

variable {v33 : FVec Ideal S1024x256 .f32} {v272 v273 : FVec Ideal S256x64 .bf16} {v284 v293 : FVec Ideal S1024x64 .bf16}
    {v310 : FVec Ideal S1024x1 .f32} {v311 : FVec Ideal S1024x64 .f32} {v313 v315 v317 v319 v321 v323 : FVec Ideal S128x64 .bf16} {v324 v326 : Vec Ideal S128x64 .bf16}
    {f : Fin 8 → Fin 128 → Fin 64 → ℝ}
    (h : Rows (k0_pay66 (F := Ideal) v33 v272 v273 v284 v293 v310 v311 v313 v315 v317 v319 v321 v323 v324 v326) f) (a : Fin 128) (d : Fin 64)

include h

theorem out67 : (k0_pay67 (F := Ideal) v33 v272 v273 v284 v293 v310 v311 v313 v315 v317 v319 v321 v323 v324 v326 (ix2 a d) : EReal) = f 0 a d :=
  slice0 h a d

theorem out68 : (k0_pay68 (F := Ideal) v33 v272 v273 v284 v293 v310 v311 v313 v315 v317 v319 v321 v323 v324 v326 (ix2 a d) : EReal) = f 1 a d :=
  slice1 h a d

theorem out69 : (k0_pay69 (F := Ideal) v33 v272 v273 v284 v293 v310 v311 v313 v315 v317 v319 v321 v323 v324 v326 (ix2 a d) : EReal) = f 2 a d :=
  slice2 h a d

theorem out70 : (k0_pay70 (F := Ideal) v33 v272 v273 v284 v293 v310 v311 v313 v315 v317 v319 v321 v323 v324 v326 (ix2 a d) : EReal) = f 3 a d :=
  slice3 h a d

theorem out71 : (k0_pay71 (F := Ideal) v33 v272 v273 v284 v293 v310 v311 v313 v315 v317 v319 v321 v323 v324 v326 (ix2 a d) : EReal) = f 4 a d :=
  slice4 h a d

theorem out72 : (k0_pay72 (F := Ideal) v33 v272 v273 v284 v293 v310 v311 v313 v315 v317 v319 v321 v323 v324 v326 (ix2 a d) : EReal) = f 5 a d :=
  slice5 h a d

end Queries'

theorem out73 {v346 : FVec Ideal S1024x64 .bf16} {f : Fin 8 → Fin 128 → Fin 64 → ℝ} (h : Rows v346 f) (a : Fin 128) (d : Fin 64) :
    (k0_pay73 (F := Ideal) v346 (ix2 a d) : EReal) = f 6 a d :=
  slice6 h a d

theorem out74 {v346 : FVec Ideal S1024x64 .bf16} {f : Fin 8 → Fin 128 → Fin 64 → ℝ} (h : Rows v346 f) (a : Fin 128) (d : Fin 64) :
    (k0_pay74 (F := Ideal) v346 (ix2 a d) : EReal) = f 7 a d :=
  slice7 h a d

theorem lane_dec : ∀ (l : Fin 128) (c : Fin 16), IntOp.cmpi .eq (BitVec.ofNat 32 l.val) (BitVec.ofNat 32 c.val) = if l.val = c.val then 1#1 else 0#1 := by
  decide +kernel

/-- A head's lane, and nothing elsewhere. -/
theorem sel_lane (l : Fin 128) (c : ℕ) (hc : c < 16) (x : ℝ) :
    Scalar.select (IntOp.cmpi .eq (BitVec.ofNat 32 l.val) (BitVec.ofNat 32 c)) ((0 : EReal) - (x : EReal)) 0
      = ((if l.val = c then -x else 0 : ℝ) : EReal) := by
  rw [lane_dec l ⟨c, hc⟩]
  by_cases h : l.val = c
  · rw [if_pos h, if_pos h, zero_sub, EReal.coe_neg]; rfl
  · rw [if_neg h, if_neg h]; rfl

section Sinks

variable {v40 : IVec S8x128 32} (hl : ∀ (i : Fin 8) (l : Fin 128), v40 (ix2 i l) = BitVec.ofNat 32 l.val)
  {w : FVec Ideal S8x128 .f32} {z : Fin 128 → ℝ} (hw : ∀ (i : Fin 8) (l : Fin 128), (w (ix2 i l) : EReal) = z l)
  {f : Fin 8 → Fin 128 → ℝ} (i : Fin 8) (l : Fin 128)

include hl hw in
theorem lanes42 {v80 v102 : FVec Ideal S1024x1 .f32} {v139 : FVec Ideal S128x1 .f32} {s1 s2 s3 s4 s5 s6 s7 : Elt Ideal .f32}
    (hv : Nums (k0_pay41 (F := Ideal) v80 v102 v139 s1 s2 s3 s4 s5 s6 s7) f) :
    (k0_pay42 (F := Ideal) v40 w v80 v102 v139 s1 s2 s3 s4 s5 s6 s7 (ix2 i l) : EReal) = (z l + (if l.val = 0 then -∑ a, f 0 a else 0) + (if l.val = 1 then -∑ a, f 1 a else 0) : ℝ) := by
  have e0 : (∑ x : Fin 128, (k0_pay41 (F := Ideal) v80 v102 v139 s1 s2 s3 s4 s5 s6 s7 (ix2 ⟨x.val, by omega⟩ 0) : EReal)) = ((∑ a, f 0 a : ℝ) : EReal) := by
    rw [coe_sum]; exact sum_congr rfl fun x _ => (congrArg _ (congrArg (ix2 · 0) (Fin.ext (by simp [stk])))).trans (hv 0 x)
  have e1 : (∑ x : Fin 128, (k0_pay41 (F := Ideal) v80 v102 v139 s1 s2 s3 s4 s5 s6 s7 (ix2 ⟨128 + x.val, by omega⟩ 0) : EReal)) = ((∑ a, f 1 a : ℝ) : EReal) := by
    rw [coe_sum]; exact sum_congr rfl fun x _ => hv 1 x
  pointwise [k0_pay42]
  rw [hw, hl, e0, e1, sel_lane l 0 (by omega), sel_lane l 1 (by omega)]
  simp only [EReal.coe_add]

theorem sum43 {v80 v102 : FVec Ideal S1024x1 .f32} {v139 : FVec Ideal S128x1 .f32} {s1 s2 s3 s4 s5 s6 s7 : Elt Ideal .f32}
    (hv : Nums (k0_pay41 (F := Ideal) v80 v102 v139 s1 s2 s3 s4 s5 s6 s7) f) :
    (k0_pay43 (F := Ideal) v80 v102 v139 s1 s2 s3 s4 s5 s6 s7 (ix2 0 0) : EReal) = ((∑ a, f 2 a : ℝ) : EReal) := by
  have e2 : (∑ x : Fin 128, (k0_pay41 (F := Ideal) v80 v102 v139 s1 s2 s3 s4 s5 s6 s7 (ix2 ⟨256 + x.val, by omega⟩ 0) : EReal)) = ((∑ a, f 2 a : ℝ) : EReal) := by
    rw [coe_sum]; exact sum_congr rfl fun x _ => hv 2 x
  pointwise [k0_pay43]
  exact e2

include hl hw in
theorem lanes44 {v : FVec Ideal S1024x1 .f32} (hv : Nums v f) {t : FVec Ideal S1x1 .f32} (ht : (t (ix2 0 0) : EReal) = ((∑ a, f 2 a : ℝ) : EReal)) :
    (k0_pay44 (F := Ideal) v40 v w t (ix2 i l) : EReal) = (z l + (if l.val = 2 then -∑ a, f 2 a else 0) + (if l.val = 3 then -∑ a, f 3 a else 0) + (if l.val = 4 then -∑ a, f 4 a else 0) + (if l.val = 5 then -∑ a, f 5 a else 0) : ℝ) := by
  have e3 : (∑ x : Fin 128, (v (ix2 ⟨384 + x.val, by omega⟩ 0) : EReal)) = ((∑ a, f 3 a : ℝ) : EReal) := by
    rw [coe_sum]; exact sum_congr rfl fun x _ => hv 3 x
  have e4 : (∑ x : Fin 128, (v (ix2 ⟨512 + x.val, by omega⟩ 0) : EReal)) = ((∑ a, f 4 a : ℝ) : EReal) := by
    rw [coe_sum]; exact sum_congr rfl fun x _ => hv 4 x
  have e5 : (∑ x : Fin 128, (v (ix2 ⟨640 + x.val, by omega⟩ 0) : EReal)) = ((∑ a, f 5 a : ℝ) : EReal) := by
    rw [coe_sum]; exact sum_congr rfl fun x _ => hv 5 x
  pointwise [k0_pay44]
  rw [hw, hl, ht, e3, e4, e5, sel_lane l 2 (by omega), sel_lane l 3 (by omega), sel_lane l 4 (by omega), sel_lane l 5 (by omega)]
  simp only [EReal.coe_add]

include hl hw in
theorem lanes45 {v : FVec Ideal S1024x1 .f32} (hv : Nums v f) :
    (k0_pay45 (F := Ideal) v40 v w (ix2 i l) : EReal) = (z l + (if l.val = 6 then -∑ a, f 6 a else 0) + (if l.val = 7 then -∑ a, f 7 a else 0) : ℝ) := by
  have e6 : (∑ x : Fin 128, (v (ix2 ⟨768 + x.val, by omega⟩ 0) : EReal)) = ((∑ a, f 6 a : ℝ) : EReal) := by
    rw [coe_sum]; exact sum_congr rfl fun x _ => hv 6 x
  have e7 : (∑ x : Fin 128, (v (ix2 ⟨896 + x.val, by omega⟩ 0) : EReal)) = ((∑ a, f 7 a : ℝ) : EReal) := by
    rw [coe_sum]; exact sum_congr rfl fun x _ => hv 7 x
  pointwise [k0_pay45]
  rw [hw, hl, e6, e7, sel_lane l 6 (by omega), sel_lane l 7 (by omega)]
  simp only [EReal.coe_add]

include hl hw in
theorem lanes81 {v310 v332 : FVec Ideal S1024x1 .f32} {s0 s1 s2 s3 s4 s5 s6 s7 : Elt Ideal .f32}
    (hv : Nums (k0_pay77 (F := Ideal) v310 v332 s0 s1 s2 s3 s4 s5 s6 s7) f) :
    (k0_pay81 (F := Ideal) v40 w (k0_pay77 v310 v332 s0 s1 s2 s3 s4 s5 s6 s7) (k0_pay78 v40) (k0_pay79 v310 v332 s0 s1 s2 s3 s4 s5 s6 s7) k0_pay80 (ix2 i l) : EReal) = (z l + (if l.val = 8 then -∑ a, f 0 a else 0) + (if l.val = 9 then -∑ a, f 1 a else 0) + (if l.val = 10 then -∑ a, f 2 a else 0) + (if l.val = 11 then -∑ a, f 3 a else 0) : ℝ) := by
  have e8 : (∑ x : Fin 128, (k0_pay77 (F := Ideal) v310 v332 s0 s1 s2 s3 s4 s5 s6 s7 (ix2 ⟨x.val, by omega⟩ 0) : EReal)) = ((∑ a, f 0 a : ℝ) : EReal) := by
    rw [coe_sum]; exact sum_congr rfl fun x _ => (congrArg _ (congrArg (ix2 · 0) (Fin.ext (by simp [stk])))).trans (hv 0 x)
  have e9 : (∑ x : Fin 128, (k0_pay77 (F := Ideal) v310 v332 s0 s1 s2 s3 s4 s5 s6 s7 (ix2 ⟨128 + x.val, by omega⟩ 0) : EReal)) = ((∑ a, f 1 a : ℝ) : EReal) := by
    rw [coe_sum]; exact sum_congr rfl fun x _ => hv 1 x
  have e10 : (∑ x : Fin 128, (k0_pay77 (F := Ideal) v310 v332 s0 s1 s2 s3 s4 s5 s6 s7 (ix2 ⟨256 + x.val, by omega⟩ 0) : EReal)) = ((∑ a, f 2 a : ℝ) : EReal) := by
    rw [coe_sum]; exact sum_congr rfl fun x _ => hv 2 x
  have e11 : (∑ x : Fin 128, (k0_pay77 (F := Ideal) v310 v332 s0 s1 s2 s3 s4 s5 s6 s7 (ix2 ⟨384 + x.val, by omega⟩ 0) : EReal)) = ((∑ a, f 3 a : ℝ) : EReal) := by
    rw [coe_sum]; exact sum_congr rfl fun x _ => hv 3 x
  pointwise [k0_pay81, k0_pay78, k0_pay79, k0_pay80]
  rw [hw, hl, e8, e9, e10, e11, sel_lane l 8 (by omega), sel_lane l 9 (by omega), sel_lane l 10 (by omega), sel_lane l 11 (by omega)]
  simp only [EReal.coe_add]

include hl hw in
theorem lanes84 {v : FVec Ideal S1024x1 .f32} (hv : Nums v f) :
    (k0_pay84 (F := Ideal) v40 v w (k0_pay82 v) (k0_pay83 v40) (ix2 i l) : EReal) = (z l + (if l.val = 12 then -∑ a, f 4 a else 0) + (if l.val = 13 then -∑ a, f 5 a else 0) + (if l.val = 14 then -∑ a, f 6 a else 0) + (if l.val = 15 then -∑ a, f 7 a else 0) : ℝ) := by
  have e12 : (∑ x : Fin 128, (v (ix2 ⟨512 + x.val, by omega⟩ 0) : EReal)) = ((∑ a, f 4 a : ℝ) : EReal) := by
    rw [coe_sum]; exact sum_congr rfl fun x _ => hv 4 x
  have e13 : (∑ x : Fin 128, (v (ix2 ⟨640 + x.val, by omega⟩ 0) : EReal)) = ((∑ a, f 5 a : ℝ) : EReal) := by
    rw [coe_sum]; exact sum_congr rfl fun x _ => hv 5 x
  have e14 : (∑ x : Fin 128, (v (ix2 ⟨768 + x.val, by omega⟩ 0) : EReal)) = ((∑ a, f 6 a : ℝ) : EReal) := by
    rw [coe_sum]; exact sum_congr rfl fun x _ => hv 6 x
  have e15 : (∑ x : Fin 128, (v (ix2 ⟨896 + x.val, by omega⟩ 0) : EReal)) = ((∑ a, f 7 a : ℝ) : EReal) := by
    rw [coe_sum]; exact sum_congr rfl fun x _ => hv 7 x
  pointwise [k0_pay84, k0_pay82, k0_pay83]
  rw [hw, hl, e12, e13, e14, e15, sel_lane l 12 (by omega), sel_lane l 13 (by omega), sel_lane l 14 (by omega), sel_lane l 15 (by omega)]
  simp only [EReal.coe_add]

end Sinks

end Cert.KernelIdeal.Swa

end
-- ==== Proof.Swa.Cases.lean ====
/- The kernel's three cases of a grid point — the first, those between, the last — in closed form, and where its output windows are stored. -/
module

public import proofs.«01_k».proof.Proof.Gen.KernelIdeal.Frame
public import Idealize.ShloMosaic.Lib.Pipeline.TableIdle

@[expose] public section

set_option maxRecDepth 16384

noncomputable section

namespace Cert.KernelIdeal.Swa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the first point only — by arithmetic of the point. -/
theorem hcond0_0 : ∀ t : Fin cfg0.N, cond0_0 (grid0.coords t) ↔ t.val % 33 = 0 :=
  (fun t => by
    have ht : t.val < 33 := Nat.lt_of_lt_of_eq t.isLt N_0
    have e0 : (grid0.coords t 0).val = t.val / 33 % 1 := Pipeline.Grid.coords_val t 0 (by decide) rfl
    have e1 : (grid0.coords t 1).val = t.val / 1 % 33 := Pipeline.Grid.coords_val t 1 (by decide) rfl
    simp only [cond0_0, e0, e1]
    word_cmp
   : ∀ t : Fin grid0.N, cond0_0 (grid0.coords t) ↔ t.val % 33 = 0)

/-- The condition of the body's `scf.if` 1 (`k0_h2`), from the grid coordinates (the skeleton's scalar
    chain substituted). -/
abbrev cond0_1 (i : grid0.Coords) : Prop := k0_cond2 i = 1#1
/-- It holds at the first point only — by arithmetic of the point. -/
theorem hcond0_1 : ∀ t : Fin cfg0.N, cond0_1 (grid0.coords t) ↔ t.val % 33 = 0 :=
  (fun t => by
    have ht : t.val < 33 := Nat.lt_of_lt_of_eq t.isLt N_0
    have e0 : (grid0.coords t 0).val = t.val / 33 % 1 := Pipeline.Grid.coords_val t 0 (by decide) rfl
    have e1 : (grid0.coords t 1).val = t.val / 1 % 33 := Pipeline.Grid.coords_val t 1 (by decide) rfl
    simp only [cond0_1, k0_cond2, e0, e1]
    word_cmp
   : ∀ t : Fin grid0.N, cond0_1 (grid0.coords t) ↔ t.val % 33 = 0)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 33 = 32 :=
  (fun t => by
    have ht : t.val < 33 := Nat.lt_of_lt_of_eq t.isLt N_0
    have e0 : (grid0.coords t 0).val = t.val / 33 % 1 := Pipeline.Grid.coords_val t 0 (by decide) rfl
    have e1 : (grid0.coords t 1).val = t.val / 1 % 33 := Pipeline.Grid.coords_val t 1 (by decide) rfl
    simp only [cond0_2, k0_cond3, e0, e1]
    word_cmp
   : ∀ t : Fin grid0.N, cond0_2 (grid0.coords t) ↔ t.val % 33 = 32)

/-- The condition of the body's `scf.if` 3 (`k0_h4`), from the grid coordinates (the skeleton's scalar
    chain substituted). -/
abbrev cond0_3 (i : grid0.Coords) : Prop := k0_cond4 i = 1#1
/-- It holds at the points before point 32 — decided over the grid. -/
theorem hcond0_3 : ∀ t : Fin cfg0.N, cond0_3 (grid0.coords t) ↔ t.val < 32 :=
  (by decide +kernel : ∀ t : Fin grid0.N, cond0_3 (grid0.coords t) ↔ t.val < 32)

/-! ## Where an output window is stored -/

/-- No input window is ever idle; outputs 10 and 11 are stored at every point; outputs 9 and 12 at every point but the
    last, where the body leaves them as they are. -/
theorem idle9 : ∀ t : Fin cfg0.N, cfg0.idle 9 (grid0.coords t) = decide (t.val = 32) := by decide +kernel
theorem idle10 : ∀ t : Fin cfg0.N, cfg0.idle 10 (grid0.coords t) = false := by decide +kernel
theorem idle11 : ∀ t : Fin cfg0.N, cfg0.idle 11 (grid0.coords t) = false := by decide +kernel
theorem idle12 : ∀ t : Fin cfg0.N, cfg0.idle 12 (grid0.coords t) = decide (t.val = 32) := by decide +kernel

/-- Whether window 9's buffer holds nothing stored since its last write-back: it is written back at every point but the
    last two, so at position 32 it still holds what point 31 stored. -/
def fresh9 (n : ℕ) : Bool := decide (n < 32) || decide (n = 33)
theorem fresh9_step : ∀ t : Fin cfg0.N,
    fresh9 (t.val + 1) = ((cfg0.win 9).flush t || (cfg0.idle 9 (cfg0.grid.coords t) && fresh9 t.val)) := by decide +kernel
theorem fresh9_eq (t : Fin cfg0.N) : cfg0.fresh 9 t.val = fresh9 t.val :=
  Pipeline.Cfg.fresh_tab cfg0 9 fresh9 rfl fresh9_step t.val (Nat.le_of_lt t.isLt)

/-- Window 12 is written back once, after the last point. -/
def fresh12 (n : ℕ) : Bool := decide (n = 0) || decide (n = 33)
theorem fresh12_step : ∀ t : Fin cfg0.N,
    fresh12 (t.val + 1) = ((cfg0.win 12).flush t || (cfg0.idle 12 (cfg0.grid.coords t) && fresh12 t.val)) := by decide +kernel
theorem fresh12_eq (t : Fin cfg0.N) : cfg0.fresh 12 t.val = fresh12 t.val :=
  Pipeline.Cfg.fresh_tab cfg0 12 fresh12 rfl fresh12_step t.val (Nat.le_of_lt t.isLt)

theorem flush9_last : ∀ t : Fin cfg0.N, t.val = 32 → (cfg0.win 9).flush t = true := by decide +kernel
theorem flush12_last : ∀ t : Fin cfg0.N, t.val = 32 → (cfg0.win 12).flush t = true := by decide +kernel

/-! ## The kernel body on any staging memrefs: a subtype the run finds -/

/-- One staging buffer of output window 9, through which its contents are stated (`View.read_writes_of_cover`: the
    choice does not matter). -/
abbrev VO0_9 : View sig .tc .vmem S128x1024 .bf16 := (Memref.whole cc0_stg9_0 : Memref sig .tc .vmem S128x1024 .bf16).view
/-- One staging buffer of output window 10, through which its contents are stated (`View.read_writes_of_cover`: the
    choice does not matter). -/
abbrev VO0_10 : View sig .tc .vmem S128x128 .bf16 := (Memref.whole cc0_stg10_0 : Memref sig .tc .vmem S128x128 .bf16).view
/-- One staging buffer of output window 11, through which its contents are stated (`View.read_writes_of_cover`: the
    choice does not matter). -/
abbrev VO0_11 : View sig .tc .vmem S128x128 .bf16 := (Memref.whole cc0_stg11_0 : Memref sig .tc .vmem S128x128 .bf16).view
/-- One staging buffer of output window 12, through which its contents are stated (`View.read_writes_of_cover`: the
    choice does not matter). -/
abbrev VO0_12 : View sig .tc .vmem S8x128 .f32 := (Memref.whole cc0_stg12_0 : Memref sig .tc .vmem S8x128 .f32).view
/-- Each window's current staging memref at point `t`, spelled as the pipeline passes it (`bodyAt0`), and its wholeness. -/
abbrev ms0_0 (t : Fin cfg0.N) : Memref sig .tc .vmem S128x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .smem S16 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x128 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S128x128 .f32 := Memref.whole cc0_scratch0
abbrev scM0_1 : Memref sig .tc .vmem S128x128 .f32 := Memref.whole cc0_scratch1
/-- The scratch `arg15` the kernel carries between points, as a view: what it holds is stated through it. -/
abbrev VS0_0 : View sig .tc .vmem S128x128 .f32 := scM0_0.view
/-- The scratch `arg16` the kernel carries between points, as a view: what it holds is stated through it. -/
abbrev VS0_1 : View sig .tc .vmem S128x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Swa

end
-- ==== Proof.Swa.RunA.lean ====
/- The body's run at a point of case A: the pieces its stores leave, found by running it. -/
module

public import proofs.«01_k».proof.Proof.Gen.KernelIdeal.Skeleton
public import proofs.«01_k».proof.Proof.Swa.Cases

@[expose] public section

set_option maxRecDepth 16384

noncomputable section

namespace Cert.KernelIdeal.Swa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken, `scf.if` 3 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S128x1024 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .f32) (harg9 : arg9.IsWhole) (arg10 : Memref sig .tc .smem S16 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S8x128 .f32) (harg14 : arg14.IsWhole) (arg15 : Memref sig .tc .vmem S128x128 .f32) (harg15 : arg15.IsWhole) (arg16 : Memref sig .tc .vmem S128x128 .f32) (harg16 : arg16.IsWhole) (hc0 : cond0_0 i) (hc1 : cond0_1 i) (hc2 : ¬cond0_2 i) (hc3 : cond0_3 i)
    (x0 : Vec F S128x1024 .bf16) (x1 : Vec F S128x128 .bf16) (x2 : Vec F S128x128 .bf16) (x3 : Vec F S128x128 .bf16) (x4 : Vec F S128x128 .bf16) (x5 : Vec F S128x1024 .bf16) (x6 : Vec F S128x1024 .bf16) (x7 : Vec F S128x1024 .f32) (x8 : Vec F S16 .f32) :
    Σ' (L9 : List (View.Piece (Elt F) S128x1024 .bf16)), Σ' (L10 : List (View.Piece (Elt F) S128x128 .bf16)), Σ' (L11 : List (View.Piece (Elt F) S128x128 .bf16)), Σ' (L12 : List (View.Piece (Elt F) S8x128 .f32)), Σ' (LS0 : List (View.Piece (Elt F) S128x128 .f32)), { LS1 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0_swa_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, fun E K => ?run⟩
  case run =>
    simp only [cc0_swa_bwd_eq_skeleton]; unfold cc0_swa_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [H12]; · iexists _; iexact H12
    isplitl [HS0]; · iexists _; iexact HS0
    iexists _; iexact HS1

end Cert.KernelIdeal.Swa

end
-- ==== Proof.Swa.RunB.lean ====
/- The body's run at a point of case B: the pieces its stores leave, found by running it. -/
module

public import proofs.«01_k».proof.Proof.Gen.KernelIdeal.Skeleton
public import proofs.«01_k».proof.Proof.Swa.RunA

@[expose] public section

set_option maxRecDepth 16384

noncomputable section

namespace Cert.KernelIdeal.Swa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken, `scf.if` 2 not taken, `scf.if` 3 taken: points 1, 2, … 31: 31 of 33), WITH the
    proof that on whole staging memrefs — the inputs' at their contents, the outputs it reads before covering (12) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S128x1024 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .f32) (harg9 : arg9.IsWhole) (arg10 : Memref sig .tc .smem S16 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S8x128 .f32) (harg14 : arg14.IsWhole) (arg15 : Memref sig .tc .vmem S128x128 .f32) (harg15 : arg15.IsWhole) (arg16 : Memref sig .tc .vmem S128x128 .f32) (harg16 : arg16.IsWhole) (hc0 : ¬cond0_0 i) (hc1 : ¬cond0_1 i) (hc2 : ¬cond0_2 i) (hc3 : cond0_3 i)
    (x0 : Vec F S128x1024 .bf16) (x1 : Vec F S128x128 .bf16) (x2 : Vec F S128x128 .bf16) (x3 : Vec F S128x128 .bf16) (x4 : Vec F S128x128 .bf16) (x5 : Vec F S128x1024 .bf16) (x6 : Vec F S128x1024 .bf16) (x7 : Vec F S128x1024 .f32) (x8 : Vec F S16 .f32) (xo12 : Vec F S8x128 .f32) (xs0 : Vec F S128x128 .f32) (xs1 : Vec F S128x128 .f32) :
    Σ' (L9 : List (View.Piece (Elt F) S128x1024 .bf16)), Σ' (L10 : List (View.Piece (Elt F) S128x128 .bf16)), Σ' (L11 : List (View.Piece (Elt F) S128x128 .bf16)), Σ' (L12 : List (View.Piece (Elt F) S8x128 .f32)), Σ' (LS0 : List (View.Piece (Elt F) S128x128 .f32)), { LS1 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xo12 ∗ owns (c : Thread nD τ) arg15 fullShare xs0 ∗ owns (c : Thread nD τ) arg16 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0_swa_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, fun E K => ?run⟩
  case run =>
    simp only [cc0_swa_bwd_eq_skeleton]; unfold cc0_swa_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg14.eq_unread hf12; obtain rfl := harg15.eq_unread hfs0; obtain rfl := harg16.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [H12]; · iexists _; iexact H12
    isplitl [HS0]; · iexists _; iexact HS0
    iexists _; iexact HS1

end Cert.KernelIdeal.Swa

end
-- ==== Proof.Swa.RunC.lean ====
/- The body's run at the last point. -/
module

public import proofs.«01_k».proof.Proof.Gen.KernelIdeal.Skeleton
public import proofs.«01_k».proof.Proof.Swa.RunB

@[expose] public section

set_option maxRecDepth 16384

noncomputable section

namespace Cert.KernelIdeal.Swa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body at the last point: it stores the two carried scratch buffers, rounded, into outputs 10 and 11 and leaves
    every other buffer as it was. -/
noncomputable def kernelRun0_C (c : Dev nD) (i : grid0.Coords) (arg2 : Memref sig .tc .vmem S128x1024 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .f32) (harg9 : arg9.IsWhole) (arg10 : Memref sig .tc .smem S16 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S8x128 .f32) (harg14 : arg14.IsWhole) (arg15 : Memref sig .tc .vmem S128x128 .f32) (harg15 : arg15.IsWhole) (arg16 : Memref sig .tc .vmem S128x128 .f32) (harg16 : arg16.IsWhole) (hc0 : ¬cond0_0 i) (hc1 : ¬cond0_1 i) (hc2 : cond0_2 i) (hc3 : ¬cond0_3 i)
    (x0 : Vec F S128x1024 .bf16) (x1 : Vec F S128x128 .bf16) (x2 : Vec F S128x128 .bf16) (x3 : Vec F S128x128 .bf16) (x4 : Vec F S128x128 .bf16) (x5 : Vec F S128x1024 .bf16) (x6 : Vec F S128x1024 .bf16) (x7 : Vec F S128x1024 .f32) (x8 : Vec F S16 .f32) (xo9 : Vec F S128x1024 .bf16) (xo12 : Vec F S8x128 .f32) (xs0 : Vec F S128x128 .f32) (xs1 : Vec F S128x128 .f32) :
    Σ' (L10 : List (View.Piece (Elt F) S128x128 .bf16)), { L11 : List (View.Piece (Elt F) S128x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo9 ∗ (∃ d, owns (c : Thread nD τ) arg12 fullShare d) ∗ (∃ d, owns (c : Thread nD τ) arg13 fullShare d) ∗ owns (c : Thread nD τ) arg14 fullShare xo12 ∗ owns (c : Thread nD τ) arg15 fullShare xs0 ∗ owns (c : Thread nD τ) arg16 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ owns (c : Thread nD τ) arg14 fullShare xo12 ∗ owns (c : Thread nD τ) arg15 fullShare xs0 ∗ owns (c : Thread nD τ) arg16 fullShare xs1) -∗ K ⟨⟩))
          ⊢ wp frame (wpE (defs₀ (F := F)) Variants.none c none) E (cc0_swa_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0_swa_bwd_eq_skeleton]; unfold cc0_swa_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hf12; obtain rfl := harg15.eq_unread hfs0; obtain rfl := harg16.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]
    · iexists _; isplitr; · ipureintro; exact harg14.read_unread _
      iexact H12
    isplitl [HS0]
    · iexists _; isplitr; · ipureintro; exact harg15.read_unread _
      iexact HS0
    iexists _; isplitr; · ipureintro; exact harg16.read_unread _
    iexact HS1

end Cert.KernelIdeal.Swa

end
-- ==== Proof.Swa.Frame.lean ====
/- The launch of the kernel: the state each grid point leaves (four output blocks, two carried scratch buffers), the body at every point, the run of the whole grid and the frame. -/
module

public import proofs.«01_k».proof.Proof.Swa.RunC
public import Idealize.ShloMosaic.Lib.Pipeline.TableIdle
public import Idealize.ShloMosaic.Lib.Claim

@[expose] public section

set_option maxRecDepth 16384

noncomputable section

namespace Cert.KernelIdeal.Swa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the four outputs' staging buffers and the two carried scratch buffers hold after a point. -/
abbrev State (F : FTy → Type) [FloatOps F] := Vec F S128x1024 .bf16 × Vec F S128x128 .bf16 × Vec F S128x128 .bf16 × Vec F S8x128 .f32 × Vec F S128x128 .f32 × Vec F S128x128 .f32

/-- The body's run at the first point. -/
def runA (c : Dev nD) (t : Fin cfg0.N) (h : t.val = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _)
    ((hcond0_0 t).mpr (by omega)) ((hcond0_1 t).mpr (by omega)) (fun k => absurd ((hcond0_2 t).mp k) (by omega)) ((hcond0_3 t).mpr (by omega))
    (X0_0 m c t) (iblk m c 1 t) (iblk m c 2 t) (iblk m c 3 t) (iblk m c 4 t) (iblk m c 5 t) (iblk m c 6 t) (iblk m c 7 t) (iblk m c 8 t)

/-- The body's run at a point between, over the state `p` the point before left. -/
def runB (c : Dev nD) (t : Fin cfg0.N) (h0 : t.val ≠ 0) (h : t.val < 32) (p : State F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _)
    (fun k => absurd ((hcond0_0 t).mp k) (by omega)) (fun k => absurd ((hcond0_1 t).mp k) (by omega)) (fun k => absurd ((hcond0_2 t).mp k) (by omega)) ((hcond0_3 t).mpr h)
    (X0_0 m c t) (iblk m c 1 t) (iblk m c 2 t) (iblk m c 3 t) (iblk m c 4 t) (iblk m c 5 t) (iblk m c 6 t) (iblk m c 7 t) (iblk m c 8 t) p.2.2.2.1 p.2.2.2.2.1 p.2.2.2.2.2

/-- The body's run at the last point, over the state `p` the point before left. -/
def runC (c : Dev nD) (t : Fin cfg0.N) (h : t.val = 32) (p : State F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _)
    (fun k => absurd ((hcond0_0 t).mp k) (by omega)) (fun k => absurd ((hcond0_1 t).mp k) (by omega)) ((hcond0_2 t).mpr (by omega)) (fun k => absurd ((hcond0_3 t).mp k) (by omega))
    (X0_0 m c t) (iblk m c 1 t) (iblk m c 2 t) (iblk m c 3 t) (iblk m c 4 t) (iblk m c 5 t) (iblk m c 6 t) (iblk m c 7 t) (iblk m c 8 t) p.1 p.2.2.2.1 p.2.2.2.2.1 p.2.2.2.2.2

/-! Each buffer a case stores into is covered by the pieces stored. -/

theorem coverA9 (c : Dev nD) (t : Fin cfg0.N) (h : t.val = 0) (y : S128x1024.Idx) :
    ∃ pc ∈ (runA m c t h).1, y ∈ pc.1.set :=
  View.cover_of_tiledL (runA m c t h).1 S128x64.size (by sl_kernel_rfl) y
theorem coverA10 (c : Dev nD) (t : Fin cfg0.N) (h : t.val = 0) (y : S128x128.Idx) :
    ∃ pc ∈ (runA m c t h).2.1, y ∈ pc.1.set :=
  View.cover_of_tiledL (runA m c t h).2.1 S128x64.size (by sl_kernel_rfl) y
theorem coverA11 (c : Dev nD) (t : Fin cfg0.N) (h : t.val = 0) (y : S128x128.Idx) :
    ∃ pc ∈ (runA m c t h).2.2.1, y ∈ pc.1.set :=
  View.cover_of_tiledL (runA m c t h).2.2.1 S128x64.size (by sl_kernel_rfl) y
theorem coverA12 (c : Dev nD) (t : Fin cfg0.N) (h : t.val = 0) (y : S8x128.Idx) :
    ∃ pc ∈ (runA m c t h).2.2.2.1, y ∈ pc.1.set :=
  View.cover_of_tiledL (runA m c t h).2.2.2.1 S8x128.size (by sl_kernel_rfl) y
theorem coverAS0 (c : Dev nD) (t : Fin cfg0.N) (h : t.val = 0) (y : S128x128.Idx) :
    ∃ pc ∈ (runA m c t h).2.2.2.2.1, y ∈ pc.1.set :=
  View.cover_of_wholeMem (runA m c t h).2.2.2.2.1 (by unfold runA; sl_whole_mem) y
theorem coverAS1 (c : Dev nD) (t : Fin cfg0.N) (h : t.val = 0) (y : S128x128.Idx) :
    ∃ pc ∈ (runA m c t h).2.2.2.2.2.1, y ∈ pc.1.set :=
  View.cover_of_wholeMem (runA m c t h).2.2.2.2.2.1 (by unfold runA; sl_whole_mem) y
theorem coverB9 (c : Dev nD) (t : Fin cfg0.N) (h0 : t.val ≠ 0) (h : t.val < 32) (p : State F) (y : S128x1024.Idx) :
    ∃ pc ∈ (runB m c t h0 h p).1, y ∈ pc.1.set :=
  View.cover_of_tiledL (runB m c t h0 h p).1 S128x64.size (by sl_kernel_rfl) y
theorem coverB10 (c : Dev nD) (t : Fin cfg0.N) (h0 : t.val ≠ 0) (h : t.val < 32) (p : State F) (y : S128x128.Idx) :
    ∃ pc ∈ (runB m c t h0 h p).2.1, y ∈ pc.1.set :=
  View.cover_of_tiledL (runB m c t h0 h p).2.1 S128x64.size (by sl_kernel_rfl) y
theorem coverB11 (c : Dev nD) (t : Fin cfg0.N) (h0 : t.val ≠ 0) (h : t.val < 32) (p : State F) (y : S128x128.Idx) :
    ∃ pc ∈ (runB m c t h0 h p).2.2.1, y ∈ pc.1.set :=
  View.cover_of_tiledL (runB m c t h0 h p).2.2.1 S128x64.size (by sl_kernel_rfl) y
theorem coverB12 (c : Dev nD) (t : Fin cfg0.N) (h0 : t.val ≠ 0) (h : t.val < 32) (p : State F) (y : S8x128.Idx) :
    ∃ pc ∈ (runB m c t h0 h p).2.2.2.1, y ∈ pc.1.set :=
  View.cover_of_tiledL (runB m c t h0 h p).2.2.2.1 S8x128.size (by sl_kernel_rfl) y
theorem coverBS0 (c : Dev nD) (t : Fin cfg0.N) (h0 : t.val ≠ 0) (h : t.val < 32) (p : State F) (y : S128x128.Idx) :
    ∃ pc ∈ (runB m c t h0 h p).2.2.2.2.1, y ∈ pc.1.set :=
  View.cover_of_tiledL (runB m c t h0 h p).2.2.2.2.1 S128x64.size (by sl_kernel_rfl) y
theorem coverBS1 (c : Dev nD) (t : Fin cfg0.N) (h0 : t.val ≠ 0) (h : t.val < 32) (p : State F) (y : S128x128.Idx) :
    ∃ pc ∈ (runB m c t h0 h p).2.2.2.2.2.1, y ∈ pc.1.set :=
  View.cover_of_tiledL (runB m c t h0 h p).2.2.2.2.2.1 S128x64.size (by sl_kernel_rfl) y
theorem coverC10 (c : Dev nD) (t : Fin cfg0.N) (h : t.val = 32) (p : State F) (y : S128x128.Idx) :
    ∃ pc ∈ (runC m c t h p).1, y ∈ pc.1.set :=
  View.cover_of_tiledL (runC m c t h p).1 S128x128.size (by sl_kernel_rfl) y
theorem coverC11 (c : Dev nD) (t : Fin cfg0.N) (h : t.val = 32) (p : State F) (y : S128x128.Idx) :
    ∃ pc ∈ (runC m c t h p).2.1, y ∈ pc.1.set :=
  View.cover_of_tiledL (runC m c t h p).2.1 S128x128.size (by sl_kernel_rfl) y

/-- The state after a point of case A. -/
def stA (c : Dev nD) (t : Fin cfg0.N) (h : t.val = 0) : State F :=
  (VO0_9.read (Elt F) (VO0_9.writes (Elt F) VO0_9.junk (runA m c t h).1),
   VO0_10.read (Elt F) (VO0_10.writes (Elt F) VO0_10.junk (runA m c t h).2.1),
   VO0_11.read (Elt F) (VO0_11.writes (Elt F) VO0_11.junk (runA m c t h).2.2.1),
   VO0_12.read (Elt F) (VO0_12.writes (Elt F) VO0_12.junk (runA m c t h).2.2.2.1),
   VS0_0.read (Elt F) (VS0_0.writes (Elt F) VS0_0.junk (runA m c t h).2.2.2.2.1),
   VS0_1.read (Elt F) (VS0_1.writes (Elt F) VS0_1.junk (runA m c t h).2.2.2.2.2.1))

/-- The state after a point of case B. -/
def stB (c : Dev nD) (t : Fin cfg0.N) (h0 : t.val ≠ 0) (h : t.val < 32) (p : State F) : State F :=
  (VO0_9.read (Elt F) (VO0_9.writes (Elt F) VO0_9.junk (runB m c t h0 h p).1),
   VO0_10.read (Elt F) (VO0_10.writes (Elt F) VO0_10.junk (runB m c t h0 h p).2.1),
   VO0_11.read (Elt F) (VO0_11.writes (Elt F) VO0_11.junk (runB m c t h0 h p).2.2.1),
   VO0_12.read (Elt F) (VO0_12.writes (Elt F) VO0_12.junk (runB m c t h0 h p).2.2.2.1),
   VS0_0.read (Elt F) (VS0_0.writes (Elt F) VS0_0.junk (runB m c t h0 h p).2.2.2.2.1),
   VS0_1.read (Elt F) (VS0_1.writes (Elt F) VS0_1.junk (runB m c t h0 h p).2.2.2.2.2.1))

/-- The state after the last point: outputs 9 and 12 and the scratch as the point before left them. -/
def stC (c : Dev nD) (t : Fin cfg0.N) (h : t.val = 32) (p : State F) : State F :=
  (p.1, VO0_10.read (Elt F) (VO0_10.writes (Elt F) VO0_10.junk (runC m c t h p).1), VO0_11.read (Elt F) (VO0_11.writes (Elt F) VO0_11.junk (runC m c t h p).2.1), p.2.2.2.1, p.2.2.2.2.1, p.2.2.2.2.2)

/-- The state after each point. -/
def stateAt (c : Dev nD) : (n : ℕ) → n < cfg0.N → State F
  | 0, hn => stA m c ⟨0, hn⟩ rfl
  | n + 1, hn =>
    if h : n + 1 < 32 then stB m c ⟨n + 1, hn⟩ (Nat.succ_ne_zero n) h (stateAt c n (Nat.lt_of_succ_lt hn))
    else stC m c ⟨n + 1, hn⟩ (by have : n + 1 < 33 := lt_of_lt_of_eq hn N_0; simp only; omega) (stateAt c n (Nat.lt_of_succ_lt hn))

/-- The state the point before `t` left. -/
def prev (c : Dev nD) (t : Fin cfg0.N) : State F := stateAt m c (t.val - 1) (Nat.lt_of_le_of_lt (Nat.sub_le _ _) t.isLt)

theorem stateAt_A (c : Dev nD) (t : Fin cfg0.N) (h : t.val = 0) : stateAt m c t.val t.isLt = stA m c t h := by
  obtain ⟨n, hn⟩ := t; simp only at h; subst h; rfl
theorem stateAt_B (c : Dev nD) (t : Fin cfg0.N) (h0 : t.val ≠ 0) (h : t.val < 32) :
    stateAt m c t.val t.isLt = stB m c t h0 h (prev m c t) := by
  obtain ⟨n, hn⟩ := t
  cases n with
  | zero => exact absurd rfl h0
  | succ n => exact dif_pos h
theorem stateAt_C (c : Dev nD) (t : Fin cfg0.N) (h : t.val = 32) :
    stateAt m c t.val t.isLt = stC m c t h (prev m c t) := by
  obtain ⟨n, hn⟩ := t
  cases n with
  | zero => exact absurd h (by simp)
  | succ n => exact dif_neg (by simp only at h; omega)

/-- The region's invariant before position `n`: before the first point the scratch at anything, afterwards each carried
    scratch at what the point before left in it. -/
def PhiS (c : Dev nD) : (n : ℕ) → n ≤ cfg0.N → sProp 𝕄
  | 0, _ => Pipeline.ΦA spec0 c
  | n + 1, hn => iprop(iprop(owns (c : Thread nD τ) scM0_0 fullShare ((stateAt m c n hn).2.2.2.2.1) ∗ owns (c : Thread nD τ) scM0_1 fullShare ((stateAt m c n hn).2.2.2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((stateAt m c n hn).2.2.2.2.1) ∗ owns (c : Thread nD τ) scM0_1 fullShare ((stateAt m c n hn).2.2.2.2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((stateAt m c (n - 1) (by omega)).2.2.2.2.1) ∗ owns (c : Thread nD τ) scM0_1 fullShare ((stateAt m c (n - 1) (by omega)).2.2.2.2.2)) ∗ (∃ r, prngReg c r)) := by
  cases n with
  | zero => exact absurd rfl hz
  | succ n => rfl

/-! ## The pipeline's proof data -/

/-- The arrays as the region finds them; after the body each input's buffer at its block, each output's at `stateAt`. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (stateAt m c t.val t.isLt).1
    | ⟨10, _⟩ => (stateAt m c t.val t.isLt).2.1
    | ⟨11, _⟩ => (stateAt m c t.val t.isLt).2.2.1
    | ⟨12, _⟩ => (stateAt m c t.val t.isLt).2.2.2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0 (c : Dev nD) (t : Fin cfg0.N) : (dats m 0 c).after 0 t = X0_0 m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = (stateAt m c t.val t.isLt).1 := by dsimp only [dats]
theorem after10 (c : Dev nD) (t : Fin cfg0.N) : (dats m 0 c).after 10 t = (stateAt m c t.val t.isLt).2.1 := by dsimp only [dats]
theorem after11 (c : Dev nD) (t : Fin cfg0.N) : (dats m 0 c).after 11 t = (stateAt m c t.val t.isLt).2.2.1 := by dsimp only [dats]
theorem after12 (c : Dev nD) (t : Fin cfg0.N) : (dats m 0 c).after 12 t = (stateAt m c t.val t.isLt).2.2.2.1 := by dsimp only [dats]
theorem before0 (c : Dev nD) (t : Fin cfg0.N) (d) : (dats m 0 c).before 0 t d = X0_0 m c t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-- Output 9 is carried through the last point. -/
theorem carry9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  rw [idle9 t, decide_eq_true_eq] at hi
  rw [after9, after9, stateAt_C m c t hi]; rfl
theorem before9 (c : Dev nD) (t : Fin cfg0.N) (h : t.val = 32) (d) :
    (dats m 0 c).before 9 t d = (prev m c t).1 := by
  have hN : t.val < 33 := lt_of_lt_of_eq t.isLt N_0
  rw [Dat.before_out_traj _ 9 rfl (fun _ _ => rfl) (carry9 m c) t.val t rfl d,
    if_neg (by rw [fresh9_eq t, fresh9]; simp; omega)]
  dsimp only [dats, prev]

/-- Output 12 is carried through the last point. -/
theorem carry12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ := by
  intro t _ hi _
  rw [idle12 t, decide_eq_true_eq] at hi
  rw [after12, after12, stateAt_C m c t hi]; rfl
theorem before12 (c : Dev nD) (t : Fin cfg0.N) (h : t.val ≠ 0) (d) :
    (dats m 0 c).before 12 t d = (prev m c t).2.2.2.1 := by
  have hN : t.val < 33 := lt_of_lt_of_eq t.isLt N_0
  rw [Dat.before_out_traj _ 12 rfl (fun _ _ => rfl) (carry12 m c) t.val t rfl d,
    if_neg (by rw [fresh12_eq t, fresh12]; simp; omega)]
  dsimp only [dats, prev]

/-! ## The body obligation -/

/-- What the body is called with at a point, the windows one by one, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

theorem leaves0 (c : Dev nD) (t : Fin cfg0.N) :
    (dats m 0 c).leavesExact 0 t = owns (c : Thread nD τ) (ms0_0 t) fullShare (X0_0 m c t) := by
  unfold Dat.leavesExact; rw [show cfg0.idle 0 (grid0.coords t) = false from rfl, after0]
theorem leaves1 (c : Dev nD) (t : Fin cfg0.N) :
    (dats m 0 c).leavesExact 1 t = owns (c : Thread nD τ) (ms0_1 t) fullShare (iblk m c 1 t) := by
  unfold Dat.leavesExact; rw [show cfg0.idle 1 (grid0.coords t) = false from rfl, after1]
theorem leaves2 (c : Dev nD) (t : Fin cfg0.N) :
    (dats m 0 c).leavesExact 2 t = owns (c : Thread nD τ) (ms0_2 t) fullShare (iblk m c 2 t) := by
  unfold Dat.leavesExact; rw [show cfg0.idle 2 (grid0.coords t) = false from rfl, after2]
theorem leaves3 (c : Dev nD) (t : Fin cfg0.N) :
    (dats m 0 c).leavesExact 3 t = owns (c : Thread nD τ) (ms0_3 t) fullShare (iblk m c 3 t) := by
  unfold Dat.leavesExact; rw [show cfg0.idle 3 (grid0.coords t) = false from rfl, after3]
theorem leaves4 (c : Dev nD) (t : Fin cfg0.N) :
    (dats m 0 c).leavesExact 4 t = owns (c : Thread nD τ) (ms0_4 t) fullShare (iblk m c 4 t) := by
  unfold Dat.leavesExact; rw [show cfg0.idle 4 (grid0.coords t) = false from rfl, after4]
theorem leaves5 (c : Dev nD) (t : Fin cfg0.N) :
    (dats m 0 c).leavesExact 5 t = owns (c : Thread nD τ) (ms0_5 t) fullShare (iblk m c 5 t) := by
  unfold Dat.leavesExact; rw [show cfg0.idle 5 (grid0.coords t) = false from rfl, after5]
theorem leaves6 (c : Dev nD) (t : Fin cfg0.N) :
    (dats m 0 c).leavesExact 6 t = owns (c : Thread nD τ) (ms0_6 t) fullShare (iblk m c 6 t) := by
  unfold Dat.leavesExact; rw [show cfg0.idle 6 (grid0.coords t) = false from rfl, after6]
theorem leaves7 (c : Dev nD) (t : Fin cfg0.N) :
    (dats m 0 c).leavesExact 7 t = owns (c : Thread nD τ) (ms0_7 t) fullShare (iblk m c 7 t) := by
  unfold Dat.leavesExact; rw [show cfg0.idle 7 (grid0.coords t) = false from rfl, after7]
theorem leaves8 (c : Dev nD) (t : Fin cfg0.N) :
    (dats m 0 c).leavesExact 8 t = owns (c : Thread nD τ) (ms0_8 t) fullShare (iblk m c 8 t) := by
  unfold Dat.leavesExact; rw [show cfg0.idle 8 (grid0.coords t) = false from rfl, after8]
theorem leaves9 (c : Dev nD) (t : Fin cfg0.N) :
    (dats m 0 c).leavesExact 9 t = owns (c : Thread nD τ) (ms0_9 t) fullShare ((stateAt m c t.val t.isLt).1) := by
  by_cases h : t.val = 32
  · unfold Dat.leavesExact; rw [idle9 t, decide_eq_true h, flush9_last t h, after9]
  · unfold Dat.leavesExact; rw [idle9 t, decide_eq_false h, after9]
theorem leaves10 (c : Dev nD) (t : Fin cfg0.N) :
    (dats m 0 c).leavesExact 10 t = owns (c : Thread nD τ) (ms0_10 t) fullShare ((stateAt m c t.val t.isLt).2.1) := by
  unfold Dat.leavesExact; rw [idle10 t, after10]
theorem leaves11 (c : Dev nD) (t : Fin cfg0.N) :
    (dats m 0 c).leavesExact 11 t = owns (c : Thread nD τ) (ms0_11 t) fullShare ((stateAt m c t.val t.isLt).2.2.1) := by
  unfold Dat.leavesExact; rw [idle11 t, after11]
theorem leaves12 (c : Dev nD) (t : Fin cfg0.N) :
    (dats m 0 c).leavesExact 12 t = owns (c : Thread nD τ) (ms0_12 t) fullShare ((stateAt m c t.val t.isLt).2.2.2.1) := by
  by_cases h : t.val = 32
  · unfold Dat.leavesExact; rw [idle12 t, decide_eq_true h, flush12_last t h, after12]
  · unfold Dat.leavesExact; rw [idle12 t, decide_eq_false h, after12]

/-- The pieces a run wrote into a whole buffer, read back: the buffer owned at what they hold over anything. -/
theorem owns_of_writes {sp : Space} {sh : Shape} {e : EltTy} (c : Dev nD) (M : Memref sig .tc sp sh e) (v' : View sig .tc .vmem sh e)
    (L : List (View.Piece (Elt F) sh e)) (f) (hc : ∀ y, ∃ pc ∈ L, y ∈ pc.1.set) :
    (M.view.loc (c : Thread nD τ) ↦[M.view.set]{fullShare} M.view.writes (Elt F) f L : sProp 𝕄)
      ⊢ owns (c : Thread nD τ) M fullShare (v'.read (Elt F) (v'.writes (Elt F) v'.junk L)) := by
  unfold owns
  iintro H
  iexists _; isplitr
  swap; · iexact H
  ipureintro; exact View.read_writes_of_cover _ _ _ _ _ hc

set_option maxHeartbeats 4000000 in
/-- The body at a point of case A. -/
theorem soundA (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, leaves0, leaves1, leaves2, leaves3, leaves4, leaves5, leaves6, leaves7, leaves8, leaves9, leaves10, leaves11, leaves12]
  rw [show (dats m 0 c).owesAt () t.succ = (dats m 0 c).owesAt () t.castSucc from rfl]
  rw [show (dats m 0 c).Φ t.succ = PhiS m c (t.val + 1) t.isLt from rfl, PhiS_succ]
  rw [PhiS_castSucc m c t, PhiS_zero m c _ _ h, PhiA0_eq, stateAt_A m c t h]
  unfold stA; dsimp only
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runA m c t h).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  iintro ⟨H0, H1, H2, H3, H4, H5, H6, H7, H8, ⟨%e9, H9⟩, ⟨%e10, H10⟩, ⟨%e11, H11⟩, ⟨%e12, H12⟩, ⟨%es0, HS0⟩, ⟨%es1, HS1⟩⟩
  isplitl [HS0 HS1 Hg]
  · isplitl [HS0 HS1]
    · isplitl [HS0]
      · iapply (owns_of_writes c scM0_0 VS0_0 _ _ (coverAS0 m c t h)); iexact HS0
      iapply (owns_of_writes c scM0_1 VS0_1 _ _ (coverAS1 m c t h)); iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (owns_of_writes c (ms0_9 t) VO0_9 _ _ (coverA9 m c t h)); iexact H9
  isplitl [H10]; · iapply (owns_of_writes c (ms0_10 t) VO0_10 _ _ (coverA10 m c t h)); iexact H10
  isplitl [H11]; · iapply (owns_of_writes c (ms0_11 t) VO0_11 _ _ (coverA11 m c t h)); iexact H11
  iapply (owns_of_writes c (ms0_12 t) VO0_12 _ _ (coverA12 m c t h)); iexact H12

set_option maxHeartbeats 4000000 in
/-- The body at a point of case B. -/
theorem soundB (c : Dev nD) (t : Fin cfg0.N) (h0 : t.val ≠ 0) (h : t.val < 32) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, leaves0, leaves1, leaves2, leaves3, leaves4, leaves5, leaves6, leaves7, leaves8, leaves9, leaves10, leaves11, leaves12]
  rw [show (dats m 0 c).owesAt () t.succ = (dats m 0 c).owesAt () t.castSucc from rfl]
  rw [show (dats m 0 c).Φ t.succ = PhiS m c (t.val + 1) t.isLt from rfl, PhiS_succ]
  simp only [before12 m c t h0]
  rw [PhiS_castSucc m c t, PhiS_pos m c _ _ h0, stateAt_B m c t h0 h]
  unfold stB; dsimp only
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runB m c t h0 h (prev m c t)).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexact H12
  isplitl [HS0]; · iexact HS0
  isplitl [HS1]; · iexact HS1
  iintro ⟨H0, H1, H2, H3, H4, H5, H6, H7, H8, ⟨%e9, H9⟩, ⟨%e10, H10⟩, ⟨%e11, H11⟩, ⟨%e12, H12⟩, ⟨%es0, HS0⟩, ⟨%es1, HS1⟩⟩
  isplitl [HS0 HS1 Hg]
  · isplitl [HS0 HS1]
    · isplitl [HS0]
      · iapply (owns_of_writes c scM0_0 VS0_0 _ _ (coverBS0 m c t h0 h _)); iexact HS0
      iapply (owns_of_writes c scM0_1 VS0_1 _ _ (coverBS1 m c t h0 h _)); iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (owns_of_writes c (ms0_9 t) VO0_9 _ _ (coverB9 m c t h0 h _)); iexact H9
  isplitl [H10]; · iapply (owns_of_writes c (ms0_10 t) VO0_10 _ _ (coverB10 m c t h0 h _)); iexact H10
  isplitl [H11]; · iapply (owns_of_writes c (ms0_11 t) VO0_11 _ _ (coverB11 m c t h0 h _)); iexact H11
  iapply (owns_of_writes c (ms0_12 t) VO0_12 _ _ (coverB12 m c t h0 h _)); iexact H12

set_option maxHeartbeats 4000000 in
/-- The body at a point of case C. -/
theorem soundC (c : Dev nD) (t : Fin cfg0.N) (h : t.val = 32) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, leaves0, leaves1, leaves2, leaves3, leaves4, leaves5, leaves6, leaves7, leaves8, leaves9, leaves10, leaves11, leaves12]
  rw [show (dats m 0 c).owesAt () t.succ = (dats m 0 c).owesAt () t.castSucc from rfl]
  rw [show (dats m 0 c).Φ t.succ = PhiS m c (t.val + 1) t.isLt from rfl, PhiS_succ]
  have h0 : t.val ≠ 0 := by omega
  simp only [before9 m c t h, before12 m c t h0]
  rw [PhiS_castSucc m c t, PhiS_pos m c _ _ h0, stateAt_C m c t h]
  unfold stC; dsimp only
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runC m c t h (prev m c t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexact H12
  isplitl [HS0]; · iexact HS0
  isplitl [HS1]; · iexact HS1
  iintro ⟨H0, H1, H2, H3, H4, H5, H6, H7, H8, H9, ⟨%e10, H10⟩, ⟨%e11, H11⟩, H12, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (owns_of_writes c (ms0_10 t) VO0_10 _ _ (coverC10 m c t h _)); iexact H10
  isplitl [H11]; · iapply (owns_of_writes c (ms0_11 t) VO0_11 _ _ (coverC11 m c t h _)); iexact H11
  iexact H12

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 33 := lt_of_lt_of_eq t.isLt N_0
  by_cases h0 : t.val = 0
  · exact soundA m c t h0
  · by_cases h : t.val < 32
    · exact soundB m c t h0 h
    · exact soundC m c t (by omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 33 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame at any float values: the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Swa

end
-- ==== Proof.Swa.Point.lean ====
/- What the body computes at one point of the grid, in real numbers: of the blocks it is given, key head by key head. -/
module

public import proofs.«01_k».proof.Proof.Swa.Tile2
public import proofs.«01_k».proof.Proof.Swa.Frame
public import Idealize.ShloMosaic.Lib.Pipeline.ValueKit

@[expose] public section

set_option maxRecDepth 16384

noncomputable section

namespace Cert.KernelIdeal.Swa

open Idealize.ShloMosaic Cert.KernelIdeal.Gen Finset
open Cert.Swa (coe_sum seen qlane klane head)

/-- The real numbers the blocks at a point hold: the queries, the banded keys and values, the output's cotangent, the output,
    the log-denominators and the sinks. -/
structure Point where
  n : Fin 32
  Q : Fin 128 → Fin 1024 → ℝ
  kf : Fin 256 → Fin 128 → ℝ
  vf : Fin 256 → Fin 128 → ℝ
  D : Fin 128 → Fin 1024 → ℝ
  Out : Fin 128 → Fin 1024 → ℝ
  Ls : Fin 128 → Fin 1024 → ℝ
  S : Fin 16 → ℝ

/-- The blocks hold these numbers. -/
structure Point.At (b : Point) (x0 : Vec Ideal S128x1024 .bf16) (x1 x2 x3 x4 : Vec Ideal S128x128 .bf16)
    (x5 x6 : Vec Ideal S128x1024 .bf16) (x7 : Vec Ideal S128x1024 .f32) (x8 : Vec Ideal S16 .f32) : Prop where
  q : ∀ a l, (x0 (ix2 a l) : EReal) = b.Q a l
  kp : ∀ (r : Fin 128) l, (x2 (ix2 r l) : EReal) = b.kf ⟨r.val, by omega⟩ l
  kc : ∀ (r : Fin 128) l, (x1 (ix2 r l) : EReal) = b.kf ⟨128 + r.val, by omega⟩ l
  vp : ∀ (r : Fin 128) l, (x4 (ix2 r l) : EReal) = b.vf ⟨r.val, by omega⟩ l
  vc : ∀ (r : Fin 128) l, (x3 (ix2 r l) : EReal) = b.vf ⟨128 + r.val, by omega⟩ l
  d : ∀ a l, (x5 (ix2 a l) : EReal) = b.D a l
  o : ∀ a l, (x6 (ix2 a l) : EReal) = b.Out a l
  l : ∀ a l, (x7 (ix2 a l) : EReal) = b.Ls a l
  s : ∀ h, (x8 (ix1 h) : EReal) = b.S h

namespace Point

variable (b : Point) (kv : Fin 2) (g : Fin 8) (a : Fin 128) (j : Fin 256) (d : Fin 64)

def q : ℝ := b.Q a (qlane kv g d)
def k : ℝ := b.kf j (klane kv d)
def v : ℝ := b.vf j (klane kv d)
def dout : ℝ := b.D a (qlane kv g d)
def out : ℝ := b.Out a (qlane kv g d)
def lse : ℝ := b.Ls a (qlane kv g 0)
def sink : ℝ := b.S (head kv g)
/-- The probabilities. -/
def P : ℝ := if seen b.n a j then Real.exp (∑ d, b.q kv g a d * (1 / 8) * b.k kv j d - b.lse kv g a) else 0
/-- The probabilities' gradient, and its inner product with them by way of the output. -/
def dP : ℝ := ∑ d, b.dout kv g a d * b.v kv j d
def delta : ℝ := ∑ d, b.dout kv g a d * b.out kv g a d
/-- The scores' gradient. -/
def DS : ℝ := b.P kv g a j * (b.dP kv g a j - b.delta kv g a)
def DQ : ℝ := (∑ j, b.DS kv g a j * b.k kv j d) * (1 / 8)
def DK : ℝ := ∑ g, ∑ a, b.q kv g a d * (1 / 8) * b.DS kv g a j
def DV : ℝ := ∑ g, ∑ a, b.dout kv g a d * b.P kv g a j
/-- What a row takes from the sink's gradient. -/
def lost : ℝ := Real.exp (b.sink kv g - b.lse kv g a) * b.delta kv g a

end Point

/-- A load of 64 lanes of a block. -/
theorem read_lanes {e : EltTy} {arg : Memref sig .tc .vmem S128x1024 e} (harg : arg.IsWhole) (x : Vec Ideal S128x1024 e) (o : ℕ)
    (inb) (a : Fin 128) (d : Fin 64) (l : Fin 1024) (hl : l.val = o + d.val) :
    View.readAt (Elt Ideal) arg.view (Rect.unit (s := S128x1024) ![0, o] S128x64.size inb).toLoadRect (harg.unread x) (ix2 a d) = x (ix2 a l) := by
  rw [View.readAt_eq_ld, harg.read_unread]
  exact View.ld_unit_apply_of x _ _ inb _ _ (fun i => by fin_cases i <;> simp [hl])

/-- A load of one lane of a block. -/
theorem read_lane {e : EltTy} {arg : Memref sig .tc .vmem S128x1024 e} (harg : arg.IsWhole) (x : Vec Ideal S128x1024 e) (o : ℕ)
    (inb) (a : Fin 128) (l : Fin 1024) (hl : l.val = o) :
    View.readAt (Elt Ideal) arg.view (Rect.unit (s := S128x1024) ![0, o] S128x1.size inb).toLoadRect (harg.unread x) (ix2 a 0) = x (ix2 a l) := by
  rw [View.readAt_eq_ld, harg.read_unread]
  exact View.ld_unit_apply_of x _ _ inb _ _ (fun i => by fin_cases i <;> simp [hl])

/-- A load of a whole block. -/
theorem read_whole {e : EltTy} {arg : Memref sig .tc .vmem S128x128 e} (harg : arg.IsWhole) (x : Vec Ideal S128x128 e) (inb) :
    View.readAt (Elt Ideal) arg.view (Rect.unit (s := S128x128) ![0, 0] S128x128.size inb).toLoadRect (harg.unread x) = x := by
  rw [View.readAt_eq_ld, harg.read_unread]
  funext i
  exact View.ld_unit_apply_of x _ _ inb _ _ (fun i => by fin_cases i <;> simp)

/-- A load of half the lanes of what is carried. -/
theorem read_half {e : EltTy} {arg : Memref sig .tc .vmem S128x128 e} (harg : arg.IsWhole) (x : Vec Ideal S128x128 e) (o : ℕ)
    (inb) (a : Fin 128) (d : Fin 64) (l : Fin 128) (hl : l.val = o + d.val) :
    View.readAt (Elt Ideal) arg.view (Rect.unit (s := S128x128) ![0, o] S128x64.size inb).toLoadRect (harg.unread x) (ix2 a d) = x (ix2 a l) := by
  rw [View.readAt_eq_ld, harg.read_unread]
  exact View.ld_unit_apply_of x _ _ inb _ _ (fun i => by fin_cases i <;> simp [hl])

/-- A load of the sinks' gradients so far. -/
theorem read_sinks {arg : Memref sig .tc .vmem S8x128 .f32} (harg : arg.IsWhole) (x : Vec Ideal S8x128 .f32) (inb) :
    View.readAt (Elt Ideal) arg.view (Rect.unit (s := S8x128) ![0, 0] S8x128.size inb).toLoadRect (harg.unread x) = x := by
  rw [View.readAt_eq_ld, harg.read_unread]
  funext i
  exact View.ld_unit_apply_of x _ _ inb _ _ (fun i => by fin_cases i <;> simp)

/-- A load of one sink. -/
theorem read_sink {arg : Memref sig .tc .smem S16 .f32} (harg : arg.IsWhole) (x : Vec Ideal S16 .f32) (o : ℕ) (inb) (hp)
    (h : Fin 16) (hh : h.val = o) :
    View.readAt (Elt Ideal) arg.view (Rect.unit (s := S16) ![o] S1.size inb).toLoadRect (harg.unread x) (Shape.Idx.first (s := S1) hp) = x (ix1 h) := by
  rw [View.readAt_eq_ld, harg.read_unread]
  exact View.ld_unit_apply_of x _ _ inb _ _ (fun i => by fin_cases i; simpa using hh)

/-- The eight loads of a key head's query lanes. -/
def loads {arg : Memref sig .tc .vmem S128x1024 .bf16} (harg : arg.IsWhole) (x : Vec Ideal S128x1024 .bf16) (kv : Fin 2) (g : Fin 8) :
    Vec Ideal S128x64 .bf16 :=
  View.readAt (Elt Ideal) arg.view (Rect.unit (s := S128x1024) ![0, 512 * kv.val + 64 * g.val] S128x64.size
    (fun i => by fin_cases i <;> simp [S128x1024, S128x64] <;> omega)).toLoadRect (harg.unread x)

theorem loads_apply {arg : Memref sig .tc .vmem S128x1024 .bf16} (harg : arg.IsWhole) (x : Vec Ideal S128x1024 .bf16) (kv : Fin 2) (g : Fin 8)
    (a : Fin 128) (d : Fin 64) : loads harg x kv g (ix2 a d) = x (ix2 a (qlane kv g d)) :=
  read_lanes harg x _ _ a d _ (by simp [qlane]; omega)

/-- The eight loads of a key head's log-denominators, each from the first of its query head's lanes. -/
def loads1 {arg : Memref sig .tc .vmem S128x1024 .f32} (harg : arg.IsWhole) (x : Vec Ideal S128x1024 .f32) (kv : Fin 2) (g : Fin 8) :
    Vec Ideal S128x1 .f32 :=
  View.readAt (Elt Ideal) arg.view (Rect.unit (s := S128x1024) ![0, 512 * kv.val + 64 * g.val] S128x1.size
    (fun i => by fin_cases i <;> simp [S128x1024, S128x1] <;> omega)).toLoadRect (harg.unread x)

theorem loads1_apply {arg : Memref sig .tc .vmem S128x1024 .f32} (harg : arg.IsWhole) (x : Vec Ideal S128x1024 .f32) (kv : Fin 2) (g : Fin 8)
    (a : Fin 128) : loads1 harg x kv g (ix2 a 0) = x (ix2 a (qlane kv g 0)) :=
  read_lane harg x _ _ a _ (by simp [qlane]; omega)

/-- The eight loads of a key head's sinks. -/
def sinks {arg : Memref sig .tc .smem S16 .f32} (harg : arg.IsWhole) (x : Vec Ideal S16 .f32) (kv : Fin 2) (g : Fin 8) : Elt Ideal .f32 :=
  View.readAt (Elt Ideal) arg.view (Rect.unit (s := S16) ![8 * kv.val + g.val] S1.size
    (fun i => by fin_cases i; simp [S16, S1]; omega)).toLoadRect (harg.unread x) (Shape.Idx.first (s := S1) numel1_S1.ge)

theorem sinks_apply {arg : Memref sig .tc .smem S16 .f32} (harg : arg.IsWhole) (x : Vec Ideal S16 .f32) (kv : Fin 2) (g : Fin 8) :
    sinks harg x kv g = x (ix1 (head kv g)) :=
  read_sink harg x _ _ _ _ (by simp [head]; omega)

namespace Point
theorem k_zero (b : Point) (j : Fin 256) (d : Fin 64) : b.k 0 j d = b.kf j ⟨d.val, by omega⟩ := congrArg (b.kf j) (Fin.ext (by simp [klane]))
theorem k_one (b : Point) (j : Fin 256) (d : Fin 64) : b.k 1 j d = b.kf j ⟨64 + d.val, by omega⟩ := congrArg (b.kf j) (Fin.ext (by simp [klane]))
theorem v_zero (b : Point) (j : Fin 256) (d : Fin 64) : b.v 0 j d = b.vf j ⟨d.val, by omega⟩ := congrArg (b.vf j) (Fin.ext (by simp [klane]))
theorem v_one (b : Point) (j : Fin 256) (d : Fin 64) : b.v 1 j d = b.vf j ⟨64 + d.val, by omega⟩ := congrArg (b.vf j) (Fin.ext (by simp [klane]))
end Point

/-- Sixteen lanes, one after another. -/
theorem lanes16 (f : Fin 2 → Fin 8 → ℝ) (l : Fin 128) :
    0 + (if l.val = 0 then f 0 0 else 0) + (if l.val = 1 then f 0 1 else 0) + (if l.val = 2 then f 0 2 else 0) + (if l.val = 3 then f 0 3 else 0)
      + (if l.val = 4 then f 0 4 else 0) + (if l.val = 5 then f 0 5 else 0) + (if l.val = 6 then f 0 6 else 0) + (if l.val = 7 then f 0 7 else 0)
      + (if l.val = 8 then f 1 0 else 0) + (if l.val = 9 then f 1 1 else 0) + (if l.val = 10 then f 1 2 else 0) + (if l.val = 11 then f 1 3 else 0)
      + (if l.val = 12 then f 1 4 else 0) + (if l.val = 13 then f 1 5 else 0) + (if l.val = 14 then f 1 6 else 0) + (if l.val = 15 then f 1 7 else 0)
      = if h : l.val < 16 then f ⟨l.val / 8, by omega⟩ ⟨l.val % 8, by omega⟩ else 0 := by
  obtain ⟨l, hl⟩ := l
  by_cases h : l < 16
  · rw [dif_pos h]
    dsimp only
    interval_cases l <;> simp
  · rw [dif_neg h]
    have (n : ℕ) (hn : n < 16) : ¬ l = n := by omega
    simp [this]

end Cert.KernelIdeal.Swa

end
-- ==== Proof.Swa.Bridge.lean ====
/- The numbers of a point are those of the gradient: of the queries, keys, values and sinks of its block. -/
module

public import proofs.«01_k».proof.Proof.Swa.Point
public import proofs.«01_k».proof.Proof.Swa.Spec

@[expose] public section

noncomputable section

namespace Cert.KernelIdeal.Swa

open Finset Cert.Swa

variable (X : Fin 4096 → Fin 1280 → ℝ) (G : Fin 4096 → Fin 1024 → ℝ) (K : Fin 16 → ℝ) (M : Fin 2 → Fin 8 → Fin 32 → Fin 128 → ℝ)

/-- Number `j` of the block before and the block `n`; the first block stands before itself. -/
def bandc (c : Fin 1280) (n : Fin 32) (j : Fin 256) : ℝ :=
  if h : j.val < 128 then X (row (before n) ⟨j.val, h⟩) c else X (row n ⟨j.val - 128, by omega⟩) c

/-- Where a query sees, the two readings of the band agree. -/
theorem bandc_eq (c : Fin 1280) {n : Fin 32} {a : Fin 128} {j : Fin 256} (hs : seen n a j) : bandc X c n j = band X c n j := by
  unfold bandc band
  split_ifs with h h0
  · exact absurd (hs.2.2 h0) (by omega)
  · rfl
  · rfl

/-- The numbers the point of block `n` is given. -/
def pt (n : Fin 32) : Point where
  n := n
  Q a l := X (row n a) (lq l)
  kf j l := bandc X (lk l) n j
  vf j l := bandc X (lv l) n j
  D a l := G (row n a) l
  Out a l := O X K M ⟨l.val / 512, by omega⟩ ⟨l.val / 64 % 8, by omega⟩ n a ⟨l.val % 64, by omega⟩
  Ls a l := L X K M ⟨l.val / 512, by omega⟩ ⟨l.val / 64 % 8, by omega⟩ n a
  S := K

variable (kv : Fin 2) (g : Fin 8) (n : Fin 32) (a : Fin 128) (j : Fin 256) (d : Fin 64)

theorem lane_div : (⟨(qlane kv g d).val / 512, by omega⟩ : Fin 2) = kv := Fin.ext (by simp only [qlane]; omega)
theorem lane_mid : (⟨(qlane kv g d).val / 64 % 8, by omega⟩ : Fin 8) = g := Fin.ext (by simp only [qlane]; omega)
theorem lane_mod : (⟨(qlane kv g d).val % 64, by omega⟩ : Fin 64) = d := Fin.ext (by simp only [qlane]; omega)

theorem pt_q : (pt X G K M n).q kv g a d = query X kv g n a d := rfl
theorem pt_dout : (pt X G K M n).dout kv g a d = dout G kv g n a d := rfl
theorem pt_out : (pt X G K M n).out kv g a d = O X K M kv g n a d := by
  show O X K M ⟨(qlane kv g d).val / 512, _⟩ ⟨(qlane kv g d).val / 64 % 8, _⟩ n a ⟨(qlane kv g d).val % 64, _⟩ = _
  rw [lane_div, lane_mid, lane_mod]
theorem pt_lse : (pt X G K M n).lse kv g a = L X K M kv g n a := by
  show L X K M ⟨(qlane kv g 0).val / 512, _⟩ ⟨(qlane kv g 0).val / 64 % 8, _⟩ n a = _
  rw [lane_div, lane_mid]
theorem pt_k (hs : seen n a j) : (pt X G K M n).k kv j d = keys X kv n j d := bandc_eq X _ hs
theorem pt_v (hs : seen n a j) : (pt X G K M n).v kv j d = vals X kv n j d := bandc_eq X _ hs

theorem pt_P : (pt X G K M n).P kv g a j = P X K M kv g n a j := by
  unfold Point.P Cert.Swa.P
  show (if seen n a j then _ else _) = _
  split_ifs with hs
  · rw [prob_of _ _ _ _ _ hs, pt_lse]
    refine congrArg Real.exp (congrArg (· - _) ?_)
    rw [score, sum_mul]
    refine sum_congr rfl fun d _ => ?_
    rw [pt_q, pt_k X G K M kv n a j d hs]; ring
  · rw [prob_of_not _ _ _ _ _ hs]

theorem pt_dP (hs : seen n a j) : (pt X G K M n).dP kv g a j = dprob X G kv g n a j := by
  unfold Point.dP dprob
  exact sum_congr rfl fun d _ => by rw [pt_dout, pt_v X G K M kv n a j d hs]

/-- The inner product by way of the output is the inner product of the probabilities. -/
theorem pt_delta : (pt X G K M n).delta kv g a = W X G K M kv g n a := by
  unfold Point.delta W Cert.Swa.inner
  simp only [pt_dout, pt_out, O, mul_sum, dprob]
  rw [sum_comm]
  refine sum_congr rfl fun j _ => sum_congr rfl fun d _ => ?_
  unfold Cert.Swa.P
  ring

theorem pt_DS : (pt X G K M n).DS kv g a j = DS X G K M kv g n a j := by
  unfold Point.DS Cert.Swa.DS
  rw [pt_P, pt_delta]
  by_cases hs : seen n a j
  · rw [pt_dP X G K M kv g n a j hs]; rfl
  · rw [dscore_of_not _ _ _ _ _ _ hs]
    unfold Cert.Swa.P
    rw [prob_of_not _ _ _ _ _ hs, zero_mul]

theorem pt_DQ : (pt X G K M n).DQ kv g a d = DQ X G K M kv g n a d := by
  unfold Point.DQ Cert.Swa.DQ
  rw [sum_mul]
  refine sum_congr rfl fun j _ => ?_
  rw [pt_DS]
  by_cases hs : seen n a j
  · rw [pt_k X G K M kv n a j d hs]; ring
  · unfold Cert.Swa.DS
    rw [dscore_of_not _ _ _ _ _ _ hs]; ring

theorem pt_DK : (pt X G K M n).DK kv j d = DKb X G K M kv n j d := by
  unfold Point.DK DKb
  refine sum_congr rfl fun g _ => sum_congr rfl fun a _ => ?_
  rw [pt_q, pt_DS]; ring

theorem pt_DV : (pt X G K M n).DV kv j d = DVb X G K M kv n j d := by
  unfold Point.DV DVb
  refine sum_congr rfl fun g _ => sum_congr rfl fun a _ => ?_
  rw [pt_dout, pt_P]

theorem pt_lost : -∑ a, (pt X G K M n).lost kv g a
    = ∑ a, dsink (seen n a) (score X kv g n a) (dprob X G kv g n a) (M kv g n a) (K (head kv g)) := by
  rw [← sum_neg_distrib]
  refine sum_congr rfl fun a _ => ?_
  rw [dsink_eq]
  unfold Point.lost
  rw [pt_delta, pt_lse]
  rfl

end Cert.KernelIdeal.Swa

end
-- ==== Proof.Swa.WordsA.lean ====
/- What the words of the body name at the first point, in real numbers. -/
module

public import proofs.«01_k».proof.Proof.Swa.Point

@[expose] public section

set_option maxRecDepth 16384

noncomputable section

namespace Cert.KernelIdeal.Swa.WordsA

open Idealize.ShloMosaic Cert.KernelIdeal.Gen Cert.KernelIdeal.Swa Finset
open Cert.Swa (seen)

variable {c : Dev nD} {i : Pipeline.Grid.Coords grid0}
  {arg2 : Memref sig .tc .vmem S128x1024 .bf16} {harg2 : arg2.IsWhole} {arg3 : Memref sig .tc .vmem S128x128 .bf16} {harg3 : arg3.IsWhole}
  {arg4 : Memref sig .tc .vmem S128x128 .bf16} {harg4 : arg4.IsWhole} {arg5 : Memref sig .tc .vmem S128x128 .bf16} {harg5 : arg5.IsWhole}
  {arg6 : Memref sig .tc .vmem S128x128 .bf16} {harg6 : arg6.IsWhole} {arg7 : Memref sig .tc .vmem S128x1024 .bf16} {harg7 : arg7.IsWhole}
  {arg8 : Memref sig .tc .vmem S128x1024 .bf16} {harg8 : arg8.IsWhole} {arg9 : Memref sig .tc .vmem S128x1024 .f32} {harg9 : arg9.IsWhole}
  {arg10 : Memref sig .tc .smem S16 .f32} {harg10 : arg10.IsWhole}
  {x0 : Vec Ideal S128x1024 .bf16} {x1 x2 x3 x4 : Vec Ideal S128x128 .bf16} {x5 x6 : Vec Ideal S128x1024 .bf16}
  {x7 : Vec Ideal S128x1024 .f32} {x8 : Vec Ideal S16 .f32}
  {b : Point} (hi : (i 1).val = b.n.val) (hb : b.At x0 x1 x2 x3 x4 x5 x6 x7 x8)

theorem wlane (i : Fin 8) (l : Fin 128) : kernelRun0_A.sl.v40 (ix2 i l) = BitVec.ofNat 32 l.val := by
  pointwise [kernelRun0_A.sl.v40]

theorem wzero (i : Fin 8) (l : Fin 128) : (k0_pay13 (F := Ideal) (ix2 i l) : EReal) = ((0 : ℝ) : EReal) := by
  pointwise [k0_pay13]
  simp [Ideal.ofBits, Ideal.ieee]

include hi hb

/-- The mask at the point. -/
theorem wr : Bias (kernelRun0_A.sl.r (F := Ideal) i) (seen b.n) := by
  unfold kernelRun0_A.sl.r
  rw [hi]
  exact bias10 b.n

theorem w_3 : Band (kernelRun0_A.sl.r_3 (F := Ideal) c arg3 harg3 arg4 harg4 x1 x2) (b.k 0) := by
  unfold kernelRun0_A.sl.r_3
  exact fun j d => (band14 _ _ b.kf (fun r l => (congrFun (read_whole harg4 x2 _) _).trans (hb.kp r l)) (fun r l => (congrFun (read_whole harg3 x1 _) _).trans (hb.kc r l)) j d).trans (congrArg _ (b.k_zero j d).symm)

theorem w_4 : Band (kernelRun0_A.sl.r_4 (F := Ideal) c arg5 harg5 arg6 harg6 x3 x4) (b.v 0) := by
  unfold kernelRun0_A.sl.r_4
  exact fun j d => (band15 _ _ b.vf (fun r l => (congrFun (read_whole harg6 x4 _) _).trans (hb.vp r l)) (fun r l => (congrFun (read_whole harg5 x3 _) _).trans (hb.vc r l)) j d).trans (congrArg _ (b.v_zero j d).symm)

theorem w_38 : Band (kernelRun0_A.sl.r_38 (F := Ideal) c arg3 harg3 arg4 harg4 x1 x2) (b.k 1) := by
  unfold kernelRun0_A.sl.r_38
  exact fun j d => (band51 _ _ b.kf (fun r l => (congrFun (read_whole harg4 x2 _) _).trans (hb.kp r l)) (fun r l => (congrFun (read_whole harg3 x1 _) _).trans (hb.kc r l)) j d).trans (congrArg _ (b.k_one j d).symm)

theorem w_39 : Band (kernelRun0_A.sl.r_39 (F := Ideal) c arg5 harg5 arg6 harg6 x3 x4) (b.v 1) := by
  unfold kernelRun0_A.sl.r_39
  exact fun j d => (band52 _ _ b.vf (fun r l => (congrFun (read_whole harg6 x4 _) _).trans (hb.vp r l)) (fun r l => (congrFun (read_whole harg5 x3 _) _).trans (hb.vc r l)) j d).trans (congrArg _ (b.v_one j d).symm)

theorem w_9 : Rows (kernelRun0_A.sl.r_9 (F := Ideal) c arg2 harg2 x0) (fun g a d => b.q 0 g a d * (1 / 8)) := by
  unfold kernelRun0_A.sl.r_9
  exact rows16 (loads harg2 x0 0) (b.q 0) (fun g a d => (loads_apply harg2 x0 0 g a d).trans (hb.q _ _))

theorem w_10 : Rows (kernelRun0_A.sl.r_10 (F := Ideal) c arg7 harg7 x5) (b.dout 0) := by
  unfold kernelRun0_A.sl.r_10
  exact rows17 (loads harg7 x5 0) (b.dout 0) (fun g a d => (loads_apply harg7 x5 0 g a d).trans (hb.d _ _))

theorem w_40 : Rows (kernelRun0_A.sl.r_40 (F := Ideal) c arg2 harg2 x0) (fun g a d => b.q 1 g a d * (1 / 8)) := by
  unfold kernelRun0_A.sl.r_40
  exact rows53 (loads harg2 x0 1) (b.q 1) (fun g a d => (loads_apply harg2 x0 1 g a d).trans (hb.q _ _))

theorem w_49 : Rows (kernelRun0_A.sl.r_49 (F := Ideal) c arg7 harg7 x5) (b.dout 1) := by
  unfold kernelRun0_A.sl.r_49
  exact rows54 (loads harg7 x5 1) (b.dout 1) (fun g a d => (loads_apply harg7 x5 1 g a d).trans (hb.d _ _))

theorem w_51 : Rows (kernelRun0_A.sl.r_51 (F := Ideal) c arg7 harg7 x5) (b.dout 1) := by
  unfold kernelRun0_A.sl.r_51
  exact rows56 (loads harg7 x5 1) (b.dout 1) (fun g a d => (loads_apply harg7 x5 1 g a d).trans (hb.d _ _))

theorem w_16 : Nums (kernelRun0_A.sl.r_16 (F := Ideal) c arg9 harg9 x7) (b.lse 0) := by
  unfold kernelRun0_A.sl.r_16
  exact nums23 (loads1 harg9 x7 0) (b.lse 0) (fun g a => (loads1_apply harg9 x7 0 g a).trans (hb.l _ _))

theorem w_50 : Nums (kernelRun0_A.sl.r_50 (F := Ideal) c arg9 harg9 x7) (b.lse 1) := by
  unfold kernelRun0_A.sl.r_50
  exact nums55 (loads1 harg9 x7 1) (b.lse 1) (fun g a => (loads1_apply harg9 x7 1 g a).trans (hb.l _ _))

theorem w_17 : Nums (kernelRun0_A.sl.r_17 (F := Ideal) c arg7 harg7 arg8 harg8 x5 x6) (b.delta 0) := by
  unfold kernelRun0_A.sl.r_17
  exact nums24 (loads harg8 x6 0) (w_10 hi hb) (fun g a d => (loads_apply harg8 x6 0 g a d).trans (hb.o _ _))

theorem w_58 : Nums (kernelRun0_A.sl.r_58 (F := Ideal) c arg7 harg7 arg8 harg8 x5 x6) (b.delta 1) := by
  unfold kernelRun0_A.sl.r_58
  exact nums63 (loads harg8 x6 1) (w_51 hi hb) (fun g a d => (loads_apply harg8 x6 1 g a d).trans (hb.o _ _))

/-- The probabilities. -/
theorem w_18 : Over (kernelRun0_A.sl.r_18 (F := Ideal) c i arg2 harg2 arg3 harg3 arg4 harg4 arg9 harg9 x0 x1 x2 x7) (b.P 0) := by
  unfold kernelRun0_A.sl.r_18
  exact over25 _ _ _ _ _ _ _ _ (wr hi hb) (w_3 hi hb) (w_9 hi hb) (w_16 hi hb)

theorem w_59 : Over (kernelRun0_A.sl.r_59 (F := Ideal) c i arg2 harg2 arg3 harg3 arg4 harg4 arg9 harg9 x0 x1 x2 x7) (b.P 1) := by
  unfold kernelRun0_A.sl.r_59
  exact over64 (wr hi hb) (w_38 hi hb) (w_40 hi hb) (w_50 hi hb)

theorem w_19 : Over (kernelRun0_A.sl.r_19 (F := Ideal) c arg5 harg5 arg6 harg6 arg7 harg7 x3 x4 x5) (b.dP 0) := by
  unfold kernelRun0_A.sl.r_19
  exact over26 (w_4 hi hb) (w_10 hi hb)

/-- The scores' gradient. -/
theorem w_28 : Over (k0_pay28 (F := Ideal) (kernelRun0_A.sl.r_18 (F := Ideal) c i arg2 harg2 arg3 harg3 arg4 harg4 arg9 harg9 x0 x1 x2 x7) (kernelRun0_A.sl.r_19 (F := Ideal) c arg5 harg5 arg6 harg6 arg7 harg7 x3 x4 x5) (kernelRun0_A.sl.r_20 (F := Ideal) c arg7 harg7 arg8 harg8 x5 x6)) (b.DS 0) :=
  over28 _ _ _ _ _ _ _ _ (w_18 hi hb) (w_19 hi hb) (w_17 hi hb)

theorem w_60 : Over (kernelRun0_A.sl.r_60 (F := Ideal) c i arg2 harg2 arg3 harg3 arg4 harg4 arg5 harg5 arg6 harg6 arg7 harg7 arg8 harg8 arg9 harg9 x0 x1 x2 x3 x4 x5 x6 x7) (b.DS 1) := by
  unfold kernelRun0_A.sl.r_60
  exact over65 _ _ _ _ _ _ _ _ (w_59 hi hb) (w_39 hi hb) (w_49 hi hb) (w_58 hi hb)

/-- The queries' gradient. -/
theorem w_29 : Rows (k0_pay29 (F := Ideal) (kernelRun0_A.sl.r_3 (F := Ideal) c arg3 harg3 arg4 harg4 x1 x2) (kernelRun0_A.sl.r_18 (F := Ideal) c i arg2 harg2 arg3 harg3 arg4 harg4 arg9 harg9 x0 x1 x2 x7) (kernelRun0_A.sl.r_19 (F := Ideal) c arg5 harg5 arg6 harg6 arg7 harg7 x3 x4 x5) (kernelRun0_A.sl.r_20 (F := Ideal) c arg7 harg7 arg8 harg8 x5 x6)) (b.DQ 0) :=
  rows29 (w_3 hi hb) (w_28 hi hb)

theorem w_61 : Rows (kernelRun0_A.sl.r_61 (F := Ideal) c i arg2 harg2 arg3 harg3 arg4 harg4 arg5 harg5 arg6 harg6 arg7 harg7 arg8 harg8 arg9 harg9 x0 x1 x2 x3 x4 x5 x6 x7) (b.DQ 1) := by
  unfold kernelRun0_A.sl.r_61
  exact rows66 _ _ _ _ _ _ _ _ (w_38 hi hb) (w_60 hi hb)

/-- The keys' and the values' gradients. -/
theorem w_22 : Band (kernelRun0_A.sl.r_22 (F := Ideal) c i arg2 harg2 arg3 harg3 arg4 harg4 arg5 harg5 arg6 harg6 arg7 harg7 arg8 harg8 arg9 harg9 x0 x1 x2 x3 x4 x5 x6 x7) (b.DK 0) := by
  unfold kernelRun0_A.sl.r_22
  exact band38 (w_9 hi hb) (w_28 hi hb)

theorem w_71 : Band (kernelRun0_A.sl.r_71 (F := Ideal) c i arg2 harg2 arg3 harg3 arg4 harg4 arg5 harg5 arg6 harg6 arg7 harg7 arg8 harg8 arg9 harg9 x0 x1 x2 x3 x4 x5 x6 x7) (b.DK 1) := by
  unfold kernelRun0_A.sl.r_71
  exact band75 (w_40 hi hb) (w_60 hi hb)

theorem w_23 : Band (kernelRun0_A.sl.r_23 (F := Ideal) c i arg2 harg2 arg3 harg3 arg4 harg4 arg7 harg7 arg9 harg9 x0 x1 x2 x5 x7) (b.DV 0) := by
  unfold kernelRun0_A.sl.r_23
  exact band39 (w_10 hi hb) (w_18 hi hb)

theorem w_72 : Band (kernelRun0_A.sl.r_72 (F := Ideal) c i arg2 harg2 arg3 harg3 arg4 harg4 arg7 harg7 arg9 harg9 x0 x1 x2 x5 x7) (b.DV 1) := by
  unfold kernelRun0_A.sl.r_72
  exact band76 (w_49 hi hb) (w_59 hi hb)

/-- What the rows take from the sinks' gradients. -/
theorem w_32 : Nums (kernelRun0_A.sl.r_32 (F := Ideal) c arg7 harg7 arg8 harg8 arg9 harg9 arg10 harg10 x5 x6 x7 x8) (b.lost 0) := by
  unfold kernelRun0_A.sl.r_32
  exact nums41 (sinks harg10 x8 0) (b.sink 0) (fun g => (sinks_apply harg10 x8 0 g).trans (hb.s _)) (w_16 hi hb) (w_17 hi hb)

theorem w_73 : Nums (kernelRun0_A.sl.r_73 (F := Ideal) c arg7 harg7 arg8 harg8 arg9 harg9 arg10 harg10 x5 x6 x7 x8) (b.lost 1) := by
  unfold kernelRun0_A.sl.r_73
  exact nums77 (sinks harg10 x8 1) (b.sink 1) (fun g => (sinks_apply harg10 x8 1 g).trans (hb.s _)) (w_50 hi hb) (w_58 hi hb)

/-- The sinks' gradients of the point: a head a lane. -/
theorem w_77 (i' : Fin 8) (l : Fin 128) : ((kernelRun0_A.sl.r_77 (F := Ideal) c arg7 harg7 arg8 harg8 arg9 harg9 arg10 harg10 x5 x6 x7 x8) (ix2 i' l) : EReal)
    = ((if h : l.val < 16 then -∑ a, b.lost ⟨l.val / 8, by omega⟩ ⟨l.val % 8, by omega⟩ a else 0 : ℝ) : EReal) := by
  have h32 : Nums (kernelRun0_A.sl.r_32 (F := Ideal) c arg7 harg7 arg8 harg8 arg9 harg9 arg10 harg10 x5 x6 x7 x8) (b.lost 0) := w_32 hi hb
  have h73 : Nums (kernelRun0_A.sl.r_73 (F := Ideal) c arg7 harg7 arg8 harg8 arg9 harg9 arg10 harg10 x5 x6 x7 x8) (b.lost 1) := w_73 hi hb
  have e33 := fun i l => lanes42 wlane wzero i l h32
  have e34 := sum43 h32
  have e35 := fun i l => lanes44 wlane e33 i l h32 e34
  have e36 := fun i l => lanes45 wlane e35 i l h32
  have e75 := fun i l => lanes81 wlane e36 i l h73
  have e77 := lanes84 wlane e75 i' l h73
  refine e77.trans ?_
  rw [lanes16 (fun kv g => -∑ a, b.lost kv g a) l]

end Cert.KernelIdeal.Swa.WordsA

end
-- ==== Proof.Swa.WordsB.lean ====
/- What the words of the body name at a point past the first, in real numbers. -/
module

public import proofs.«01_k».proof.Proof.Swa.Point

@[expose] public section

set_option maxRecDepth 16384

noncomputable section

namespace Cert.KernelIdeal.Swa.WordsB

open Idealize.ShloMosaic Cert.KernelIdeal.Gen Cert.KernelIdeal.Swa Finset
open Cert.Swa (seen)

variable {c : Dev nD} {i : Pipeline.Grid.Coords grid0}
  {arg2 : Memref sig .tc .vmem S128x1024 .bf16} {harg2 : arg2.IsWhole} {arg3 : Memref sig .tc .vmem S128x128 .bf16} {harg3 : arg3.IsWhole}
  {arg4 : Memref sig .tc .vmem S128x128 .bf16} {harg4 : arg4.IsWhole} {arg5 : Memref sig .tc .vmem S128x128 .bf16} {harg5 : arg5.IsWhole}
  {arg6 : Memref sig .tc .vmem S128x128 .bf16} {harg6 : arg6.IsWhole} {arg7 : Memref sig .tc .vmem S128x1024 .bf16} {harg7 : arg7.IsWhole}
  {arg8 : Memref sig .tc .vmem S128x1024 .bf16} {harg8 : arg8.IsWhole} {arg9 : Memref sig .tc .vmem S128x1024 .f32} {harg9 : arg9.IsWhole}
  {arg10 : Memref sig .tc .smem S16 .f32} {harg10 : arg10.IsWhole}
  {x0 : Vec Ideal S128x1024 .bf16} {x1 x2 x3 x4 : Vec Ideal S128x128 .bf16} {x5 x6 : Vec Ideal S128x1024 .bf16}
  {x7 : Vec Ideal S128x1024 .f32} {x8 : Vec Ideal S16 .f32}
  {b : Point} (hi : (i 1).val = b.n.val) (hb : b.At x0 x1 x2 x3 x4 x5 x6 x7 x8)

theorem wlane (i : Fin 8) (l : Fin 128) : kernelRun0_B.sl.v40 (ix2 i l) = BitVec.ofNat 32 l.val := by
  pointwise [kernelRun0_B.sl.v40]

theorem wzero (i : Fin 8) (l : Fin 128) : (k0_pay13 (F := Ideal) (ix2 i l) : EReal) = ((0 : ℝ) : EReal) := by
  pointwise [k0_pay13]
  simp [Ideal.ofBits, Ideal.ieee]

include hi hb

/-- The mask at the point. -/
theorem wr : Bias (kernelRun0_B.sl.r (F := Ideal) i) (seen b.n) := by
  unfold kernelRun0_B.sl.r
  rw [hi]
  exact bias10 b.n

theorem w_3 : Band (kernelRun0_B.sl.r_3 (F := Ideal) c arg3 harg3 arg4 harg4 x1 x2) (b.k 0) := by
  unfold kernelRun0_B.sl.r_3
  exact fun j d => (band14 _ _ b.kf (fun r l => (congrFun (read_whole harg4 x2 _) _).trans (hb.kp r l)) (fun r l => (congrFun (read_whole harg3 x1 _) _).trans (hb.kc r l)) j d).trans (congrArg _ (b.k_zero j d).symm)

theorem w_4 : Band (kernelRun0_B.sl.r_4 (F := Ideal) c arg5 harg5 arg6 harg6 x3 x4) (b.v 0) := by
  unfold kernelRun0_B.sl.r_4
  exact fun j d => (band15 _ _ b.vf (fun r l => (congrFun (read_whole harg6 x4 _) _).trans (hb.vp r l)) (fun r l => (congrFun (read_whole harg5 x3 _) _).trans (hb.vc r l)) j d).trans (congrArg _ (b.v_zero j d).symm)

theorem w_38 : Band (kernelRun0_B.sl.r_38 (F := Ideal) c arg3 harg3 arg4 harg4 x1 x2) (b.k 1) := by
  unfold kernelRun0_B.sl.r_38
  exact fun j d => (band51 _ _ b.kf (fun r l => (congrFun (read_whole harg4 x2 _) _).trans (hb.kp r l)) (fun r l => (congrFun (read_whole harg3 x1 _) _).trans (hb.kc r l)) j d).trans (congrArg _ (b.k_one j d).symm)

theorem w_39 : Band (kernelRun0_B.sl.r_39 (F := Ideal) c arg5 harg5 arg6 harg6 x3 x4) (b.v 1) := by
  unfold kernelRun0_B.sl.r_39
  exact fun j d => (band52 _ _ b.vf (fun r l => (congrFun (read_whole harg6 x4 _) _).trans (hb.vp r l)) (fun r l => (congrFun (read_whole harg5 x3 _) _).trans (hb.vc r l)) j d).trans (congrArg _ (b.v_one j d).symm)

theorem w_9 : Rows (kernelRun0_B.sl.r_9 (F := Ideal) c arg2 harg2 x0) (fun g a d => b.q 0 g a d * (1 / 8)) := by
  unfold kernelRun0_B.sl.r_9
  exact rows16 (loads harg2 x0 0) (b.q 0) (fun g a d => (loads_apply harg2 x0 0 g a d).trans (hb.q _ _))

theorem w_10 : Rows (kernelRun0_B.sl.r_10 (F := Ideal) c arg7 harg7 x5) (b.dout 0) := by
  unfold kernelRun0_B.sl.r_10
  exact rows17 (loads harg7 x5 0) (b.dout 0) (fun g a d => (loads_apply harg7 x5 0 g a d).trans (hb.d _ _))

theorem w_40 : Rows (kernelRun0_B.sl.r_40 (F := Ideal) c arg2 harg2 x0) (fun g a d => b.q 1 g a d * (1 / 8)) := by
  unfold kernelRun0_B.sl.r_40
  exact rows53 (loads harg2 x0 1) (b.q 1) (fun g a d => (loads_apply harg2 x0 1 g a d).trans (hb.q _ _))

theorem w_49 : Rows (kernelRun0_B.sl.r_49 (F := Ideal) c arg7 harg7 x5) (b.dout 1) := by
  unfold kernelRun0_B.sl.r_49
  exact rows54 (loads harg7 x5 1) (b.dout 1) (fun g a d => (loads_apply harg7 x5 1 g a d).trans (hb.d _ _))

theorem w_51 : Rows (kernelRun0_B.sl.r_51 (F := Ideal) c arg7 harg7 x5) (b.dout 1) := by
  unfold kernelRun0_B.sl.r_51
  exact rows56 (loads harg7 x5 1) (b.dout 1) (fun g a d => (loads_apply harg7 x5 1 g a d).trans (hb.d _ _))

theorem w_16 : Nums (kernelRun0_B.sl.r_16 (F := Ideal) c arg9 harg9 x7) (b.lse 0) := by
  unfold kernelRun0_B.sl.r_16
  exact nums23 (loads1 harg9 x7 0) (b.lse 0) (fun g a => (loads1_apply harg9 x7 0 g a).trans (hb.l _ _))

theorem w_50 : Nums (kernelRun0_B.sl.r_50 (F := Ideal) c arg9 harg9 x7) (b.lse 1) := by
  unfold kernelRun0_B.sl.r_50
  exact nums55 (loads1 harg9 x7 1) (b.lse 1) (fun g a => (loads1_apply harg9 x7 1 g a).trans (hb.l _ _))

theorem w_17 : Nums (kernelRun0_B.sl.r_17 (F := Ideal) c arg7 harg7 arg8 harg8 x5 x6) (b.delta 0) := by
  unfold kernelRun0_B.sl.r_17
  exact nums24 (loads harg8 x6 0) (w_10 hi hb) (fun g a d => (loads_apply harg8 x6 0 g a d).trans (hb.o _ _))

theorem w_58 : Nums (kernelRun0_B.sl.r_58 (F := Ideal) c arg7 harg7 arg8 harg8 x5 x6) (b.delta 1) := by
  unfold kernelRun0_B.sl.r_58
  exact nums63 (loads harg8 x6 1) (w_51 hi hb) (fun g a d => (loads_apply harg8 x6 1 g a d).trans (hb.o _ _))

/-- The probabilities. -/
theorem w_18 : Over (kernelRun0_B.sl.r_18 (F := Ideal) c i arg2 harg2 arg3 harg3 arg4 harg4 arg9 harg9 x0 x1 x2 x7) (b.P 0) := by
  unfold kernelRun0_B.sl.r_18
  exact over25 _ _ _ _ _ _ _ _ (wr hi hb) (w_3 hi hb) (w_9 hi hb) (w_16 hi hb)

theorem w_59 : Over (kernelRun0_B.sl.r_59 (F := Ideal) c i arg2 harg2 arg3 harg3 arg4 harg4 arg9 harg9 x0 x1 x2 x7) (b.P 1) := by
  unfold kernelRun0_B.sl.r_59
  exact over64 (wr hi hb) (w_38 hi hb) (w_40 hi hb) (w_50 hi hb)

theorem w_19 : Over (kernelRun0_B.sl.r_19 (F := Ideal) c arg5 harg5 arg6 harg6 arg7 harg7 x3 x4 x5) (b.dP 0) := by
  unfold kernelRun0_B.sl.r_19
  exact over26 (w_4 hi hb) (w_10 hi hb)

/-- The scores' gradient. -/
theorem w_28 : Over (k0_pay28 (F := Ideal) (kernelRun0_B.sl.r_18 (F := Ideal) c i arg2 harg2 arg3 harg3 arg4 harg4 arg9 harg9 x0 x1 x2 x7) (kernelRun0_B.sl.r_19 (F := Ideal) c arg5 harg5 arg6 harg6 arg7 harg7 x3 x4 x5) (kernelRun0_B.sl.r_20 (F := Ideal) c arg7 harg7 arg8 harg8 x5 x6)) (b.DS 0) :=
  over28 _ _ _ _ _ _ _ _ (w_18 hi hb) (w_19 hi hb) (w_17 hi hb)

theorem w_60 : Over (kernelRun0_B.sl.r_60 (F := Ideal) c i arg2 harg2 arg3 harg3 arg4 harg4 arg5 harg5 arg6 harg6 arg7 harg7 arg8 harg8 arg9 harg9 x0 x1 x2 x3 x4 x5 x6 x7) (b.DS 1) := by
  unfold kernelRun0_B.sl.r_60
  exact over65 _ _ _ _ _ _ _ _ (w_59 hi hb) (w_39 hi hb) (w_49 hi hb) (w_58 hi hb)

/-- The queries' gradient. -/
theorem w_29 : Rows (k0_pay29 (F := Ideal) (kernelRun0_B.sl.r_3 (F := Ideal) c arg3 harg3 arg4 harg4 x1 x2) (kernelRun0_B.sl.r_18 (F := Ideal) c i arg2 harg2 arg3 harg3 arg4 harg4 arg9 harg9 x0 x1 x2 x7) (kernelRun0_B.sl.r_19 (F := Ideal) c arg5 harg5 arg6 harg6 arg7 harg7 x3 x4 x5) (kernelRun0_B.sl.r_20 (F := Ideal) c arg7 harg7 arg8 harg8 x5 x6)) (b.DQ 0) :=
  rows29 (w_3 hi hb) (w_28 hi hb)

theorem w_61 : Rows (kernelRun0_B.sl.r_61 (F := Ideal) c i arg2 harg2 arg3 harg3 arg4 harg4 arg5 harg5 arg6 harg6 arg7 harg7 arg8 harg8 arg9 harg9 x0 x1 x2 x3 x4 x5 x6 x7) (b.DQ 1) := by
  unfold kernelRun0_B.sl.r_61
  exact rows66 _ _ _ _ _ _ _ _ (w_38 hi hb) (w_60 hi hb)

/-- The keys' and the values' gradients. -/
theorem w_22 : Band (kernelRun0_B.sl.r_22 (F := Ideal) c i arg2 harg2 arg3 harg3 arg4 harg4 arg5 harg5 arg6 harg6 arg7 harg7 arg8 harg8 arg9 harg9 x0 x1 x2 x3 x4 x5 x6 x7) (b.DK 0) := by
  unfold kernelRun0_B.sl.r_22
  exact band38 (w_9 hi hb) (w_28 hi hb)

theorem w_71 : Band (kernelRun0_B.sl.r_71 (F := Ideal) c i arg2 harg2 arg3 harg3 arg4 harg4 arg5 harg5 arg6 harg6 arg7 harg7 arg8 harg8 arg9 harg9 x0 x1 x2 x3 x4 x5 x6 x7) (b.DK 1) := by
  unfold kernelRun0_B.sl.r_71
  exact band75 (w_40 hi hb) (w_60 hi hb)

theorem w_23 : Band (kernelRun0_B.sl.r_23 (F := Ideal) c i arg2 harg2 arg3 harg3 arg4 harg4 arg7 harg7 arg9 harg9 x0 x1 x2 x5 x7) (b.DV 0) := by
  unfold kernelRun0_B.sl.r_23
  exact band39 (w_10 hi hb) (w_18 hi hb)

theorem w_72 : Band (kernelRun0_B.sl.r_72 (F := Ideal) c i arg2 harg2 arg3 harg3 arg4 harg4 arg7 harg7 arg9 harg9 x0 x1 x2 x5 x7) (b.DV 1) := by
  unfold kernelRun0_B.sl.r_72
  exact band76 (w_49 hi hb) (w_59 hi hb)

/-- What the rows take from the sinks' gradients. -/
theorem w_32 : Nums (kernelRun0_B.sl.r_32 (F := Ideal) c arg7 harg7 arg8 harg8 arg9 harg9 arg10 harg10 x5 x6 x7 x8) (b.lost 0) := by
  unfold kernelRun0_B.sl.r_32
  exact nums41 (sinks harg10 x8 0) (b.sink 0) (fun g => (sinks_apply harg10 x8 0 g).trans (hb.s _)) (w_16 hi hb) (w_17 hi hb)

theorem w_73 : Nums (kernelRun0_B.sl.r_73 (F := Ideal) c arg7 harg7 arg8 harg8 arg9 harg9 arg10 harg10 x5 x6 x7 x8) (b.lost 1) := by
  unfold kernelRun0_B.sl.r_73
  exact nums77 (sinks harg10 x8 1) (b.sink 1) (fun g => (sinks_apply harg10 x8 1 g).trans (hb.s _)) (w_50 hi hb) (w_58 hi hb)

/-- The sinks' gradients of the point: a head a lane. -/
theorem w_77 (i' : Fin 8) (l : Fin 128) : ((kernelRun0_B.sl.r_77 (F := Ideal) c arg7 harg7 arg8 harg8 arg9 harg9 arg10 harg10 x5 x6 x7 x8) (ix2 i' l) : EReal)
    = ((if h : l.val < 16 then -∑ a, b.lost ⟨l.val / 8, by omega⟩ ⟨l.val % 8, by omega⟩ a else 0 : ℝ) : EReal) := by
  have h32 : Nums (kernelRun0_B.sl.r_32 (F := Ideal) c arg7 harg7 arg8 harg8 arg9 harg9 arg10 harg10 x5 x6 x7 x8) (b.lost 0) := w_32 hi hb
  have h73 : Nums (kernelRun0_B.sl.r_73 (F := Ideal) c arg7 harg7 arg8 harg8 arg9 harg9 arg10 harg10 x5 x6 x7 x8) (b.lost 1) := w_73 hi hb
  have e33 := fun i l => lanes42 wlane wzero i l h32
  have e34 := sum43 h32
  have e35 := fun i l => lanes44 wlane e33 i l h32 e34
  have e36 := fun i l => lanes45 wlane e35 i l h32
  have e75 := fun i l => lanes81 wlane e36 i l h73
  have e77 := lanes84 wlane e75 i' l h73
  refine e77.trans ?_
  rw [lanes16 (fun kv g => -∑ a, b.lost kv g a) l]

end Cert.KernelIdeal.Swa.WordsB

end
-- ==== Proof.Swa.Step.lean ====
/- What a point of the grid leaves, in real numbers: the outputs and what is carried, entry by entry. -/
module

public import proofs.«01_k».proof.Proof.Swa.WordsA
public import proofs.«01_k».proof.Proof.Swa.WordsB

@[expose] public section

set_option maxRecDepth 16384

noncomputable section

namespace Cert.KernelIdeal.Swa

open Idealize.ShloMosaic Cert.KernelIdeal.Gen Finset
open Cert.Swa (seen qlane klane head)

/-- The queries' gradient of a point, at an entry of its block. -/
def Point.dq (b : Point) (y : S128x1024.Idx) : EReal :=
  ((b.DQ ⟨(y 1).val / 512, by have := (y 1).isLt; simp [S128x1024] at this; omega⟩ ⟨(y 1).val / 64 % 8, by omega⟩
    (y 0) ⟨(y 1).val % 64, by omega⟩ : ℝ) : EReal)

theorem Point.dq_at (b : Point) (kv : Fin 2) (g : Fin 8) (a : Fin 128) (d : Fin 64) :
    b.dq (ix2 a (qlane kv g d)) = ((b.DQ kv g a d : ℝ) : EReal) := by
  have e1 : (qlane kv g d).val / 512 = kv.val := by simp only [qlane]; omega
  have e2 : (qlane kv g d).val / 64 % 8 = g.val := by simp only [qlane]; omega
  have e3 : (qlane kv g d).val % 64 = d.val := by simp only [qlane]; omega
  unfold Point.dq
  exact congrArg _ (by
    show b.DQ ⟨(qlane kv g d).val / 512, _⟩ ⟨(qlane kv g d).val / 64 % 8, _⟩ a ⟨(qlane kv g d).val % 64, _⟩ = _
    rw [show (⟨(qlane kv g d).val / 512, by omega⟩ : Fin 2) = kv from Fin.ext e1,
      show (⟨(qlane kv g d).val / 64 % 8, by omega⟩ : Fin 8) = g from Fin.ext e2, show (⟨(qlane kv g d).val % 64, by omega⟩ : Fin 64) = d from Fin.ext e3])

/-- A store of a query head's lanes holds the queries' gradient there. -/
theorem Point.dq_piece (b : Point) (kv : Fin 2) (g : Fin 8) {w : S128x64.Idx → EReal} {o : ℕ} {inb} (ho : o = 512 * kv.val + 64 * g.val)
    (hw : ∀ a d, w (ix2 a d) = ((b.DQ kv g a d : ℝ) : EReal)) (x : S128x64.Idx) :
    w x = b.dq ((Rect.unit (s := S128x1024) ![0, o] ![128, 64] inb).emb x) := by
  obtain ⟨a, d, rfl⟩ : ∃ (a : Fin 128) (d : Fin 64), x = ix2 a d := ⟨x 0, x 1, by funext i; fin_cases i <;> rfl⟩
  have e : (Rect.unit (s := S128x1024) ![0, o] ![128, 64] inb).emb (ix2 a d : S128x64.Idx) = ix2 a (qlane kv g d) := by
    funext i
    refine Fin.ext ?_
    rw [Rect.emb_apply]
    fin_cases i
    · show 0 + 1 * a.val = a.val; omega
    · show o + 1 * d.val = (qlane kv g d).val
      simp only [qlane, ho]; omega
  rw [e, Point.dq_at]
  exact hw _ _

section halves
variable {Val : EltTy → Type} [∀ e, Nonempty (Val e)] {e : EltTy} {inb1 inb0} (w1 w0 : S128x64.Idx → Val e)
  (L : List (View.Piece Val S128x128 e)) (r : Fin 128) (d : Fin 64)

/-- Two stores side by side read back: the later one's half. -/
theorem half1 : View.canon ((⟨Rect.unit ![0, 64] ![128, 64] inb1, w1⟩ : View.Piece Val S128x128 e) :: ⟨Rect.unit ![0, 0] ![128, 64] inb0, w0⟩ :: L) (ix2 r (klane 1 d))
    = w1 (ix2 r d) := by
  have he : (ix2 r (klane 1 d) : S128x128.Idx) = (Rect.unit (s := S128x128) ![0, 64] ![128, 64] inb1).emb (ix2 r d : S128x64.Idx) := by
    funext i
    refine Fin.ext ?_
    rw [Rect.emb_apply]
    fin_cases i
    · show r.val = 0 + 1 * r.val; omega
    · show (klane 1 d).val = 64 + 1 * d.val
      simp [klane]
  rw [he]
  exact View.canon_cons_emb (Rect.unit (s := S128x128) ![0, 64] ![128, 64] inb1) w1 _ _

/-- The earlier one's half. -/
theorem half0 : View.canon ((⟨Rect.unit ![0, 64] ![128, 64] inb1, w1⟩ : View.Piece Val S128x128 e) :: ⟨Rect.unit ![0, 0] ![128, 64] inb0, w0⟩ :: L) (ix2 r (klane 0 d))
    = w0 (ix2 r d) := by
  have he : (ix2 r (klane 0 d) : S128x128.Idx) = (Rect.unit (s := S128x128) ![0, 0] ![128, 64] inb0).emb (ix2 r d : S128x64.Idx) := by
    funext i
    refine Fin.ext ?_
    rw [Rect.emb_apply]
    fin_cases i
    · show r.val = 0 + 1 * r.val; omega
    · show (klane 0 d).val = 0 + 1 * d.val
      simp [klane]
  rw [View.canon_cons_of_not_mem]
  · rw [he]
    exact View.canon_cons_emb (Rect.unit (s := S128x128) ![0, 0] ![128, 64] inb0) w0 _ _
  · intro hm
    obtain ⟨x, hx⟩ := (Rect.unit (s := S128x128) ![0, 64] ![128, 64] inb1).exists_idx_of_mem hm
    have h1 := congrArg (fun y : S128x128.Idx => (y 1).val) hx
    simp only [] at h1
    have h2 : 64 + 1 * (x 1).val = (klane 0 d).val := h1
    simp [klane] at h2
    omega

/-- One store of the whole reads back. -/
theorem whole1 {S : Shape} {off : Fin S.rank → ℕ} {inb} (w : S.Idx → Val e) (L : List (View.Piece Val S e)) (h : ∀ a, off a = 0) (y : S.Idx) :
    View.canon ((⟨Rect.unit off S.size inb, w⟩ : View.Piece Val S e) :: L) y = w y :=
  congrFun (View.canon_cons_unit_lit inb w L h) y
end halves

theorem zero_lit : Ideal.ofBits .f32 0#32 = ((0 : ℝ) : EReal) := by simp [Ideal.ofBits, Ideal.ieee]

theorem add9 (v o : FVec Ideal S8x128 .f32) (i : Fin 8) (l : Fin 128) : (k0_pay9 (F := Ideal) v o (ix2 i l) : EReal) = o (ix2 i l) + v (ix2 i l) := by
  pointwise [k0_pay9]

theorem zero3 (i : Fin 8) (l : Fin 128) : (k0_pay3 (F := Ideal) (ix2 i l) : EReal) = ((0 : ℝ) : EReal) := by
  pointwise [k0_pay3]
  exact EReal.coe_zero.symm

theorem cast4 (v : Vec Ideal S128x128 .f32) (r l : Fin 128) : (k0_pay4 (F := Ideal) v (ix2 r l) : EReal) = v (ix2 r l) := by
  pointwise [k0_pay4]
theorem cast5 (v : Vec Ideal S128x128 .f32) (r l : Fin 128) : (k0_pay5 (F := Ideal) v (ix2 r l) : EReal) = v (ix2 r l) := by
  pointwise [k0_pay5]

variable (m : (ℓ : Loc nD τ sig) → Buf (Elt Ideal) ℓ) (c : Dev nD) (t : Fin cfg0.N) {b : Point}

/-- The point's blocks hold the numbers of `b`. -/
structure Holds (b : Point) : Prop where
  n : ((grid0.coords t) 1).val = b.n.val
  at' : b.At (X0_0 m c t) (iblk m c 1 t) (iblk m c 2 t) (iblk m c 3 t) (iblk m c 4 t) (iblk m c 5 t) (iblk m c 6 t) (iblk m c 7 t) (iblk m c 8 t)

theorem stB_dq_pieces (h0 : t.val ≠ 0) (h : t.val < 32) (p : State Ideal) (hb : Holds m c t b) : ∀ q ∈ (runB m c t h0 h p).1, ∀ x, q.2 x = b.dq (q.1.emb x) := by
  refine List.forall_mem_cons.2 ⟨fun x => b.dq_piece 1 7 (inb := inb_S128x1024_S128x64_0_960) (by rfl) (out74 (WordsB.w_61 hb.n hb.at')) x, ?_⟩
  refine List.forall_mem_cons.2 ⟨fun x => b.dq_piece 1 6 (inb := inb_S128x1024_S128x64_0_896) (by rfl) (out73 (WordsB.w_61 hb.n hb.at')) x, ?_⟩
  refine List.forall_mem_cons.2 ⟨fun x => b.dq_piece 1 5 (inb := inb_S128x1024_S128x64_0_832) (by rfl) (out72 (WordsB.w_61 hb.n hb.at')) x, ?_⟩
  refine List.forall_mem_cons.2 ⟨fun x => b.dq_piece 1 4 (inb := inb_S128x1024_S128x64_0_768) (by rfl) (out71 (WordsB.w_61 hb.n hb.at')) x, ?_⟩
  refine List.forall_mem_cons.2 ⟨fun x => b.dq_piece 1 3 (inb := inb_S128x1024_S128x64_0_704) (by rfl) (out70 (WordsB.w_61 hb.n hb.at')) x, ?_⟩
  refine List.forall_mem_cons.2 ⟨fun x => b.dq_piece 1 2 (inb := inb_S128x1024_S128x64_0_640) (by rfl) (out69 (WordsB.w_61 hb.n hb.at')) x, ?_⟩
  refine List.forall_mem_cons.2 ⟨fun x => b.dq_piece 1 1 (inb := inb_S128x1024_S128x64_0_576) (by rfl) (out68 (WordsB.w_61 hb.n hb.at')) x, ?_⟩
  refine List.forall_mem_cons.2 ⟨fun x => b.dq_piece 1 0 (inb := inb_S128x1024_S128x64_0_512) (by rfl) (out67 (WordsB.w_61 hb.n hb.at')) x, ?_⟩
  refine List.forall_mem_cons.2 ⟨fun x => b.dq_piece 0 7 (inb := inb_S128x1024_S128x64_0_448) (by rfl) (out37 (WordsB.w_29 hb.n hb.at')) x, ?_⟩
  refine List.forall_mem_cons.2 ⟨fun x => b.dq_piece 0 6 (inb := inb_S128x1024_S128x64_0_384) (by rfl) (out36 (WordsB.w_29 hb.n hb.at')) x, ?_⟩
  refine List.forall_mem_cons.2 ⟨fun x => b.dq_piece 0 5 (inb := inb_S128x1024_S128x64_0_320) (by rfl) (out35 (WordsB.w_29 hb.n hb.at')) x, ?_⟩
  refine List.forall_mem_cons.2 ⟨fun x => b.dq_piece 0 4 (inb := inb_S128x1024_S128x64_0_256) (by rfl) (out34 (WordsB.w_29 hb.n hb.at')) x, ?_⟩
  refine List.forall_mem_cons.2 ⟨fun x => b.dq_piece 0 3 (inb := inb_S128x1024_S128x64_0_192) (by rfl) (out33 (WordsB.w_29 hb.n hb.at')) x, ?_⟩
  refine List.forall_mem_cons.2 ⟨fun x => b.dq_piece 0 2 (inb := inb_S128x1024_S128x64_0_128) (by rfl) (out32 (WordsB.w_29 hb.n hb.at')) x, ?_⟩
  refine List.forall_mem_cons.2 ⟨fun x => b.dq_piece 0 1 (inb := inb_S128x1024_S128x64_0_64) (by rfl) (out31 (WordsB.w_29 hb.n hb.at')) x, ?_⟩
  refine List.forall_mem_cons.2 ⟨fun x => b.dq_piece 0 0 (inb := inb_S128x1024_S128x64_0_0) (by rfl) (out30 (WordsB.w_29 hb.n hb.at')) x, ?_⟩
  exact fun _ h => absurd h List.not_mem_nil

theorem stB_dq (h0 : t.val ≠ 0) (h : t.val < 32) (p : State Ideal) (hb : Holds m c t b) (kv : Fin 2) (g : Fin 8) (a : Fin 128) (d : Fin 64) :
    ((stB m c t h0 h p).1 (ix2 a (qlane kv g d)) : EReal) = ((b.DQ kv g a d : ℝ) : EReal) := by
  unfold stB
  dsimp only
  rw [View.read_writes_eq_canon _ _ _ (coverB9 m c t h0 h p), ← b.dq_at kv g a d]
  exact View.canon_apply_of_pieces b.dq _ (stB_dq_pieces m c t h0 h p hb) _ (coverB9 m c t h0 h p _)

theorem stB_ck (h0 : t.val ≠ 0) (h : t.val < 32) (p : State Ideal) (hb : Holds m c t b) (kv : Fin 2) (r : Fin 128) (d : Fin 64) :
    ((stB m c t h0 h p).2.2.2.2.1 (ix2 r (klane kv d)) : EReal) = ((b.DK kv ⟨128 + r.val, by omega⟩ d : ℝ) : EReal) := by
  unfold stB
  dsimp only
  rw [View.read_writes_eq_canon _ _ _ (coverBS0 m c t h0 h p)]
  fin_cases kv
  · exact (half0 _ _ _ r d).trans (out48 (WordsB.w_22 hb.n hb.at') r d)
  · exact (half1 _ _ _ r d).trans (out7 (WordsB.w_71 hb.n hb.at') r d)

theorem stB_cv (h0 : t.val ≠ 0) (h : t.val < 32) (p : State Ideal) (hb : Holds m c t b) (kv : Fin 2) (r : Fin 128) (d : Fin 64) :
    ((stB m c t h0 h p).2.2.2.2.2 (ix2 r (klane kv d)) : EReal) = ((b.DV kv ⟨128 + r.val, by omega⟩ d : ℝ) : EReal) := by
  unfold stB
  dsimp only
  rw [View.read_writes_eq_canon _ _ _ (coverBS1 m c t h0 h p)]
  fin_cases kv
  · exact (half0 _ _ _ r d).trans (out50 (WordsB.w_23 hb.n hb.at') r d)
  · exact (half1 _ _ _ r d).trans (out8 (WordsB.w_72 hb.n hb.at') r d)

theorem stB_dk (h0 : t.val ≠ 0) (h : t.val < 32) (p : State Ideal) (hb : Holds m c t b) (kv : Fin 2) (r : Fin 128) (d : Fin 64) :
    ((stB m c t h0 h p).2.1 (ix2 r (klane kv d)) : EReal) = p.2.2.2.2.1 (ix2 r (klane kv d)) + ((b.DK kv ⟨r.val, by omega⟩ d : ℝ) : EReal) := by
  unfold stB
  dsimp only
  rw [View.read_writes_eq_canon _ _ _ (coverB10 m c t h0 h p)]
  fin_cases kv
  · refine (half0 _ _ _ r d).trans ((out46 (WordsB.w_22 hb.n hb.at') _ r d).trans (congrArg (· + _) ?_))
    exact read_half (arg := scM0_0) (Memref.isWhole_whole _) p.2.2.2.2.1 0 _ r d _ (by simp [klane])
  · refine (half1 _ _ _ r d).trans ((out85 (WordsB.w_71 hb.n hb.at') _ r d).trans (congrArg (· + _) ?_))
    exact read_half (arg := scM0_0) (Memref.isWhole_whole _) p.2.2.2.2.1 64 _ r d _ (by simp [klane])

theorem stB_dv (h0 : t.val ≠ 0) (h : t.val < 32) (p : State Ideal) (hb : Holds m c t b) (kv : Fin 2) (r : Fin 128) (d : Fin 64) :
    ((stB m c t h0 h p).2.2.1 (ix2 r (klane kv d)) : EReal) = p.2.2.2.2.2 (ix2 r (klane kv d)) + ((b.DV kv ⟨r.val, by omega⟩ d : ℝ) : EReal) := by
  unfold stB
  dsimp only
  rw [View.read_writes_eq_canon _ _ _ (coverB11 m c t h0 h p)]
  fin_cases kv
  · refine (half0 _ _ _ r d).trans ((out47 (WordsB.w_23 hb.n hb.at') _ r d).trans (congrArg (· + _) ?_))
    exact read_half (arg := scM0_1) (Memref.isWhole_whole _) p.2.2.2.2.2 0 _ r d _ (by simp [klane])
  · refine (half1 _ _ _ r d).trans ((out6 (WordsB.w_72 hb.n hb.at') _ r d).trans (congrArg (· + _) ?_))
    exact read_half (arg := scM0_1) (Memref.isWhole_whole _) p.2.2.2.2.2 64 _ r d _ (by simp [klane])

theorem stB_dsk (h0 : t.val ≠ 0) (h : t.val < 32) (p : State Ideal) (hb : Holds m c t b) (i : Fin 8) (l : Fin 128) :
    ((stB m c t h0 h p).2.2.2.1 (ix2 i l) : EReal) = p.2.2.2.1 (ix2 i l)
      + ((if h : l.val < 16 then -∑ a, b.lost ⟨l.val / 8, by omega⟩ ⟨l.val % 8, by omega⟩ a else 0 : ℝ) : EReal) := by
  unfold stB
  dsimp only
  rw [View.read_writes_eq_canon _ _ _ (coverB12 m c t h0 h p)]
  refine (whole1 _ _ (by decide) _).trans ((add9 _ _ i l).trans ?_)
  rw [WordsB.w_77 hb.n hb.at' i l]
  exact congrArg (· + _) (congrFun (read_sinks (hs0_12 t) p.2.2.2.1 _) _)

theorem stA_dq_pieces (h : t.val = 0) (hb : Holds m c t b) : ∀ q ∈ (runA m c t h).1, ∀ x, q.2 x = b.dq (q.1.emb x) := by
  refine List.forall_mem_cons.2 ⟨fun x => b.dq_piece 1 7 (inb := inb_S128x1024_S128x64_0_960) (by rfl) (out74 (WordsA.w_61 hb.n hb.at')) x, ?_⟩
  refine List.forall_mem_cons.2 ⟨fun x => b.dq_piece 1 6 (inb := inb_S128x1024_S128x64_0_896) (by rfl) (out73 (WordsA.w_61 hb.n hb.at')) x, ?_⟩
  refine List.forall_mem_cons.2 ⟨fun x => b.dq_piece 1 5 (inb := inb_S128x1024_S128x64_0_832) (by rfl) (out72 (WordsA.w_61 hb.n hb.at')) x, ?_⟩
  refine List.forall_mem_cons.2 ⟨fun x => b.dq_piece 1 4 (inb := inb_S128x1024_S128x64_0_768) (by rfl) (out71 (WordsA.w_61 hb.n hb.at')) x, ?_⟩
  refine List.forall_mem_cons.2 ⟨fun x => b.dq_piece 1 3 (inb := inb_S128x1024_S128x64_0_704) (by rfl) (out70 (WordsA.w_61 hb.n hb.at')) x, ?_⟩
  refine List.forall_mem_cons.2 ⟨fun x => b.dq_piece 1 2 (inb := inb_S128x1024_S128x64_0_640) (by rfl) (out69 (WordsA.w_61 hb.n hb.at')) x, ?_⟩
  refine List.forall_mem_cons.2 ⟨fun x => b.dq_piece 1 1 (inb := inb_S128x1024_S128x64_0_576) (by rfl) (out68 (WordsA.w_61 hb.n hb.at')) x, ?_⟩
  refine List.forall_mem_cons.2 ⟨fun x => b.dq_piece 1 0 (inb := inb_S128x1024_S128x64_0_512) (by rfl) (out67 (WordsA.w_61 hb.n hb.at')) x, ?_⟩
  refine List.forall_mem_cons.2 ⟨fun x => b.dq_piece 0 7 (inb := inb_S128x1024_S128x64_0_448) (by rfl) (out37 (WordsA.w_29 hb.n hb.at')) x, ?_⟩
  refine List.forall_mem_cons.2 ⟨fun x => b.dq_piece 0 6 (inb := inb_S128x1024_S128x64_0_384) (by rfl) (out36 (WordsA.w_29 hb.n hb.at')) x, ?_⟩
  refine List.forall_mem_cons.2 ⟨fun x => b.dq_piece 0 5 (inb := inb_S128x1024_S128x64_0_320) (by rfl) (out35 (WordsA.w_29 hb.n hb.at')) x, ?_⟩
  refine List.forall_mem_cons.2 ⟨fun x => b.dq_piece 0 4 (inb := inb_S128x1024_S128x64_0_256) (by rfl) (out34 (WordsA.w_29 hb.n hb.at')) x, ?_⟩
  refine List.forall_mem_cons.2 ⟨fun x => b.dq_piece 0 3 (inb := inb_S128x1024_S128x64_0_192) (by rfl) (out33 (WordsA.w_29 hb.n hb.at')) x, ?_⟩
  refine List.forall_mem_cons.2 ⟨fun x => b.dq_piece 0 2 (inb := inb_S128x1024_S128x64_0_128) (by rfl) (out32 (WordsA.w_29 hb.n hb.at')) x, ?_⟩
  refine List.forall_mem_cons.2 ⟨fun x => b.dq_piece 0 1 (inb := inb_S128x1024_S128x64_0_64) (by rfl) (out31 (WordsA.w_29 hb.n hb.at')) x, ?_⟩
  refine List.forall_mem_cons.2 ⟨fun x => b.dq_piece 0 0 (inb := inb_S128x1024_S128x64_0_0) (by rfl) (out30 (WordsA.w_29 hb.n hb.at')) x, ?_⟩
  exact fun _ h => absurd h List.not_mem_nil

theorem stA_dq (h : t.val = 0) (hb : Holds m c t b) (kv : Fin 2) (g : Fin 8) (a : Fin 128) (d : Fin 64) :
    ((stA m c t h).1 (ix2 a (qlane kv g d)) : EReal) = ((b.DQ kv g a d : ℝ) : EReal) := by
  unfold stA
  dsimp only
  rw [View.read_writes_eq_canon _ _ _ (coverA9 m c t h), ← b.dq_at kv g a d]
  exact View.canon_apply_of_pieces b.dq _ (stA_dq_pieces m c t h hb) _ (coverA9 m c t h _)

theorem stA_ck (h : t.val = 0) (hb : Holds m c t b) (kv : Fin 2) (r : Fin 128) (d : Fin 64) :
    ((stA m c t h).2.2.2.2.1 (ix2 r (klane kv d)) : EReal) = ((b.DK kv ⟨128 + r.val, by omega⟩ d : ℝ) : EReal) := by
  unfold stA
  dsimp only
  rw [View.read_writes_eq_canon _ _ _ (coverAS0 m c t h)]
  fin_cases kv
  · exact (half0 _ _ _ r d).trans (out48 (WordsA.w_22 hb.n hb.at') r d)
  · exact (half1 _ _ _ r d).trans (out7 (WordsA.w_71 hb.n hb.at') r d)

theorem stA_cv (h : t.val = 0) (hb : Holds m c t b) (kv : Fin 2) (r : Fin 128) (d : Fin 64) :
    ((stA m c t h).2.2.2.2.2 (ix2 r (klane kv d)) : EReal) = ((b.DV kv ⟨128 + r.val, by omega⟩ d : ℝ) : EReal) := by
  unfold stA
  dsimp only
  rw [View.read_writes_eq_canon _ _ _ (coverAS1 m c t h)]
  fin_cases kv
  · exact (half0 _ _ _ r d).trans (out50 (WordsA.w_23 hb.n hb.at') r d)
  · exact (half1 _ _ _ r d).trans (out8 (WordsA.w_72 hb.n hb.at') r d)

theorem stA_dsk (h : t.val = 0) (hb : Holds m c t b) (i : Fin 8) (l : Fin 128) :
    ((stA m c t h).2.2.2.1 (ix2 i l) : EReal) = ((0 : ℝ) : EReal)
      + ((if h : l.val < 16 then -∑ a, b.lost ⟨l.val / 8, by omega⟩ ⟨l.val % 8, by omega⟩ a else 0 : ℝ) : EReal) := by
  unfold stA
  dsimp only
  rw [View.read_writes_eq_canon _ _ _ (coverA12 m c t h)]
  refine (whole1 _ _ (by decide) _).trans ((add9 _ _ i l).trans ?_)
  rw [WordsA.w_77 hb.n hb.at' i l]
  refine congrArg (· + _) (Eq.trans (congrFun ?_ _) (zero3 i l))
  exact View.readCov_unit_lit (Val := Elt Ideal) (ms0_12 t).view inb_S8x128_S8x128_0_0 (k0_pay3 (F := Ideal)) (by decide)

theorem stC_dk (h : t.val = 32) (p : State Ideal) (r l : Fin 128) :
    ((stC m c t h p).2.1 (ix2 r l) : EReal) = p.2.2.2.2.1 (ix2 r l) := by
  unfold stC
  dsimp only
  rw [View.read_writes_eq_canon _ _ _ (coverC10 m c t h p)]
  refine (whole1 _ _ (by decide) _).trans ((cast4 _ r l).trans ?_)
  exact congrFun (read_whole (arg := scM0_0) (Memref.isWhole_whole _) p.2.2.2.2.1 _) _

theorem stC_dv (h : t.val = 32) (p : State Ideal) (r l : Fin 128) :
    ((stC m c t h p).2.2.1 (ix2 r l) : EReal) = p.2.2.2.2.2 (ix2 r l) := by
  unfold stC
  dsimp only
  rw [View.read_writes_eq_canon _ _ _ (coverC11 m c t h p)]
  refine (whole1 _ _ (by decide) _).trans ((cast5 _ r l).trans ?_)
  exact congrFun (read_whole (arg := scM0_1) (Memref.isWhole_whole _) p.2.2.2.2.2 _) _

end Cert.KernelIdeal.Swa

end
-- ==== Proof.Swa.HostIn.lean ====
/- What the call finds in the two arrays the host prepares for it: the attention's output `o` and the logarithm of its
   denominator `lse` (repeated over a head's lanes). They are the reference's own stages of the same meaning, because both
   programs run the same lines on the host. -/
module

public import proofs.«01_k».proof.Proof.Gen.KernelIdeal.Frame
public import proofs.«01_k».proof.Proof.Gen.ReferenceIdeal.Read

@[expose] public section

set_option maxRecDepth 16384

noncomputable section

namespace Cert.KernelIdeal.Swa
open Idealize.ShloMosaic Idealize.ShloMosaic.StableHlo Cert.KernelIdeal Cert.KernelIdeal.Gen

variable {F : FTy → Type} [FloatOps F] [Named F]

/-- The scores before the mask. -/
theorem host_v26 (V0 : Valuation τ sig (Elt F)) : after hostOps0 V0 (Proc.devRef .tc main_v26)
    = Cert.ReferenceIdeal.Read.val_main_v28 (F := F) (V0 (Proc.devRef .tc main_arg0)) := by
  after_results_simp
  all_goals rfl

/-- The band's mask. -/
theorem host_v56 (V0 : Valuation τ sig (Elt F)) : after hostOps0 V0 (Proc.devRef .tc main_v56)
    = Cert.ReferenceIdeal.Read.val_main_v58 (F := F) := by
  after_results_simp
  all_goals rfl

/-- The values of the band. -/
theorem host_v22 (V0 : Valuation τ sig (Elt F)) : after hostOps0 V0 (Proc.devRef .tc main_v22)
    = Cert.ReferenceIdeal.Read.val_main_v24 (F := F) (V0 (Proc.devRef .tc main_arg0)) := by
  after_results_simp
  all_goals rfl

theorem host_cst (V0 : Valuation τ sig (Elt F)) : after hostOps0 V0 (Proc.devRef .tc main_cst_7)
    = Cert.ReferenceIdeal.Read.val_main_cst_9 (F := F) := by
  after_results_simp
  all_goals rfl

theorem host_arg2 (V0 : Valuation τ sig (Elt F)) : after hostOps0 V0 (Proc.devRef .tc main_arg2)
    = V0 (Proc.devRef .tc main_arg2) := by
  after_results_simp

/-- The masked scores, after the second group of lines. -/
theorem host1_v57 (V1 : Valuation τ sig (Elt F)) (a0)
    (h26 : V1 (Proc.devRef .tc main_v26) = Cert.ReferenceIdeal.Read.val_main_v28 (F := F) a0)
    (h56 : V1 (Proc.devRef .tc main_v56) = Cert.ReferenceIdeal.Read.val_main_v58 (F := F))
    (hc : V1 (Proc.devRef .tc main_cst_7) = Cert.ReferenceIdeal.Read.val_main_cst_9 (F := F)) :
    after hostOps0_1 V1 (Proc.devRef .tc main_v57) = Cert.ReferenceIdeal.Read.val_main_v59_0 (F := F) a0 := by
  after_results_simp
  simp only [h26, h56, hc]
  all_goals rfl

theorem host1_v22 (V1 : Valuation τ sig (Elt F)) :
    after hostOps0_1 V1 (Proc.devRef .tc main_v22) = V1 (Proc.devRef .tc main_v22) := by
  after_results_simp

theorem host1_arg2 (V1 : Valuation τ sig (Elt F)) :
    after hostOps0_1 V1 (Proc.devRef .tc main_arg2) = V1 (Proc.devRef .tc main_arg2) := by
  after_results_simp

/-- The attention's output, after the third group of lines. -/
theorem host2_v83 (V2 : Valuation τ sig (Elt F)) (a0 a2)
    (h57 : V2 (Proc.devRef .tc main_v57) = Cert.ReferenceIdeal.Read.val_main_v59_0 (F := F) a0)
    (h22 : V2 (Proc.devRef .tc main_v22) = Cert.ReferenceIdeal.Read.val_main_v24 (F := F) a0)
    (h2 : V2 (Proc.devRef .tc main_arg2) = a2) :
    after hostOps0_2 V2 (Proc.devRef .tc main_v83)
      = truncf .bf16 (Cert.ReferenceIdeal.Read.val_main_v110 (F := F) a0 a2) bitsLt_bf16_f32 := by
  after_results_simp
  simp only [h57, h22, h2]
  all_goals rfl

/-- The logarithm of the denominator, repeated over a head's lanes. -/
theorem host2_v86 (V2 : Valuation τ sig (Elt F)) (a0 a2)
    (h57 : V2 (Proc.devRef .tc main_v57) = Cert.ReferenceIdeal.Read.val_main_v59_0 (F := F) a0)
    (h2 : V2 (Proc.devRef .tc main_arg2) = a2) :
    after hostOps0_2 V2 (Proc.devRef .tc main_v86)
      = shapeCast S4096x1024 (broadcastInDim S4096x16x64 ![0, 1] bcast_S4096x16_S4096x16x64_0_1
          (transpose S4096x16 [1, 0] (Cert.ReferenceIdeal.Read.val_main_v108 (F := F) a0 a2) transposes_S16x4096_S4096x16_1_0))
          shapeCasts_S4096x16x64_S4096x1024 := by
  after_results_simp
  simp only [h57, h2]
  all_goals rfl

theorem flat_eq (V0 : Valuation τ sig (Elt F)) :
    after (List.flatten [hostOps0, hostOps0_1, hostOps0_2]) V0 = after hostOps0_2 (after hostOps0_1 (after hostOps0 V0)) := by
  simp only [List.flatten_cons, List.flatten_nil, List.append_nil, after_append]

end Cert.KernelIdeal.Swa
-- ==== Proof.Swa.RefSoft.lean ====
/- The reference's softmax stages at an index, on real arguments: the exponentials, the denominators, the probabilities,
   the log-denominators and the output. -/
module

public import proofs.«01_k».proof.Proof.Swa.RefFwd
public import Idealize.ShloMosaic.Lib.Pointwise

@[expose] public section

set_option maxRecDepth 16384

noncomputable section

namespace Cert.ReferenceIdeal.Swa

open Idealize.ShloMosaic Cert.ReferenceIdeal.Read Cert.Swa Finset

variable {x0 : A0} {x1 : A1} {x2 : A2} {X : Fin 4096 → Fin 1280 → ℝ} {G : Fin 4096 → Fin 1024 → ℝ} {K : Fin 16 → ℝ}
  (h0 : Real0 x0 X) (h1 : Real1 x1 G) (h2 : Real2 x2 K)
  (kv : Fin 2) (g : Fin 8) (n : Fin 32) (a : Fin 128) (j : Fin 256) (d : Fin 64)

theorem add_f32 (x y : EReal) : FloatOps.addf (F := Ideal) (φ := .f32) x y = x + y := rfl
theorem log_f32 (x : ℝ) (h : 0 < x) : FloatOps.hostUnary (F := Ideal) (φ := .f32) .log (x : EReal) = (Real.log x : ℝ) := by
  have e := Ideal.log_coe x
  rw [if_neg (not_le.mpr h)] at e
  exact e

theorem head_div (h) : (⟨(head kv g).val / 8, h⟩ : Fin 2) = kv := Fin.ext (by show (kv.val * 8 + g.val) / 8 = kv.val; omega)
theorem head_mod (h) : (⟨(head kv g).val % 8, h⟩ : Fin 8) = g := Fin.ext (by show (kv.val * 8 + g.val) % 8 = g.val; omega)
theorem row_div (h) : (⟨(row n a).val / 128, h⟩ : Fin 32) = n := Fin.ext (by show (n.val * 128 + a.val) / 128 = n.val; omega)
theorem row_mod (h) : (⟨(row n a).val % 128, h⟩ : Fin 128) = a := Fin.ext (by show (n.val * 128 + a.val) % 128 = a.val; omega)
theorem qlane_div (h) : (⟨(qlane kv g d).val / 64 / 8, h⟩ : Fin 2) = kv :=
  Fin.ext (by show ((kv.val * 8 + g.val) * 64 + d.val) / 64 / 8 = kv.val; omega)
theorem qlane_mid (h) : (⟨(qlane kv g d).val / 64 % 8, h⟩ : Fin 8) = g :=
  Fin.ext (by show ((kv.val * 8 + g.val) * 64 + d.val) / 64 % 8 = g.val; omega)
theorem qlane_mod (h) : (⟨(qlane kv g d).val % 64, h⟩ : Fin 64) = d :=
  Fin.ext (by show ((kv.val * 8 + g.val) * 64 + d.val) % 64 = d.val; omega)
theorem klane_div (h) : (⟨(klane kv d).val / 64, h⟩ : Fin 2) = kv := Fin.ext (by show (kv.val * 64 + d.val) / 64 = kv.val; omega)
theorem klane_mod (h) : (⟨(klane kv d).val % 64, h⟩ : Fin 64) = d := Fin.ext (by show (kv.val * 64 + d.val) % 64 = d.val; omega)

include h0 h2

theorem v90_at : (val_main_v90 (F := Ideal) x0 x2 (ix5 kv g n a j) : EReal)
    = (expo (seen n a) (score X kv g n a) (shift x0 x2 kv g n a) j : ℝ) := by
  pointwise [val_main_v90, val_main_v89, val_main_v88]
  rw [v59_at h0, v69_at h0 h2]
  unfold expo
  by_cases p : seen n a j
  · rw [if_pos p, if_pos p, ← EReal.coe_sub, Ideal.exp_coe]
  · rw [if_neg p, if_neg p, EReal.bot_sub, Ideal.exp_bot]; rfl

theorem v95_at : (val_main_v95 (F := Ideal) x0 x2 (ix5 kv g n a 0) : EReal)
    = (Real.exp (K (head kv g) - shift x0 x2 kv g n a) : ℝ) := by
  pointwise [val_main_v95, val_main_v94, val_main_v93]
  rw [v69_at h0 h2]
  have hk : (x2 (ix1 (head kv g)) : EReal) = (K (head kv g) : EReal) := h2 _
  have e : (val_main_v67 (F := Ideal) x2 (ix5 kv g 0 0 0) : EReal) = x2 (ix1 (head kv g)) := by
    pointwise [val_main_v67]
    rfl
  rw [e, hk, ← EReal.coe_sub, Ideal.exp_coe]

theorem v96_at : (val_main_v96 (F := Ideal) x0 x2 (ix5 kv g n a 0) : EReal)
    = (den (seen n a) (score X kv g n a) (shift x0 x2 kv g n a) (K (head kv g)) : ℝ) := by
  pointwise [val_main_v96, val_main_v92, val_main_v91, val_main_cst_18]
  simp only [v90_at h0 h2]
  rw [v95_at h0 h2, ← coe_sum, ← EReal.coe_add]; rfl

theorem v98_at : (val_main_v98 (F := Ideal) x0 x2 (ix5 kv g n a j) : EReal) = (P X K (shift x0 x2) kv g n a j : ℝ) := by
  pointwise [val_main_v98, val_main_v97]
  rw [v90_at h0 h2, v96_at h0 h2]
  exact div_coe _ _ (den_ne _ _ _ _)

theorem v101_at : (val_main_v101 (F := Ideal) x0 x2 (ix5 kv g n a 0) : EReal)
    = ((1 / (den (seen n a) (score X kv g n a) (shift x0 x2 kv g n a) (K (head kv g))
      * den (seen n a) (score X kv g n a) (shift x0 x2 kv g n a) (K (head kv g))) : ℝ) : EReal) := by
  pointwise [val_main_v101, val_main_v100, val_main_cst_19, val_main_v99]
  rw [v96_at h0 h2, ← EReal.coe_mul]
  exact div_coe _ _ (mul_ne_zero (den_ne _ _ _ _) (den_ne _ _ _ _))

theorem v103_at : (val_main_v103 (F := Ideal) x0 x2 (ix5 kv g n a 0) : EReal) = (L X K (shift x0 x2) kv g n a : ℝ) := by
  rw [val_main_v103_apply, val_main_v102_apply, v69_at h0 h2, v96_at h0 h2, log_f32 _ (den_pos _ _ _ _), add_f32, ← EReal.coe_add]
  rfl

theorem v106_at : (val_main_v106 (F := Ideal) x0 x2 (ix5 kv g n a d) : EReal) = (O X K (shift x0 x2) kv g n a d : ℝ) := by
  pointwise [val_main_v106, val_main_v105]
  simp only [v24_at h0, v98_at h0 h2]
  rw [coe_dot]; rfl

theorem v108_at : (val_main_v108 (F := Ideal) x0 x2 (ix2 (head kv g) (row n a)) : EReal) = (L X K (shift x0 x2) kv g n a : ℝ) := by
  pointwise [val_main_v108, val_main_v104]
  rw [head_div, head_mod, row_div, row_mod]
  exact v103_at h0 h2 kv g n a

theorem v110_at : (val_main_v110 (F := Ideal) x0 x2 (ix2 (row n a) (qlane kv g d)) : EReal) = (O X K (shift x0 x2) kv g n a d : ℝ) := by
  pointwise [val_main_v110, val_main_v109, val_main_v107]
  rw [qlane_div, qlane_mid, qlane_mod, row_div, row_mod]
  exact v106_at h0 h2 kv g n a d

end Cert.ReferenceIdeal.Swa

end
-- ==== Proof.Swa.Blocks.lean ====
/- The blocks a point is given, entry by entry of the arrays they are cut from. -/
module

public import proofs.«01_k».proof.Proof.Swa.Bridge
public import proofs.«01_k».proof.Proof.Swa.Step
public import proofs.«01_k».proof.Proof.Swa.HostIn
public import proofs.«01_k».proof.Proof.Swa.RefSoft

@[expose] public section

set_option maxRecDepth 16384

noncomputable section

namespace Cert.KernelIdeal.Swa

open Idealize.ShloMosaic Idealize.ShloMosaic.TcCoe Cert.KernelIdeal.Gen Finset
open Cert.Swa (seen qlane klane head row before lq lk lv)

section index
theorem index0_0 : ∀ t : Fin cfg0.N, (cfg0.win 0).index t 0 = min t.val 31 := by decide +kernel
theorem index0_1 : ∀ t : Fin cfg0.N, (cfg0.win 0).index t 1 = 0 := by decide +kernel
theorem index1_0 : ∀ t : Fin cfg0.N, (cfg0.win 1).index t 0 = min t.val 31 := by decide +kernel
theorem index1_1 : ∀ t : Fin cfg0.N, (cfg0.win 1).index t 1 = 8 := by decide +kernel
theorem index2_0 : ∀ t : Fin cfg0.N, (cfg0.win 2).index t 0 = min t.val 31 - 1 := by decide +kernel
theorem index2_1 : ∀ t : Fin cfg0.N, (cfg0.win 2).index t 1 = 8 := by decide +kernel
theorem index3_0 : ∀ t : Fin cfg0.N, (cfg0.win 3).index t 0 = min t.val 31 := by decide +kernel
theorem index3_1 : ∀ t : Fin cfg0.N, (cfg0.win 3).index t 1 = 9 := by decide +kernel
theorem index4_0 : ∀ t : Fin cfg0.N, (cfg0.win 4).index t 0 = min t.val 31 - 1 := by decide +kernel
theorem index4_1 : ∀ t : Fin cfg0.N, (cfg0.win 4).index t 1 = 9 := by decide +kernel
theorem index5_0 : ∀ t : Fin cfg0.N, (cfg0.win 5).index t 0 = min t.val 31 := by decide +kernel
theorem index5_1 : ∀ t : Fin cfg0.N, (cfg0.win 5).index t 1 = 0 := by decide +kernel
theorem index6_0 : ∀ t : Fin cfg0.N, (cfg0.win 6).index t 0 = min t.val 31 := by decide +kernel
theorem index6_1 : ∀ t : Fin cfg0.N, (cfg0.win 6).index t 1 = 0 := by decide +kernel
theorem index7_0 : ∀ t : Fin cfg0.N, (cfg0.win 7).index t 0 = min t.val 31 := by decide +kernel
theorem index7_1 : ∀ t : Fin cfg0.N, (cfg0.win 7).index t 1 = 0 := by decide +kernel
theorem index8_0 : ∀ t : Fin cfg0.N, (cfg0.win 8).index t 0 = 0 := by decide +kernel
theorem index9_0 : ∀ t : Fin cfg0.N, (cfg0.win 9).index t 0 = min t.val 31 := by decide +kernel
theorem index9_1 : ∀ t : Fin cfg0.N, (cfg0.win 9).index t 1 = 0 := by decide +kernel
theorem index10_0 : ∀ t : Fin cfg0.N, (cfg0.win 10).index t 0 = t.val - 1 := by decide +kernel
theorem index10_1 : ∀ t : Fin cfg0.N, (cfg0.win 10).index t 1 = 0 := by decide +kernel
theorem index11_0 : ∀ t : Fin cfg0.N, (cfg0.win 11).index t 0 = t.val - 1 := by decide +kernel
theorem index11_1 : ∀ t : Fin cfg0.N, (cfg0.win 11).index t 1 = 0 := by decide +kernel
theorem index12_0 : ∀ t : Fin cfg0.N, (cfg0.win 12).index t 0 = 0 := by decide +kernel
theorem index12_1 : ∀ t : Fin cfg0.N, (cfg0.win 12).index t 1 = 0 := by decide +kernel
theorem coord1 : ∀ t : Fin cfg0.N, ((grid0.coords t) 1).val = t.val := by decide +kernel
end index

section read
variable (t : Fin cfg0.N) {n : Fin 32}

theorem read0 (hn : t.val = n.val) (A : S4096x1280.Idx → Elt Ideal .bf16) (a : Fin 128) (l : Fin 1024)
    (j : ((cfg0.win 0).xblock (cfg0.grid.coords t)).Idx) (j0 : (j 0).val = a.val) (j1 : (j 1).val = l.val) :
    ((cfg0.win 0).blk t).view.read (Elt Ideal) A j = A (ix2 (row n a) (lq l)) := by
  rw [View.read_apply]
  refine congrArg A (funext fun i => Fin.ext ?_)
  match i with
  | ⟨0, _⟩ => show (cfg0.win 0).index t 0 * 128 + 1 * (j 0).val = n.val * 128 + a.val; rw [index0_0, j0]; omega
  | ⟨1, _⟩ => show (cfg0.win 0).index t 1 * 1024 + 1 * (j 1).val = l.val; rw [index0_1, j1]; omega

theorem read1 (hn : t.val = n.val) (A : S4096x1280.Idx → Elt Ideal .bf16) (a : Fin 128) (l : Fin 128) :
    ((cfg0.win 1).blk t).view.read (Elt Ideal) A (ix2 a l) = A (ix2 (row n a) (lk l)) := by
  rw [View.read_apply]
  refine congrArg A (funext fun i => Fin.ext ?_)
  match i with
  | ⟨0, _⟩ => show (cfg0.win 1).index t 0 * 128 + 1 * a.val = n.val * 128 + a.val; rw [index1_0]; omega
  | ⟨1, _⟩ => show (cfg0.win 1).index t 1 * 128 + 1 * l.val = 1024 + l.val; rw [index1_1]; omega

theorem read2 (hn : t.val = n.val) (A : S4096x1280.Idx → Elt Ideal .bf16) (a : Fin 128) (l : Fin 128) :
    ((cfg0.win 2).blk t).view.read (Elt Ideal) A (ix2 a l) = A (ix2 (row (before n) a) (lk l)) := by
  rw [View.read_apply]
  refine congrArg A (funext fun i => Fin.ext ?_)
  match i with
  | ⟨0, _⟩ => show (cfg0.win 2).index t 0 * 128 + 1 * a.val = (n.val - 1) * 128 + a.val; rw [index2_0, hn, min_eq_left (by omega)]; omega
  | ⟨1, _⟩ => show (cfg0.win 2).index t 1 * 128 + 1 * l.val = 1024 + l.val; rw [index2_1]; omega

theorem read3 (hn : t.val = n.val) (A : S4096x1280.Idx → Elt Ideal .bf16) (a : Fin 128) (l : Fin 128) :
    ((cfg0.win 3).blk t).view.read (Elt Ideal) A (ix2 a l) = A (ix2 (row n a) (lv l)) := by
  rw [View.read_apply]
  refine congrArg A (funext fun i => Fin.ext ?_)
  match i with
  | ⟨0, _⟩ => show (cfg0.win 3).index t 0 * 128 + 1 * a.val = n.val * 128 + a.val; rw [index3_0]; omega
  | ⟨1, _⟩ => show (cfg0.win 3).index t 1 * 128 + 1 * l.val = 1152 + l.val; rw [index3_1]; omega

theorem read4 (hn : t.val = n.val) (A : S4096x1280.Idx → Elt Ideal .bf16) (a : Fin 128) (l : Fin 128) :
    ((cfg0.win 4).blk t).view.read (Elt Ideal) A (ix2 a l) = A (ix2 (row (before n) a) (lv l)) := by
  rw [View.read_apply]
  refine congrArg A (funext fun i => Fin.ext ?_)
  match i with
  | ⟨0, _⟩ => show (cfg0.win 4).index t 0 * 128 + 1 * a.val = (n.val - 1) * 128 + a.val; rw [index4_0, hn, min_eq_left (by omega)]; omega
  | ⟨1, _⟩ => show (cfg0.win 4).index t 1 * 128 + 1 * l.val = 1152 + l.val; rw [index4_1]; omega

theorem read5 (hn : t.val = n.val) (A : S4096x1024.Idx → Elt Ideal .bf16) (a : Fin 128) (l : Fin 1024) :
    ((cfg0.win 5).blk t).view.read (Elt Ideal) A (ix2 a l) = A (ix2 (row n a) l) := by
  rw [View.read_apply]
  refine congrArg A (funext fun i => Fin.ext ?_)
  match i with
  | ⟨0, _⟩ => show (cfg0.win 5).index t 0 * 128 + 1 * a.val = n.val * 128 + a.val; rw [index5_0]; omega
  | ⟨1, _⟩ => show (cfg0.win 5).index t 1 * 1024 + 1 * l.val = l.val; rw [index5_1]; omega

theorem read6 (hn : t.val = n.val) (A : S4096x1024.Idx → Elt Ideal .bf16) (a : Fin 128) (l : Fin 1024) :
    ((cfg0.win 6).blk t).view.read (Elt Ideal) A (ix2 a l) = A (ix2 (row n a) l) := by
  rw [View.read_apply]
  refine congrArg A (funext fun i => Fin.ext ?_)
  match i with
  | ⟨0, _⟩ => show (cfg0.win 6).index t 0 * 128 + 1 * a.val = n.val * 128 + a.val; rw [index6_0]; omega
  | ⟨1, _⟩ => show (cfg0.win 6).index t 1 * 1024 + 1 * l.val = l.val; rw [index6_1]; omega

theorem read7 (hn : t.val = n.val) (A : S4096x1024.Idx → Elt Ideal .f32) (a : Fin 128) (l : Fin 1024) :
    ((cfg0.win 7).blk t).view.read (Elt Ideal) A (ix2 a l) = A (ix2 (row n a) l) := by
  rw [View.read_apply]
  refine congrArg A (funext fun i => Fin.ext ?_)
  match i with
  | ⟨0, _⟩ => show (cfg0.win 7).index t 0 * 128 + 1 * a.val = n.val * 128 + a.val; rw [index7_0]; omega
  | ⟨1, _⟩ => show (cfg0.win 7).index t 1 * 1024 + 1 * l.val = l.val; rw [index7_1]; omega

theorem read8 (A : S16.Idx → Elt Ideal .f32) (h : Fin 16) : ((cfg0.win 8).blk t).view.read (Elt Ideal) A (ix1 h) = A (ix1 h) := by
  rw [View.read_apply]
  refine congrArg A (funext fun i => Fin.ext ?_)
  match i with
  | ⟨0, _⟩ => show (cfg0.win 8).index t 0 * 16 + 1 * h.val = h.val; rw [index8_0]; omega

end read

variable (m : (ℓ : Loc nD τ sig) → Buf (Elt Ideal) ℓ) (c : Dev nD) (t : Fin cfg0.N) {n : Fin 32}

theorem blk0 (hn : t.val = n.val) (a : Fin 128) (l : Fin 1024) : X0_0 m c t (ix2 a l) = V m c main_arg0 (ix2 (row n a) (lq l)) := by
  unfold X0_0 Pipeline.Window.fill
  rw [dif_pos (moved0_0 t _)]
  unfold iblk
  exact read0 t hn (V m c main_arg0) a l _ rfl rfl

theorem blk1 (hn : t.val = n.val) (a : Fin 128) (l : Fin 128) : iblk m c 1 t (ix2 a l) = V m c main_arg0 (ix2 (row n a) (lk l)) := by
  unfold iblk
  exact read1 t hn (V m c main_arg0) a l

theorem blk2 (hn : t.val = n.val) (a : Fin 128) (l : Fin 128) : iblk m c 2 t (ix2 a l) = V m c main_arg0 (ix2 (row (before n) a) (lk l)) := by
  unfold iblk
  exact read2 t hn (V m c main_arg0) a l

theorem blk3 (hn : t.val = n.val) (a : Fin 128) (l : Fin 128) : iblk m c 3 t (ix2 a l) = V m c main_arg0 (ix2 (row n a) (lv l)) := by
  unfold iblk
  exact read3 t hn (V m c main_arg0) a l

theorem blk4 (hn : t.val = n.val) (a : Fin 128) (l : Fin 128) : iblk m c 4 t (ix2 a l) = V m c main_arg0 (ix2 (row (before n) a) (lv l)) := by
  unfold iblk
  exact read4 t hn (V m c main_arg0) a l

theorem blk5 (hn : t.val = n.val) (a : Fin 128) (l : Fin 1024) : iblk m c 5 t (ix2 a l) = V m c main_arg1 (ix2 (row n a) l) := by
  unfold iblk
  exact read5 t hn (V m c main_arg1) a l

theorem blk6 (hn : t.val = n.val) (a : Fin 128) (l : Fin 1024) : iblk m c 6 t (ix2 a l) = V m c main_v83 (ix2 (row n a) l) := by
  unfold iblk
  exact read6 t hn (V m c main_v83) a l

theorem blk7 (hn : t.val = n.val) (a : Fin 128) (l : Fin 1024) : iblk m c 7 t (ix2 a l) = V m c main_v86 (ix2 (row n a) l) := by
  unfold iblk
  exact read7 t hn (V m c main_v86) a l

theorem blk8 (h : Fin 16) : iblk m c 8 t (ix1 h) = V m c main_arg2 (ix1 h) := by
  unfold iblk
  exact read8 t (V m c main_arg2) h

/-- The output the region finds, of the reference's lines. -/
theorem V_v83 : @Eq (FVec Ideal S4096x1024 .bf16) (V m c main_v83) <| truncf .bf16 (Cert.ReferenceIdeal.Read.val_main_v110 (F := Ideal) (m ((c : Thread nD τ).loc main_arg0)) (m ((c : Thread nD τ).loc main_arg2))) bitsLt_bf16_f32 := by
  unfold V
  rw [flat_eq]
  refine host2_v83 _ _ _ (host1_v57 _ _ (host_v26 _) (host_v56 _) (host_cst _)) ?_ ?_
  · rw [host1_v22, host_v22]
  · rw [host1_arg2, host_arg2]

/-- The log-denominators the region finds, a head's on all its lanes. -/
theorem V_v86 : @Eq (FVec Ideal S4096x1024 .f32) (V m c main_v86) <| shapeCast S4096x1024 (broadcastInDim S4096x16x64 ![0, 1] bcast_S4096x16_S4096x16x64_0_1
      (transpose S4096x16 [1,0] (Cert.ReferenceIdeal.Read.val_main_v108 (F := Ideal) (m ((c : Thread nD τ).loc main_arg0)) (m ((c : Thread nD τ).loc main_arg2))) transposes_S16x4096_S4096x16_1_0)) shapeCasts_S4096x16x64_S4096x1024 := by
  unfold V
  rw [flat_eq]
  refine host2_v86 _ _ _ (host1_v57 _ _ (host_v26 _) (host_v56 _) (host_cst _)) ?_
  rw [host1_arg2, host_arg2]

theorem spread_at (x : FVec Ideal S16x4096 .f32) (r : Fin 4096) (l : Fin 1024) :
    (shapeCast S4096x1024 (broadcastInDim S4096x16x64 ![0, 1] bcast_S4096x16_S4096x16x64_0_1
      (transpose S4096x16 [1,0] x transposes_S16x4096_S4096x16_1_0)) shapeCasts_S4096x16x64_S4096x1024 (ix2 r l) : EReal)
      = x (ix2 ⟨l.val / 64, by omega⟩ r) := by
  pointwise []

theorem trunc_at (x : FVec Ideal S4096x1024 .f32) (r : Fin 4096) (l : Fin 1024) :
    (truncf .bf16 x bitsLt_bf16_f32 (ix2 r l) : EReal) = x (ix2 r l) := by
  pointwise []

variable {X : Fin 4096 → Fin 1280 → ℝ} {G : Fin 4096 → Fin 1024 → ℝ} {K : Fin 16 → ℝ}
  (h0 : Cert.ReferenceIdeal.Swa.Real0 (m ((c : Thread nD τ).loc main_arg0)) X) (h1 : Cert.ReferenceIdeal.Swa.Real1 (m ((c : Thread nD τ).loc main_arg1)) G)
  (h2 : Cert.ReferenceIdeal.Swa.Real2 (m ((c : Thread nD τ).loc main_arg2)) K)

/-- The shift the reference takes from its scores and sinks. -/
def shiftOf : Fin 2 → Fin 8 → Fin 32 → Fin 128 → ℝ :=
  Cert.ReferenceIdeal.Swa.shift (m ((c : Thread nD τ).loc main_arg0)) (m ((c : Thread nD τ).loc main_arg2))

include h0 h1 h2 in
/-- The blocks of block `n`'s point hold the numbers of block `n`. -/
theorem holds (hn : t.val = n.val) : Holds m c t (pt X G K (shiftOf m c) n) where
  n := (coord1 t).trans hn
  at' := {
    q := fun a l => (blk0 m c t hn a l).trans (by rw [V_main_arg0]; exact h0 _ _)
    kp := fun r l => (blk2 m c t hn r l).trans (by
      rw [V_main_arg0]
      refine (h0 _ _).trans (congrArg _ ?_)
      show _ = bandc X (lk l) n ⟨r.val, _⟩
      unfold bandc
      rw [dif_pos (show r.val < 128 from r.isLt)])
    kc := fun r l => (blk1 m c t hn r l).trans (by
      rw [V_main_arg0]
      refine (h0 _ _).trans (congrArg _ ?_)
      show _ = bandc X (lk l) n ⟨128 + r.val, _⟩
      unfold bandc
      rw [dif_neg (show ¬ 128 + r.val < 128 by omega)]
      exact congrArg (fun r => X (row n r) (lk l)) (Fin.ext (by show r.val = 128 + r.val - 128; omega)))
    vp := fun r l => (blk4 m c t hn r l).trans (by
      rw [V_main_arg0]
      refine (h0 _ _).trans (congrArg _ ?_)
      show _ = bandc X (lv l) n ⟨r.val, _⟩
      unfold bandc
      rw [dif_pos (show r.val < 128 from r.isLt)])
    vc := fun r l => (blk3 m c t hn r l).trans (by
      rw [V_main_arg0]
      refine (h0 _ _).trans (congrArg _ ?_)
      show _ = bandc X (lv l) n ⟨128 + r.val, _⟩
      unfold bandc
      rw [dif_neg (show ¬ 128 + r.val < 128 by omega)]
      exact congrArg (fun r => X (row n r) (lv l)) (Fin.ext (by show r.val = 128 + r.val - 128; omega)))
    d := fun a l => (blk5 m c t hn a l).trans (by rw [V_main_arg1]; exact h1 _ _)
    o := fun a l => (blk6 m c t hn a l).trans (by
      rw [V_v83]
      refine (trunc_at _ _ _).trans ?_
      have e : l = qlane ⟨l.val / 512, by omega⟩ ⟨l.val / 64 % 8, by omega⟩ ⟨l.val % 64, by omega⟩ :=
        Fin.ext (by show l.val = (l.val / 512 * 8 + l.val / 64 % 8) * 64 + l.val % 64; omega)
      exact (congrArg (fun l => Cert.ReferenceIdeal.Read.val_main_v110 (F := Ideal) _ _ (ix2 (row n a) l)) e).trans
        (Cert.ReferenceIdeal.Swa.v110_at h0 h2 _ _ n a _))
    l := fun a l => (blk7 m c t hn a l).trans (by
      rw [V_v86]
      refine (spread_at _ _ _).trans ?_
      have e : (⟨l.val / 64, by omega⟩ : Fin 16) = head ⟨l.val / 512, by omega⟩ ⟨l.val / 64 % 8, by omega⟩ :=
        Fin.ext (by show l.val / 64 = l.val / 512 * 8 + l.val / 64 % 8; omega)
      exact (congrArg (fun h => Cert.ReferenceIdeal.Read.val_main_v108 (F := Ideal) _ _ (ix2 h (row n a))) e).trans
        (Cert.ReferenceIdeal.Swa.v108_at h0 h2 _ _ n a))
    s := fun h => (blk8 m c t h).trans (by rw [V_main_arg2]; exact h2 h) }

end Cert.KernelIdeal.Swa

end
-- ==== Proof.Swa.States.lean ====
/- What the outputs' buffers and the carries hold after each point, block by block of the gradient. -/
module

public import proofs.«01_k».proof.Proof.Swa.Blocks

@[expose] public section

set_option maxRecDepth 16384

noncomputable section

namespace Cert.KernelIdeal.Swa

open Idealize.ShloMosaic Idealize.ShloMosaic.TcCoe Cert.KernelIdeal.Gen Finset
open Cert.Swa (seen qlane klane head row before lq lk lv DQ DKb DVb DK DV DSK unband score dprob dsink)

variable (m : (ℓ : Loc nD τ sig) → Buf (Elt Ideal) ℓ) (c : Dev nD)
variable (X : Fin 4096 → Fin 1280 → ℝ) (G : Fin 4096 → Fin 1024 → ℝ) (K : Fin 16 → ℝ) (M : Fin 2 → Fin 8 → Fin 32 → Fin 128 → ℝ)

/-- What block `n` adds to the gradient of a head's sink. -/
def part (kv : Fin 2) (g : Fin 8) (n : Fin 32) : ℝ :=
  ∑ a : Fin 128, dsink (seen n a) (score X kv g n a) (dprob X G kv g n a) (M kv g n a) (K (head kv g))

/-- The sum over the blocks up to block `n`, on the lane of a head; nothing on the other lanes. -/
def upTo (n : ℕ) (hn : n < 32) (l : Fin 128) : ℝ :=
  if h : l.val < 16 then ∑ i : Fin (n + 1), part X G K M ⟨l.val / 8, by omega⟩ ⟨l.val % 8, by omega⟩ ⟨i.val, by omega⟩ else 0

theorem upTo_zero (l : Fin 128) : upTo X G K M 0 (by omega) l
    = if h : l.val < 16 then part X G K M ⟨l.val / 8, by omega⟩ ⟨l.val % 8, by omega⟩ ⟨0, by omega⟩ else 0 := by
  unfold upTo
  split_ifs
  · exact Fin.sum_univ_one _
  · rfl

theorem upTo_succ (n : ℕ) (hn : n + 1 < 32) (l : Fin 128) : upTo X G K M (n + 1) hn l
    = upTo X G K M n (by omega) l + if h : l.val < 16 then part X G K M ⟨l.val / 8, by omega⟩ ⟨l.val % 8, by omega⟩ ⟨n + 1, hn⟩ else 0 := by
  unfold upTo
  split_ifs
  · exact Fin.sum_univ_castSucc _
  · exact (add_zero _).symm

theorem upTo_last (l : Fin 128) : upTo X G K M 31 (by omega) l
    = if h : l.val < 16 then DSK X G K M ⟨l.val / 8, by omega⟩ ⟨l.val % 8, by omega⟩ else 0 := rfl

/-- A state that holds block `n` of the gradients. -/
structure Good (n : ℕ) (hn : n < 32) (s : State Ideal) : Prop where
  dq : ∀ kv g a d, (s.1 (ix2 a (qlane kv g d)) : EReal) = (DQ X G K M kv g ⟨n, hn⟩ a d : ℝ)
  ck : ∀ (kv : Fin 2) (r : Fin 128) (d : Fin 64), (s.2.2.2.2.1 (ix2 r (klane kv d)) : EReal) = (DKb X G K M kv ⟨n, hn⟩ ⟨128 + r.val, by omega⟩ d : ℝ)
  cv : ∀ (kv : Fin 2) (r : Fin 128) (d : Fin 64), (s.2.2.2.2.2 (ix2 r (klane kv d)) : EReal) = (DVb X G K M kv ⟨n, hn⟩ ⟨128 + r.val, by omega⟩ d : ℝ)
  dsk : ∀ (i : Fin 8) (l : Fin 128), (s.2.2.2.1 (ix2 i l) : EReal) = (upTo X G K M n hn l : ℝ)

theorem lost_part (n : Fin 32) (l : Fin 128) :
    (if h : l.val < 16 then -∑ a, (pt X G K M n).lost ⟨l.val / 8, by omega⟩ ⟨l.val % 8, by omega⟩ a else 0)
      = if h : l.val < 16 then part X G K M ⟨l.val / 8, by omega⟩ ⟨l.val % 8, by omega⟩ n else 0 := by
  split_ifs
  · exact pt_lost X G K M _ _ _
  · rfl

variable {m c X G K M}

theorem good_A (t : Fin cfg0.N) (h : t.val = 0) (hb : Holds m c t (pt X G K M ⟨0, by omega⟩)) :
    Good X G K M 0 (by omega) (stA m c t h) where
  dq kv g a d := (stA_dq m c t h hb kv g a d).trans (by rw [pt_DQ])
  ck kv r d := (stA_ck m c t h hb kv r d).trans (by rw [pt_DK])
  cv kv r d := (stA_cv m c t h hb kv r d).trans (by rw [pt_DV])
  dsk i l := (stA_dsk m c t h hb i l).trans (by
    rw [← EReal.coe_add, zero_add, upTo_zero, lost_part])

theorem good_B (t : Fin cfg0.N) (n : ℕ) (hn : n + 1 < 32) (h0 : t.val ≠ 0) (h : t.val < 32) (p : State Ideal)
    (hp : Good X G K M n (by omega) p) (hb : Holds m c t (pt X G K M ⟨n + 1, hn⟩)) :
    Good X G K M (n + 1) hn (stB m c t h0 h p) where
  dq kv g a d := (stB_dq m c t h0 h p hb kv g a d).trans (by rw [pt_DQ])
  ck kv r d := (stB_ck m c t h0 h p hb kv r d).trans (by rw [pt_DK])
  cv kv r d := (stB_cv m c t h0 h p hb kv r d).trans (by rw [pt_DV])
  dsk i l := (stB_dsk m c t h0 h p hb i l).trans (by
    rw [hp.dsk, ← EReal.coe_add, upTo_succ, lost_part])

/-- After a point between, the keys' block is finished: the band of its own block and of the next. -/
theorem done_k (t : Fin cfg0.N) (n : ℕ) (hn : n + 1 < 32) (h0 : t.val ≠ 0) (h : t.val < 32) (p : State Ideal)
    (hp : Good X G K M n (by omega) p) (hb : Holds m c t (pt X G K M ⟨n + 1, hn⟩)) (kv : Fin 2) (r : Fin 128) (d : Fin 64) :
    ((stB m c t h0 h p).2.1 (ix2 r (klane kv d)) : EReal) = (DK X G K M kv ⟨n, by omega⟩ r d : ℝ) := by
  refine (stB_dk m c t h0 h p hb kv r d).trans ?_
  rw [hp.ck, pt_DK, ← EReal.coe_add]
  unfold DK unband
  rw [dif_pos (show n < 31 by omega)]
theorem done_v (t : Fin cfg0.N) (n : ℕ) (hn : n + 1 < 32) (h0 : t.val ≠ 0) (h : t.val < 32) (p : State Ideal)
    (hp : Good X G K M n (by omega) p) (hb : Holds m c t (pt X G K M ⟨n + 1, hn⟩)) (kv : Fin 2) (r : Fin 128) (d : Fin 64) :
    ((stB m c t h0 h p).2.2.1 (ix2 r (klane kv d)) : EReal) = (DV X G K M kv ⟨n, by omega⟩ r d : ℝ) := by
  refine (stB_dv m c t h0 h p hb kv r d).trans ?_
  rw [hp.cv, pt_DV, ← EReal.coe_add]
  unfold DV unband
  rw [dif_pos (show n < 31 by omega)]

/-- The last point writes the last block's gradient, which no later block adds to. -/
theorem last_k (t : Fin cfg0.N) (h : t.val = 32) (p : State Ideal) (hp : Good X G K M 31 (by omega) p) (kv : Fin 2) (r : Fin 128) (d : Fin 64) :
    ((stC m c t h p).2.1 (ix2 r (klane kv d)) : EReal) = (DK X G K M kv ⟨31, by omega⟩ r d : ℝ) := by
  refine (stC_dk m c t h p r (klane kv d)).trans ?_
  rw [hp.ck]
  unfold DK unband
  rw [dif_neg (show ¬ (31 < 31) by omega), add_zero]
theorem last_v (t : Fin cfg0.N) (h : t.val = 32) (p : State Ideal) (hp : Good X G K M 31 (by omega) p) (kv : Fin 2) (r : Fin 128) (d : Fin 64) :
    ((stC m c t h p).2.2.1 (ix2 r (klane kv d)) : EReal) = (DV X G K M kv ⟨31, by omega⟩ r d : ℝ) := by
  refine (stC_dv m c t h p r (klane kv d)).trans ?_
  rw [hp.cv]
  unfold DV unband
  rw [dif_neg (show ¬ (31 < 31) by omega), add_zero]

/-- Every point before the last leaves its block's gradients. -/
theorem good (hb : ∀ (t : Fin cfg0.N) (n : Fin 32), t.val = n.val → Holds m c t (pt X G K M n)) :
    ∀ (n : ℕ) (hn : n < 32) (hN : n < cfg0.N), Good X G K M n hn (stateAt m c n hN)
  | 0, _, hN => good_A ⟨0, hN⟩ rfl (hb _ _ rfl)
  | n + 1, hn, hN => by
    rw [show stateAt m c (n + 1) hN = stB m c ⟨n + 1, hN⟩ (Nat.succ_ne_zero n) hn (stateAt m c n (Nat.lt_of_succ_lt hN)) from dif_pos hn]
    exact good_B _ n hn _ _ _ (good hb n _ _) (hb _ _ rfl)

variable (hb : ∀ (t : Fin cfg0.N) (n : Fin 32), t.val = n.val → Holds m c t (pt X G K M n))
include hb

theorem good_prev (t : Fin cfg0.N) (n : ℕ) (hn : n < 32) (h : t.val = n + 1) : Good X G K M n hn (prev m c t) := by
  unfold prev
  have e : t.val - 1 = n := by omega
  have := good hb n hn (by have := t.isLt; omega)
  simp only [e]
  exact this

/-- Each point's query gradients: its block's; at the last point those of the block before it. -/
theorem at_dq (t : Fin cfg0.N) (n : Fin 32) (h : min t.val 31 = n.val) (kv : Fin 2) (g : Fin 8) (a : Fin 128) (d : Fin 64) :
    ((stateAt m c t.val t.isLt).1 (ix2 a (qlane kv g d)) : EReal) = (DQ X G K M kv g n a d : ℝ) := by
  have hN : t.val < 33 := lt_of_lt_of_eq t.isLt N_0
  by_cases h32 : t.val = 32
  · obtain rfl : n = ⟨31, by decide⟩ := Fin.ext (by simp only; omega)
    rw [stateAt_C m c t h32]
    exact (good_prev hb t 31 (by omega) h32).dq kv g a d
  · have ht : t.val < 32 := by omega
    obtain rfl : n = ⟨t.val, ht⟩ := Fin.ext (by simp only; omega)
    exact (good hb t.val (by omega) t.isLt).dq kv g a d
/-- Each point after the first: the keys' and values' gradients of the block before it. -/
theorem at_dk (t : Fin cfg0.N) (n : Fin 32) (h : t.val = n.val + 1) (kv : Fin 2) (r : Fin 128) (d : Fin 64) :
    ((stateAt m c t.val t.isLt).2.1 (ix2 r (klane kv d)) : EReal) = (DK X G K M kv n r d : ℝ) := by
  by_cases h32 : t.val = 32
  · obtain rfl : n = ⟨31, by decide⟩ := Fin.ext (by simp only; omega)
    rw [stateAt_C m c t h32]
    exact last_k t h32 _ (good_prev hb t 31 (by omega) h32) kv r d
  · rw [stateAt_B m c t (by omega) (by omega)]
    exact done_k t n.val (by omega) _ _ _ (good_prev hb t n.val n.isLt h) (hb t _ h) kv r d
theorem at_dv (t : Fin cfg0.N) (n : Fin 32) (h : t.val = n.val + 1) (kv : Fin 2) (r : Fin 128) (d : Fin 64) :
    ((stateAt m c t.val t.isLt).2.2.1 (ix2 r (klane kv d)) : EReal) = (DV X G K M kv n r d : ℝ) := by
  by_cases h32 : t.val = 32
  · obtain rfl : n = ⟨31, by decide⟩ := Fin.ext (by simp only; omega)
    rw [stateAt_C m c t h32]
    exact last_v t h32 _ (good_prev hb t 31 (by omega) h32) kv r d
  · rw [stateAt_B m c t (by omega) (by omega)]
    exact done_v t n.val (by omega) _ _ _ (good_prev hb t n.val n.isLt h) (hb t _ h) kv r d
/-- The last point: the sinks' gradients, of all blocks. -/
theorem at_dsk (t : Fin cfg0.N) (h : t.val = 32) (i : Fin 8) (l : Fin 128) :
    ((stateAt m c t.val t.isLt).2.2.2.1 (ix2 i l) : EReal)
      = ((if h : l.val < 16 then DSK X G K M ⟨l.val / 8, by omega⟩ ⟨l.val % 8, by omega⟩ else 0 : ℝ) : EReal) := by
  rw [stateAt_C m c t h]
  exact (good_prev hb t 31 (by omega) h).dsk i l

end Cert.KernelIdeal.Swa

end
-- ==== Proof.Swa.RefGrad.lean ====
/- The reference's gradient stages at an index, on real arguments: the gradients of the scores, of the banded keys and
   values and of the sinks. -/
module

public import proofs.«01_k».proof.Proof.Swa.RefSoft
public import Idealize.ShloMosaic.Lib.Pointwise

@[expose] public section

set_option maxRecDepth 16384

noncomputable section

namespace Cert.ReferenceIdeal.Swa

open Idealize.ShloMosaic Cert.ReferenceIdeal.Read Cert.Swa Finset

variable {x0 : A0} {x1 : A1} {x2 : A2} {X : Fin 4096 → Fin 1280 → ℝ} {G : Fin 4096 → Fin 1024 → ℝ} {K : Fin 16 → ℝ}
  (h0 : Real0 x0 X) (h1 : Real1 x1 G) (h2 : Real2 x2 K)
  (kv : Fin 2) (g : Fin 8) (n : Fin 32) (a : Fin 128) (j : Fin 256) (d : Fin 64)

theorem mul_f32 (x y : EReal) : FloatOps.mulf (F := Ideal) (φ := .f32) x y = x * y := rfl
theorem neg_f32 (x : EReal) : FloatOps.hostNegf (F := Ideal) (φ := .f32) x = -x := rfl

/-- A block's gradient among the extended reals. -/
theorem coe_unband (f : Fin 32 → Fin 256 → ℝ) (r : Fin 128) :
    ((f n ⟨128 + r.val, by omega⟩ : ℝ) : EReal) + (if h : n.val < 31 then ((f ⟨1 + n.val, by omega⟩ ⟨r.val, by omega⟩ : ℝ) : EReal) else 0) = (unband f n r : ℝ) := by
  unfold unband
  by_cases h : n.val < 31
  · rw [dif_pos h, dif_pos h, EReal.coe_add]
    have e : (⟨1 + n.val, by omega⟩ : Fin 32) = ⟨n.val + 1, by omega⟩ := Fin.ext (Nat.add_comm _ _)
    rw [e]
  · rw [dif_neg h, dif_neg h, add_zero, add_zero]

theorem v114_at (h1 : Real1 x1 G) : (val_main_v114 (F := Ideal) x1 (ix5 kv g n a d) : EReal) = dout G kv g n a d := by
  pointwise [val_main_v114, val_main_v113, val_main_v112, val_main_v111]
  exact h1 _ _

include h0 h1

theorem v117_at : (val_main_v117 (F := Ideal) x0 x1 (ix5 kv g n a j) : EReal) = dprob X G kv g n a j := by
  pointwise [val_main_v117, val_main_v116, val_main_v115]
  simp only [v114_at kv g n a _ h1, v24_at h0]
  rw [coe_dot]; rfl

include h2

theorem v119_at : (val_main_v119 (F := Ideal) x0 x1 x2 (ix4 kv n j d) : EReal) = DVb X G K (shift x0 x2) kv n j d := by
  pointwise [val_main_v119, val_main_v118, val_main_v115]
  simp only [v114_at kv _ n _ d h1, v98_at h0 h2, coe_dot, ← coe_sum]
  rfl

theorem v125_at : (val_main_v125 (F := Ideal) x0 x1 x2 (ix5 kv g n a 0) : EReal)
    = (-(W X G K (shift x0 x2) kv g n a / den (seen n a) (score X kv g n a) (shift x0 x2 kv g n a) (K (head kv g))) : ℝ) := by
  pointwise [val_main_v125, val_main_v124, val_main_v123, val_main_cst_20, val_main_v122, val_main_v121, val_main_v120]
  simp only [v117_at h0 h1, v101_at h0 h2, v90_at h0 h2, ← EReal.coe_mul, ← coe_sum]
  rw [← EReal.coe_neg, chain_den]; rfl

theorem v128_at : (val_main_v128 (F := Ideal) x0 x1 x2 (ix5 kv g n a 0) : EReal)
    = dsink (seen n a) (score X kv g n a) (dprob X G kv g n a) (shift x0 x2 kv g n a) (K (head kv g)) := by
  rw [val_main_v128_apply, v125_at h0 h1 h2, v95_at h0 h2, mul_f32, ← EReal.coe_mul]
  exact congrArg _ (chain_sink _ _ _ _ _)

theorem v133_at : (val_main_v133 (F := Ideal) x0 x1 x2 (ix5 kv g n a j) : EReal)
    = (-(W X G K (shift x0 x2) kv g n a / den (seen n a) (score X kv g n a) (shift x0 x2 kv g n a) (K (head kv g))) : ℝ) := by
  pointwise [val_main_v133, val_main_v132, val_main_cst_22]
  rw [Fin.sum_univ_one]
  exact v125_at h0 h1 h2 kv g n a

theorem v135_at : (val_main_v135 (F := Ideal) x0 x1 x2 (ix5 kv g n a j) : EReal) = DS X G K (shift x0 x2) kv g n a j := by
  pointwise [val_main_v135, val_main_v134, val_main_v127, val_main_v126]
  rw [v133_at h0 h1 h2, v117_at h0 h1, v96_at h0 h2, v90_at h0 h2, div_coe _ _ (den_ne _ _ _ _), ← EReal.coe_add, ← EReal.coe_mul]
  exact congrArg _ (chain_score _ _ _ _ _ _)

/-- Nothing comes back through the shift. -/
theorem v139_at : (val_main_v139 (F := Ideal) x0 x1 x2 (ix5 kv g n a 0) : EReal) = 0 := by
  have e : (val_main_v138 (F := Ideal) x0 x1 x2 (ix5 kv g n a 0) : EReal)
      = ((∑ j, -DS X G K (shift x0 x2) kv g n a j : ℝ) : EReal) := by
    pointwise [val_main_v138, val_main_v137, val_main_cst_23, val_main_v136]
    simp only [v135_at h0 h1 h2, ← EReal.coe_neg, ← coe_sum]
  rw [val_main_v139_apply, val_main_v131_apply, v128_at h0 h1 h2, e, neg_f32, add_f32, ← EReal.coe_neg, ← EReal.coe_add]
  exact (congrArg _ (chain_shift _ _ _ _ _)).trans EReal.coe_zero

theorem v140_at : (val_main_v140 (F := Ideal) x0 x1 x2 (ix5 kv g n a 0) : EReal) = 0 := by
  rw [val_main_v140_apply, v139_at h0 h1 h2, mul_f32, zero_mul]

theorem v144_at : (val_main_v144 (F := Ideal) x0 x1 x2 (ix5 kv g n a 0) : EReal) = 0 := by
  rw [val_main_v144_apply, v139_at h0 h1 h2, mul_f32, zero_mul]

theorem v149_at : (val_main_v149 (F := Ideal) x0 x1 x2 (ix5 kv g n a j) : EReal) = 0 := by
  have e : (val_main_v148 (F := Ideal) x0 x1 x2 (ix5 kv g n a j) : EReal) = 0 := by
    pointwise [val_main_v148, val_main_v147, val_main_v146, val_main_cst_25]
    rw [Fin.sum_univ_one, v144_at h0 h1 h2, Ideal.div, if_neg (v65_ne h0 kv g n a), zero_mul]
  rw [val_main_v149_apply, e, mul_f32, zero_mul]

theorem v151_at : (val_main_v151 (F := Ideal) x0 x1 x2 (ix5 kv g n a j) : EReal) = DS X G K (shift x0 x2) kv g n a j := by
  pointwise [val_main_v151, val_main_v150, val_main_v59_1, val_main_call1_v0, val_main_call1_cst]
  rw [v149_at h0 h1 h2, v135_at h0 h1 h2, v58_at, add_zero]
  by_cases p : seen n a j
  · rw [if_pos p]; rfl
  · rw [if_neg p, DS, dscore_of_not _ _ _ _ _ _ p]; rfl

theorem v154_at : (val_main_v154 (F := Ideal) x0 x1 x2 (ix5 kv n j g a) : EReal) = ((DS X G K (shift x0 x2) kv g n a j * (1 / 8) : ℝ) : EReal) := by
  pointwise [val_main_v154, val_main_v153, val_main_v152, val_main_cst_26]
  rw [v151_at h0 h1 h2, eighth, ← EReal.coe_mul]

theorem v156_at : (val_main_v156 (F := Ideal) x0 x1 x2 (ix5 kv g n a d) : EReal) = DQ X G K (shift x0 x2) kv g n a d := by
  pointwise [val_main_v156, val_main_v155]
  simp only [v154_at h0 h1 h2, v18_at h0, coe_dot]
  rfl

theorem v157_at : (val_main_v157 (F := Ideal) x0 x1 x2 (ix4 kv n j d) : EReal) = DKb X G K (shift x0 x2) kv n j d := by
  pointwise [val_main_v157]
  simp only [v154_at h0 h1 h2, v10_at h0, coe_dot, ← coe_sum]
  rfl

/-- The sinks' gradient: the sum over the rows. -/
theorem v129_at : (val_main_v129 (F := Ideal) x0 x1 x2 (ix3 kv g 0) : EReal) = DSK X G K (shift x0 x2) kv g := by
  pointwise [val_main_v129, val_main_cst_21]
  simp only [v128_at h0 h1 h2, ← coe_sum]
  rfl

theorem v145_at : (val_main_v145 (F := Ideal) x0 x1 x2 (ix1 (head kv g)) : EReal) = DSK X G K (shift x0 x2) kv g := by
  pointwise [val_main_v145, val_main_v143, val_main_v142, val_main_v141, val_main_cst_24, val_main_v130]
  rw [head_div, head_mod, v129_at h0 h1 h2]
  simp only [v140_at h0 h1 h2, Finset.sum_const_zero, add_zero]

theorem v163_at (r : Fin 128) : (val_main_v163 (F := Ideal) x0 x1 x2 (ix4 kv n r d) : EReal) = DV X G K (shift x0 x2) kv n r d := by
  pointwise [val_main_v163, val_main_v162, val_main_v161, val_main_v160, val_main_v159, val_main_v158, val_main_cst_27]
  simp only [v119_at h0 h1 h2]
  exact coe_unband n (fun n j => DVb X G K (shift x0 x2) kv n j d) r

theorem v169_at (r : Fin 128) : (val_main_v169 (F := Ideal) x0 x1 x2 (ix4 kv n r d) : EReal) = DK X G K (shift x0 x2) kv n r d := by
  pointwise [val_main_v169, val_main_v168, val_main_v167, val_main_v166, val_main_v165, val_main_v164, val_main_cst_28]
  simp only [v157_at h0 h1 h2]
  exact coe_unband n (fun n j => DKb X G K (shift x0 x2) kv n j d) r

theorem v179_at : (val_main_v179 (F := Ideal) x0 x1 x2 (ix2 (row n a) (qlane kv g d)) : EReal) = DQ X G K (shift x0 x2) kv g n a d := by
  pointwise [val_main_v179, val_main_v178, val_main_v177, val_main_v172]
  rw [qlane_div, qlane_mid, qlane_mod, row_div, row_mod]
  exact v156_at h0 h1 h2 kv g n a d

theorem v180_at (r : Fin 128) : (val_main_v180 (F := Ideal) x0 x1 x2 (ix2 (row n r) (klane kv d)) : EReal) = DK X G K (shift x0 x2) kv n r d := by
  pointwise [val_main_v180, val_main_v176, val_main_v175, val_main_v171]
  rw [klane_div, klane_mod, row_div, row_mod]
  exact v169_at h0 h1 h2 kv n d r

theorem v181_at (r : Fin 128) : (val_main_v181 (F := Ideal) x0 x1 x2 (ix2 (row n r) (klane kv d)) : EReal) = DV X G K (shift x0 x2) kv n r d := by
  pointwise [val_main_v181, val_main_v174, val_main_v173, val_main_v170]
  rw [klane_div, klane_mod, row_div, row_mod]
  exact v163_at h0 h1 h2 kv n d r

omit h0 h1 h2 in
theorem sitofp_zero : (FloatOps.sitofp (F := Ideal) .f32 (0#32 : BitVec 32) : EReal) = ((0 : ℝ) : EReal) := by
  show (((0#32 : BitVec 32).toInt : ℝ) : EReal) = _
  simp

/-- The lane of a head holds its sink's gradient, every other lane nothing. -/
theorem v183_at (i : Fin 8) (l : Fin 128) : (val_main_v183 (F := Ideal) x0 x1 x2 (ix2 i l) : EReal)
    = ((if h : l.val < 16 then DSK X G K (shift x0 x2) ⟨l.val / 8, by omega⟩ ⟨l.val % 8, by omega⟩ else 0 : ℝ) : EReal) := by
  pointwise [val_main_v183, val_main_v182, val_main_call2_v0, val_main_c_29]
  by_cases h : l.val < 16
  · rw [dif_pos h, dif_pos h]
    have e : (⟨l.val, h⟩ : Fin 16) = head ⟨l.val / 8, by omega⟩ ⟨l.val % 8, by omega⟩ :=
      Fin.ext (by show l.val = l.val / 8 * 8 + l.val % 8; omega)
    rw [e]
    exact v145_at h0 h1 h2 _ _
  · rw [dif_neg h, dif_neg h]
    exact sitofp_zero

end Cert.ReferenceIdeal.Swa

end
-- ==== Proof.Swa.Final.lean ====
/- The arrays the kernel leaves: the reference's gradients, entry by entry, and the run that leaves them. -/
module

public import proofs.«01_k».proof.Proof.Swa.States
public import proofs.«01_k».proof.Proof.Swa.RefGrad

@[expose] public section

set_option maxRecDepth 16384

noncomputable section

namespace Cert.KernelIdeal.Swa

open Idealize.ShloMosaic Idealize.ShloMosaic.TcCoe Idealize.SL.Sem Cert.KernelIdeal.Gen
open Cert.Swa (seen qlane klane head row before lq lk lv DQ DKb DVb DK DV DSK)

theorem ge10 : ∀ t : Fin cfg0.N, (cfg0.win 10).flush t = true → t.val ≠ 0 := by decide +kernel
theorem ge11 : ∀ t : Fin cfg0.N, (cfg0.win 11).flush t = true → t.val ≠ 0 := by decide +kernel
theorem ge12 : ∀ t : Fin cfg0.N, (cfg0.win 12).flush t = true → t.val = 32 := by decide +kernel
theorem flush9 : ∀ t : Fin cfg0.N, t.val < 31 ∨ t.val = 32 → (cfg0.win 9).flush t = true := by decide +kernel
theorem flush10 : ∀ t : Fin cfg0.N, t.val ≠ 0 → (cfg0.win 10).flush t = true := by decide +kernel
theorem flush11 : ∀ t : Fin cfg0.N, t.val ≠ 0 → (cfg0.win 11).flush t = true := by decide +kernel

section lanes
/-- Every lane of the queries, and of the keys, is a head's. -/
theorem qlane_eq (l : Fin 1024) : qlane ⟨l.val / 512, by omega⟩ ⟨l.val / 64 % 8, by omega⟩ ⟨l.val % 64, by omega⟩ = l :=
  Fin.ext (by show (l.val / 512 * 8 + l.val / 64 % 8) * 64 + l.val % 64 = l.val; omega)
theorem klane_eq (l : Fin 128) : klane ⟨l.val / 64, by omega⟩ ⟨l.val % 64, by omega⟩ = l :=
  Fin.ext (by show l.val / 64 * 64 + l.val % 64 = l.val; omega)
end lanes

section blocks
variable (t : Fin cfg0.N)

/-- A block that agrees with an array's block, entry by entry, is what is written back of the array. -/
theorem out9 (n : Fin 32) (hn : min t.val 31 = n.val) (s : Vec Ideal S128x1024 .bf16) (A : S4096x1024.Idx → Elt Ideal .bf16)
    (hs : ∀ a l, s (ix2 a l) = A (ix2 (row n a) l)) :
    (cfg0.win 9).cut (grid0.coords t) s = ((cfg0.win 9).blk t).view.read (Elt Ideal) A := by
  funext j
  rw [View.read_apply]
  show s j = _
  have e : j = ix2 (n0 := 128) (n1 := 1024) (j 0) (j 1) := (ix2_eta (n0 := 128) (n1 := 1024) j).symm
  rw [e]
  refine (hs (j 0) (j 1)).trans (congrArg A (funext fun i => Fin.ext ?_))
  match i with
  | ⟨0, _⟩ => show n.val * 128 + (j 0).val = (cfg0.win 9).index t 0 * 128 + 1 * (j 0).val; rw [index9_0]; omega
  | ⟨1, _⟩ => show (j 1).val = (cfg0.win 9).index t 1 * 1024 + 1 * (j 1).val; rw [index9_1]; omega
theorem out10 (n : Fin 32) (hn : t.val = n.val + 1) (s : Vec Ideal S128x128 .bf16) (A : S4096x128.Idx → Elt Ideal .bf16)
    (hs : ∀ a l, s (ix2 a l) = A (ix2 (row n a) l)) :
    (cfg0.win 10).cut (grid0.coords t) s = ((cfg0.win 10).blk t).view.read (Elt Ideal) A := by
  funext j
  rw [View.read_apply]
  show s j = _
  have e : j = ix2 (n0 := 128) (n1 := 128) (j 0) (j 1) := (ix2_eta (n0 := 128) (n1 := 128) j).symm
  rw [e]
  refine (hs (j 0) (j 1)).trans (congrArg A (funext fun i => Fin.ext ?_))
  match i with
  | ⟨0, _⟩ => show n.val * 128 + (j 0).val = (cfg0.win 10).index t 0 * 128 + 1 * (j 0).val; rw [index10_0]; omega
  | ⟨1, _⟩ => show (j 1).val = (cfg0.win 10).index t 1 * 128 + 1 * (j 1).val; rw [index10_1]; omega
theorem out11 (n : Fin 32) (hn : t.val = n.val + 1) (s : Vec Ideal S128x128 .bf16) (A : S4096x128.Idx → Elt Ideal .bf16)
    (hs : ∀ a l, s (ix2 a l) = A (ix2 (row n a) l)) :
    (cfg0.win 11).cut (grid0.coords t) s = ((cfg0.win 11).blk t).view.read (Elt Ideal) A := by
  funext j
  rw [View.read_apply]
  show s j = _
  have e : j = ix2 (n0 := 128) (n1 := 128) (j 0) (j 1) := (ix2_eta (n0 := 128) (n1 := 128) j).symm
  rw [e]
  refine (hs (j 0) (j 1)).trans (congrArg A (funext fun i => Fin.ext ?_))
  match i with
  | ⟨0, _⟩ => show n.val * 128 + (j 0).val = (cfg0.win 11).index t 0 * 128 + 1 * (j 0).val; rw [index11_0]; omega
  | ⟨1, _⟩ => show (j 1).val = (cfg0.win 11).index t 1 * 128 + 1 * (j 1).val; rw [index11_1]; omega
theorem out12 (s : Vec Ideal S8x128 .f32) (A : S8x128.Idx → Elt Ideal .f32) (hs : ∀ a l, s (ix2 a l) = A (ix2 a l)) :
    (cfg0.win 12).cut (grid0.coords t) s = ((cfg0.win 12).blk t).view.read (Elt Ideal) A := by
  funext j
  rw [View.read_apply]
  show s j = _
  have e : j = ix2 (n0 := 8) (n1 := 128) (j 0) (j 1) := (ix2_eta (n0 := 8) (n1 := 128) j).symm
  rw [e]
  refine (hs (j 0) (j 1)).trans (congrArg A (funext fun i => Fin.ext ?_))
  match i with
  | ⟨0, _⟩ => show (j 0).val = (cfg0.win 12).index t 0 * 8 + 1 * (j 0).val; rw [index12_0]; omega
  | ⟨1, _⟩ => show (j 1).val = (cfg0.win 12).index t 1 * 128 + 1 * (j 1).val; rw [index12_1]; omega

end blocks

section cover

theorem whole9_0 : ∀ t : Fin cfg0.N, (cfg0.win 9).xsize (cfg0.grid.coords t) 0 = 128 := by decide +kernel
theorem whole9_1 : ∀ t : Fin cfg0.N, (cfg0.win 9).xsize (cfg0.grid.coords t) 1 = 1024 := by decide +kernel
theorem whole10_0 : ∀ t : Fin cfg0.N, (cfg0.win 10).xsize (cfg0.grid.coords t) 0 = 128 := by decide +kernel
theorem whole10_1 : ∀ t : Fin cfg0.N, (cfg0.win 10).xsize (cfg0.grid.coords t) 1 = 128 := by decide +kernel
theorem whole11_0 : ∀ t : Fin cfg0.N, (cfg0.win 11).xsize (cfg0.grid.coords t) 0 = 128 := by decide +kernel
theorem whole11_1 : ∀ t : Fin cfg0.N, (cfg0.win 11).xsize (cfg0.grid.coords t) 1 = 128 := by decide +kernel
theorem whole12_0 : ∀ t : Fin cfg0.N, (cfg0.win 12).xsize (cfg0.grid.coords t) 0 = 8 := by decide +kernel
theorem whole12_1 : ∀ t : Fin cfg0.N, (cfg0.win 12).xsize (cfg0.grid.coords t) 1 = 128 := by decide +kernel

/-- Every entry of a result lies in the block some point writes back. -/
theorem mem9 (i : S4096x1024.Idx) (t : Fin cfg0.N) (ht : min t.val 31 = (i 0).val / 128) : i ∈ ((cfg0.win 9).blk t).view.set := by
  show i ∈ ((View.whole main_v87_0).slice ((cfg0.win 9).rect t)).set
  rw [View.set_slice_whole, Rect.mem_set_unit]
  have h1 : (i 1).val < 1024 := (i 1).isLt
  intro a
  match a with
  | ⟨0, _⟩ => show (cfg0.win 9).index t 0 * 128 ≤ (i 0).val ∧ (i 0).val < (cfg0.win 9).index t 0 * 128 + (cfg0.win 9).xsize (cfg0.grid.coords t) 0
              rw [index9_0, whole9_0]; omega
  | ⟨1, _⟩ => show (cfg0.win 9).index t 1 * 1024 ≤ (i 1).val ∧ (i 1).val < (cfg0.win 9).index t 1 * 1024 + (cfg0.win 9).xsize (cfg0.grid.coords t) 1
              rw [index9_1, whole9_1]; omega
theorem mem10 (i : S4096x128.Idx) (t : Fin cfg0.N) (ht : t.val = (i 0).val / 128 + 1) : i ∈ ((cfg0.win 10).blk t).view.set := by
  show i ∈ ((View.whole main_v87_1).slice ((cfg0.win 10).rect t)).set
  rw [View.set_slice_whole, Rect.mem_set_unit]
  have h1 : (i 1).val < 128 := (i 1).isLt
  intro a
  match a with
  | ⟨0, _⟩ => show (cfg0.win 10).index t 0 * 128 ≤ (i 0).val ∧ (i 0).val < (cfg0.win 10).index t 0 * 128 + (cfg0.win 10).xsize (cfg0.grid.coords t) 0
              rw [index10_0, whole10_0]; omega
  | ⟨1, _⟩ => show (cfg0.win 10).index t 1 * 128 ≤ (i 1).val ∧ (i 1).val < (cfg0.win 10).index t 1 * 128 + (cfg0.win 10).xsize (cfg0.grid.coords t) 1
              rw [index10_1, whole10_1]; omega
theorem mem11 (i : S4096x128.Idx) (t : Fin cfg0.N) (ht : t.val = (i 0).val / 128 + 1) : i ∈ ((cfg0.win 11).blk t).view.set := by
  show i ∈ ((View.whole main_v87_2).slice ((cfg0.win 11).rect t)).set
  rw [View.set_slice_whole, Rect.mem_set_unit]
  have h1 : (i 1).val < 128 := (i 1).isLt
  intro a
  match a with
  | ⟨0, _⟩ => show (cfg0.win 11).index t 0 * 128 ≤ (i 0).val ∧ (i 0).val < (cfg0.win 11).index t 0 * 128 + (cfg0.win 11).xsize (cfg0.grid.coords t) 0
              rw [index11_0, whole11_0]; omega
  | ⟨1, _⟩ => show (cfg0.win 11).index t 1 * 128 ≤ (i 1).val ∧ (i 1).val < (cfg0.win 11).index t 1 * 128 + (cfg0.win 11).xsize (cfg0.grid.coords t) 1
              rw [index11_1, whole11_1]; omega
theorem mem12 (i : S8x128.Idx) (t : Fin cfg0.N) : i ∈ ((cfg0.win 12).blk t).view.set := by
  show i ∈ ((View.whole main_v87_3).slice ((cfg0.win 12).rect t)).set
  rw [View.set_slice_whole, Rect.mem_set_unit]
  have h0 : (i 0).val < 8 := (i 0).isLt
  have h1 : (i 1).val < 128 := (i 1).isLt
  intro a
  match a with
  | ⟨0, _⟩ => show (cfg0.win 12).index t 0 * 8 ≤ (i 0).val ∧ (i 0).val < (cfg0.win 12).index t 0 * 8 + (cfg0.win 12).xsize (cfg0.grid.coords t) 0
              rw [index12_0, whole12_0]; omega
  | ⟨1, _⟩ => show (cfg0.win 12).index t 1 * 128 ≤ (i 1).val ∧ (i 1).val < (cfg0.win 12).index t 1 * 128 + (cfg0.win 12).xsize (cfg0.grid.coords t) 1
              rw [index12_1, whole12_1]; omega

theorem cover9 (i : S4096x1024.Idx) : ∃ t : Fin cfg0.N, (cfg0.win 9).flush t = true ∧ i ∈ ((cfg0.win 9).blk t).view.set := by
  have h0 : (i 0).val < 4096 := (i 0).isLt
  by_cases h : (i 0).val / 128 < 31
  · exact ⟨⟨(i 0).val / 128, lt_of_lt_of_eq (by omega) N_0.symm⟩, flush9 _ (Or.inl h), mem9 i _ (by simp only; omega)⟩
  · exact ⟨⟨32, lt_of_lt_of_eq (by omega) N_0.symm⟩, flush9 _ (Or.inr rfl), mem9 i _ (by simp only; omega)⟩
theorem cover10 (i : S4096x128.Idx) : ∃ t : Fin cfg0.N, (cfg0.win 10).flush t = true ∧ i ∈ ((cfg0.win 10).blk t).view.set := by
  have h0 : (i 0).val < 4096 := (i 0).isLt
  exact ⟨⟨(i 0).val / 128 + 1, lt_of_lt_of_eq (by omega) N_0.symm⟩, flush10 _ (Nat.succ_ne_zero _), mem10 i _ rfl⟩
theorem cover11 (i : S4096x128.Idx) : ∃ t : Fin cfg0.N, (cfg0.win 11).flush t = true ∧ i ∈ ((cfg0.win 11).blk t).view.set := by
  have h0 : (i 0).val < 4096 := (i 0).isLt
  exact ⟨⟨(i 0).val / 128 + 1, lt_of_lt_of_eq (by omega) N_0.symm⟩, flush11 _ (Nat.succ_ne_zero _), mem11 i _ rfl⟩
theorem cover12 (i : S8x128.Idx) : ∃ t : Fin cfg0.N, (cfg0.win 12).flush t = true ∧ i ∈ ((cfg0.win 12).blk t).view.set :=
  ⟨⟨32, lt_of_lt_of_eq (by omega) N_0.symm⟩, flush12_last _ rfl, mem12 i _⟩

end cover

section arrays
variable (m : (ℓ : Loc nD τ sig) → Buf (Elt Ideal) ℓ) (c : Dev nD)
variable {X : Fin 4096 → Fin 1280 → ℝ} {G : Fin 4096 → Fin 1024 → ℝ} {K : Fin 16 → ℝ}
  (h0 : Cert.ReferenceIdeal.Swa.Real0 (m ((c : Thread nD τ).loc main_arg0)) X) (h1 : Cert.ReferenceIdeal.Swa.Real1 (m ((c : Thread nD τ).loc main_arg1)) G)
  (h2 : Cert.ReferenceIdeal.Swa.Real2 (m ((c : Thread nD τ).loc main_arg2)) K)

abbrev ref0 : S4096x1024.Idx → Elt Ideal .bf16 := Cert.ReferenceIdeal.Read.val_main_v179 (F := Ideal) (m ((c : Thread nD τ).loc main_arg0)) (m ((c : Thread nD τ).loc main_arg1)) (m ((c : Thread nD τ).loc main_arg2))
abbrev ref1 : S4096x128.Idx → Elt Ideal .bf16 := Cert.ReferenceIdeal.Read.val_main_v180 (F := Ideal) (m ((c : Thread nD τ).loc main_arg0)) (m ((c : Thread nD τ).loc main_arg1)) (m ((c : Thread nD τ).loc main_arg2))
abbrev ref2 : S4096x128.Idx → Elt Ideal .bf16 := Cert.ReferenceIdeal.Read.val_main_v181 (F := Ideal) (m ((c : Thread nD τ).loc main_arg0)) (m ((c : Thread nD τ).loc main_arg1)) (m ((c : Thread nD τ).loc main_arg2))
abbrev ref3 : S8x128.Idx → Elt Ideal .f32 := Cert.ReferenceIdeal.Read.val_main_v183 (F := Ideal) (m ((c : Thread nD τ).loc main_arg0)) (m ((c : Thread nD τ).loc main_arg1)) (m ((c : Thread nD τ).loc main_arg2))

include h0 h1 h2

/-- The four results are the reference's. -/
theorem final0 : (dats m 0 c).arrAt 9 cfg0.N = ref0 m c := by
  refine (dats m 0 c).arrAt_eq_of_cover 9 (ref0 m c) (fun t _ => ?_) cover9
  show (cfg0.win 9).cut (grid0.coords t) ((dats m 0 c).after 9 t) = _
  rw [after9]
  refine out9 t ⟨min t.val 31, by omega⟩ rfl _ _ fun a l => ?_
  rw [← qlane_eq l]
  exact (at_dq (fun t n hn => holds m c t h0 h1 h2 hn) t _ rfl _ _ _ _).trans (Cert.ReferenceIdeal.Swa.v179_at h0 h1 h2 _ _ _ _ _).symm
theorem final1 : (dats m 0 c).arrAt 10 cfg0.N = ref1 m c := by
  refine (dats m 0 c).arrAt_eq_of_cover 10 (ref1 m c) (fun t hf => ?_) cover10
  have hN : t.val < 33 := lt_of_lt_of_eq t.isLt N_0
  have hz := ge10 t hf
  have hn : t.val = (⟨t.val - 1, by omega⟩ : Fin 32).val + 1 := by simp only; omega
  show (cfg0.win 10).cut (grid0.coords t) ((dats m 0 c).after 10 t) = _
  rw [after10]
  refine out10 t ⟨t.val - 1, by omega⟩ hn _ _ fun a l => ?_
  rw [← klane_eq l]
  exact (at_dk (fun t n hn => holds m c t h0 h1 h2 hn) t _ hn _ _ _).trans (Cert.ReferenceIdeal.Swa.v180_at h0 h1 h2 _ _ _ _).symm
theorem final2 : (dats m 0 c).arrAt 11 cfg0.N = ref2 m c := by
  refine (dats m 0 c).arrAt_eq_of_cover 11 (ref2 m c) (fun t hf => ?_) cover11
  have hN : t.val < 33 := lt_of_lt_of_eq t.isLt N_0
  have hz := ge11 t hf
  have hn : t.val = (⟨t.val - 1, by omega⟩ : Fin 32).val + 1 := by simp only; omega
  show (cfg0.win 11).cut (grid0.coords t) ((dats m 0 c).after 11 t) = _
  rw [after11]
  refine out11 t ⟨t.val - 1, by omega⟩ hn _ _ fun a l => ?_
  rw [← klane_eq l]
  exact (at_dv (fun t n hn => holds m c t h0 h1 h2 hn) t _ hn _ _ _).trans (Cert.ReferenceIdeal.Swa.v181_at h0 h1 h2 _ _ _ _).symm
theorem final3 : (dats m 0 c).arrAt 12 cfg0.N = ref3 m c := by
  refine (dats m 0 c).arrAt_eq_of_cover 12 (ref3 m c) (fun t hf => ?_) cover12
  show (cfg0.win 12).cut (grid0.coords t) ((dats m 0 c).after 12 t) = _
  rw [after12]
  refine out12 t _ _ fun i l => ?_
  exact (at_dsk (fun t n hn => holds m c t h0 h1 h2 hn) t (ge12 t hf) i l).trans (Cert.ReferenceIdeal.Swa.v183_at h0 h1 h2 i l).symm

end arrays

/-! The four results, read from the final state of the run over any proof data. -/

theorem read_of0 (m : (ℓ : Loc nD τ sig) → Buf (Elt Ideal) ℓ)
    (D : (p : Fin 1) → (c : Dev nD) → Pipeline.Dat τ (Elt Ideal) Unit ℕ (UR sig nD τ) ℕ (cfgs p) c)
    (r : PUnit × MemSt nD τ sig (Elt Ideal)) (h : Pipeline.FramePost cfgs D 0 (V m) r) (c : Dev nD) :
    r.2.mem ((c : Thread nD τ).loc main_v87_0) = (D 0 c).arrAt 9 cfg0.N :=
  (h c).1 9
theorem read_of1 (m : (ℓ : Loc nD τ sig) → Buf (Elt Ideal) ℓ)
    (D : (p : Fin 1) → (c : Dev nD) → Pipeline.Dat τ (Elt Ideal) Unit ℕ (UR sig nD τ) ℕ (cfgs p) c)
    (r : PUnit × MemSt nD τ sig (Elt Ideal)) (h : Pipeline.FramePost cfgs D 0 (V m) r) (c : Dev nD) :
    r.2.mem ((c : Thread nD τ).loc main_v87_1) = (D 0 c).arrAt 10 cfg0.N :=
  (h c).1 10
theorem read_of2 (m : (ℓ : Loc nD τ sig) → Buf (Elt Ideal) ℓ)
    (D : (p : Fin 1) → (c : Dev nD) → Pipeline.Dat τ (Elt Ideal) Unit ℕ (UR sig nD τ) ℕ (cfgs p) c)
    (r : PUnit × MemSt nD τ sig (Elt Ideal)) (h : Pipeline.FramePost cfgs D 0 (V m) r) (c : Dev nD) :
    r.2.mem ((c : Thread nD τ).loc main_v87_2) = (D 0 c).arrAt 11 cfg0.N :=
  (h c).1 11
theorem read_of3 (m : (ℓ : Loc nD τ sig) → Buf (Elt Ideal) ℓ)
    (D : (p : Fin 1) → (c : Dev nD) → Pipeline.Dat τ (Elt Ideal) Unit ℕ (UR sig nD τ) ℕ (cfgs p) c)
    (r : PUnit × MemSt nD τ sig (Elt Ideal)) (h : Pipeline.FramePost cfgs D 0 (V m) r) (c : Dev nD) :
    r.2.mem ((c : Thread nD τ).loc main_v87_3) = (D 0 c).arrAt 12 cfg0.N :=
  (h c).1 12

/-- The run, over whatever the four result arrays end at. -/
theorem run_of (m : (ℓ : Loc nD τ sig) → Buf (Elt Ideal) ℓ) (ρ : Dev nD → PrngReg)
    (G0 : (c : Dev nD) → Buf (Elt Ideal) ((c : Thread nD τ).loc main_v87_0)) (G1 : (c : Dev nD) → Buf (Elt Ideal) ((c : Thread nD τ).loc main_v87_1))
    (G2 : (c : Dev nD) → Buf (Elt Ideal) ((c : Thread nD τ).loc main_v87_2)) (G3 : (c : Dev nD) → Buf (Elt Ideal) ((c : Thread nD τ).loc main_v87_3))
    (f0 : ∀ c, (dats m 0 c).arrAt 9 cfg0.N = G0 c) (f1 : ∀ c, (dats m 0 c).arrAt 10 cfg0.N = G1 c)
    (f2 : ∀ c, (dats m 0 c).arrAt 11 cfg0.N = G2 c) (f3 : ∀ c, (dats m 0 c).arrAt 12 cfg0.N = G3 c) :
    θ_run defs (onTc (τ := τ) (main (F := Ideal))) ⟨m, fun _ => 0, ρ⟩ fun r => ∀ c : Dev nD,
      r.2.mem ((c : Thread nD τ).loc main_v87_0) = G0 c
      ∧ r.2.mem ((c : Thread nD τ).loc main_v87_1) = G1 c
      ∧ r.2.mem ((c : Thread nD τ).loc main_v87_2) = G2 c
      ∧ r.2.mem ((c : Thread nD τ).loc main_v87_3) = G3 c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => by
    exact ⟨(read_of0 m (dats m) r h.1 c).trans (f0 c), (read_of1 m (dats m) r h.1 c).trans (f1 c), (read_of2 m (dats m) r h.1 c).trans (f2 c),
      (read_of3 m (dats m) r h.1 c).trans (f3 c), h.2 c⟩) (θ_run_and (run_main m ρ) (unchanged m ρ))

/-- The run: at real arguments the results end at the reference's values, the arguments unchanged. -/
theorem run (m : (ℓ : Loc nD τ sig) → Buf (Elt Ideal) ℓ) (ρ : Dev nD → PrngReg)
    (X : Dev nD → Fin 4096 → Fin 1280 → ℝ) (G : Dev nD → Fin 4096 → Fin 1024 → ℝ) (K : Dev nD → Fin 16 → ℝ)
    (h0 : ∀ c : Dev nD, Cert.ReferenceIdeal.Swa.Real0 (m ((c : Thread nD τ).loc main_arg0)) (X c))
    (h1 : ∀ c : Dev nD, Cert.ReferenceIdeal.Swa.Real1 (m ((c : Thread nD τ).loc main_arg1)) (G c))
    (h2 : ∀ c : Dev nD, Cert.ReferenceIdeal.Swa.Real2 (m ((c : Thread nD τ).loc main_arg2)) (K c)) :
    θ_run defs (onTc (τ := τ) (main (F := Ideal))) ⟨m, fun _ => 0, ρ⟩ fun r => ∀ c : Dev nD,
      r.2.mem ((c : Thread nD τ).loc main_v87_0) = ref0 m c
      ∧ r.2.mem ((c : Thread nD τ).loc main_v87_1) = ref1 m c
      ∧ r.2.mem ((c : Thread nD τ).loc main_v87_2) = ref2 m c
      ∧ r.2.mem ((c : Thread nD τ).loc main_v87_3) = ref3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  run_of m ρ (ref0 m) (ref1 m) (ref2 m) (ref3 m) (fun c => final0 m c (h0 c) (h1 c) (h2 c)) (fun c => final1 m c (h0 c) (h1 c) (h2 c))
    (fun c => final2 m c (h0 c) (h1 c) (h2 c)) (fun c => final3 m c (h0 c) (h1 c) (h2 c))

end Cert.KernelIdeal.Swa

end
-- ==== Proof.Swa.RefRun.lean ====
/- The reference's run, its four results named as stages of its arguments. -/
module

public import proofs.«01_k».proof.Proof.Gen.ReferenceIdeal.Run
public import proofs.«01_k».proof.Proof.Gen.ReferenceIdeal.Read

@[expose] public section

set_option maxRecDepth 16384

noncomputable section

namespace Cert.ReferenceIdeal.Swa

open Idealize.ShloMosaic Idealize.ShloMosaic.TcCoe Idealize.SL.Sem Cert.ReferenceIdeal.Read

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v179) = val_main_v179 (F := Ideal) (m ((c.tc : Thread nD τ).loc main_arg0)) (m ((c.tc : Thread nD τ).loc main_arg1)) (m ((c.tc : Thread nD τ).loc main_arg2))
      ∧ r.2.mem ((c.tc : Thread nD τ).loc main_v180) = val_main_v180 (F := Ideal) (m ((c.tc : Thread nD τ).loc main_arg0)) (m ((c.tc : Thread nD τ).loc main_arg1)) (m ((c.tc : Thread nD τ).loc main_arg2))
      ∧ r.2.mem ((c.tc : Thread nD τ).loc main_v181) = val_main_v181 (F := Ideal) (m ((c.tc : Thread nD τ).loc main_arg0)) (m ((c.tc : Thread nD τ).loc main_arg1)) (m ((c.tc : Thread nD τ).loc main_arg2))
      ∧ r.2.mem ((c.tc : Thread nD τ).loc main_v183) = val_main_v183 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    obtain ⟨h0, h1, h2, h3, h4⟩ := h c
    exact ⟨h0.trans (val_main_v179_eq _), h1.trans (val_main_v180_eq _), h2.trans (val_main_v181_eq _), h3.trans (val_main_v183_eq _), h4⟩)
    (Cert.ReferenceIdeal.Value.run (F := Ideal) m ρ)

end Cert.ReferenceIdeal.Swa

end
-- ==== Proof.lean ====
module

public import proofs.«01_k».proof.Proof.Gen.ReferenceIdeal.Run
public import proofs.«01_k».proof.Proof.Gen.ReferenceIdeal.Read
public import proofs.«01_k».proof.Defs
public import proofs.«01_k».proof.Proof.Ffn.Imports
public import proofs.«01_k».proof.Proof.Ffn.Claims
public import proofs.«01_k».proof.Proof.Ffn.Finite
public import proofs.«01_k».proof.Proof.SwaBits.Frame
public import proofs.«01_k».proof.Proof.Swa.Final
public import proofs.«01_k».proof.Proof.Swa.Finite
public import proofs.«01_k».proof.Proof.Swa.RefRun
public import Idealize.ShloMosaic.Adequacy
public import Idealize.ShloMosaic.Init

@[expose] public section

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Swa.facts_finite

theorem frame_kernel : Cert.quiescent_Kernel := fun m ρ _ => Cert.Kernel.Swa.frame m ρ
theorem frame_kernel_ideal : Cert.quiescent_KernelIdeal := fun m ρ _ => Cert.KernelIdeal.Swa.frame m ρ
theorem frame_kernel_ideal_finite : Cert.quiescent_KernelIdeal_pre_finite := fun m ρ _ => Cert.KernelIdeal.Swa.frame m ρ

/-- The reference's run: its arguments end unchanged; it has no counters. -/
theorem frame_ref : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)
theorem frame_ref_finite : Cert.quiescent_ReferenceIdeal_pre_finite := fun m ρ _ => frame_ref m ρ trivial

theorem preserves : Cert.preserves_Kernel_KernelIdeal :=
  IdealRules.named_const.statement Cert.KernelIdeal.κ "mask" .f32 0xF149F2CA#32 ⊥ rfl

open Cert.KernelIdeal.Swa (ref0 ref1 ref2 ref3)

/-- Equal arguments, equal values. -/
theorem three {α β γ δ : Type} (f : α → β → γ → δ) {a a' : α} {b b' : β} {c c' : γ} (ha : a = a') (hb : b = b') (hc : c = c') :
    f a b c = f a' b' c' := by
  rw [ha, hb, hc]

/-- At finite arguments the kernel's four results are the reference's. -/
theorem algebraic : Cert.algebraic_KernelIdeal_ReferenceIdeal_pre_finite := by
  intro m ρ m' ρ' hpre hagree
  have hr := fun c => Cert.Swa.finite_real _ _ _ (hpre c)
  refine ⟨fun c => ref0 m c, fun c => ref1 m c, fun c => ref2 m c, fun c => ref3 m c,
    Cert.KernelIdeal.Swa.run m ρ (fun (c : Dev Cert.KernelIdeal.nD) r k => EReal.toReal (m ((c.tc : Thread Cert.KernelIdeal.nD Cert.KernelIdeal.τ).loc Cert.KernelIdeal.main_arg0) (ix2 r k)))
      (fun (c : Dev Cert.KernelIdeal.nD) r k => EReal.toReal (m ((c.tc : Thread Cert.KernelIdeal.nD Cert.KernelIdeal.τ).loc Cert.KernelIdeal.main_arg1) (ix2 r k)))
      (fun (c : Dev Cert.KernelIdeal.nD) h => EReal.toReal (m ((c.tc : Thread Cert.KernelIdeal.nD Cert.KernelIdeal.τ).loc Cert.KernelIdeal.main_arg2) (ix1 h)))
      (fun c r k => (hr c).1 _) (fun c r k => (hr c).2.1 _) (fun c h => (hr c).2.2 _), ?_⟩
  refine (θ_run Cert.ReferenceIdeal.defs _ _).mono (fun _ h c => ?_) (Cert.ReferenceIdeal.Swa.run m' ρ')
  obtain ⟨e0, e1, e2⟩ := hagree c
  obtain ⟨h0, h1, h2, h3, h4⟩ := h c
  exact ⟨h0.trans (three (Cert.ReferenceIdeal.Read.val_main_v179 (F := Ideal)) e0 e1 e2),
    h1.trans (three (Cert.ReferenceIdeal.Read.val_main_v180 (F := Ideal)) e0 e1 e2),
    h2.trans (three (Cert.ReferenceIdeal.Read.val_main_v181 (F := Ideal)) e0 e1 e2),
    h3.trans (three (Cert.ReferenceIdeal.Read.val_main_v183 (F := Ideal)) e0 e1 e2), h4⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Swa.facts_finite, Cert.Ffn.facts_finite4, Cert.Ffn.facts_finite7, Cert.Ffn.facts_finite11,
  frame_kernel, frame_kernel_ideal, frame_kernel_ideal_finite, frame_ref, frame_ref_finite,
  Cert.Ffn.frame2, Cert.Ffn.frame2_ideal, Cert.Ffn.frame2_ref,
  Cert.Ffn.frame3, Cert.Ffn.frame3_ideal, Cert.Ffn.frame3_ref,
  Cert.Ffn.frame4, Cert.Ffn.frame4_ideal, Cert.Ffn.frame4_ideal_finite, Cert.Ffn.frame4_ref, Cert.Ffn.frame4_ref_finite,
  Cert.Ffn.frame5, Cert.Ffn.frame5_ideal, Cert.Ffn.frame5_ref,
  Cert.Ffn.frame6, Cert.Ffn.frame6_ideal, Cert.Ffn.frame6_ref,
  Cert.Ffn.frame7, Cert.Ffn.frame7_ideal, Cert.Ffn.frame7_ideal_finite, Cert.Ffn.frame7_ref, Cert.Ffn.frame7_ref_finite,
  Cert.Ffn.frame8, Cert.Ffn.frame8_ideal, Cert.Ffn.frame8_ref,
  Cert.Ffn.frame9, Cert.Ffn.frame9_ideal, Cert.Ffn.frame9_ideal_finite, Cert.Ffn.frame9_ref, Cert.Ffn.frame9_ref_finite,
  Cert.Ffn.frame10, Cert.Ffn.frame10_ideal, Cert.Ffn.frame10_ref,
  Cert.Ffn.frame11, Cert.Ffn.frame11_ideal, Cert.Ffn.frame11_ideal_finite, Cert.Ffn.frame11_ref, Cert.Ffn.frame11_ref_finite,
  Cert.Ffn.frame12, Cert.Ffn.frame12_ideal, Cert.Ffn.frame12_ref,
  Cert.Ffn.frame13, Cert.Ffn.frame13_ideal, Cert.Ffn.frame13_ref,
  preserves, algebraic,
  trivial, Cert.Ffn.algebraic2,
  trivial, Cert.Ffn.algebraic3,
  trivial, Cert.Ffn.algebraic4,
  trivial, Cert.Ffn.algebraic5,
  trivial, Cert.Ffn.algebraic6,
  trivial, Cert.Ffn.algebraic7,
  trivial, Cert.Ffn.algebraic8,
  trivial, Cert.Ffn.algebraic9,
  trivial, Cert.Ffn.algebraic10,
  trivial, Cert.Ffn.algebraic11,
  trivial, Cert.Ffn.algebraic12,
  trivial, Cert.Ffn.algebraic13⟩

end Cert.Proof

end
